-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gates_below_inf [hPre_gates_below_inf : Cert.Pre_gates_below_inf.Facts] (m : (ℓ : Loc Cert.KernelIdeal.nD Cert.KernelIdeal.τ Cert.KernelIdeal.sig) → Buf (Elt Ideal) ℓ) : Prop :=
  ∀ c : Dev Cert.KernelIdeal.nD,
    (Cert.Pre_gates_below_inf.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gates_below_inf [hPre_gates_below_inf : Cert.Pre_gates_below_inf.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gates_below_inf.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_sample_gates_below_inf [hPre_sample_gates_below_inf : Cert.Pre_sample_gates_below_inf.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_sample_gates_below_inf.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_sample_gates_below_inf [hPre_sample_gates_below_inf : Cert.Pre_sample_gates_below_inf.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_sample_gates_below_inf.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_gates_below_inf [hKernelIdeal : Cert.KernelIdeal.Facts] [hPre_gates_below_inf : Cert.Pre_gates_below_inf.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gates_below_inf m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_gates_below_inf [hReferenceIdeal : Cert.ReferenceIdeal.Facts] [hPre_gates_below_inf : Cert.Pre_gates_below_inf.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gates_below_inf m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Kernel7Ideal_pre_sample_gates_below_inf [hKernel7Ideal : Cert.Kernel7Ideal.Facts] [hPre_sample_gates_below_inf : Cert.Pre_sample_gates_below_inf.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_sample_gates_below_inf m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Reference7Ideal_pre_sample_gates_below_inf [hReference7Ideal : Cert.Reference7Ideal.Facts] [hPre_sample_gates_below_inf : Cert.Pre_sample_gates_below_inf.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_sample_gates_below_inf m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def preserves_Kernel_KernelIdeal : Prop :=
  True

def algebraic_KernelIdeal_ReferenceIdeal_pre_gates_below_inf [hKernelIdeal : Cert.KernelIdeal.Facts] [hReferenceIdeal : Cert.ReferenceIdeal.Facts] [hPre_gates_below_inf : Cert.Pre_gates_below_inf.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gates_below_inf m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v13_6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v77) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v12)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v59) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v9_0)) (v1 : (c : Dev Cert.Kernel4Ideal.nD) → Buf (Elt Ideal) ((c.tc : Thread Cert.Kernel4Ideal.nD Cert.Kernel4Ideal.τ).loc Cert.Kernel4Ideal.main_v9_1)) (v2 : (c : Dev Cert.Kernel4Ideal.nD) → Buf (Elt Ideal) ((c.tc : Thread Cert.Kernel4Ideal.nD Cert.Kernel4Ideal.τ).loc Cert.Kernel4Ideal.main_v9_2)) (v3 : (c : Dev Cert.Kernel4Ideal.nD) → Buf (Elt Ideal) ((c.tc : Thread Cert.Kernel4Ideal.nD Cert.Kernel4Ideal.τ).loc Cert.Kernel4Ideal.main_v9_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9_0) = v0 c
          ∧ r.2.mem ((c.tc : Thread Cert.Kernel4Ideal.nD Cert.Kernel4Ideal.τ).loc Cert.Kernel4Ideal.main_v9_1) = v1 c
          ∧ r.2.mem ((c.tc : Thread Cert.Kernel4Ideal.nD Cert.Kernel4Ideal.τ).loc Cert.Kernel4Ideal.main_v9_2) = v2 c
          ∧ r.2.mem ((c.tc : Thread Cert.Kernel4Ideal.nD Cert.Kernel4Ideal.τ).loc Cert.Kernel4Ideal.main_v9_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v36) = v0 c
          ∧ r.2.mem ((c.tc : Thread Cert.Reference4Ideal.nD Cert.Reference4Ideal.τ).loc Cert.Reference4Ideal.main_v37) = v1 c
          ∧ r.2.mem ((c.tc : Thread Cert.Reference4Ideal.nD Cert.Reference4Ideal.τ).loc Cert.Reference4Ideal.main_v39) = v2 c
          ∧ r.2.mem ((c.tc : Thread Cert.Reference4Ideal.nD Cert.Reference4Ideal.τ).loc Cert.Reference4Ideal.main_v40) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  IdealRules.named_const.Statement Cert.Kernel5Ideal.κ "head_scale" .f32 0x3DB504F3#32 (((Real.sqrt 128)⁻¹ : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v13_0)) (v1 : (c : Dev Cert.Kernel5Ideal.nD) → Buf (Elt Ideal) ((c.tc : Thread Cert.Kernel5Ideal.nD Cert.Kernel5Ideal.τ).loc Cert.Kernel5Ideal.main_v13_1)) (v2 : (c : Dev Cert.Kernel5Ideal.nD) → Buf (Elt Ideal) ((c.tc : Thread Cert.Kernel5Ideal.nD Cert.Kernel5Ideal.τ).loc Cert.Kernel5Ideal.main_v13_2)) (v3 : (c : Dev Cert.Kernel5Ideal.nD) → Buf (Elt Ideal) ((c.tc : Thread Cert.Kernel5Ideal.nD Cert.Kernel5Ideal.τ).loc Cert.Kernel5Ideal.main_v13_3)) (v4 : (c : Dev Cert.Kernel5Ideal.nD) → Buf (Elt Ideal) ((c.tc : Thread Cert.Kernel5Ideal.nD Cert.Kernel5Ideal.τ).loc Cert.Kernel5Ideal.main_v13_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v13_0) = v0 c
          ∧ r.2.mem ((c.tc : Thread Cert.Kernel5Ideal.nD Cert.Kernel5Ideal.τ).loc Cert.Kernel5Ideal.main_v13_1) = v1 c
          ∧ r.2.mem ((c.tc : Thread Cert.Kernel5Ideal.nD Cert.Kernel5Ideal.τ).loc Cert.Kernel5Ideal.main_v13_2) = v2 c
          ∧ r.2.mem ((c.tc : Thread Cert.Kernel5Ideal.nD Cert.Kernel5Ideal.τ).loc Cert.Kernel5Ideal.main_v13_3) = v3 c
          ∧ r.2.mem ((c.tc : Thread Cert.Kernel5Ideal.nD Cert.Kernel5Ideal.τ).loc Cert.Kernel5Ideal.main_v13_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v34) = v0 c
          ∧ r.2.mem ((c.tc : Thread Cert.Reference5Ideal.nD Cert.Reference5Ideal.τ).loc Cert.Reference5Ideal.main_v35) = v1 c
          ∧ r.2.mem ((c.tc : Thread Cert.Reference5Ideal.nD Cert.Reference5Ideal.τ).loc Cert.Reference5Ideal.main_v37) = v2 c
          ∧ r.2.mem ((c.tc : Thread Cert.Reference5Ideal.nD Cert.Reference5Ideal.τ).loc Cert.Reference5Ideal.main_v38) = v3 c
          ∧ r.2.mem ((c.tc : Thread Cert.Reference5Ideal.nD Cert.Reference5Ideal.τ).loc Cert.Reference5Ideal.main_v39) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v12)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v12) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v59) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal_pre_sample_gates_below_inf [hKernel7Ideal : Cert.Kernel7Ideal.Facts] [hReference7Ideal : Cert.Reference7Ideal.Facts] [hPre_sample_gates_below_inf : Cert.Pre_sample_gates_below_inf.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_sample_gates_below_inf m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v45) = v0 c
          ∧ r.2.mem ((c.tc : Thread Cert.Reference7Ideal.nD Cert.Reference7Ideal.τ).loc Cert.Reference7Ideal.main_v42) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  IdealRules.named_const.Statement Cert.Kernel8Ideal.κ "inv_log_two" .f32 0x3FB8AA3B#32 (((Real.log 2)⁻¹ : ℝ) : EReal)

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v164_1)) (v1 : (c : Dev Cert.Kernel8Ideal.nD) → Buf (Elt Ideal) ((c.tc : Thread Cert.Kernel8Ideal.nD Cert.Kernel8Ideal.τ).loc Cert.Kernel8Ideal.main_v164_2)) (v2 : (c : Dev Cert.Kernel8Ideal.nD) → Buf (Elt Ideal) ((c.tc : Thread Cert.Kernel8Ideal.nD Cert.Kernel8Ideal.τ).loc Cert.Kernel8Ideal.main_v164_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v164_1) = v0 c
          ∧ r.2.mem ((c.tc : Thread Cert.Kernel8Ideal.nD Cert.Kernel8Ideal.τ).loc Cert.Kernel8Ideal.main_v164_2) = v1 c
          ∧ r.2.mem ((c.tc : Thread Cert.Kernel8Ideal.nD Cert.Kernel8Ideal.τ).loc Cert.Kernel8Ideal.main_v164_3) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_v9) = v1 c
          ∧ r.2.mem ((c.tc : Thread Cert.Reference8Ideal.nD Cert.Reference8Ideal.τ).loc Cert.Reference8Ideal.main_v14) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_gates_below_inf : Cert.Pre_gates_below_inf.Facts) (hPre_sample_gates_below_inf : Cert.Pre_sample_gates_below_inf.Facts),
    quiescent_Kernel (hKernel := hKernel)
    ∧ quiescent_KernelIdeal (hKernelIdeal := hKernelIdeal)
    ∧ quiescent_KernelIdeal_pre_gates_below_inf (hKernelIdeal := hKernelIdeal) (hPre_gates_below_inf := hPre_gates_below_inf)
    ∧ quiescent_ReferenceIdeal (hReferenceIdeal := hReferenceIdeal)
    ∧ quiescent_ReferenceIdeal_pre_gates_below_inf (hReferenceIdeal := hReferenceIdeal) (hPre_gates_below_inf := hPre_gates_below_inf)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_sample_gates_below_inf (hKernel7Ideal := hKernel7Ideal) (hPre_sample_gates_below_inf := hPre_sample_gates_below_inf)
    ∧ quiescent_Reference7Ideal (hReference7Ideal := hReference7Ideal)
    ∧ quiescent_Reference7Ideal_pre_sample_gates_below_inf (hReference7Ideal := hReference7Ideal) (hPre_sample_gates_below_inf := hPre_sample_gates_below_inf)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_gates_below_inf (hKernelIdeal := hKernelIdeal) (hReferenceIdeal := hReferenceIdeal) (hPre_gates_below_inf := hPre_gates_below_inf)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_sample_gates_below_inf (hKernel7Ideal := hKernel7Ideal) (hReference7Ideal := hReference7Ideal) (hPre_sample_gates_below_inf := hPre_sample_gates_below_inf)
    ∧ preserves_Kernel8_Kernel8Ideal
    ∧ algebraic_Kernel8Ideal_Reference8Ideal (hKernel8Ideal := hKernel8Ideal) (hReference8Ideal := hReference8Ideal)
-- ==== Pre_gates_below_inf.lean ====
abbrev S16x2048x512 : Shape := ⟨3, ![16, 2048, 512]⟩
abbrev S16x2048x1024 : Shape := ⟨3, ![16, 2048, 1024]⟩
abbrev S_ : Shape := ⟨0, ![]⟩

class Facts : Prop where
  bcast_S_S16x2048x512 : S_.BroadcastsInDim S16x2048x512 (![] : Fin 0 → Fin S16x2048x512.rank)
  reducesTo_S16x2048x512_S_d0_1_2 : S16x2048x512.ReducesTo [0, 1, 2] S_
  h_S_ : 0 < S_.numel

variable [Facts]

def fn {F : FTy → Type} [FloatOps F] (main_arg0 : FVec F S16x2048x512 .f32) (main_arg1 : FVec F S16x2048x512 .f32) (main_arg2 : FVec F S16x2048x1024 .bf16) (main_arg3 : FVec F S16x2048x512 .f32) : IVec S_ 1 :=
  let main_cst : FVec F S_ .f32 := constant S_ .f32 0x7F800000#32
  let main_v0 : FVec F S16x2048x512 .f32 := broadcastInDim S16x2048x512 ![] bcast_S_S16x2048x512 main_cst
  let main_v1 : IVec S16x2048x512 1 := cmpf .olt main_arg3 main_v0
  let main_c : IVec S_ 1 := constantI S_ 1 1#1
  let main_v2 : IVec S_ 1 := (fun x v => Host.reduce IntOp.andi x v reducesTo_S16x2048x512_S_d0_1_2 h_S_) main_v1 main_c
  main_v2
-- ==== Pre_sample_gates_below_inf.lean ====
abbrev S32x8x512 : Shape := ⟨3, ![32, 8, 512]⟩
abbrev S32x8x1024 : Shape := ⟨3, ![32, 8, 1024]⟩
abbrev S32x4x128x256 : Shape := ⟨4, ![32, 4, 128, 256]⟩
abbrev S_ : Shape := ⟨0, ![]⟩

class Facts : Prop where
  bcast_S_S32x8x512 : S_.BroadcastsInDim S32x8x512 (![] : Fin 0 → Fin S32x8x512.rank)
  reducesTo_S32x8x512_S_d0_1_2 : S32x8x512.ReducesTo [0, 1, 2] S_
  h_S_ : 0 < S_.numel

variable [Facts]

def fn {F : FTy → Type} [FloatOps F] (main_arg0 : FVec F S32x8x512 .f32) (main_arg1 : FVec F S32x8x512 .f32) (main_arg2 : FVec F S32x8x1024 .f32) (main_arg3 : FVec F S32x8x512 .f32) (main_arg4 : FVec F S32x4x128x256 .f32) : IVec S_ 1 :=
  let main_cst : FVec F S_ .f32 := constant S_ .f32 0x7F800000#32
  let main_v0 : FVec F S32x8x512 .f32 := broadcastInDim S32x8x512 ![] bcast_S_S32x8x512 main_cst
  let main_v1 : IVec S32x8x512 1 := cmpf .olt main_arg3 main_v0
  let main_c : IVec S_ 1 := constantI S_ 1 1#1
  let main_v2 : IVec S_ 1 := (fun x v => Host.reduce IntOp.andi x v reducesTo_S32x8x512_S_d0_1_2 h_S_) main_v1 main_c
  main_v2
-- ==== Kernel.lean ====
abbrev S16x2048x512 : Shape := ⟨3, ![16, 2048, 512]⟩
abbrev S16x2048x1024 : Shape := ⟨3, ![16, 2048, 1024]⟩
abbrev S_ : Shape := ⟨0, ![]⟩
abbrev S16x4x128x256 : Shape := ⟨4, ![16, 4, 128, 256]⟩
abbrev S1x1024x512 : Shape := ⟨3, ![1, 1024, 512]⟩
abbrev S1x1024x1024 : Shape := ⟨3, ![1, 1024, 1024]⟩
abbrev S1x4x128x256 : Shape := ⟨4, ![1, 4, 128, 256]⟩
abbrev S4x128x256 : Shape := ⟨3, ![4, 128, 256]⟩
abbrev S256x256 : Shape := ⟨2, ![256, 256]⟩
abbrev S64x128 : Shape := ⟨2, ![64, 128]⟩
abbrev S1x256x512 : Shape := ⟨3, ![1, 256, 512]⟩
abbrev S256x512 : Shape := ⟨2, ![256, 512]⟩
abbrev S1x64x128 : Shape := ⟨3, ![1, 64, 128]⟩
abbrev S1x64x256 : Shape := ⟨3, ![1, 64, 256]⟩
abbrev S64x256 : Shape := ⟨2, ![64, 256]⟩
abbrev S128x256 : Shape := ⟨2, ![128, 256]⟩
abbrev S1x128 : Shape := ⟨2, ![1, 128]⟩
abbrev S16x128 : Shape := ⟨2, ![16, 128]⟩
abbrev S112x128 : Shape := ⟨2, ![112, 128]⟩
abbrev S128x128 : Shape := ⟨2, ![128, 128]⟩
abbrev S48x128 : Shape := ⟨2, ![48, 128]⟩
abbrev S96x128 : Shape := ⟨2, ![96, 128]⟩
abbrev S32x128 : Shape := ⟨2, ![32, 128]⟩
abbrev S80x128 : Shape := ⟨2, ![80, 128]⟩
abbrev S64x512 : Shape := ⟨2, ![64, 512]⟩
abbrev S128x512 : Shape := ⟨2, ![128, 512]⟩
abbrev S1x128x256 : Shape := ⟨3, ![1, 128, 256]⟩

abbrev nBuf : Space → Nat
  | .hbm => 8
  | .vmem => 15
  | .smem => 0
  | _ => 0

abbrev bufTy : (tb : Table) → Fin (tcTables nBuf tb) → BufTy
  | .hbm, ⟨0, _⟩ => ⟨S16x2048x512, .f32⟩
  | .hbm, ⟨1, _⟩ => ⟨S16x2048x512, .f32⟩
  | .hbm, ⟨2, _⟩ => ⟨S16x2048x1024, .bf16⟩
  | .hbm, ⟨3, _⟩ => ⟨S16x2048x512, .f32⟩
  | .hbm, ⟨4, _⟩ => ⟨S_, .f32⟩
  | .hbm, ⟨5, _⟩ => ⟨S16x4x128x256, .f32⟩
  | .hbm, ⟨6, _⟩ => ⟨S16x2048x1024, .f32⟩
  | .hbm, ⟨7, _⟩ => ⟨S16x4x128x256, .f32⟩
  | .local _ .vmem, ⟨0, _⟩ => ⟨S1x1024x512, .f32⟩
  | .local _ .vmem, ⟨1, _⟩ => ⟨S1x1024x512, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x512, .f32⟩
  | .local _ .vmem, ⟨7, _⟩ => ⟨S1x1024x512, .f32⟩
  | .local _ .vmem, ⟨8, _⟩ => ⟨S1x4x128x256, .f32⟩
  | .local _ .vmem, ⟨9, _⟩ => ⟨S1x4x128x256, .f32⟩
  | .local _ .vmem, ⟨10, _⟩ => ⟨S1x1024x1024, .f32⟩
  | .local _ .vmem, ⟨11, _⟩ => ⟨S1x1024x1024, .f32⟩
  | .local _ .vmem, ⟨12, _⟩ => ⟨S1x4x128x256, .f32⟩
  | .local _ .vmem, ⟨13, _⟩ => ⟨S1x4x128x256, .f32⟩
  | .local _ .vmem, ⟨14, _⟩ => ⟨S4x128x256, .f32⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 2], ![false, false]⟩

@[reducible] def k0_t1_loop : Scf.Loop 32 :=
  let c0_i32_14 : BitVec 32 := 0#32
  let c4_i32 : BitVec 32 := 4#32
  let v63 : BitVec 32 := Scalar.addi c0_i32_14 c4_i32
  let c1_i32_15 : BitVec 32 := 1#32
  ⟨c0_i32_14, v63, c1_i32_15⟩
def k0_mult1 (k0_t1 : Fin k0_t1_loop.trips) : BitVec 32 :=
  let c0_i32_14 : BitVec 32 := 0#32
  let c1_i32_15 : BitVec 32 := 1#32
  let arg10 : BitVec 32 := Scf.iv c0_i32_14 c1_i32_15 k0_t1
  let c256_i32 : BitVec 32 := 256#32
  let v67 : BitVec 32 := Scalar.muli arg10 c256_i32
  v67
def k0_mult2 (k0_t1 : Fin k0_t1_loop.trips) : BitVec 32 :=
  let c0_i32_14 : BitVec 32 := 0#32
  let c1_i32_15 : BitVec 32 := 1#32
  let arg10 : BitVec 32 := Scf.iv c0_i32_14 c1_i32_15 k0_t1
  let c256_i32_19 : BitVec 32 := 256#32
  let v69 : BitVec 32 := Scalar.muli arg10 c256_i32_19
  let c0_i32_20 : BitVec 32 := 0#32
  let v70 : BitVec 32 := Scalar.addi v69 c0_i32_20
  v70
def k0_mult3 (k0_t1 : Fin k0_t1_loop.trips) : BitVec 32 :=
  let c0_i32_14 : BitVec 32 := 0#32
  let c1_i32_15 : BitVec 32 := 1#32
  let arg10 : BitVec 32 := Scf.iv c0_i32_14 c1_i32_15 k0_t1
  let c256_i32_21 : BitVec 32 := 256#32
  let v72 : BitVec 32 := Scalar.muli arg10 c256_i32_21
  let c64_i32_22 : BitVec 32 := 64#32
  let v73 : BitVec 32 := Scalar.addi v72 c64_i32_22
  v73
def k0_mult4 (k0_t1 : Fin k0_t1_loop.trips) : BitVec 32 :=
  let c0_i32_14 : BitVec 32 := 0#32
  let c1_i32_15 : BitVec 32 := 1#32
  let arg10 : BitVec 32 := Scf.iv c0_i32_14 c1_i32_15 k0_t1
  let c256_i32_23 : BitVec 32 := 256#32
  let v75 : BitVec 32 := Scalar.muli arg10 c256_i32_23
  let c128_i32 : BitVec 32 := 128#32
  let v76 : BitVec 32 := Scalar.addi v75 c128_i32
  v76
def k0_mult5 (k0_t1 : Fin k0_t1_loop.trips) : BitVec 32 :=
  let c0_i32_14 : BitVec 32 := 0#32
  let c1_i32_15 : BitVec 32 := 1#32
  let arg10 : BitVec 32 := Scf.iv c0_i32_14 c1_i32_15 k0_t1
  let c256_i32_24 : BitVec 32 := 256#32
  let v78 : BitVec 32 := Scalar.muli arg10 c256_i32_24
  let c192_i32 : BitVec 32 := 192#32
  let v79 : BitVec 32 := Scalar.addi v78 c192_i32
  v79
def k0_off1 (k0_t1 : Fin k0_t1_loop.trips) : Fin 3 → Nat :=
  let c0 : Index := 0#32
  let c0_i32_14 : BitVec 32 := 0#32
  let c1_i32_15 : BitVec 32 := 1#32
  let arg10 : BitVec 32 := Scf.iv c0_i32_14 c1_i32_15 k0_t1
  let c256_i32 : BitVec 32 := 256#32
  let v67 : BitVec 32 := Scalar.muli arg10 c256_i32
  let v68 : BitVec 32 := v67
  let v81 : Index := Scalar.indexCast v68
  let c0_25 : Index := 0#32
  ![0, v81.toNat, 0]
def k0_off2 (k0_t1 : Fin k0_t1_loop.trips) (c0_i32_20 : BitVec 32) : Fin 3 → Nat :=
  let c0_28 : Index := 0#32
  let c0_i32_14 : BitVec 32 := 0#32
  let c1_i32_15 : BitVec 32 := 1#32
  let arg10 : BitVec 32 := Scf.iv c0_i32_14 c1_i32_15 k0_t1
  let c256_i32_19 : BitVec 32 := 256#32
  let v69 : BitVec 32 := Scalar.muli arg10 c256_i32_19
  let v70 : BitVec 32 := Scalar.addi v69 c0_i32_20
  let v71 : BitVec 32 := v70
  let v107 : Index := Scalar.indexCast v71
  let c0_29 : Index := 0#32
  ![0, v107.toNat, 0]
def k0_off3 (k0_t1 : Fin k0_t1_loop.trips) (c0_i32_20 : BitVec 32) : Fin 3 → Nat :=
  let c0_30 : Index := 0#32
  let c0_i32_14 : BitVec 32 := 0#32
  let c1_i32_15 : BitVec 32 := 1#32
  let arg10 : BitVec 32 := Scf.iv c0_i32_14 c1_i32_15 k0_t1
  let c256_i32_19 : BitVec 32 := 256#32
  let v69 : BitVec 32 := Scalar.muli arg10 c256_i32_19
  let v70 : BitVec 32 := Scalar.addi v69 c0_i32_20
  let v71 : BitVec 32 := v70
  let v110 : Index := Scalar.indexCast v71
  let c128 : Index := 128#32
  ![0, v110.toNat, 128]
def k0_off4 (k0_t1 : Fin k0_t1_loop.trips) (c0_i32_20 : BitVec 32) : Fin 3 → Nat :=
  let c0_31 : Index := 0#32
  let c0_i32_14 : BitVec 32 := 0#32
  let c1_i32_15 : BitVec 32 := 1#32
  let arg10 : BitVec 32 := Scf.iv c0_i32_14 c1_i32_15 k0_t1
  let c256_i32_19 : BitVec 32 := 256#32
  let v69 : BitVec 32 := Scalar.muli arg10 c256_i32_19
  let v70 : BitVec 32 := Scalar.addi v69 c0_i32_20
  let v71 : BitVec 32 := v70
  let v113 : Index := Scalar.indexCast v71
  let c256 : Index := 256#32
  ![0, v113.toNat, 256]
def k0_off5 (k0_t1 : Fin k0_t1_loop.trips) (c0_i32_20 : BitVec 32) : Fin 3 → Nat :=
  let c0_32 : Index := 0#32
  let c0_i32_14 : BitVec 32 := 0#32
  let c1_i32_15 : BitVec 32 := 1#32
  let arg10 : BitVec 32 := Scf.iv c0_i32_14 c1_i32_15 k0_t1
  let c256_i32_19 : BitVec 32 := 256#32
  let v69 : BitVec 32 := Scalar.muli arg10 c256_i32_19
  let v70 : BitVec 32 := Scalar.addi v69 c0_i32_20
  let v71 : BitVec 32 := v70
  let v116 : Index := Scalar.indexCast v71
  let c384 : Index := 384#32
  ![0, v116.toNat, 384]
def k0_off6 (k0_t1 : Fin k0_t1_loop.trips) (c0_i32_20 : BitVec 32) : Fin 3 → Nat :=
  let c0_89 : Index := 0#32
  let c0_i32_14 : BitVec 32 := 0#32
  let c1_i32_15 : BitVec 32 := 1#32
  let arg10 : BitVec 32 := Scf.iv c0_i32_14 c1_i32_15 k0_t1
  let c256_i32_19 : BitVec 32 := 256#32
  let v69 : BitVec 32 := Scalar.muli arg10 c256_i32_19
  let v70 : BitVec 32 := Scalar.addi v69 c0_i32_20
  let v71 : BitVec 32 := v70
  let v203 : Index := Scalar.indexCast v71
  let c0_90 : Index := 0#32
  ![0, v203.toNat, 0]
def k0_off7 (k0_t1 : Fin k0_t1_loop.trips) (c0_i32_20 : BitVec 32) : Fin 3 → Nat :=
  let c0_92 : Index := 0#32
  let c0_i32_14 : BitVec 32 := 0#32
  let c1_i32_15 : BitVec 32 := 1#32
  let arg10 : BitVec 32 := Scf.iv c0_i32_14 c1_i32_15 k0_t1
  let c256_i32_19 : BitVec 32 := 256#32
  let v69 : BitVec 32 := Scalar.muli arg10 c256_i32_19
  let v70 : BitVec 32 := Scalar.addi v69 c0_i32_20
  let v71 : BitVec 32 := v70
  let v208 : Index := Scalar.indexCast v71
  let c256_93 : Index := 256#32
  ![0, v208.toNat, 256]
def k0_off8 (k0_t1 : Fin k0_t1_loop.trips) (c0_i32_20 : BitVec 32) : Fin 3 → Nat :=
  let c0_95 : Index := 0#32
  let c0_i32_14 : BitVec 32 := 0#32
  let c1_i32_15 : BitVec 32 := 1#32
  let arg10 : BitVec 32 := Scf.iv c0_i32_14 c1_i32_15 k0_t1
  let c256_i32_19 : BitVec 32 := 256#32
  let v69 : BitVec 32 := Scalar.muli arg10 c256_i32_19
  let v70 : BitVec 32 := Scalar.addi v69 c0_i32_20
  let v71 : BitVec 32 := v70
  let v213 : Index := Scalar.indexCast v71
  let c512 : Index := 512#32
  ![0, v213.toNat, 512]
def k0_off9 (k0_t1 : Fin k0_t1_loop.trips) (c0_i32_20 : BitVec 32) : Fin 3 → Nat :=
  let c0_97 : Index := 0#32
  let c0_i32_14 : BitVec 32 := 0#32
  let c1_i32_15 : BitVec 32 := 1#32
  let arg10 : BitVec 32 := Scf.iv c0_i32_14 c1_i32_15 k0_t1
  let c256_i32_19 : BitVec 32 := 256#32
  let v69 : BitVec 32 := Scalar.muli arg10 c256_i32_19
  let v70 : BitVec 32 := Scalar.addi v69 c0_i32_20
  let v71 : BitVec 32 := v70
  let v218 : Index := Scalar.indexCast v71
  let c768 : Index := 768#32
  ![0, v218.toNat, 768]
def k0_cond2 (i : grid0.Coords) : BitVec 1 :=
  let arg1 : BitVec 32 := BitVec.ofNat 32 (i 1).val
  let c1_i32_17 : BitVec 32 := 1#32
  let v64 : BitVec 1 := Scalar.cmpi .eq arg1 c1_i32_17
  let v65 : BitVec 32 := Scalar.extui v64
  let c0_i32_18 : BitVec 32 := 0#32
  let v66 : BitVec 1 := Scalar.cmpi .ne v65 c0_i32_18
  v66

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S16x2048x512 : Shape := ⟨3, ![16, 2048, 512]⟩
abbrev S16x2048x1024 : Shape := ⟨3, ![16, 2048, 1024]⟩
abbrev S_ : Shape := ⟨0, ![]⟩
abbrev S64x64 : Shape := ⟨2, ![64, 64]⟩
abbrev S16x4x128x256 : Shape := ⟨4, ![16, 4, 128, 256]⟩
abbrev S16x32x64x4x128 : Shape := ⟨5, ![16, 32, 64, 4, 128]⟩
abbrev S32x16x4x64x128 : Shape := ⟨5, ![32, 16, 4, 64, 128]⟩
abbrev S16x32x64x4x256 : Shape := ⟨5, ![16, 32, 64, 4, 256]⟩
abbrev S32x16x4x64x256 : Shape := ⟨5, ![32, 16, 4, 64, 256]⟩
abbrev S1x16x4x64x128 : Shape := ⟨5, ![1, 16, 4, 64, 128]⟩
abbrev S16x4x64x128 : Shape := ⟨4, ![16, 4, 64, 128]⟩
abbrev S1x16x4x64x256 : Shape := ⟨5, ![1, 16, 4, 64, 256]⟩
abbrev S16x4x64x256 : Shape := ⟨4, ![16, 4, 64, 256]⟩
abbrev S16x4x64x1x128 : Shape := ⟨5, ![16, 4, 64, 1, 128]⟩
abbrev S16x4x1x64x128 : Shape := ⟨5, ![16, 4, 1, 64, 128]⟩
abbrev S16x4x64x64x128 : Shape := ⟨5, ![16, 4, 64, 64, 128]⟩
abbrev S64x64x1 : Shape := ⟨3, ![64, 64, 1]⟩
abbrev S16x4x64x64 : Shape := ⟨4, ![16, 4, 64, 64]⟩
abbrev S16x4x1x128 : Shape := ⟨4, ![16, 4, 1, 128]⟩
abbrev S16x4x128 : Shape := ⟨3, ![16, 4, 128]⟩
abbrev S16x4x128x1 : Shape := ⟨4, ![16, 4, 128, 1]⟩

abbrev nBuf : Space → Nat
  | .hbm => 114
  | .vmem => 0
  | .smem => 0
  | _ => 0

abbrev bufTy : (tb : Table) → Fin (tcTables nBuf tb) → BufTy
  | .hbm, ⟨0, _⟩ => ⟨S16x2048x512, .f32⟩
  | .hbm, ⟨1, _⟩ => ⟨S16x2048x512, .f32⟩
  | .hbm, ⟨2, _⟩ => ⟨S16x2048x1024, .bf16⟩
  | .hbm, ⟨3, _⟩ => ⟨S16x2048x512, .f32⟩
  | .hbm, ⟨4, _⟩ => ⟨S_, .i1⟩
  | .hbm, ⟨5, _⟩ => ⟨S64x64, .i1⟩
  | .hbm, ⟨6, _⟩ => ⟨S64x64, .i32⟩
  | .hbm, ⟨7, _⟩ => ⟨S_, .i32⟩
  | .hbm, ⟨8, _⟩ => ⟨S64x64, .i32⟩
  | .hbm, ⟨9, _⟩ => ⟨S64x64, .i32⟩
  | .hbm, ⟨10, _⟩ => ⟨S64x64, .i32⟩
  | .hbm, ⟨11, _⟩ => ⟨S64x64, .i1⟩
  | .hbm, ⟨12, _⟩ => ⟨S_, .i1⟩
  | .hbm, ⟨13, _⟩ => ⟨S64x64, .i1⟩
  | .hbm, ⟨14, _⟩ => ⟨S64x64, .i1⟩
  | .hbm, ⟨15, _⟩ => ⟨S_, .f32⟩
  | .hbm, ⟨16, _⟩ => ⟨S16x4x128x256, .f32⟩
  | .hbm, ⟨17, _⟩ => ⟨S16x32x64x4x128, .f32⟩
  | .hbm, ⟨18, _⟩ => ⟨S32x16x4x64x128, .f32⟩
  | .hbm, ⟨19, _⟩ => ⟨S16x32x64x4x128, .f32⟩
  | .hbm, ⟨20, _⟩ => ⟨S32x16x4x64x128, .f32⟩
  | .hbm, ⟨21, _⟩ => ⟨S16x2048x1024, .f32⟩
  | .hbm, ⟨22, _⟩ => ⟨S16x32x64x4x256, .f32⟩
  | .hbm, ⟨23, _⟩ => ⟨S32x16x4x64x256, .f32⟩
  | .hbm, ⟨24, _⟩ => ⟨S16x32x64x4x128, .f32⟩
  | .hbm, ⟨25, _⟩ => ⟨S32x16x4x64x128, .f32⟩
  | .hbm, ⟨26, _⟩ => ⟨S_, .f32⟩
  | .hbm, ⟨27, _⟩ => ⟨S32x16x4x64x256, .f32⟩
  | .hbm, ⟨28, _⟩ => ⟨S_, .i32⟩
  | .hbm, ⟨29, _⟩ => ⟨S32x16x4x64x128, .f32⟩
  | .hbm, ⟨30, _⟩ => ⟨S32x16x4x64x128, .f32⟩
  | .hbm, ⟨31, _⟩ => ⟨S32x16x4x64x256, .f32⟩
  | .hbm, ⟨32, _⟩ => ⟨S32x16x4x64x128, .f32⟩
  | .hbm, ⟨33, _⟩ => ⟨S64x64, .i1⟩
  | .hbm, ⟨34, _⟩ => ⟨S_, .i32⟩
  | .hbm, ⟨35, _⟩ => ⟨S16x4x128x256, .f32⟩
  | .hbm, ⟨36, _⟩ => ⟨S32x16x4x64x256, .f32⟩
  | .hbm, ⟨37, _⟩ => ⟨S_, .i32⟩
  | .hbm, ⟨38, _⟩ => ⟨S_, .i1⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S1x16x4x64x128, .f32⟩
  | .hbm, ⟨44, _⟩ => ⟨S16x4x64x128, .f32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S1x16x4x64x128, .f32⟩
  | .hbm, ⟨50, _⟩ => ⟨S16x4x64x128, .f32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S1x16x4x64x256, .f32⟩
  | .hbm, ⟨56, _⟩ => ⟨S16x4x64x256, .f32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S1x16x4x64x128, .f32⟩
  | .hbm, ⟨62, _⟩ => ⟨S16x4x64x128, .f32⟩
  | .hbm, ⟨63, _⟩ => ⟨S_, .f32⟩
  | .hbm, ⟨64, _⟩ => ⟨S_, .f32⟩
  | .hbm, ⟨65, _⟩ => ⟨S16x4x64x128, .f32⟩
  | .hbm, ⟨66, _⟩ => ⟨S16x4x64x128, .f32⟩
  | .hbm, ⟨67, _⟩ => ⟨S16x4x64x128, .f32⟩
  | .hbm, ⟨68, _⟩ => ⟨S16x4x64x256, .f32⟩
  | .hbm, ⟨69, _⟩ => ⟨S16x4x64x1x128, .f32⟩
  | .hbm, ⟨70, _⟩ => ⟨S16x4x1x64x128, .f32⟩
  | .hbm, ⟨71, _⟩ => ⟨S16x4x64x64x128, .f32⟩
  | .hbm, ⟨72, _⟩ => ⟨S16x4x64x64x128, .f32⟩
  | .hbm, ⟨73, _⟩ => ⟨S16x4x64x64x128, .f32⟩
  | .hbm, ⟨74, _⟩ => ⟨S64x64x1, .i1⟩
  | .hbm, ⟨75, _⟩ => ⟨S_, .f32⟩
  | .hbm, ⟨76, _⟩ => ⟨S_, .f32⟩
  | .hbm, ⟨77, _⟩ => ⟨S16x4x64x64x128, .i1⟩
  | .hbm, ⟨78, _⟩ => ⟨S16x4x64x64x128, .f32⟩
  | .hbm, ⟨79, _⟩ => ⟨S16x4x64x64x128, .f32⟩
  | .hbm, ⟨80, _⟩ => ⟨S16x4x64x64x128, .f32⟩
  | .hbm, ⟨81, _⟩ => ⟨S16x4x64x1x128, .f32⟩
  | .hbm, ⟨82, _⟩ => ⟨S16x4x1x64x128, .f32⟩
  | .hbm, ⟨83, _⟩ => ⟨S16x4x64x64x128, .f32⟩
  | .hbm, ⟨84, _⟩ => ⟨S16x4x64x64x128, .f32⟩
  | .hbm, ⟨85, _⟩ => ⟨S16x4x64x64x128, .f32⟩
  | .hbm, ⟨86, _⟩ => ⟨S16x4x64x64x128, .f32⟩
  | .hbm, ⟨87, _⟩ => ⟨S_, .f32⟩
  | .hbm, ⟨88, _⟩ => ⟨S16x4x64x64, .f32⟩
  | .hbm, ⟨89, _⟩ => ⟨S16x4x64x256, .f32⟩
  | .hbm, ⟨90, _⟩ => ⟨S16x4x1x128, .f32⟩
  | .hbm, ⟨91, _⟩ => ⟨S16x4x128, .f32⟩
  | .hbm, ⟨92, _⟩ => ⟨S16x4x128, .f32⟩
  | .hbm, ⟨93, _⟩ => ⟨S16x4x128x1, .f32⟩
  | .hbm, ⟨94, _⟩ => ⟨S16x4x128x256, .f32⟩
  | .hbm, ⟨95, _⟩ => ⟨S16x4x128x256, .f32⟩
  | .hbm, ⟨96, _⟩ => ⟨S16x4x1x128, .f32⟩
  | .hbm, ⟨97, _⟩ => ⟨S16x4x64x128, .f32⟩
  | .hbm, ⟨98, _⟩ => ⟨S16x4x64x128, .f32⟩
  | .hbm, ⟨99, _⟩ => ⟨S16x4x64x128, .f32⟩
  | .hbm, ⟨100, _⟩ => ⟨S16x4x64x128, .f32⟩
  | .hbm, ⟨101, _⟩ => ⟨S16x4x128x256, .f32⟩
  | .hbm, ⟨102, _⟩ => ⟨S16x4x128x256, .f32⟩
  | .hbm, ⟨103, _⟩ => ⟨S16x4x64x256, .f32⟩
  | .hbm, ⟨104, _⟩ => ⟨S1x16x4x64x256, .f32⟩
  | .hbm, ⟨105, _⟩ => ⟨S_, .i32⟩
  | .hbm, ⟨106, _⟩ => ⟨S_, .i32⟩
  | .hbm, ⟨107, _⟩ => ⟨S_, .i32⟩
  | .hbm, ⟨108, _⟩ => ⟨S_, .i32⟩
  | .hbm, ⟨109, _⟩ => ⟨S32x16x4x64x256, .f32⟩
  | .hbm, ⟨110, _⟩ => ⟨S_, .i32⟩
  | .hbm, ⟨111, _⟩ => ⟨S_, .i32⟩
  | .hbm, ⟨112, _⟩ => ⟨S16x32x64x4x256, .f32⟩
  | .hbm, ⟨113, _⟩ => ⟨S16x2048x1024, .f32⟩
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_0 : Ref sig .tc := ⟨.hbm, 12, rfl⟩
abbrev main_call0_v5 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_c_1 : Ref sig .tc := ⟨.hbm, 28, rfl⟩
abbrev main_v13_0 : Ref sig .tc := ⟨.hbm, 29, rfl⟩
abbrev main_v13_1 : Ref sig .tc := ⟨.hbm, 30, rfl⟩
abbrev main_v13_2 : Ref sig .tc := ⟨.hbm, 31, rfl⟩
abbrev main_v13_3 : Ref sig .tc := ⟨.hbm, 32, rfl⟩
abbrev main_v13_4 : Ref sig .tc := ⟨.hbm, 33, rfl⟩
abbrev main_v13_5 : Ref sig .tc := ⟨.hbm, 34, rfl⟩
abbrev main_v13_6 : Ref sig .tc := ⟨.hbm, 35, rfl⟩
abbrev main_v13_7 : Ref sig .tc := ⟨.hbm, 36, rfl⟩
abbrev main_while0c_c_9 : Ref sig .tc := ⟨.hbm, 37, rfl⟩
abbrev main_while0c_v16 : Ref sig .tc := ⟨.hbm, 38, rfl⟩
abbrev main_while0b_call1_c : Ref sig .tc := ⟨.hbm, 39, rfl⟩
abbrev main_while0b_call1_c_0 : Ref sig .tc := ⟨.hbm, 40, rfl⟩
abbrev main_while0b_call1_c_1 : Ref sig .tc := ⟨.hbm, 41, rfl⟩
abbrev main_while0b_call1_c_2 : Ref sig .tc := ⟨.hbm, 42, rfl⟩
abbrev main_while0b_call1_v0 : Ref sig .tc := ⟨.hbm, 43, rfl⟩
abbrev main_while0b_v16 : Ref sig .tc := ⟨.hbm, 44, rfl⟩
abbrev main_while0b_call2_c : Ref sig .tc := ⟨.hbm, 45, rfl⟩
abbrev main_while0b_call2_c_0 : Ref sig .tc := ⟨.hbm, 46, rfl⟩
abbrev main_while0b_call2_c_1 : Ref sig .tc := ⟨.hbm, 47, rfl⟩
abbrev main_while0b_call2_c_2 : Ref sig .tc := ⟨.hbm, 48, rfl⟩
abbrev main_while0b_call2_v0 : Ref sig .tc := ⟨.hbm, 49, rfl⟩
abbrev main_while0b_v17 : Ref sig .tc := ⟨.hbm, 50, rfl⟩
abbrev main_while0b_call3_c : Ref sig .tc := ⟨.hbm, 51, rfl⟩
abbrev main_while0b_call3_c_0 : Ref sig .tc := ⟨.hbm, 52, rfl⟩
abbrev main_while0b_call3_c_1 : Ref sig .tc := ⟨.hbm, 53, rfl⟩
abbrev main_while0b_call3_c_2 : Ref sig .tc := ⟨.hbm, 54, rfl⟩
abbrev main_while0b_call3_v0 : Ref sig .tc := ⟨.hbm, 55, rfl⟩
abbrev main_while0b_v18 : Ref sig .tc := ⟨.hbm, 56, rfl⟩
abbrev main_while0b_call4_c : Ref sig .tc := ⟨.hbm, 57, rfl⟩
abbrev main_while0b_call4_c_0 : Ref sig .tc := ⟨.hbm, 58, rfl⟩
abbrev main_while0b_call4_c_1 : Ref sig .tc := ⟨.hbm, 59, rfl⟩
abbrev main_while0b_call4_c_2 : Ref sig .tc := ⟨.hbm, 60, rfl⟩
abbrev main_while0b_call4_v0 : Ref sig .tc := ⟨.hbm, 61, rfl⟩
abbrev main_while0b_v19 : Ref sig .tc := ⟨.hbm, 62, rfl⟩
abbrev main_while0b_call5_call0_cst : Ref sig .tc := ⟨.hbm, 63, rfl⟩
abbrev main_while0b_call5_call0_v0 : Ref sig .tc := ⟨.hbm, 64, rfl⟩
abbrev main_while0b_v20 : Ref sig .tc := ⟨.hbm, 65, rfl⟩
abbrev main_while0b_v21 : Ref sig .tc := ⟨.hbm, 66, rfl⟩
abbrev main_while0b_v22 : Ref sig .tc := ⟨.hbm, 67, rfl⟩
abbrev main_while0b_v23 : Ref sig .tc := ⟨.hbm, 68, rfl⟩
abbrev main_while0b_v24 : Ref sig .tc := ⟨.hbm, 69, rfl⟩
abbrev main_while0b_v25 : Ref sig .tc := ⟨.hbm, 70, rfl⟩
abbrev main_while0b_v26 : Ref sig .tc := ⟨.hbm, 71, rfl⟩
abbrev main_while0b_v27 : Ref sig .tc := ⟨.hbm, 72, rfl⟩
abbrev main_while0b_v28 : Ref sig .tc := ⟨.hbm, 73, rfl⟩
abbrev main_while0b_v29 : Ref sig .tc := ⟨.hbm, 74, rfl⟩
abbrev main_while0b_cst_9 : Ref sig .tc := ⟨.hbm, 75, rfl⟩
abbrev main_while0b_call6_v0 : Ref sig .tc := ⟨.hbm, 76, rfl⟩
abbrev main_while0b_call6_v1 : Ref sig .tc := ⟨.hbm, 77, rfl⟩
abbrev main_while0b_call6_v2 : Ref sig .tc := ⟨.hbm, 78, rfl⟩
abbrev main_while0b_v30 : Ref sig .tc := ⟨.hbm, 79, rfl⟩
abbrev main_while0b_v31 : Ref sig .tc := ⟨.hbm, 80, rfl⟩
abbrev main_while0b_v32 : Ref sig .tc := ⟨.hbm, 81, rfl⟩
abbrev main_while0b_v33 : Ref sig .tc := ⟨.hbm, 82, rfl⟩
abbrev main_while0b_v34 : Ref sig .tc := ⟨.hbm, 83, rfl⟩
abbrev main_while0b_v35 : Ref sig .tc := ⟨.hbm, 84, rfl⟩
abbrev main_while0b_v36 : Ref sig .tc := ⟨.hbm, 85, rfl⟩
abbrev main_while0b_v37 : Ref sig .tc := ⟨.hbm, 86, rfl⟩
abbrev main_while0b_cst_10 : Ref sig .tc := ⟨.hbm, 87, rfl⟩
abbrev main_while0b_v38 : Ref sig .tc := ⟨.hbm, 88, rfl⟩
abbrev main_while0b_v39 : Ref sig .tc := ⟨.hbm, 89, rfl⟩
abbrev main_while0b_v40 : Ref sig .tc := ⟨.hbm, 90, rfl⟩
abbrev main_while0b_v41 : Ref sig .tc := ⟨.hbm, 91, rfl⟩
abbrev main_while0b_v42 : Ref sig .tc := ⟨.hbm, 92, rfl⟩
abbrev main_while0b_v43 : Ref sig .tc := ⟨.hbm, 93, rfl⟩
abbrev main_while0b_v44 : Ref sig .tc := ⟨.hbm, 94, rfl⟩
abbrev main_while0b_v45 : Ref sig .tc := ⟨.hbm, 95, rfl⟩
abbrev main_while0b_v46 : Ref sig .tc := ⟨.hbm, 96, rfl⟩
abbrev main_while0b_v47 : Ref sig .tc := ⟨.hbm, 97, rfl⟩
abbrev main_while0b_v48 : Ref sig .tc := ⟨.hbm, 98, rfl⟩
abbrev main_while0b_v49 : Ref sig .tc := ⟨.hbm, 99, rfl⟩
abbrev main_while0b_v50 : Ref sig .tc := ⟨.hbm, 100, rfl⟩
abbrev main_while0b_v51 : Ref sig .tc := ⟨.hbm, 101, rfl⟩
abbrev main_while0b_v52 : Ref sig .tc := ⟨.hbm, 102, rfl⟩
abbrev main_while0b_v53 : Ref sig .tc := ⟨.hbm, 103, rfl⟩
abbrev main_while0b_call7_v0 : Ref sig .tc := ⟨.hbm, 104, rfl⟩
abbrev main_while0b_call7_c : Ref sig .tc := ⟨.hbm, 105, rfl⟩
abbrev main_while0b_call7_c_0 : Ref sig .tc := ⟨.hbm, 106, rfl⟩
abbrev main_while0b_call7_c_1 : Ref sig .tc := ⟨.hbm, 107, rfl⟩
abbrev main_while0b_call7_c_2 : Ref sig .tc := ⟨.hbm, 108, rfl⟩
abbrev main_while0b_v54 : Ref sig .tc := ⟨.hbm, 109, rfl⟩
abbrev main_while0b_c_11 : Ref sig .tc := ⟨.hbm, 110, rfl⟩
abbrev main_while0b_v55 : Ref sig .tc := ⟨.hbm, 111, rfl⟩
abbrev main_v14 : Ref sig .tc := ⟨.hbm, 112, rfl⟩
abbrev main_v15 : Ref sig .tc := ⟨.hbm, 113, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S16x2048x1024 : Shape := ⟨3, ![16, 2048, 1024]⟩
abbrev S2x4x1024 : Shape := ⟨3, ![2, 4, 1024]⟩
abbrev S1x256 : Shape := ⟨2, ![1, 256]⟩
abbrev S1x1024x1024 : Shape := ⟨3, ![1, 1024, 1024]⟩
abbrev S2x1024x5632 : Shape := ⟨3, ![2, 1024, 5632]⟩
abbrev S2x2816x1024 : Shape := ⟨3, ![2, 2816, 1024]⟩
abbrev S32768x1024 : Shape := ⟨2, ![32768, 1024]⟩
abbrev S1024x1024 : Shape := ⟨2, ![1024, 1024]⟩
abbrev S1x4x1024 : Shape := ⟨3, ![1, 4, 1024]⟩
abbrev S4x1024 : Shape := ⟨2, ![4, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S512x1024 : Shape := ⟨2, ![512, 1024]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩
abbrev S1x1024 : Shape := ⟨2, ![1, 1024]⟩
abbrev S1024x1536 : Shape := ⟨2, ![1024, 1536]⟩
abbrev S256x1536 : Shape := ⟨2, ![256, 1536]⟩
abbrev S1536x1024 : Shape := ⟨2, ![1536, 1024]⟩
abbrev S1024x1280 : Shape := ⟨2, ![1024, 1280]⟩
abbrev S256x1280 : Shape := ⟨2, ![256, 1280]⟩
abbrev S1280x1024 : Shape := ⟨2, ![1280, 1024]⟩

abbrev nBuf : Space → Nat
  | .hbm => 22
  | .vmem => 13
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S16x2048x1024, .f32⟩
  | .hbm, ⟨3, _⟩ => ⟨S2x4x1024, .f32⟩
  | .hbm, ⟨4, _⟩ => ⟨S1x256, .f32⟩
  | .hbm, ⟨5, _⟩ => ⟨S1x1024x1024, .f32⟩
  | .hbm, ⟨6, _⟩ => ⟨S2x1024x5632, .f32⟩
  | .hbm, ⟨7, _⟩ => ⟨S2x2816x1024, .f32⟩
  | .hbm, ⟨8, _⟩ => ⟨S32768x1024, .f32⟩
  | .hbm, ⟨9, _⟩ => ⟨S32768x1024, .f32⟩
  | .hbm, ⟨10, _⟩ => ⟨S32768x1024, .f32⟩
  | .hbm, ⟨11, _⟩ => ⟨S1024x1024, .f32⟩
  | .hbm, ⟨12, _⟩ => ⟨S1024x1024, .bf16⟩
  | .hbm, ⟨13, _⟩ => ⟨S1x4x1024, .f32⟩
  | .hbm, ⟨14, _⟩ => ⟨S4x1024, .f32⟩
  | .hbm, ⟨15, _⟩ => ⟨S1x1024x5632, .f32⟩
  | .hbm, ⟨16, _⟩ => ⟨S1024x5632, .f32⟩
  | .hbm, ⟨17, _⟩ => ⟨S1024x5632, .bf16⟩
  | .hbm, ⟨18, _⟩ => ⟨S1x2816x1024, .f32⟩
  | .hbm, ⟨19, _⟩ => ⟨S2816x1024, .f32⟩
  | .hbm, ⟨20, _⟩ => ⟨S2816x1024, .bf16⟩
  | .hbm, ⟨21, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x256, .f32⟩
  | .local _ .vmem, ⟨7, _⟩ => ⟨S1024x1024, .bf16⟩
  | .local _ .vmem, ⟨8, _⟩ => ⟨S4x1024, .f32⟩
  | .local _ .vmem, ⟨9, _⟩ => ⟨S1024x5632, .bf16⟩
  | .local _ .vmem, ⟨10, _⟩ => ⟨S2816x1024, .bf16⟩
  | .local _ .vmem, ⟨11, _⟩ => ⟨S512x1024, .f32⟩
  | .local _ .vmem, ⟨12, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S16x2048x1024 : Shape := ⟨3, ![16, 2048, 1024]⟩
abbrev S2x4x1024 : Shape := ⟨3, ![2, 4, 1024]⟩
abbrev S1x256 : Shape := ⟨2, ![1, 256]⟩
abbrev S1x1024x1024 : Shape := ⟨3, ![1, 1024, 1024]⟩
abbrev S2x1024x5632 : Shape := ⟨3, ![2, 1024, 5632]⟩
abbrev S2x2816x1024 : Shape := ⟨3, ![2, 2816, 1024]⟩
abbrev S16x2048x4x256 : Shape := ⟨4, ![16, 2048, 4, 256]⟩
abbrev S256 : Shape := ⟨1, ![256]⟩
abbrev S_ : Shape := ⟨0, ![]⟩
abbrev S16x2048x4 : Shape := ⟨3, ![16, 2048, 4]⟩
abbrev S16x2048x4x1 : Shape := ⟨4, ![16, 2048, 4, 1]⟩
abbrev S1x1x1x256 : Shape := ⟨4, ![1, 1, 1, 256]⟩
abbrev S1024x1024 : Shape := ⟨2, ![1024, 1024]⟩
abbrev S1x1x1024 : Shape := ⟨3, ![1, 1, 1024]⟩
abbrev S1024 : Shape := ⟨1, ![1024]⟩
abbrev S16x2048 : Shape := ⟨2, ![16, 2048]⟩
abbrev S16x2048x1 : Shape := ⟨3, ![16, 2048, 1]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S16x2048x5632 : Shape := ⟨3, ![16, 2048, 5632]⟩
abbrev S16x2048x2816 : Shape := ⟨3, ![16, 2048, 2816]⟩
abbrev S32768x1024 : Shape := ⟨2, ![32768, 1024]⟩

abbrev nBuf : Space → Nat
  | .hbm => 114
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S16x2048x1024, .f32⟩
  | .hbm, ⟨3, _⟩ => ⟨S2x4x1024, .f32⟩
  | .hbm, ⟨4, _⟩ => ⟨S1x256, .f32⟩
  | .hbm, ⟨5, _⟩ => ⟨S1x1024x1024, .f32⟩
  | .hbm, ⟨6, _⟩ => ⟨S2x1024x5632, .f32⟩
  | .hbm, ⟨7, _⟩ => ⟨S2x2816x1024, .f32⟩
  | .hbm, ⟨8, _⟩ => ⟨S16x2048x4x256, .f32⟩
  | .hbm, ⟨9, _⟩ => ⟨S256, .f32⟩
  | .hbm, ⟨10, _⟩ => ⟨S16x2048x4x256, .f32⟩
  | .hbm, ⟨11, _⟩ => ⟨S_, .f32⟩
  | .hbm, ⟨12, _⟩ => ⟨S16x2048x4, .f32⟩
  | .hbm, ⟨13, _⟩ => ⟨S16x2048x4x1, .f32⟩
  | .hbm, ⟨14, _⟩ => ⟨S_, .f32⟩
  | .hbm, ⟨15, _⟩ => ⟨S16x2048x4x1, .f32⟩
  | .hbm, ⟨16, _⟩ => ⟨S16x2048x4x1, .f32⟩
  | .hbm, ⟨17, _⟩ => ⟨S_, .f32⟩
  | .hbm, ⟨18, _⟩ => ⟨S16x2048x4x1, .f32⟩
  | .hbm, ⟨19, _⟩ => ⟨S16x2048x4x1, .f32⟩
  | .hbm, ⟨20, _⟩ => ⟨S16x2048x4x1, .f32⟩
  | .hbm, ⟨21, _⟩ => ⟨S16x2048x4x256, .f32⟩
  | .hbm, ⟨22, _⟩ => ⟨S16x2048x4x256, .f32⟩
  | .hbm, ⟨23, _⟩ => ⟨S1x1x1x256, .f32⟩
  | .hbm, ⟨24, _⟩ => ⟨S16x2048x4x256, .f32⟩
  | .hbm, ⟨25, _⟩ => ⟨S16x2048x4x256, .f32⟩
  | .hbm, ⟨26, _⟩ => ⟨S16x2048x1024, .f32⟩
  | .hbm, ⟨27, _⟩ => ⟨S16x2048x1024, .f32⟩
  | .hbm, ⟨28, _⟩ => ⟨S16x2048x1024, .f32⟩
  | .hbm, ⟨29, _⟩ => ⟨S_, .f32⟩
  | .hbm, ⟨30, _⟩ => ⟨S16x2048x1024, .f32⟩
  | .hbm, ⟨31, _⟩ => ⟨S16x2048x1024, .f32⟩
  | .hbm, ⟨32, _⟩ => ⟨S_, .f32⟩
  | .hbm, ⟨33, _⟩ => ⟨S16x2048x1024, .f32⟩
  | .hbm, ⟨34, _⟩ => ⟨S16x2048x1024, .f32⟩
  | .hbm, ⟨35, _⟩ => ⟨S16x2048x1024, .f32⟩
  | .hbm, ⟨36, _⟩ => ⟨S16x2048x1024, .f32⟩
  | .hbm, ⟨37, _⟩ => ⟨S1024x1024, .f32⟩
  | .hbm, ⟨38, _⟩ => ⟨S16x2048x1024, .f32⟩
  | .hbm, ⟨39, _⟩ => ⟨S1x1x1024, .f32⟩
  | .hbm, ⟨40, _⟩ => ⟨S1024, .f32⟩
  | .hbm, ⟨41, _⟩ => ⟨S16x2048x1024, .f32⟩
  | .hbm, ⟨42, _⟩ => ⟨S_, .f32⟩
  | .hbm, ⟨43, _⟩ => ⟨S16x2048, .f32⟩
  | .hbm, ⟨44, _⟩ => ⟨S16x2048x1, .f32⟩
  | .hbm, ⟨45, _⟩ => ⟨S_, .f32⟩
  | .hbm, ⟨46, _⟩ => ⟨S16x2048x1, .f32⟩
  | .hbm, ⟨47, _⟩ => ⟨S16x2048x1, .f32⟩
  | .hbm, ⟨48, _⟩ => ⟨S_, .f32⟩
  | .hbm, ⟨49, _⟩ => ⟨S16x2048x1, .f32⟩
  | .hbm, ⟨50, _⟩ => ⟨S16x2048x1, .f32⟩
  | .hbm, ⟨51, _⟩ => ⟨S16x2048x1, .f32⟩
  | .hbm, ⟨52, _⟩ => ⟨S16x2048x1024, .f32⟩
  | .hbm, ⟨53, _⟩ => ⟨S16x2048x1024, .f32⟩
  | .hbm, ⟨54, _⟩ => ⟨S1x1x1024, .f32⟩
  | .hbm, ⟨55, _⟩ => ⟨S16x2048x1024, .f32⟩
  | .hbm, ⟨56, _⟩ => ⟨S16x2048x1024, .f32⟩
  | .hbm, ⟨57, _⟩ => ⟨S16x2048x1024, .f32⟩
  | .hbm, ⟨58, _⟩ => ⟨S1x1x1024, .f32⟩
  | .hbm, ⟨59, _⟩ => ⟨S1024, .f32⟩
  | .hbm, ⟨60, _⟩ => ⟨S16x2048x1024, .f32⟩
  | .hbm, ⟨61, _⟩ => ⟨S_, .f32⟩
  | .hbm, ⟨62, _⟩ => ⟨S16x2048, .f32⟩
  | .hbm, ⟨63, _⟩ => ⟨S16x2048x1, .f32⟩
  | .hbm, ⟨64, _⟩ => ⟨S_, .f32⟩
  | .hbm, ⟨65, _⟩ => ⟨S16x2048x1, .f32⟩
  | .hbm, ⟨66, _⟩ => ⟨S16x2048x1, .f32⟩
  | .hbm, ⟨67, _⟩ => ⟨S_, .f32⟩
  | .hbm, ⟨68, _⟩ => ⟨S16x2048x1, .f32⟩
  | .hbm, ⟨69, _⟩ => ⟨S16x2048x1, .f32⟩
  | .hbm, ⟨70, _⟩ => ⟨S16x2048x1, .f32⟩
  | .hbm, ⟨71, _⟩ => ⟨S16x2048x1024, .f32⟩
  | .hbm, ⟨72, _⟩ => ⟨S16x2048x1024, .f32⟩
  | .hbm, ⟨73, _⟩ => ⟨S1x1x1024, .f32⟩
  | .hbm, ⟨74, _⟩ => ⟨S16x2048x1024, .f32⟩
  | .hbm, ⟨75, _⟩ => ⟨S16x2048x1024, .f32⟩
  | .hbm, ⟨76, _⟩ => ⟨S1x1024x5632, .f32⟩
  | .hbm, ⟨77, _⟩ => ⟨S1024x5632, .f32⟩
  | .hbm, ⟨78, _⟩ => ⟨S1x2816x1024, .f32⟩
  | .hbm, ⟨79, _⟩ => ⟨S2816x1024, .f32⟩
  | .hbm, ⟨80, _⟩ => ⟨S16x2048x5632, .f32⟩
  | .hbm, ⟨81, _⟩ => ⟨S16x2048x2816, .f32⟩
  | .hbm, ⟨82, _⟩ => ⟨S16x2048x2816, .f32⟩
  | .hbm, ⟨83, _⟩ => ⟨S16x2048x2816, .f32⟩
  | .hbm, ⟨84, _⟩ => ⟨S16x2048x2816, .f32⟩
  | .hbm, ⟨85, _⟩ => ⟨S_, .f32⟩
  | .hbm, ⟨86, _⟩ => ⟨S16x2048x2816, .f32⟩
  | .hbm, ⟨87, _⟩ => ⟨S16x2048x2816, .f32⟩
  | .hbm, ⟨88, _⟩ => ⟨S_, .f32⟩
  | .hbm, ⟨89, _⟩ => ⟨S16x2048x2816, .f32⟩
  | .hbm, ⟨90, _⟩ => ⟨S16x2048x2816, .f32⟩
  | .hbm, ⟨91, _⟩ => ⟨S16x2048x2816, .f32⟩
  | .hbm, ⟨92, _⟩ => ⟨S16x2048x2816, .f32⟩
  | .hbm, ⟨93, _⟩ => ⟨S16x2048x1024, .f32⟩
  | .hbm, ⟨94, _⟩ => ⟨S1x1x1024, .f32⟩
  | .hbm, ⟨95, _⟩ => ⟨S1024, .f32⟩
  | .hbm, ⟨96, _⟩ => ⟨S16x2048x1024, .f32⟩
  | .hbm, ⟨97, _⟩ => ⟨S_, .f32⟩
  | .hbm, ⟨98, _⟩ => ⟨S16x2048, .f32⟩
  | .hbm, ⟨99, _⟩ => ⟨S16x2048x1, .f32⟩
  | .hbm, ⟨100, _⟩ => ⟨S_, .f32⟩
  | .hbm, ⟨101, _⟩ => ⟨S16x2048x1, .f32⟩
  | .hbm, ⟨102, _⟩ => ⟨S16x2048x1, .f32⟩
  | .hbm, ⟨103, _⟩ => ⟨S_, .f32⟩
  | .hbm, ⟨104, _⟩ => ⟨S16x2048x1, .f32⟩
  | .hbm, ⟨105, _⟩ => ⟨S16x2048x1, .f32⟩
  | .hbm, ⟨106, _⟩ => ⟨S16x2048x1, .f32⟩
  | .hbm, ⟨107, _⟩ => ⟨S16x2048x1024, .f32⟩
  | .hbm, ⟨108, _⟩ => ⟨S16x2048x1024, .f32⟩
  | .hbm, ⟨109, _⟩ => ⟨S1x1x1024, .f32⟩
  | .hbm, ⟨110, _⟩ => ⟨S16x2048x1024, .f32⟩
  | .hbm, ⟨111, _⟩ => ⟨S16x2048x1024, .f32⟩
  | .hbm, ⟨112, _⟩ => ⟨S16x2048x1024, .f32⟩
  | .hbm, ⟨113, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_2 : Ref sig .tc := ⟨.hbm, 42, rfl⟩
abbrev main_v23 : Ref sig .tc := ⟨.hbm, 43, rfl⟩
abbrev main_v24 : Ref sig .tc := ⟨.hbm, 44, rfl⟩
abbrev main_cst_3 : Ref sig .tc := ⟨.hbm, 45, rfl⟩
abbrev main_v25 : Ref sig .tc := ⟨.hbm, 46, rfl⟩
abbrev main_v26 : Ref sig .tc := ⟨.hbm, 47, rfl⟩
abbrev main_cst_4 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_5 : Ref sig .tc := ⟨.hbm, 61, rfl⟩
abbrev main_v39 : Ref sig .tc := ⟨.hbm, 62, rfl⟩
abbrev main_v40 : Ref sig .tc := ⟨.hbm, 63, rfl⟩
abbrev main_cst_6 : Ref sig .tc := ⟨.hbm, 64, rfl⟩
abbrev main_v41 : Ref sig .tc := ⟨.hbm, 65, rfl⟩
abbrev main_v42 : Ref sig .tc := ⟨.hbm, 66, rfl⟩
abbrev main_cst_7 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_call1_v0 : Ref sig .tc := ⟨.hbm, 83, rfl⟩
abbrev main_call1_v1 : Ref sig .tc := ⟨.hbm, 84, rfl⟩
abbrev main_call1_cst : Ref sig .tc := ⟨.hbm, 85, rfl⟩
abbrev main_call1_v2 : Ref sig .tc := ⟨.hbm, 86, rfl⟩
abbrev main_call1_v3 : Ref sig .tc := ⟨.hbm, 87, rfl⟩
abbrev main_call1_cst_0 : Ref sig .tc := ⟨.hbm, 88, rfl⟩
abbrev main_call1_v4 : Ref sig .tc := ⟨.hbm, 89, rfl⟩
abbrev main_call1_v5 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_8 : Ref sig .tc := ⟨.hbm, 97, rfl⟩
abbrev main_v64 : Ref sig .tc := ⟨.hbm, 98, rfl⟩
abbrev main_v65 : Ref sig .tc := ⟨.hbm, 99, rfl⟩
abbrev main_cst_9 : Ref sig .tc := ⟨.hbm, 100, rfl⟩
abbrev main_v66 : Ref sig .tc := ⟨.hbm, 101, rfl⟩
abbrev main_v67 : Ref sig .tc := ⟨.hbm, 102, rfl⟩
abbrev main_cst_10 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩

abbrev nD : Nat := 1
abbrev τ : Topo := Topo.v7x

variable {F : FTy → Type} [FloatOps F]
-- ==== Kernel3.lean ====
abbrev S16x2048x1024 : Shape := ⟨3, ![16, 2048, 1024]⟩
abbrev S2x4x1024 : Shape := ⟨3, ![2, 4, 1024]⟩
abbrev S1x1024x1024 : Shape := ⟨3, ![1, 1024, 1024]⟩
abbrev S2x1024x5632 : Shape := ⟨3, ![2, 1024, 5632]⟩
abbrev S2x2816x1024 : Shape := ⟨3, ![2, 2816, 1024]⟩
abbrev S32768x1024 : Shape := ⟨2, ![32768, 1024]⟩
abbrev S1024x1024 : Shape := ⟨2, ![1024, 1024]⟩
abbrev S1x4x1024 : Shape := ⟨3, ![1, 4, 1024]⟩
abbrev S4x1024 : Shape := ⟨2, ![4, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S512x1024 : Shape := ⟨2, ![512, 1024]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024x1536 : Shape := ⟨2, ![1024, 1536]⟩
abbrev S256x1536 : Shape := ⟨2, ![256, 1536]⟩
abbrev S1536x1024 : Shape := ⟨2, ![1536, 1024]⟩
abbrev S1024x1280 : Shape := ⟨2, ![1024, 1280]⟩
abbrev S256x1280 : Shape := ⟨2, ![256, 1280]⟩
abbrev S1280x1024 : Shape := ⟨2, ![1280, 1024]⟩

abbrev nBuf : Space → Nat
  | .hbm => 19
  | .vmem => 10
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S2x4x1024, .f32⟩
  | .hbm, ⟨3, _⟩ => ⟨S1x1024x1024, .f32⟩
  | .hbm, ⟨4, _⟩ => ⟨S2x1024x5632, .f32⟩
  | .hbm, ⟨5, _⟩ => ⟨S2x2816x1024, .f32⟩
  | .hbm, ⟨6, _⟩ => ⟨S32768x1024, .f32⟩
  | .hbm, ⟨7, _⟩ => ⟨S32768x1024, .f32⟩
  | .hbm, ⟨8, _⟩ => ⟨S1024x1024, .f32⟩
  | .hbm, ⟨9, _⟩ => ⟨S1024x1024, .bf16⟩
  | .hbm, ⟨10, _⟩ => ⟨S1x4x1024, .f32⟩
  | .hbm, ⟨11, _⟩ => ⟨S4x1024, .f32⟩
  | .hbm, ⟨12, _⟩ => ⟨S1x1024x5632, .f32⟩
  | .hbm, ⟨13, _⟩ => ⟨S1024x5632, .f32⟩
  | .hbm, ⟨14, _⟩ => ⟨S1024x5632, .bf16⟩
  | .hbm, ⟨15, _⟩ => ⟨S1x2816x1024, .f32⟩
  | .hbm, ⟨16, _⟩ => ⟨S2816x1024, .f32⟩
  | .hbm, ⟨17, _⟩ => ⟨S2816x1024, .bf16⟩
  | .hbm, ⟨18, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S4x1024, .f32⟩
  | .local _ .vmem, ⟨6, _⟩ => ⟨S1024x5632, .bf16⟩
  | .local _ .vmem, ⟨7, _⟩ => ⟨S2816x1024, .bf16⟩
  | .local _ .vmem, ⟨8, _⟩ => ⟨S512x1024, .f32⟩
  | .local _ .vmem, ⟨9, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S16x2048x1024 : Shape := ⟨3, ![16, 2048, 1024]⟩
abbrev S2x4x1024 : Shape := ⟨3, ![2, 4, 1024]⟩
abbrev S1x1024x1024 : Shape := ⟨3, ![1, 1024, 1024]⟩
abbrev S2x1024x5632 : Shape := ⟨3, ![2, 1024, 5632]⟩
abbrev S2x2816x1024 : Shape := ⟨3, ![2, 2816, 1024]⟩
abbrev S1024x1024 : Shape := ⟨2, ![1024, 1024]⟩
abbrev S1x1x1024 : Shape := ⟨3, ![1, 1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S16x2048x5632 : Shape := ⟨3, ![16, 2048, 5632]⟩
abbrev S16x2048x2816 : Shape := ⟨3, ![16, 2048, 2816]⟩
abbrev S32768x1024 : Shape := ⟨2, ![32768, 1024]⟩

abbrev nBuf : Space → Nat
  | .hbm => 83
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S2x4x1024, .f32⟩
  | .hbm, ⟨3, _⟩ => ⟨S1x1024x1024, .f32⟩
  | .hbm, ⟨4, _⟩ => ⟨S2x1024x5632, .f32⟩
  | .hbm, ⟨5, _⟩ => ⟨S2x2816x1024, .f32⟩
  | .hbm, ⟨6, _⟩ => ⟨S1024x1024, .f32⟩
  | .hbm, ⟨7, _⟩ => ⟨S16x2048x1024, .f32⟩
  | .hbm, ⟨8, _⟩ => ⟨S1x1x1024, .f32⟩
  | .hbm, ⟨9, _⟩ => ⟨S1024, .f32⟩
  | .hbm, ⟨10, _⟩ => ⟨S16x2048x1024, .f32⟩
  | .hbm, ⟨11, _⟩ => ⟨S_, .f32⟩
  | .hbm, ⟨12, _⟩ => ⟨S16x2048, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S_, .f32⟩
  | .hbm, ⟨18, _⟩ => ⟨S16x2048x1, .f32⟩
  | .hbm, ⟨19, _⟩ => ⟨S16x2048x1, .f32⟩
  | .hbm, ⟨20, _⟩ => ⟨S16x2048x1, .f32⟩
  | .hbm, ⟨21, _⟩ => ⟨S16x2048x1024, .f32⟩
  | .hbm, ⟨22, _⟩ => ⟨S16x2048x1024, .f32⟩
  | .hbm, ⟨23, _⟩ => ⟨S1x1x1024, .f32⟩
  | .hbm, ⟨24, _⟩ => ⟨S16x2048x1024, .f32⟩
  | .hbm, ⟨25, _⟩ => ⟨S16x2048x1024, .f32⟩
  | .hbm, ⟨26, _⟩ => ⟨S16x2048x1024, .f32⟩
  | .hbm, ⟨27, _⟩ => ⟨S1x1x1024, .f32⟩
  | .hbm, ⟨28, _⟩ => ⟨S1024, .f32⟩
  | .hbm, ⟨29, _⟩ => ⟨S16x2048x1024, .f32⟩
  | .hbm, ⟨30, _⟩ => ⟨S_, .f32⟩
  | .hbm, ⟨31, _⟩ => ⟨S16x2048, .f32⟩
  | .hbm, ⟨32, _⟩ => ⟨S16x2048x1, .f32⟩
  | .hbm, ⟨33, _⟩ => ⟨S_, .f32⟩
  | .hbm, ⟨34, _⟩ => ⟨S16x2048x1, .f32⟩
  | .hbm, ⟨35, _⟩ => ⟨S16x2048x1, .f32⟩
  | .hbm, ⟨36, _⟩ => ⟨S_, .f32⟩
  | .hbm, ⟨37, _⟩ => ⟨S16x2048x1, .f32⟩
  | .hbm, ⟨38, _⟩ => ⟨S16x2048x1, .f32⟩
  | .hbm, ⟨39, _⟩ => ⟨S16x2048x1, .f32⟩
  | .hbm, ⟨40, _⟩ => ⟨S16x2048x1024, .f32⟩
  | .hbm, ⟨41, _⟩ => ⟨S16x2048x1024, .f32⟩
  | .hbm, ⟨42, _⟩ => ⟨S1x1x1024, .f32⟩
  | .hbm, ⟨43, _⟩ => ⟨S16x2048x1024, .f32⟩
  | .hbm, ⟨44, _⟩ => ⟨S16x2048x1024, .f32⟩
  | .hbm, ⟨45, _⟩ => ⟨S1x1024x5632, .f32⟩
  | .hbm, ⟨46, _⟩ => ⟨S1024x5632, .f32⟩
  | .hbm, ⟨47, _⟩ => ⟨S1x2816x1024, .f32⟩
  | .hbm, ⟨48, _⟩ => ⟨S2816x1024, .f32⟩
  | .hbm, ⟨49, _⟩ => ⟨S16x2048x5632, .f32⟩
  | .hbm, ⟨50, _⟩ => ⟨S16x2048x2816, .f32⟩
  | .hbm, ⟨51, _⟩ => ⟨S16x2048x2816, .f32⟩
  | .hbm, ⟨52, _⟩ => ⟨S16x2048x2816, .f32⟩
  | .hbm, ⟨53, _⟩ => ⟨S16x2048x2816, .f32⟩
  | .hbm, ⟨54, _⟩ => ⟨S_, .f32⟩
  | .hbm, ⟨55, _⟩ => ⟨S16x2048x2816, .f32⟩
  | .hbm, ⟨56, _⟩ => ⟨S16x2048x2816, .f32⟩
  | .hbm, ⟨57, _⟩ => ⟨S_, .f32⟩
  | .hbm, ⟨58, _⟩ => ⟨S16x2048x2816, .f32⟩
  | .hbm, ⟨59, _⟩ => ⟨S16x2048x2816, .f32⟩
  | .hbm, ⟨60, _⟩ => ⟨S16x2048x2816, .f32⟩
  | .hbm, ⟨61, _⟩ => ⟨S16x2048x2816, .f32⟩
  | .hbm, ⟨62, _⟩ => ⟨S16x2048x1024, .f32⟩
  | .hbm, ⟨63, _⟩ => ⟨S1x1x1024, .f32⟩
  | .hbm, ⟨64, _⟩ => ⟨S1024, .f32⟩
  | .hbm, ⟨65, _⟩ => ⟨S16x2048x1024, .f32⟩
  | .hbm, ⟨66, _⟩ => ⟨S_, .f32⟩
  | .hbm, ⟨67, _⟩ => ⟨S16x2048, .f32⟩
  | .hbm, ⟨68, _⟩ => ⟨S16x2048x1, .f32⟩
  | .hbm, ⟨69, _⟩ => ⟨S_, .f32⟩
  | .hbm, ⟨70, _⟩ => ⟨S16x2048x1, .f32⟩
  | .hbm, ⟨71, _⟩ => ⟨S16x2048x1, .f32⟩
  | .hbm, ⟨72, _⟩ => ⟨S_, .f32⟩
  | .hbm, ⟨73, _⟩ => ⟨S16x2048x1, .f32⟩
  | .hbm, ⟨74, _⟩ => ⟨S16x2048x1, .f32⟩
  | .hbm, ⟨75, _⟩ => ⟨S16x2048x1, .f32⟩
  | .hbm, ⟨76, _⟩ => ⟨S16x2048x1024, .f32⟩
  | .hbm, ⟨77, _⟩ => ⟨S16x2048x1024, .f32⟩
  | .hbm, ⟨78, _⟩ => ⟨S1x1x1024, .f32⟩
  | .hbm, ⟨79, _⟩ => ⟨S16x2048x1024, .f32⟩
  | .hbm, ⟨80, _⟩ => ⟨S16x2048x1024, .f32⟩
  | .hbm, ⟨81, _⟩ => ⟨S16x2048x1024, .f32⟩
  | .hbm, ⟨82, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_5 : Ref sig .tc := ⟨.hbm, 66, rfl⟩
abbrev main_v46 : Ref sig .tc := ⟨.hbm, 67, rfl⟩
abbrev main_v47 : Ref sig .tc := ⟨.hbm, 68, rfl⟩
abbrev main_cst_6 : Ref sig .tc := ⟨.hbm, 69, rfl⟩
abbrev main_v48 : Ref sig .tc := ⟨.hbm, 70, rfl⟩
abbrev main_v49 : Ref sig .tc := ⟨.hbm, 71, rfl⟩
abbrev main_cst_7 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩

abbrev nD : Nat := 1
abbrev τ : Topo := Topo.v7x

variable {F : FTy → Type} [FloatOps F]
-- ==== Kernel4.lean ====
abbrev S16x2048x1024 : Shape := ⟨3, ![16, 2048, 1024]⟩
abbrev S1024 : Shape := ⟨1, ![1024]⟩
abbrev S2x4x1024 : Shape := ⟨3, ![2, 4, 1024]⟩
abbrev S1024x1536 : Shape := ⟨2, ![1024, 1536]⟩
abbrev S1x1024x3072 : Shape := ⟨3, ![1, 1024, 3072]⟩
abbrev S1024x3072 : Shape := ⟨2, ![1024, 3072]⟩
abbrev S_ : Shape := ⟨0, ![]⟩
abbrev S32768x1024 : Shape := ⟨2, ![32768, 1024]⟩
abbrev S1x1024 : Shape := ⟨2, ![1, 1024]⟩
abbrev S1x4x1024 : Shape := ⟨3, ![1, 4, 1024]⟩
abbrev S4x1024 : Shape := ⟨2, ![4, 1024]⟩
abbrev S32768x512 : Shape := ⟨2, ![32768, 512]⟩
abbrev S32768x2048 : Shape := ⟨2, ![32768, 2048]⟩
abbrev S16x512x2048 : Shape := ⟨3, ![16, 512, 2048]⟩
abbrev S16x4x512x1024 : Shape := ⟨4, ![16, 4, 512, 1024]⟩
abbrev S16x4x512x512 : Shape := ⟨4, ![16, 4, 512, 512]⟩
abbrev S512x1024 : Shape := ⟨2, ![512, 1024]⟩
abbrev S512x512 : Shape := ⟨2, ![512, 512]⟩
abbrev S512x2048 : Shape := ⟨2, ![512, 2048]⟩
abbrev S1x512x512 : Shape := ⟨3, ![1, 512, 512]⟩
abbrev S1x4x128x1024 : Shape := ⟨4, ![1, 4, 128, 1024]⟩
abbrev S1x4x128x512 : Shape := ⟨4, ![1, 4, 128, 512]⟩
abbrev S12x512x128 : Shape := ⟨3, ![12, 512, 128]⟩
abbrev S256x1024 : Shape := ⟨2, ![256, 1024]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S512x256 : Shape := ⟨2, ![512, 256]⟩
abbrev S1x512x256 : Shape := ⟨3, ![1, 512, 256]⟩
abbrev S256x128 : Shape := ⟨2, ![256, 128]⟩
abbrev S1x256x128 : Shape := ⟨3, ![1, 256, 128]⟩
abbrev S1024x2048 : Shape := ⟨2, ![1024, 2048]⟩
abbrev S256x2048 : Shape := ⟨2, ![256, 2048]⟩
abbrev S1024x1024 : Shape := ⟨2, ![1024, 1024]⟩
abbrev S1x128x128 : Shape := ⟨3, ![1, 128, 128]⟩
abbrev S128x128 : Shape := ⟨2, ![128, 128]⟩
abbrev S1x1x128x128 : Shape := ⟨4, ![1, 1, 128, 128]⟩

abbrev nBuf : Space → Nat
  | .hbm => 21
  | .vmem => 19
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S2x4x1024, .f32⟩
  | .hbm, ⟨3, _⟩ => ⟨S1024x1536, .f32⟩
  | .hbm, ⟨4, _⟩ => ⟨S1x1024x3072, .f32⟩
  | .hbm, ⟨5, _⟩ => ⟨S1024x3072, .f32⟩
  | .hbm, ⟨6, _⟩ => ⟨S_, .f32⟩
  | .hbm, ⟨7, _⟩ => ⟨S1024x3072, .f32⟩
  | .hbm, ⟨8, _⟩ => ⟨S1024x3072, .f32⟩
  | .hbm, ⟨9, _⟩ => ⟨S1024x3072, .bf16⟩
  | .hbm, ⟨10, _⟩ => ⟨S32768x1024, .f32⟩
  | .hbm, ⟨11, _⟩ => ⟨S1x1024, .f32⟩
  | .hbm, ⟨12, _⟩ => ⟨S1x4x1024, .f32⟩
  | .hbm, ⟨13, _⟩ => ⟨S4x1024, .f32⟩
  | .hbm, ⟨14, _⟩ => ⟨S1024x1536, .bf16⟩
  | .hbm, ⟨15, _⟩ => ⟨S32768x512, .f32⟩
  | .hbm, ⟨16, _⟩ => ⟨S32768x512, .f32⟩
  | .hbm, ⟨17, _⟩ => ⟨S32768x2048, .f32⟩
  | .hbm, ⟨18, _⟩ => ⟨S16x512x2048, .f32⟩
  | .hbm, ⟨19, _⟩ => ⟨S16x4x512x1024, .f32⟩
  | .hbm, ⟨20, _⟩ => ⟨S16x4x512x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024, .f32⟩
  | .local _ .vmem, ⟨4, _⟩ => ⟨S1024x1536, .bf16⟩
  | .local _ .vmem, ⟨5, _⟩ => ⟨S1024x3072, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x2048, .f32⟩
  | .local _ .vmem, ⟨11, _⟩ => ⟨S512x2048, .f32⟩
  | .local _ .vmem, ⟨12, _⟩ => ⟨S1x512x512, .f32⟩
  | .local _ .vmem, ⟨13, _⟩ => ⟨S1x512x512, .f32⟩
  | .local _ .vmem, ⟨14, _⟩ => ⟨S1x4x128x1024, .f32⟩
  | .local _ .vmem, ⟨15, _⟩ => ⟨S1x4x128x1024, .f32⟩
  | .local _ .vmem, ⟨16, _⟩ => ⟨S1x4x128x512, .f32⟩
  | .local _ .vmem, ⟨17, _⟩ => ⟨S1x4x128x512, .f32⟩
  | .local _ .vmem, ⟨18, _⟩ => ⟨S12x512x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v9_3 : Ref sig .tc := ⟨.hbm, 18, rfl⟩
abbrev main_v9_4 : Ref sig .tc := ⟨.hbm, 19, rfl⟩
abbrev main_v9_5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_9 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_10 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4x128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x4x128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S16x2048x1024 : Shape := ⟨3, ![16, 2048, 1024]⟩
abbrev S1024 : Shape := ⟨1, ![1024]⟩
abbrev S2x4x1024 : Shape := ⟨3, ![2, 4, 1024]⟩
abbrev S1024x1536 : Shape := ⟨2, ![1024, 1536]⟩
abbrev S1x1024x3072 : Shape := ⟨3, ![1, 1024, 3072]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x1536 : Shape := ⟨3, ![16, 2048, 1536]⟩
abbrev S16x2048x512 : Shape := ⟨3, ![16, 2048, 512]⟩
abbrev S1024x3072 : Shape := ⟨2, ![1024, 3072]⟩
abbrev S16x2048x3072 : Shape := ⟨3, ![16, 2048, 3072]⟩
abbrev S32768x512 : Shape := ⟨2, ![32768, 512]⟩
abbrev S16x2048x2048 : Shape := ⟨3, ![16, 2048, 2048]⟩
abbrev S32768x2048 : Shape := ⟨2, ![32768, 2048]⟩
abbrev S16x512x2048 : Shape := ⟨3, ![16, 512, 2048]⟩

abbrev nBuf : Space → Nat
  | .hbm => 53
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S2x4x1024, .f32⟩
  | .hbm, ⟨3, _⟩ => ⟨S1024x1536, .f32⟩
  | .hbm, ⟨4, _⟩ => ⟨S1x1024x3072, .f32⟩
  | .hbm, ⟨5, _⟩ => ⟨S16x2048x1024, .f32⟩
  | .hbm, ⟨6, _⟩ => ⟨S_, .f32⟩
  | .hbm, ⟨7, _⟩ => ⟨S16x2048, .f32⟩
  | .hbm, ⟨8, _⟩ => ⟨S16x2048x1, .f32⟩
  | .hbm, ⟨9, _⟩ => ⟨S_, .f32⟩
  | .hbm, ⟨10, _⟩ => ⟨S16x2048x1, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S16x2048x1, .f32⟩
  | .hbm, ⟨16, _⟩ => ⟨S16x2048x1024, .f32⟩
  | .hbm, ⟨17, _⟩ => ⟨S16x2048x1024, .f32⟩
  | .hbm, ⟨18, _⟩ => ⟨S1x1x1024, .f32⟩
  | .hbm, ⟨19, _⟩ => ⟨S16x2048x1024, .f32⟩
  | .hbm, ⟨20, _⟩ => ⟨S16x2048x1024, .f32⟩
  | .hbm, ⟨21, _⟩ => ⟨S16x2048x1536, .f32⟩
  | .hbm, ⟨22, _⟩ => ⟨S16x2048x512, .f32⟩
  | .hbm, ⟨23, _⟩ => ⟨S16x2048x512, .f32⟩
  | .hbm, ⟨24, _⟩ => ⟨S16x2048x512, .f32⟩
  | .hbm, ⟨25, _⟩ => ⟨S1x1x1024, .f32⟩
  | .hbm, ⟨26, _⟩ => ⟨S1024, .f32⟩
  | .hbm, ⟨27, _⟩ => ⟨S16x2048x1024, .f32⟩
  | .hbm, ⟨28, _⟩ => ⟨S_, .f32⟩
  | .hbm, ⟨29, _⟩ => ⟨S16x2048, .f32⟩
  | .hbm, ⟨30, _⟩ => ⟨S16x2048x1, .f32⟩
  | .hbm, ⟨31, _⟩ => ⟨S_, .f32⟩
  | .hbm, ⟨32, _⟩ => ⟨S16x2048x1, .f32⟩
  | .hbm, ⟨33, _⟩ => ⟨S16x2048x1, .f32⟩
  | .hbm, ⟨34, _⟩ => ⟨S_, .f32⟩
  | .hbm, ⟨35, _⟩ => ⟨S16x2048x1, .f32⟩
  | .hbm, ⟨36, _⟩ => ⟨S16x2048x1, .f32⟩
  | .hbm, ⟨37, _⟩ => ⟨S16x2048x1, .f32⟩
  | .hbm, ⟨38, _⟩ => ⟨S16x2048x1024, .f32⟩
  | .hbm, ⟨39, _⟩ => ⟨S16x2048x1024, .f32⟩
  | .hbm, ⟨40, _⟩ => ⟨S1x1x1024, .f32⟩
  | .hbm, ⟨41, _⟩ => ⟨S16x2048x1024, .f32⟩
  | .hbm, ⟨42, _⟩ => ⟨S16x2048x1024, .f32⟩
  | .hbm, ⟨43, _⟩ => ⟨S1024x3072, .f32⟩
  | .hbm, ⟨44, _⟩ => ⟨S16x2048x3072, .f32⟩
  | .hbm, ⟨45, _⟩ => ⟨S_, .f32⟩
  | .hbm, ⟨46, _⟩ => ⟨S16x2048x3072, .f32⟩
  | .hbm, ⟨47, _⟩ => ⟨S16x2048x3072, .f32⟩
  | .hbm, ⟨48, _⟩ => ⟨S32768x512, .f32⟩
  | .hbm, ⟨49, _⟩ => ⟨S32768x512, .f32⟩
  | .hbm, ⟨50, _⟩ => ⟨S16x2048x2048, .f32⟩
  | .hbm, ⟨51, _⟩ => ⟨S32768x2048, .f32⟩
  | .hbm, ⟨52, _⟩ => ⟨S16x512x2048, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]
-- ==== Kernel5.lean ====
abbrev S16x2048x1024 : Shape := ⟨3, ![16, 2048, 1024]⟩
abbrev S2x4x1024 : Shape := ⟨3, ![2, 4, 1024]⟩
abbrev S1x1024x3088 : Shape := ⟨3, ![1, 1024, 3088]⟩
abbrev S1x16x512 : Shape := ⟨3, ![1, 16, 512]⟩
abbrev S1x512 : Shape := ⟨2, ![1, 512]⟩
abbrev S1024x3088 : Shape := ⟨2, ![1024, 3088]⟩
abbrev S1024x16 : Shape := ⟨2, ![1024, 16]⟩
abbrev S_ : Shape := ⟨0, ![]⟩
abbrev S1024x128 : Shape := ⟨2, ![1024, 128]⟩
abbrev S16x512 : Shape := ⟨2, ![16, 512]⟩
abbrev S128x512 : Shape := ⟨2, ![128, 512]⟩
abbrev S32768x1024 : Shape := ⟨2, ![32768, 1024]⟩
abbrev S1x4x1024 : Shape := ⟨3, ![1, 4, 1024]⟩
abbrev S4x1024 : Shape := ⟨2, ![4, 1024]⟩
abbrev S512 : Shape := ⟨1, ![512]⟩
abbrev S32768x512 : Shape := ⟨2, ![32768, 512]⟩
abbrev S512x1024 : Shape := ⟨2, ![512, 1024]⟩
abbrev S512x512 : Shape := ⟨2, ![512, 512]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S256x128 : Shape := ⟨2, ![256, 128]⟩
abbrev S256x512 : Shape := ⟨2, ![256, 512]⟩
abbrev S1024x512 : Shape := ⟨2, ![1024, 512]⟩
abbrev S1024x1024 : Shape := ⟨2, ![1024, 1024]⟩

abbrev nBuf : Space → Nat
  | .hbm => 27
  | .vmem => 17
  | .smem => 0
  | _ => 0

abbrev bufTy : (tb : Table) → Fin (tcTables nBuf tb) → BufTy
  | .hbm, ⟨0, _⟩ => ⟨S16x2048x1024, .f32⟩
  | .hbm, ⟨1, _⟩ => ⟨S2x4x1024, .f32⟩
  | .hbm, ⟨2, _⟩ => ⟨S1x1024x3088, .f32⟩
  | .hbm, ⟨3, _⟩ => ⟨S1x16x512, .f32⟩
  | .hbm, ⟨4, _⟩ => ⟨S1x512, .f32⟩
  | .hbm, ⟨5, _⟩ => ⟨S1024x3088, .f32⟩
  | .hbm, ⟨6, _⟩ => ⟨S1024x16, .f32⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S16x512, .f32⟩
  | .hbm, ⟨11, _⟩ => ⟨S_, .i32⟩
  | .hbm, ⟨12, _⟩ => ⟨S_, .f32⟩
  | .hbm, ⟨13, _⟩ => ⟨S128x512, .f32⟩
  | .hbm, ⟨14, _⟩ => ⟨S32768x1024, .f32⟩
  | .hbm, ⟨15, _⟩ => ⟨S1x4x1024, .f32⟩
  | .hbm, ⟨16, _⟩ => ⟨S4x1024, .f32⟩
  | .hbm, ⟨17, _⟩ => ⟨S1024x3088, .bf16⟩
  | .hbm, ⟨18, _⟩ => ⟨S1024x128, .bf16⟩
  | .hbm, ⟨19, _⟩ => ⟨S128x512, .bf16⟩
  | .hbm, ⟨20, _⟩ => ⟨S512, .f32⟩
  | .hbm, ⟨21, _⟩ => ⟨S1x512, .f32⟩
  | .hbm, ⟨22, _⟩ => ⟨S32768x512, .f32⟩
  | .hbm, ⟨23, _⟩ => ⟨S32768x512, .f32⟩
  | .hbm, ⟨24, _⟩ => ⟨S32768x1024, .bf16⟩
  | .hbm, ⟨25, _⟩ => ⟨S32768x1024, .f32⟩
  | .hbm, ⟨26, _⟩ => ⟨S32768x512, .f32⟩
  | .local _ .vmem, ⟨0, _⟩ => ⟨S512x1024, .f32⟩
  | .local _ .vmem, ⟨1, _⟩ => ⟨S512x1024, .f32⟩
  | .local _ .vmem, ⟨2, _⟩ => ⟨S4x1024, .f32⟩
  | .local _ .vmem, ⟨3, _⟩ => ⟨S1024x3088, .bf16⟩
  | .local _ .vmem, ⟨4, _⟩ => ⟨S1024x128, .bf16⟩
  | .local _ .vmem, ⟨5, _⟩ => ⟨S128x512, .bf16⟩
  | .local _ .vmem, ⟨6, _⟩ => ⟨S1x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | .local _ .vmem, ⟨14, _⟩ => ⟨S512x1024, .f32⟩
  | .local _ .vmem, ⟨15, _⟩ => ⟨S512x512, .f32⟩
  | .local _ .vmem, ⟨16, _⟩ => ⟨S512x512, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_call1_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev main_v13_3 : Ref sig .tc := ⟨.hbm, 25, rfl⟩
abbrev main_v13_4 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3088 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Kernel5Ideal.lean ====
variable {F : FTy → Type} [FloatOps F] [Named F]
def κ : String → Option EReal := fun
  | "head_scale" => some (((Real.sqrt 128)⁻¹ : ℝ) : EReal)
  | _ => none
-- ==== Reference5Ideal.lean ====
abbrev S16x2048x1024 : Shape := ⟨3, ![16, 2048, 1024]⟩
abbrev S2x4x1024 : Shape := ⟨3, ![2, 4, 1024]⟩
abbrev S1x1024x3088 : Shape := ⟨3, ![1, 1024, 3088]⟩
abbrev S1x16x512 : Shape := ⟨3, ![1, 16, 512]⟩
abbrev S1x512 : Shape := ⟨2, ![1, 512]⟩
abbrev S1x1x1024 : Shape := ⟨3, ![1, 1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1024x3088 : Shape := ⟨2, ![1024, 3088]⟩
abbrev S16x2048x3088 : Shape := ⟨3, ![16, 2048, 3088]⟩
abbrev S16x2048x512 : Shape := ⟨3, ![16, 2048, 512]⟩
abbrev S16x2048x16 : Shape := ⟨3, ![16, 2048, 16]⟩
abbrev S16x512 : Shape := ⟨2, ![16, 512]⟩
abbrev S512 : Shape := ⟨1, ![512]⟩
abbrev S1x1x512 : Shape := ⟨3, ![1, 1, 512]⟩
abbrev S32768x512 : Shape := ⟨2, ![32768, 512]⟩
abbrev S32768x1024 : Shape := ⟨2, ![32768, 1024]⟩

abbrev nBuf : Space → Nat
  | .hbm => 65
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S2x4x1024, .f32⟩
  | .hbm, ⟨2, _⟩ => ⟨S1x1024x3088, .f32⟩
  | .hbm, ⟨3, _⟩ => ⟨S1x16x512, .f32⟩
  | .hbm, ⟨4, _⟩ => ⟨S1x512, .f32⟩
  | .hbm, ⟨5, _⟩ => ⟨S1x1x1024, .f32⟩
  | .hbm, ⟨6, _⟩ => ⟨S1024, .f32⟩
  | .hbm, ⟨7, _⟩ => ⟨S16x2048x1024, .f32⟩
  | .hbm, ⟨8, _⟩ => ⟨S_, .f32⟩
  | .hbm, ⟨9, _⟩ => ⟨S16x2048, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S16x2048x1, .f32⟩
  | .hbm, ⟨18, _⟩ => ⟨S16x2048x1024, .f32⟩
  | .hbm, ⟨19, _⟩ => ⟨S16x2048x1024, .f32⟩
  | .hbm, ⟨20, _⟩ => ⟨S1x1x1024, .f32⟩
  | .hbm, ⟨21, _⟩ => ⟨S16x2048x1024, .f32⟩
  | .hbm, ⟨22, _⟩ => ⟨S16x2048x1024, .f32⟩
  | .hbm, ⟨23, _⟩ => ⟨S1024x3088, .f32⟩
  | .hbm, ⟨24, _⟩ => ⟨S16x2048x3088, .f32⟩
  | .hbm, ⟨25, _⟩ => ⟨S16x2048x512, .f32⟩
  | .hbm, ⟨26, _⟩ => ⟨S16x2048x512, .f32⟩
  | .hbm, ⟨27, _⟩ => ⟨S16x2048x1024, .f32⟩
  | .hbm, ⟨28, _⟩ => ⟨S16x2048x1024, .f32⟩
  | .hbm, ⟨29, _⟩ => ⟨S16x2048x16, .f32⟩
  | .hbm, ⟨30, _⟩ => ⟨S16x512, .f32⟩
  | .hbm, ⟨31, _⟩ => ⟨S16x2048x512, .f32⟩
  | .hbm, ⟨32, _⟩ => ⟨S512, .f32⟩
  | .hbm, ⟨33, _⟩ => ⟨S1x1x512, .f32⟩
  | .hbm, ⟨34, _⟩ => ⟨S16x2048x512, .f32⟩
  | .hbm, ⟨35, _⟩ => ⟨S16x2048x512, .f32⟩
  | .hbm, ⟨36, _⟩ => ⟨S16x2048x512, .f32⟩
  | .hbm, ⟨37, _⟩ => ⟨S_, .f32⟩
  | .hbm, ⟨38, _⟩ => ⟨S16x2048x512, .f32⟩
  | .hbm, ⟨39, _⟩ => ⟨S16x2048x512, .f32⟩
  | .hbm, ⟨40, _⟩ => ⟨S16x2048x512, .f32⟩
  | .hbm, ⟨41, _⟩ => ⟨S16x2048x512, .f32⟩
  | .hbm, ⟨42, _⟩ => ⟨S16x2048x512, .i1⟩
  | .hbm, ⟨43, _⟩ => ⟨S16x2048x512, .f32⟩
  | .hbm, ⟨44, _⟩ => ⟨S16x2048x512, .f32⟩
  | .hbm, ⟨45, _⟩ => ⟨S16x2048x512, .f32⟩
  | .hbm, ⟨46, _⟩ => ⟨S16x2048x512, .f32⟩
  | .hbm, ⟨47, _⟩ => ⟨S16x2048x512, .f32⟩
  | .hbm, ⟨48, _⟩ => ⟨S16x2048x512, .f32⟩
  | .hbm, ⟨49, _⟩ => ⟨S16x2048x512, .f32⟩
  | .hbm, ⟨50, _⟩ => ⟨S16x2048x512, .f32⟩
  | .hbm, ⟨51, _⟩ => ⟨S16x2048x512, .f32⟩
  | .hbm, ⟨52, _⟩ => ⟨S_, .f32⟩
  | .hbm, ⟨53, _⟩ => ⟨S16x2048x512, .f32⟩
  | .hbm, ⟨54, _⟩ => ⟨S16x2048x512, .f32⟩
  | .hbm, ⟨55, _⟩ => ⟨S_, .f32⟩
  | .hbm, ⟨56, _⟩ => ⟨S_, .f32⟩
  | .hbm, ⟨57, _⟩ => ⟨S16x2048x512, .f32⟩
  | .hbm, ⟨58, _⟩ => ⟨S16x2048x512, .f32⟩
  | .hbm, ⟨59, _⟩ => ⟨S32768x512, .f32⟩
  | .hbm, ⟨60, _⟩ => ⟨S32768x512, .f32⟩
  | .hbm, ⟨61, _⟩ => ⟨S16x2048x1024, .bf16⟩
  | .hbm, ⟨62, _⟩ => ⟨S32768x1024, .bf16⟩
  | .hbm, ⟨63, _⟩ => ⟨S32768x1024, .f32⟩
  | .hbm, ⟨64, _⟩ => ⟨S32768x512, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_call0_v0 : Ref sig .tc := ⟨.hbm, 36, rfl⟩
abbrev main_call0_call0_cst : Ref sig .tc := ⟨.hbm, 37, rfl⟩
abbrev main_call0_call0_v0 : Ref sig .tc := ⟨.hbm, 38, rfl⟩
abbrev main_call0_call0_v1 : Ref sig .tc := ⟨.hbm, 39, rfl⟩
abbrev main_call0_call0_v2 : Ref sig .tc := ⟨.hbm, 40, rfl⟩
abbrev main_call0_call0_v3 : Ref sig .tc := ⟨.hbm, 41, rfl⟩
abbrev main_call0_call0_v4 : Ref sig .tc := ⟨.hbm, 42, rfl⟩
abbrev main_call0_call0_v5 : Ref sig .tc := ⟨.hbm, 43, rfl⟩
abbrev main_call0_call0_v6 : Ref sig .tc := ⟨.hbm, 44, rfl⟩
abbrev main_call0_call0_v7 : Ref sig .tc := ⟨.hbm, 45, rfl⟩
abbrev main_call0_call0_v8 : Ref sig .tc := ⟨.hbm, 46, rfl⟩
abbrev main_call0_call0_v9 : Ref sig .tc := ⟨.hbm, 47, rfl⟩
abbrev main_call0_call0_v10 : Ref sig .tc := ⟨.hbm, 48, rfl⟩
abbrev main_call0_call0_v11 : Ref sig .tc := ⟨.hbm, 49, rfl⟩
abbrev main_call0_v1 : Ref sig .tc := ⟨.hbm, 50, rfl⟩
abbrev main_v28 : Ref sig .tc := ⟨.hbm, 51, rfl⟩
abbrev main_cst_2 : Ref sig .tc := ⟨.hbm, 52, rfl⟩
abbrev main_v29 : Ref sig .tc := ⟨.hbm, 53, rfl⟩
abbrev main_v30 : Ref sig .tc := ⟨.hbm, 54, rfl⟩
abbrev main_cst_3 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩

abbrev nD : Nat := 1
abbrev τ : Topo := Topo.v7x

variable {F : FTy → Type} [FloatOps F]
-- ==== Kernel6.lean ====
abbrev S32x8x1024 : Shape := ⟨3, ![32, 8, 1024]⟩
abbrev S2x4x1024 : Shape := ⟨3, ![2, 4, 1024]⟩
abbrev S1x1024x1024 : Shape := ⟨3, ![1, 1024, 1024]⟩
abbrev S2x1024x5632 : Shape := ⟨3, ![2, 1024, 5632]⟩
abbrev S2x2816x1024 : Shape := ⟨3, ![2, 2816, 1024]⟩
abbrev S256x1024 : Shape := ⟨2, ![256, 1024]⟩
abbrev S1024x1024 : Shape := ⟨2, ![1024, 1024]⟩
abbrev S1x4x1024 : Shape := ⟨3, ![1, 4, 1024]⟩
abbrev S4x1024 : Shape := ⟨2, ![4, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S128x1024 : Shape := ⟨2, ![128, 1024]⟩
abbrev S1x1024 : Shape := ⟨2, ![1, 1024]⟩
abbrev S128 : Shape := ⟨1, ![128]⟩
abbrev S128x1 : Shape := ⟨2, ![128, 1]⟩
abbrev S1024x1536 : Shape := ⟨2, ![1024, 1536]⟩
abbrev S128x1536 : Shape := ⟨2, ![128, 1536]⟩
abbrev S1536x1024 : Shape := ⟨2, ![1536, 1024]⟩
abbrev S1024x1280 : Shape := ⟨2, ![1024, 1280]⟩
abbrev S128x1280 : Shape := ⟨2, ![128, 1280]⟩
abbrev S1280x1024 : Shape := ⟨2, ![1280, 1024]⟩

abbrev nBuf : Space → Nat
  | .hbm => 19
  | .vmem => 7
  | .smem => 0
  | _ => 0

abbrev bufTy : (tb : Table) → Fin (tcTables nBuf tb) → BufTy
  | .hbm, ⟨0, _⟩ => ⟨S32x8x1024, .f32⟩
  | .hbm, ⟨1, _⟩ => ⟨S32x8x1024, .f32⟩
  | .hbm, ⟨2, _⟩ => ⟨S2x4x1024, .f32⟩
  | .hbm, ⟨3, _⟩ => ⟨S1x1024x1024, .f32⟩
  | .hbm, ⟨4, _⟩ => ⟨S2x1024x5632, .f32⟩
  | .hbm, ⟨5, _⟩ => ⟨S2x2816x1024, .f32⟩
  | .hbm, ⟨6, _⟩ => ⟨S256x1024, .f32⟩
  | .hbm, ⟨7, _⟩ => ⟨S256x1024, .f32⟩
  | .hbm, ⟨8, _⟩ => ⟨S1024x1024, .f32⟩
  | .hbm, ⟨9, _⟩ => ⟨S1024x1024, .bf16⟩
  | .hbm, ⟨10, _⟩ => ⟨S1x4x1024, .f32⟩
  | .hbm, ⟨11, _⟩ => ⟨S4x1024, .f32⟩
  | .hbm, ⟨12, _⟩ => ⟨S1x1024x5632, .f32⟩
  | .hbm, ⟨13, _⟩ => ⟨S1024x5632, .f32⟩
  | .hbm, ⟨14, _⟩ => ⟨S1024x5632, .bf16⟩
  | .hbm, ⟨15, _⟩ => ⟨S1x2816x1024, .f32⟩
  | .hbm, ⟨16, _⟩ => ⟨S2816x1024, .f32⟩
  | .hbm, ⟨17, _⟩ => ⟨S2816x1024, .bf16⟩
  | .hbm, ⟨18, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S4x1024, .f32⟩
  | .local _ .vmem, ⟨4, _⟩ => ⟨S1024x5632, .bf16⟩
  | .local _ .vmem, ⟨5, _⟩ => ⟨S2816x1024, .bf16⟩
  | .local _ .vmem, ⟨6, _⟩ => ⟨S256x1024, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference6Ideal.lean ====
abbrev S32x8x1024 : Shape := ⟨3, ![32, 8, 1024]⟩
abbrev S2x4x1024 : Shape := ⟨3, ![2, 4, 1024]⟩
abbrev S1x1024x1024 : Shape := ⟨3, ![1, 1024, 1024]⟩
abbrev S2x1024x5632 : Shape := ⟨3, ![2, 1024, 5632]⟩
abbrev S2x2816x1024 : Shape := ⟨3, ![2, 2816, 1024]⟩
abbrev S1024x1024 : Shape := ⟨2, ![1024, 1024]⟩
abbrev S1x1x1024 : Shape := ⟨3, ![1, 1, 1024]⟩
abbrev S1024 : Shape := ⟨1, ![1024]⟩
abbrev S_ : Shape := ⟨0, ![]⟩
abbrev S32x8 : Shape := ⟨2, ![32, 8]⟩
abbrev S32x8x1 : Shape := ⟨3, ![32, 8, 1]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S32x8x5632 : Shape := ⟨3, ![32, 8, 5632]⟩
abbrev S32x8x2816 : Shape := ⟨3, ![32, 8, 2816]⟩
abbrev S256x1024 : Shape := ⟨2, ![256, 1024]⟩

abbrev nBuf : Space → Nat
  | .hbm => 83
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S32x8x1024, .f32⟩
  | .hbm, ⟨2, _⟩ => ⟨S2x4x1024, .f32⟩
  | .hbm, ⟨3, _⟩ => ⟨S1x1024x1024, .f32⟩
  | .hbm, ⟨4, _⟩ => ⟨S2x1024x5632, .f32⟩
  | .hbm, ⟨5, _⟩ => ⟨S2x2816x1024, .f32⟩
  | .hbm, ⟨6, _⟩ => ⟨S1024x1024, .f32⟩
  | .hbm, ⟨7, _⟩ => ⟨S32x8x1024, .f32⟩
  | .hbm, ⟨8, _⟩ => ⟨S1x1x1024, .f32⟩
  | .hbm, ⟨9, _⟩ => ⟨S1024, .f32⟩
  | .hbm, ⟨10, _⟩ => ⟨S32x8x1024, .f32⟩
  | .hbm, ⟨11, _⟩ => ⟨S_, .f32⟩
  | .hbm, ⟨12, _⟩ => ⟨S32x8, .f32⟩
  | .hbm, ⟨13, _⟩ => ⟨S32x8x1, .f32⟩
  | .hbm, ⟨14, _⟩ => ⟨S_, .f32⟩
  | .hbm, ⟨15, _⟩ => ⟨S32x8x1, .f32⟩
  | .hbm, ⟨16, _⟩ => ⟨S32x8x1, .f32⟩
  | .hbm, ⟨17, _⟩ => ⟨S_, .f32⟩
  | .hbm, ⟨18, _⟩ => ⟨S32x8x1, .f32⟩
  | .hbm, ⟨19, _⟩ => ⟨S32x8x1, .f32⟩
  | .hbm, ⟨20, _⟩ => ⟨S32x8x1, .f32⟩
  | .hbm, ⟨21, _⟩ => ⟨S32x8x1024, .f32⟩
  | .hbm, ⟨22, _⟩ => ⟨S32x8x1024, .f32⟩
  | .hbm, ⟨23, _⟩ => ⟨S1x1x1024, .f32⟩
  | .hbm, ⟨24, _⟩ => ⟨S32x8x1024, .f32⟩
  | .hbm, ⟨25, _⟩ => ⟨S32x8x1024, .f32⟩
  | .hbm, ⟨26, _⟩ => ⟨S32x8x1024, .f32⟩
  | .hbm, ⟨27, _⟩ => ⟨S1x1x1024, .f32⟩
  | .hbm, ⟨28, _⟩ => ⟨S1024, .f32⟩
  | .hbm, ⟨29, _⟩ => ⟨S32x8x1024, .f32⟩
  | .hbm, ⟨30, _⟩ => ⟨S_, .f32⟩
  | .hbm, ⟨31, _⟩ => ⟨S32x8, .f32⟩
  | .hbm, ⟨32, _⟩ => ⟨S32x8x1, .f32⟩
  | .hbm, ⟨33, _⟩ => ⟨S_, .f32⟩
  | .hbm, ⟨34, _⟩ => ⟨S32x8x1, .f32⟩
  | .hbm, ⟨35, _⟩ => ⟨S32x8x1, .f32⟩
  | .hbm, ⟨36, _⟩ => ⟨S_, .f32⟩
  | .hbm, ⟨37, _⟩ => ⟨S32x8x1, .f32⟩
  | .hbm, ⟨38, _⟩ => ⟨S32x8x1, .f32⟩
  | .hbm, ⟨39, _⟩ => ⟨S32x8x1, .f32⟩
  | .hbm, ⟨40, _⟩ => ⟨S32x8x1024, .f32⟩
  | .hbm, ⟨41, _⟩ => ⟨S32x8x1024, .f32⟩
  | .hbm, ⟨42, _⟩ => ⟨S1x1x1024, .f32⟩
  | .hbm, ⟨43, _⟩ => ⟨S32x8x1024, .f32⟩
  | .hbm, ⟨44, _⟩ => ⟨S32x8x1024, .f32⟩
  | .hbm, ⟨45, _⟩ => ⟨S1x1024x5632, .f32⟩
  | .hbm, ⟨46, _⟩ => ⟨S1024x5632, .f32⟩
  | .hbm, ⟨47, _⟩ => ⟨S1x2816x1024, .f32⟩
  | .hbm, ⟨48, _⟩ => ⟨S2816x1024, .f32⟩
  | .hbm, ⟨49, _⟩ => ⟨S32x8x5632, .f32⟩
  | .hbm, ⟨50, _⟩ => ⟨S32x8x2816, .f32⟩
  | .hbm, ⟨51, _⟩ => ⟨S32x8x2816, .f32⟩
  | .hbm, ⟨52, _⟩ => ⟨S32x8x2816, .f32⟩
  | .hbm, ⟨53, _⟩ => ⟨S32x8x2816, .f32⟩
  | .hbm, ⟨54, _⟩ => ⟨S_, .f32⟩
  | .hbm, ⟨55, _⟩ => ⟨S32x8x2816, .f32⟩
  | .hbm, ⟨56, _⟩ => ⟨S32x8x2816, .f32⟩
  | .hbm, ⟨57, _⟩ => ⟨S_, .f32⟩
  | .hbm, ⟨58, _⟩ => ⟨S32x8x2816, .f32⟩
  | .hbm, ⟨59, _⟩ => ⟨S32x8x2816, .f32⟩
  | .hbm, ⟨60, _⟩ => ⟨S32x8x2816, .f32⟩
  | .hbm, ⟨61, _⟩ => ⟨S32x8x2816, .f32⟩
  | .hbm, ⟨62, _⟩ => ⟨S32x8x1024, .f32⟩
  | .hbm, ⟨63, _⟩ => ⟨S1x1x1024, .f32⟩
  | .hbm, ⟨64, _⟩ => ⟨S1024, .f32⟩
  | .hbm, ⟨65, _⟩ => ⟨S32x8x1024, .f32⟩
  | .hbm, ⟨66, _⟩ => ⟨S_, .f32⟩
  | .hbm, ⟨67, _⟩ => ⟨S32x8, .f32⟩
  | .hbm, ⟨68, _⟩ => ⟨S32x8x1, .f32⟩
  | .hbm, ⟨69, _⟩ => ⟨S_, .f32⟩
  | .hbm, ⟨70, _⟩ => ⟨S32x8x1, .f32⟩
  | .hbm, ⟨71, _⟩ => ⟨S32x8x1, .f32⟩
  | .hbm, ⟨72, _⟩ => ⟨S_, .f32⟩
  | .hbm, ⟨73, _⟩ => ⟨S32x8x1, .f32⟩
  | .hbm, ⟨74, _⟩ => ⟨S32x8x1, .f32⟩
  | .hbm, ⟨75, _⟩ => ⟨S32x8x1, .f32⟩
  | .hbm, ⟨76, _⟩ => ⟨S32x8x1024, .f32⟩
  | .hbm, ⟨77, _⟩ => ⟨S32x8x1024, .f32⟩
  | .hbm, ⟨78, _⟩ => ⟨S1x1x1024, .f32⟩
  | .hbm, ⟨79, _⟩ => ⟨S32x8x1024, .f32⟩
  | .hbm, ⟨80, _⟩ => ⟨S32x8x1024, .f32⟩
  | .hbm, ⟨81, _⟩ => ⟨S32x8x1024, .f32⟩
  | .hbm, ⟨82, _⟩ => ⟨S256x1024, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_5 : Ref sig .tc := ⟨.hbm, 66, rfl⟩
abbrev main_v46 : Ref sig .tc := ⟨.hbm, 67, rfl⟩
abbrev main_v47 : Ref sig .tc := ⟨.hbm, 68, rfl⟩
abbrev main_cst_6 : Ref sig .tc := ⟨.hbm, 69, rfl⟩
abbrev main_v48 : Ref sig .tc := ⟨.hbm, 70, rfl⟩
abbrev main_v49 : Ref sig .tc := ⟨.hbm, 71, rfl⟩
abbrev main_cst_7 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩

abbrev nD : Nat := 1
abbrev τ : Topo := Topo.v7x

variable {F : FTy → Type} [FloatOps F]
-- ==== Kernel7.lean ====
abbrev S32x8x512 : Shape := ⟨3, ![32, 8, 512]⟩
abbrev S32x8x1024 : Shape := ⟨3, ![32, 8, 1024]⟩
abbrev S32x4x128x256 : Shape := ⟨4, ![32, 4, 128, 256]⟩
abbrev S1x8x512 : Shape := ⟨3, ![1, 8, 512]⟩
abbrev S1x8x1024 : Shape := ⟨3, ![1, 8, 1024]⟩
abbrev S1x4x128x256 : Shape := ⟨4, ![1, 4, 128, 256]⟩
abbrev S4x128x256 : Shape := ⟨3, ![4, 128, 256]⟩
abbrev S16x16 : Shape := ⟨2, ![16, 16]⟩
abbrev S16x128 : Shape := ⟨2, ![16, 128]⟩
abbrev S8x512 : Shape := ⟨2, ![8, 512]⟩
abbrev S16x512 : Shape := ⟨2, ![16, 512]⟩
abbrev S1x8x128 : Shape := ⟨3, ![1, 8, 128]⟩
abbrev S8x128 : Shape := ⟨2, ![8, 128]⟩
abbrev S1x8x256 : Shape := ⟨3, ![1, 8, 256]⟩
abbrev S8x256 : Shape := ⟨2, ![8, 256]⟩
abbrev S120x256 : Shape := ⟨2, ![120, 256]⟩
abbrev S128x256 : Shape := ⟨2, ![128, 256]⟩
abbrev S1x128 : Shape := ⟨2, ![1, 128]⟩
abbrev S112x128 : Shape := ⟨2, ![112, 128]⟩
abbrev S128x128 : Shape := ⟨2, ![128, 128]⟩
abbrev S16x256 : Shape := ⟨2, ![16, 256]⟩
abbrev S1x128x256 : Shape := ⟨3, ![1, 128, 256]⟩
abbrev S256x256 : Shape := ⟨2, ![256, 256]⟩

abbrev nBuf : Space → Nat
  | .hbm => 7
  | .vmem => 15
  | .smem => 0
  | _ => 0

abbrev bufTy : (tb : Table) → Fin (tcTables nBuf tb) → BufTy
  | .hbm, ⟨0, _⟩ => ⟨S32x8x512, .f32⟩
  | .hbm, ⟨1, _⟩ => ⟨S32x8x512, .f32⟩
  | .hbm, ⟨2, _⟩ => ⟨S32x8x1024, .f32⟩
  | .hbm, ⟨3, _⟩ => ⟨S32x8x512, .f32⟩
  | .hbm, ⟨4, _⟩ => ⟨S32x4x128x256, .f32⟩
  | .hbm, ⟨5, _⟩ => ⟨S32x8x1024, .f32⟩
  | .hbm, ⟨6, _⟩ => ⟨S32x4x128x256, .f32⟩
  | .local _ .vmem, ⟨0, _⟩ => ⟨S1x8x512, .f32⟩
  | .local _ .vmem, ⟨1, _⟩ => ⟨S1x8x512, .f32⟩
  | .local _ .vmem, ⟨2, _⟩ => ⟨S1x8x512, .f32⟩
  | .local _ .vmem, ⟨3, _⟩ => ⟨S1x8x512, .f32⟩
  | .local _ .vmem, ⟨4, _⟩ => ⟨S1x8x1024, .f32⟩
  | .local _ .vmem, ⟨5, _⟩ => ⟨S1x8x1024, .f32⟩
  | .local _ .vmem, ⟨6, _⟩ => ⟨S1x8x512, .f32⟩
  | .local _ .vmem, ⟨7, _⟩ => ⟨S1x8x512, .f32⟩
  | .local _ .vmem, ⟨8, _⟩ => ⟨S1x4x128x256, .f32⟩
  | .local _ .vmem, ⟨9, _⟩ => ⟨S1x4x128x256, .f32⟩
  | .local _ .vmem, ⟨10, _⟩ => ⟨S1x8x1024, .f32⟩
  | .local _ .vmem, ⟨11, _⟩ => ⟨S1x8x1024, .f32⟩
  | .local _ .vmem, ⟨12, _⟩ => ⟨S1x4x128x256, .f32⟩
  | .local _ .vmem, ⟨13, _⟩ => ⟨S1x4x128x256, .f32⟩
  | .local _ .vmem, ⟨14, _⟩ => ⟨S4x128x256, .f32⟩
  | _, _ => ⟨S32x8x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![32, 1], ![false, false]⟩

def k0_mult1 : BitVec 32 :=
  let c0_i32_14 : BitVec 32 := 0#32
  let c8_i32 : BitVec 32 := 8#32
  let v63 : BitVec 32 := Scalar.muli c0_i32_14 c8_i32
  v63
def k0_mult2 : BitVec 32 :=
  let c0_i32_14 : BitVec 32 := 0#32
  let c8_i32_15 : BitVec 32 := 8#32
  let v65 : BitVec 32 := Scalar.muli c0_i32_14 c8_i32_15
  let c0_i32_16 : BitVec 32 := 0#32
  let v66 : BitVec 32 := Scalar.addi v65 c0_i32_16
  v66
def k0_off1 : Fin 3 → Nat :=
  let c0 : Index := 0#32
  let c0_i32_14 : BitVec 32 := 0#32
  let c8_i32 : BitVec 32 := 8#32
  let v63 : BitVec 32 := Scalar.muli c0_i32_14 c8_i32
  let v64 : BitVec 32 := v63
  let v68 : Index := Scalar.indexCast v64
  let c0_17 : Index := 0#32
  ![0, v68.toNat, 0]
def k0_off2 : Fin 3 → Nat :=
  let c0_21 : Index := 0#32
  let c0_i32_14 : BitVec 32 := 0#32
  let c8_i32_15 : BitVec 32 := 8#32
  let v65 : BitVec 32 := Scalar.muli c0_i32_14 c8_i32_15
  let c0_i32_16 : BitVec 32 := 0#32
  let v66 : BitVec 32 := Scalar.addi v65 c0_i32_16
  let v67 : BitVec 32 := v66
  let v84 : Index := Scalar.indexCast v67
  let c0_22 : Index := 0#32
  ![0, v84.toNat, 0]
def k0_off3 : Fin 3 → Nat :=
  let c0_24 : Index := 0#32
  let c0_i32_14 : BitVec 32 := 0#32
  let c8_i32_15 : BitVec 32 := 8#32
  let v65 : BitVec 32 := Scalar.muli c0_i32_14 c8_i32_15
  let c0_i32_16 : BitVec 32 := 0#32
  let v66 : BitVec 32 := Scalar.addi v65 c0_i32_16
  let v67 : BitVec 32 := v66
  let v89 : Index := Scalar.indexCast v67
  let c128 : Index := 128#32
  ![0, v89.toNat, 128]
def k0_off4 : Fin 3 → Nat :=
  let c0_26 : Index := 0#32
  let c0_i32_14 : BitVec 32 := 0#32
  let c8_i32_15 : BitVec 32 := 8#32
  let v65 : BitVec 32 := Scalar.muli c0_i32_14 c8_i32_15
  let c0_i32_16 : BitVec 32 := 0#32
  let v66 : BitVec 32 := Scalar.addi v65 c0_i32_16
  let v67 : BitVec 32 := v66
  let v94 : Index := Scalar.indexCast v67
  let c256 : Index := 256#32
  ![0, v94.toNat, 256]
def k0_off5 : Fin 3 → Nat :=
  let c0_28 : Index := 0#32
  let c0_i32_14 : BitVec 32 := 0#32
  let c8_i32_15 : BitVec 32 := 8#32
  let v65 : BitVec 32 := Scalar.muli c0_i32_14 c8_i32_15
  let c0_i32_16 : BitVec 32 := 0#32
  let v66 : BitVec 32 := Scalar.addi v65 c0_i32_16
  let v67 : BitVec 32 := v66
  let v99 : Index := Scalar.indexCast v67
  let c384 : Index := 384#32
  ![0, v99.toNat, 384]
def k0_off6 : Fin 3 → Nat :=
  let c0_42 : Index := 0#32
  let c0_i32_14 : BitVec 32 := 0#32
  let c8_i32_15 : BitVec 32 := 8#32
  let v65 : BitVec 32 := Scalar.muli c0_i32_14 c8_i32_15
  let c0_i32_16 : BitVec 32 := 0#32
  let v66 : BitVec 32 := Scalar.addi v65 c0_i32_16
  let v67 : BitVec 32 := v66
  let v124 : Index := Scalar.indexCast v67
  let c0_43 : Index := 0#32
  ![0, v124.toNat, 0]
def k0_off7 : Fin 3 → Nat :=
  let c0_45 : Index := 0#32
  let c0_i32_14 : BitVec 32 := 0#32
  let c8_i32_15 : BitVec 32 := 8#32
  let v65 : BitVec 32 := Scalar.muli c0_i32_14 c8_i32_15
  let c0_i32_16 : BitVec 32 := 0#32
  let v66 : BitVec 32 := Scalar.addi v65 c0_i32_16
  let v67 : BitVec 32 := v66
  let v129 : Index := Scalar.indexCast v67
  let c256_46 : Index := 256#32
  ![0, v129.toNat, 256]
def k0_off8 : Fin 3 → Nat :=
  let c0_48 : Index := 0#32
  let c0_i32_14 : BitVec 32 := 0#32
  let c8_i32_15 : BitVec 32 := 8#32
  let v65 : BitVec 32 := Scalar.muli c0_i32_14 c8_i32_15
  let c0_i32_16 : BitVec 32 := 0#32
  let v66 : BitVec 32 := Scalar.addi v65 c0_i32_16
  let v67 : BitVec 32 := v66
  let v134 : Index := Scalar.indexCast v67
  let c512 : Index := 512#32
  ![0, v134.toNat, 512]
def k0_off9 : Fin 3 → Nat :=
  let c0_50 : Index := 0#32
  let c0_i32_14 : BitVec 32 := 0#32
  let c8_i32_15 : BitVec 32 := 8#32
  let v65 : BitVec 32 := Scalar.muli c0_i32_14 c8_i32_15
  let c0_i32_16 : BitVec 32 := 0#32
  let v66 : BitVec 32 := Scalar.addi v65 c0_i32_16
  let v67 : BitVec 32 := v66
  let v139 : Index := Scalar.indexCast v67
  let c768 : Index := 768#32
  ![0, v139.toNat, 768]
def k0_cond2 (i : grid0.Coords) : BitVec 1 :=
  let arg1 : BitVec 32 := BitVec.ofNat 32 (i 1).val
  let c0_i32_106 : BitVec 32 := 0#32
  let v356 : BitVec 1 := Scalar.cmpi .eq arg1 c0_i32_106
  let v357 : BitVec 32 := Scalar.extui v356
  let c0_i32_107 : BitVec 32 := 0#32
  let v358 : BitVec 1 := Scalar.cmpi .ne v357 c0_i32_107
  v358

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference7Ideal.lean ====
abbrev S32x8x512 : Shape := ⟨3, ![32, 8, 512]⟩
abbrev S32x8x1024 : Shape := ⟨3, ![32, 8, 1024]⟩
abbrev S32x4x128x256 : Shape := ⟨4, ![32, 4, 128, 256]⟩
abbrev S32x8x4x128 : Shape := ⟨4, ![32, 8, 4, 128]⟩
abbrev S32x4x8x128 : Shape := ⟨4, ![32, 4, 8, 128]⟩
abbrev S32x8x4x256 : Shape := ⟨4, ![32, 8, 4, 256]⟩
abbrev S32x4x8x256 : Shape := ⟨4, ![32, 4, 8, 256]⟩
abbrev S_ : Shape := ⟨0, ![]⟩
abbrev S8x8 : Shape := ⟨2, ![8, 8]⟩
abbrev S32x4x8x1x128 : Shape := ⟨5, ![32, 4, 8, 1, 128]⟩
abbrev S32x4x1x8x128 : Shape := ⟨5, ![32, 4, 1, 8, 128]⟩
abbrev S32x4x8x8x128 : Shape := ⟨5, ![32, 4, 8, 8, 128]⟩
abbrev S8x8x1 : Shape := ⟨3, ![8, 8, 1]⟩
abbrev S32x4x8x8 : Shape := ⟨4, ![32, 4, 8, 8]⟩
abbrev S32x4x1x128 : Shape := ⟨4, ![32, 4, 1, 128]⟩
abbrev S32x4x128 : Shape := ⟨3, ![32, 4, 128]⟩
abbrev S32x4x128x1 : Shape := ⟨4, ![32, 4, 128, 1]⟩

abbrev nBuf : Space → Nat
  | .hbm => 67
  | .vmem => 0
  | .smem => 0
  | _ => 0

abbrev bufTy : (tb : Table) → Fin (tcTables nBuf tb) → BufTy
  | .hbm, ⟨0, _⟩ => ⟨S32x8x512, .f32⟩
  | .hbm, ⟨1, _⟩ => ⟨S32x8x512, .f32⟩
  | .hbm, ⟨2, _⟩ => ⟨S32x8x1024, .f32⟩
  | .hbm, ⟨3, _⟩ => ⟨S32x8x512, .f32⟩
  | .hbm, ⟨4, _⟩ => ⟨S32x4x128x256, .f32⟩
  | .hbm, ⟨5, _⟩ => ⟨S32x8x4x128, .f32⟩
  | .hbm, ⟨6, _⟩ => ⟨S32x4x8x128, .f32⟩
  | .hbm, ⟨7, _⟩ => ⟨S32x8x4x128, .f32⟩
  | .hbm, ⟨8, _⟩ => ⟨S32x4x8x128, .f32⟩
  | .hbm, ⟨9, _⟩ => ⟨S32x8x4x256, .f32⟩
  | .hbm, ⟨10, _⟩ => ⟨S32x4x8x256, .f32⟩
  | .hbm, ⟨11, _⟩ => ⟨S32x8x4x128, .f32⟩
  | .hbm, ⟨12, _⟩ => ⟨S32x4x8x128, .f32⟩
  | .hbm, ⟨13, _⟩ => ⟨S_, .i1⟩
  | .hbm, ⟨14, _⟩ => ⟨S8x8, .i1⟩
  | .hbm, ⟨15, _⟩ => ⟨S8x8, .i32⟩
  | .hbm, ⟨16, _⟩ => ⟨S_, .i32⟩
  | .hbm, ⟨17, _⟩ => ⟨S8x8, .i32⟩
  | .hbm, ⟨18, _⟩ => ⟨S8x8, .i32⟩
  | .hbm, ⟨19, _⟩ => ⟨S8x8, .i32⟩
  | .hbm, ⟨20, _⟩ => ⟨S8x8, .i1⟩
  | .hbm, ⟨21, _⟩ => ⟨S_, .i1⟩
  | .hbm, ⟨22, _⟩ => ⟨S8x8, .i1⟩
  | .hbm, ⟨23, _⟩ => ⟨S8x8, .i1⟩
  | .hbm, ⟨24, _⟩ => ⟨S_, .f32⟩
  | .hbm, ⟨25, _⟩ => ⟨S_, .f32⟩
  | .hbm, ⟨26, _⟩ => ⟨S32x4x8x128, .f32⟩
  | .hbm, ⟨27, _⟩ => ⟨S32x4x8x128, .f32⟩
  | .hbm, ⟨28, _⟩ => ⟨S32x4x8x128, .f32⟩
  | .hbm, ⟨29, _⟩ => ⟨S32x4x8x256, .f32⟩
  | .hbm, ⟨30, _⟩ => ⟨S32x4x8x1x128, .f32⟩
  | .hbm, ⟨31, _⟩ => ⟨S32x4x1x8x128, .f32⟩
  | .hbm, ⟨32, _⟩ => ⟨S32x4x8x8x128, .f32⟩
  | .hbm, ⟨33, _⟩ => ⟨S32x4x8x8x128, .f32⟩
  | .hbm, ⟨34, _⟩ => ⟨S32x4x8x8x128, .f32⟩
  | .hbm, ⟨35, _⟩ => ⟨S8x8x1, .i1⟩
  | .hbm, ⟨36, _⟩ => ⟨S_, .f32⟩
  | .hbm, ⟨37, _⟩ => ⟨S_, .f32⟩
  | .hbm, ⟨38, _⟩ => ⟨S32x4x8x8x128, .i1⟩
  | .hbm, ⟨39, _⟩ => ⟨S32x4x8x8x128, .f32⟩
  | .hbm, ⟨40, _⟩ => ⟨S32x4x8x8x128, .f32⟩
  | .hbm, ⟨41, _⟩ => ⟨S32x4x8x8x128, .f32⟩
  | .hbm, ⟨42, _⟩ => ⟨S32x4x8x1x128, .f32⟩
  | .hbm, ⟨43, _⟩ => ⟨S32x4x1x8x128, .f32⟩
  | .hbm, ⟨44, _⟩ => ⟨S32x4x8x8x128, .f32⟩
  | .hbm, ⟨45, _⟩ => ⟨S32x4x8x8x128, .f32⟩
  | .hbm, ⟨46, _⟩ => ⟨S32x4x8x8x128, .f32⟩
  | .hbm, ⟨47, _⟩ => ⟨S32x4x8x8x128, .f32⟩
  | .hbm, ⟨48, _⟩ => ⟨S_, .f32⟩
  | .hbm, ⟨49, _⟩ => ⟨S32x4x8x8, .f32⟩
  | .hbm, ⟨50, _⟩ => ⟨S32x4x8x256, .f32⟩
  | .hbm, ⟨51, _⟩ => ⟨S32x4x1x128, .f32⟩
  | .hbm, ⟨52, _⟩ => ⟨S32x4x128, .f32⟩
  | .hbm, ⟨53, _⟩ => ⟨S32x4x128, .f32⟩
  | .hbm, ⟨54, _⟩ => ⟨S32x4x128x1, .f32⟩
  | .hbm, ⟨55, _⟩ => ⟨S32x4x128x256, .f32⟩
  | .hbm, ⟨56, _⟩ => ⟨S32x4x128x256, .f32⟩
  | .hbm, ⟨57, _⟩ => ⟨S32x4x1x128, .f32⟩
  | .hbm, ⟨58, _⟩ => ⟨S32x4x8x128, .f32⟩
  | .hbm, ⟨59, _⟩ => ⟨S32x4x8x128, .f32⟩
  | .hbm, ⟨60, _⟩ => ⟨S32x4x8x128, .f32⟩
  | .hbm, ⟨61, _⟩ => ⟨S32x4x8x128, .f32⟩
  | .hbm, ⟨62, _⟩ => ⟨S32x4x128x256, .f32⟩
  | .hbm, ⟨63, _⟩ => ⟨S32x4x128x256, .f32⟩
  | .hbm, ⟨64, _⟩ => ⟨S32x4x8x256, .f32⟩
  | .hbm, ⟨65, _⟩ => ⟨S32x8x4x256, .f32⟩
  | .hbm, ⟨66, _⟩ => ⟨S32x8x1024, .f32⟩
  | _, _ => ⟨S32x8x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c_0 : Ref sig .tc := ⟨.hbm, 21, rfl⟩
abbrev main_call0_v5 : Ref sig .tc := ⟨.hbm, 22, rfl⟩
abbrev main_v9 : Ref sig .tc := ⟨.hbm, 23, rfl⟩
abbrev main_call1_call0_cst : Ref sig .tc := ⟨.hbm, 24, rfl⟩
abbrev main_call1_call0_v0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst : Ref sig .tc := ⟨.hbm, 36, rfl⟩
abbrev main_call2_v0 : Ref sig .tc := ⟨.hbm, 37, rfl⟩
abbrev main_call2_v1 : Ref sig .tc := ⟨.hbm, 38, rfl⟩
abbrev main_call2_v2 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_0 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩

abbrev nD : Nat := 1
abbrev τ : Topo := Topo.v7x

variable {F : FTy → Type} [FloatOps F]
-- ==== Kernel8.lean ====
abbrev S256x3072 : Shape := ⟨2, ![256, 3072]⟩
abbrev S256x512 : Shape := ⟨2, ![256, 512]⟩
abbrev S32x128x2x4x64 : Shape := ⟨5, ![32, 128, 2, 4, 64]⟩
abbrev S32x512x2x4x64 : Shape := ⟨5, ![32, 512, 2, 4, 64]⟩
abbrev S32x2048x2x4x64 : Shape := ⟨5, ![32, 2048, 2, 4, 64]⟩
abbrev S32x48 : Shape := ⟨2, ![32, 48]⟩
abbrev S129 : Shape := ⟨1, ![129]⟩
abbrev S32x8x3x4x4x64 : Shape := ⟨6, ![32, 8, 3, 4, 4, 64]⟩
abbrev S32x3x4x4x8x64 : Shape := ⟨6, ![32, 3, 4, 4, 8, 64]⟩
abbrev S32x3x4x32x64 : Shape := ⟨5, ![32, 3, 4, 32, 64]⟩
abbrev S32x3x1x32x64 : Shape := ⟨5, ![32, 3, 1, 32, 64]⟩
abbrev S32x3x32x64 : Shape := ⟨4, ![32, 3, 32, 64]⟩
abbrev S_ : Shape := ⟨0, ![]⟩
abbrev S32x3x32x256 : Shape := ⟨4, ![32, 3, 32, 256]⟩
abbrev S32x3x1x32x256 : Shape := ⟨5, ![32, 3, 1, 32, 256]⟩
abbrev S32x3x4x32x256 : Shape := ⟨5, ![32, 3, 4, 32, 256]⟩
abbrev S32x2x4x64x128 : Shape := ⟨5, ![32, 2, 4, 64, 128]⟩
abbrev S32x512x128 : Shape := ⟨3, ![32, 512, 128]⟩
abbrev S32x2x4x64x512 : Shape := ⟨5, ![32, 2, 4, 64, 512]⟩
abbrev S32x512x512 : Shape := ⟨3, ![32, 512, 512]⟩
abbrev S32x2x4x64x2048 : Shape := ⟨5, ![32, 2, 4, 64, 2048]⟩
abbrev S32x512x2048 : Shape := ⟨3, ![32, 512, 2048]⟩
abbrev S129x1 : Shape := ⟨2, ![129, 1]⟩
abbrev S129x48 : Shape := ⟨2, ![129, 48]⟩
abbrev S129x16 : Shape := ⟨2, ![129, 16]⟩
abbrev S16x129 : Shape := ⟨2, ![16, 129]⟩
abbrev S16x129x1 : Shape := ⟨3, ![16, 129, 1]⟩
abbrev S16x127 : Shape := ⟨2, ![16, 127]⟩
abbrev S16x7 : Shape := ⟨2, ![16, 7]⟩
abbrev S16x263 : Shape := ⟨2, ![16, 263]⟩
abbrev S16x256 : Shape := ⟨2, ![16, 256]⟩
abbrev S16x1x256 : Shape := ⟨3, ![16, 1, 256]⟩
abbrev S16x8x256 : Shape := ⟨3, ![16, 8, 256]⟩
abbrev S4x32x256 : Shape := ⟨3, ![4, 32, 256]⟩
abbrev S4x32x128 : Shape := ⟨3, ![4, 32, 128]⟩
abbrev S16x129x4 : Shape := ⟨3, ![16, 129, 4]⟩
abbrev S16x516 : Shape := ⟨2, ![16, 516]⟩
abbrev S16x513 : Shape := ⟨2, ![16, 513]⟩
abbrev S16x647 : Shape := ⟨2, ![16, 647]⟩
abbrev S16x640 : Shape := ⟨2, ![16, 640]⟩
abbrev S16x1x640 : Shape := ⟨3, ![16, 1, 640]⟩
abbrev S16x8x640 : Shape := ⟨3, ![16, 8, 640]⟩
abbrev S4x32x640 : Shape := ⟨3, ![4, 32, 640]⟩
abbrev S4x32x512 : Shape := ⟨3, ![4, 32, 512]⟩
abbrev S16x129x16 : Shape := ⟨3, ![16, 129, 16]⟩
abbrev S16x2064 : Shape := ⟨2, ![16, 2064]⟩
abbrev S16x2049 : Shape := ⟨2, ![16, 2049]⟩
abbrev S16x2183 : Shape := ⟨2, ![16, 2183]⟩
abbrev S16x2176 : Shape := ⟨2, ![16, 2176]⟩
abbrev S16x1x2176 : Shape := ⟨3, ![16, 1, 2176]⟩
abbrev S16x8x2176 : Shape := ⟨3, ![16, 8, 2176]⟩
abbrev S4x32x2176 : Shape := ⟨3, ![4, 32, 2176]⟩
abbrev S4x32x2048 : Shape := ⟨3, ![4, 32, 2048]⟩
abbrev S1x4x32x128 : Shape := ⟨4, ![1, 4, 32, 128]⟩
abbrev S3x4x32x128 : Shape := ⟨4, ![3, 4, 32, 128]⟩
abbrev S32x8x512 : Shape := ⟨3, ![32, 8, 512]⟩
abbrev S32x32x256 : Shape := ⟨3, ![32, 32, 256]⟩
abbrev S1x3x4x32x256 : Shape := ⟨5, ![1, 3, 4, 32, 256]⟩
abbrev S1x8x512 : Shape := ⟨3, ![1, 8, 512]⟩
abbrev S1x512x128 : Shape := ⟨3, ![1, 512, 128]⟩
abbrev S1x512x512 : Shape := ⟨3, ![1, 512, 512]⟩
abbrev S1x512x2048 : Shape := ⟨3, ![1, 512, 2048]⟩
abbrev S1x32x256 : Shape := ⟨3, ![1, 32, 256]⟩
abbrev S1x256 : Shape := ⟨2, ![1, 256]⟩
abbrev S1x128 : Shape := ⟨2, ![1, 128]⟩
abbrev S8x512 : Shape := ⟨2, ![8, 512]⟩
abbrev S120x512 : Shape := ⟨2, ![120, 512]⟩
abbrev S128x512 : Shape := ⟨2, ![128, 512]⟩
abbrev S512x128 : Shape := ⟨2, ![512, 128]⟩
abbrev S256x128 : Shape := ⟨2, ![256, 128]⟩
abbrev S32x256 : Shape := ⟨2, ![32, 256]⟩
abbrev S1x1x1x32x256 : Shape := ⟨5, ![1, 1, 1, 32, 256]⟩
abbrev S32x128 : Shape := ⟨2, ![32, 128]⟩
abbrev S1x32x128 : Shape := ⟨3, ![1, 32, 128]⟩
abbrev S1x1x32x128 : Shape := ⟨4, ![1, 1, 32, 128]⟩
abbrev S32 : Shape := ⟨1, ![32]⟩
abbrev S32x1 : Shape := ⟨2, ![32, 1]⟩
abbrev S512x512 : Shape := ⟨2, ![512, 512]⟩
abbrev S512x384 : Shape := ⟨2, ![512, 384]⟩
abbrev S32x512 : Shape := ⟨2, ![32, 512]⟩
abbrev S1x32x512 : Shape := ⟨3, ![1, 32, 512]⟩
abbrev S512x2048 : Shape := ⟨2, ![512, 2048]⟩
abbrev S512x1920 : Shape := ⟨2, ![512, 1920]⟩
abbrev S256x2048 : Shape := ⟨2, ![256, 2048]⟩
abbrev S32x2048 : Shape := ⟨2, ![32, 2048]⟩
abbrev S1x32x2048 : Shape := ⟨3, ![1, 32, 2048]⟩

abbrev nBuf : Space → Nat
  | .hbm => 205
  | .vmem => 26
  | .smem => 0
  | _ => 0

abbrev hbmTy0_0 (i : Nat) : BufTy := match i % 128 with
  | 0 => ⟨S256x3072, .f32⟩
  | 1 => ⟨S256x512, .f32⟩
  | 2 => ⟨S256x512, .f32⟩
  | 3 => ⟨S256x512, .f32⟩
  | 4 => ⟨S32x128x2x4x64, .f32⟩
  | 5 => ⟨S32x512x2x4x64, .f32⟩
  | 6 => ⟨S32x2048x2x4x64, .f32⟩
  | 7 => ⟨S32x48, .f32⟩
  | 8 => ⟨S129, .i32⟩
  | 9 => ⟨S129, .i1⟩
  | 10 => ⟨S129, .i32⟩
  | 11 => ⟨S129, .i1⟩
  | 12 => ⟨S129, .i32⟩
  | 13 => ⟨S129, .i1⟩
  | 14 => ⟨S256x3072, .bf16⟩
  | 15 => ⟨S32x8x3x4x4x64, .bf16⟩
  | 16 => ⟨S32x3x4x4x8x64, .bf16⟩
  | 17 => ⟨S32x3x4x32x64, .bf16⟩
  | 18 => ⟨S32x3x1x32x64, .bf16⟩
  | 19 => ⟨S32x3x32x64, .bf16⟩
  | 20 => ⟨S_, .i32⟩
  | 21 => ⟨S_, .bf16⟩
  | 22 => ⟨S32x3x32x256, .bf16⟩
  | 23 => ⟨S32x3x1x32x64, .bf16⟩
  | 24 => ⟨S32x3x32x64, .bf16⟩
  | 25 => ⟨S_, .i32⟩
  | 26 => ⟨S_, .bf16⟩
  | 27 => ⟨S32x3x32x256, .bf16⟩
  | 28 => ⟨S32x3x1x32x64, .bf16⟩
  | 29 => ⟨S32x3x32x64, .bf16⟩
  | 30 => ⟨S_, .i32⟩
  | 31 => ⟨S_, .bf16⟩
  | 32 => ⟨S32x3x32x256, .bf16⟩
  | 33 => ⟨S32x3x1x32x64, .bf16⟩
  | 34 => ⟨S32x3x32x64, .bf16⟩
  | 35 => ⟨S_, .i32⟩
  | 36 => ⟨S_, .bf16⟩
  | 37 => ⟨S32x3x32x256, .bf16⟩
  | 38 => ⟨S32x3x1x32x256, .bf16⟩
  | 39 => ⟨S32x3x1x32x256, .bf16⟩
  | 40 => ⟨S32x3x1x32x256, .bf16⟩
  | 41 => ⟨S32x3x1x32x256, .bf16⟩
  | 42 => ⟨S32x3x4x32x256, .bf16⟩
  | 43 => ⟨S32x2x4x64x128, .f32⟩
  | 44 => ⟨S32x512x128, .f32⟩
  | 45 => ⟨S32x2x4x64x512, .f32⟩
  | 46 => ⟨S32x512x512, .f32⟩
  | 47 => ⟨S32x2x4x64x2048, .f32⟩
  | 48 => ⟨S32x512x2048, .f32⟩
  | 49 => ⟨S_, .i32⟩
  | 50 => ⟨S129, .i32⟩
  | 51 => ⟨S129, .i32⟩
  | 52 => ⟨S129, .i32⟩
  | 53 => ⟨S129x1, .i32⟩
  | 54 => ⟨S129x48, .f32⟩
  | 55 => ⟨S129x16, .f32⟩
  | 56 => ⟨S16x129, .f32⟩
  | 57 => ⟨S_, .f32⟩
  | 58 => ⟨S16x129, .f32⟩
  | 59 => ⟨S16x129, .f32⟩
  | 60 => ⟨S_, .f32⟩
  | 61 => ⟨S16x129, .f32⟩
  | 62 => ⟨S16x129x1, .f32⟩
  | 63 => ⟨S16x129, .f32⟩
  | 64 => ⟨S_, .f32⟩
  | 65 => ⟨S16x127, .f32⟩
  | 66 => ⟨S_, .f32⟩
  | 67 => ⟨S16x7, .f32⟩
  | 68 => ⟨S16x263, .f32⟩
  | 69 => ⟨S16x263, .f32⟩
  | 70 => ⟨S16x256, .f32⟩
  | 71 => ⟨S16x256, .f32⟩
  | 72 => ⟨S16x256, .f32⟩
  | 73 => ⟨S16x256, .f32⟩
  | 74 => ⟨S16x256, .f32⟩
  | 75 => ⟨S16x256, .f32⟩
  | 76 => ⟨S16x256, .f32⟩
  | 77 => ⟨S16x256, .f32⟩
  | 78 => ⟨S16x1x256, .f32⟩
  | 79 => ⟨S16x1x256, .f32⟩
  | 80 => ⟨S16x1x256, .f32⟩
  | 81 => ⟨S16x1x256, .f32⟩
  | 82 => ⟨S16x1x256, .f32⟩
  | 83 => ⟨S16x1x256, .f32⟩
  | 84 => ⟨S16x1x256, .f32⟩
  | 85 => ⟨S16x1x256, .f32⟩
  | 86 => ⟨S16x8x256, .f32⟩
  | 87 => ⟨S4x32x256, .f32⟩
  | 88 => ⟨S4x32x128, .f32⟩
  | 89 => ⟨S4x32x128, .f32⟩
  | 90 => ⟨S_, .i32⟩
  | 91 => ⟨S129, .i32⟩
  | 92 => ⟨S129, .i32⟩
  | 93 => ⟨S129, .i32⟩
  | 94 => ⟨S129x1, .i32⟩
  | 95 => ⟨S129x48, .f32⟩
  | 96 => ⟨S129x16, .f32⟩
  | 97 => ⟨S16x129, .f32⟩
  | 98 => ⟨S_, .f32⟩
  | 99 => ⟨S16x129, .f32⟩
  | 100 => ⟨S16x129, .f32⟩
  | 101 => ⟨S_, .f32⟩
  | 102 => ⟨S16x129, .f32⟩
  | 103 => ⟨S16x129x1, .f32⟩
  | 104 => ⟨S16x129x1, .f32⟩
  | 105 => ⟨S16x129x1, .f32⟩
  | 106 => ⟨S16x129x1, .f32⟩
  | 107 => ⟨S16x129x4, .f32⟩
  | 108 => ⟨S16x516, .f32⟩
  | 109 => ⟨S16x513, .f32⟩
  | 110 => ⟨S_, .f32⟩
  | 111 => ⟨S16x127, .f32⟩
  | 112 => ⟨S_, .f32⟩
  | 113 => ⟨S16x7, .f32⟩
  | 114 => ⟨S16x647, .f32⟩
  | 115 => ⟨S16x647, .f32⟩
  | 116 => ⟨S16x640, .f32⟩
  | 117 => ⟨S16x640, .f32⟩
  | 118 => ⟨S16x640, .f32⟩
  | 119 => ⟨S16x640, .f32⟩
  | 120 => ⟨S16x640, .f32⟩
  | 121 => ⟨S16x640, .f32⟩
  | 122 => ⟨S16x640, .f32⟩
  | 123 => ⟨S16x640, .f32⟩
  | 124 => ⟨S16x1x640, .f32⟩
  | 125 => ⟨S16x1x640, .f32⟩
  | 126 => ⟨S16x1x640, .f32⟩
  | 127 => ⟨S16x1x640, .f32⟩
  | _ => ⟨S256x3072, .f32⟩

abbrev hbmTy0_1 (i : Nat) : BufTy := match i % 128 with
  | 0 => ⟨S16x1x640, .f32⟩
  | 1 => ⟨S16x1x640, .f32⟩
  | 2 => ⟨S16x1x640, .f32⟩
  | 3 => ⟨S16x1x640, .f32⟩
  | 4 => ⟨S16x8x640, .f32⟩
  | 5 => ⟨S4x32x640, .f32⟩
  | 6 => ⟨S4x32x512, .f32⟩
  | 7 => ⟨S4x32x128, .f32⟩
  | 8 => ⟨S_, .i32⟩
  | 9 => ⟨S129, .i32⟩
  | 10 => ⟨S129, .i32⟩
  | 11 => ⟨S129, .i32⟩
  | 12 => ⟨S129x1, .i32⟩
  | 13 => ⟨S129x48, .f32⟩
  | 14 => ⟨S129x16, .f32⟩
  | 15 => ⟨S16x129, .f32⟩
  | 16 => ⟨S_, .f32⟩
  | 17 => ⟨S16x129, .f32⟩
  | 18 => ⟨S16x129, .f32⟩
  | 19 => ⟨S_, .f32⟩
  | 20 => ⟨S16x129, .f32⟩
  | 21 => ⟨S16x129x1, .f32⟩
  | 22 => ⟨S16x129x1, .f32⟩
  | 23 => ⟨S16x129x1, .f32⟩
  | 24 => ⟨S16x129x1, .f32⟩
  | 25 => ⟨S16x129x1, .f32⟩
  | 26 => ⟨S16x129x1, .f32⟩
  | 27 => ⟨S16x129x1, .f32⟩
  | 28 => ⟨S16x129x1, .f32⟩
  | 29 => ⟨S16x129x1, .f32⟩
  | 30 => ⟨S16x129x1, .f32⟩
  | 31 => ⟨S16x129x1, .f32⟩
  | 32 => ⟨S16x129x1, .f32⟩
  | 33 => ⟨S16x129x1, .f32⟩
  | 34 => ⟨S16x129x1, .f32⟩
  | 35 => ⟨S16x129x1, .f32⟩
  | 36 => ⟨S16x129x1, .f32⟩
  | 37 => ⟨S16x129x16, .f32⟩
  | 38 => ⟨S16x2064, .f32⟩
  | 39 => ⟨S16x2049, .f32⟩
  | 40 => ⟨S_, .f32⟩
  | 41 => ⟨S16x127, .f32⟩
  | 42 => ⟨S_, .f32⟩
  | 43 => ⟨S16x7, .f32⟩
  | 44 => ⟨S16x2183, .f32⟩
  | 45 => ⟨S16x2183, .f32⟩
  | 46 => ⟨S16x2176, .f32⟩
  | 47 => ⟨S16x2176, .f32⟩
  | 48 => ⟨S16x2176, .f32⟩
  | 49 => ⟨S16x2176, .f32⟩
  | 50 => ⟨S16x2176, .f32⟩
  | 51 => ⟨S16x2176, .f32⟩
  | 52 => ⟨S16x2176, .f32⟩
  | 53 => ⟨S16x2176, .f32⟩
  | 54 => ⟨S16x1x2176, .f32⟩
  | 55 => ⟨S16x1x2176, .f32⟩
  | 56 => ⟨S16x1x2176, .f32⟩
  | 57 => ⟨S16x1x2176, .f32⟩
  | 58 => ⟨S16x1x2176, .f32⟩
  | 59 => ⟨S16x1x2176, .f32⟩
  | 60 => ⟨S16x1x2176, .f32⟩
  | 61 => ⟨S16x1x2176, .f32⟩
  | 62 => ⟨S16x8x2176, .f32⟩
  | 63 => ⟨S4x32x2176, .f32⟩
  | 64 => ⟨S4x32x2048, .f32⟩
  | 65 => ⟨S4x32x128, .f32⟩
  | 66 => ⟨S1x4x32x128, .f32⟩
  | 67 => ⟨S1x4x32x128, .f32⟩
  | 68 => ⟨S1x4x32x128, .f32⟩
  | 69 => ⟨S3x4x32x128, .f32⟩
  | 70 => ⟨S32x8x512, .f32⟩
  | 71 => ⟨S32x8x512, .f32⟩
  | 72 => ⟨S32x8x512, .f32⟩
  | 73 => ⟨S32x32x256, .f32⟩
  | 74 => ⟨S32x512x128, .f32⟩
  | 75 => ⟨S32x512x512, .f32⟩
  | 76 => ⟨S32x512x2048, .f32⟩
  | _ => ⟨S256x3072, .f32⟩

abbrev hbmTy (i : Nat) : BufTy := match i / 128 with
  | 0 => hbmTy0_0 i
  | 1 => hbmTy0_1 i
  | _ => ⟨S256x3072, .f32⟩

abbrev bufTy : (tb : Table) → Fin (tcTables nBuf tb) → BufTy
  | .hbm, ⟨i, _⟩ => hbmTy i
  | .local _ .vmem, ⟨0, _⟩ => ⟨S1x3x4x32x256, .bf16⟩
  | .local _ .vmem, ⟨1, _⟩ => ⟨S1x3x4x32x256, .bf16⟩
  | .local _ .vmem, ⟨2, _⟩ => ⟨S1x8x512, .f32⟩
  | .local _ .vmem, ⟨3, _⟩ => ⟨S1x8x512, .f32⟩
  | .local _ .vmem, ⟨4, _⟩ => ⟨S1x8x512, .f32⟩
  | .local _ .vmem, ⟨5, _⟩ => ⟨S1x8x512, .f32⟩
  | .local _ .vmem, ⟨6, _⟩ => ⟨S1x8x512, .f32⟩
  | .local _ .vmem, ⟨7, _⟩ => ⟨S1x8x512, .f32⟩
  | .local _ .vmem, ⟨8, _⟩ => ⟨S1x512x128, .f32⟩
  | .local _ .vmem, ⟨9, _⟩ => ⟨S1x512x128, .f32⟩
  | .local _ .vmem, ⟨10, _⟩ => ⟨S1x512x512, .f32⟩
  | .local _ .vmem, ⟨11, _⟩ => ⟨S1x512x512, .f32⟩
  | .local _ .vmem, ⟨12, _⟩ => ⟨S1x512x2048, .f32⟩
  | .local _ .vmem, ⟨13, _⟩ => ⟨S1x512x2048, .f32⟩
  | .local _ .vmem, ⟨14, _⟩ => ⟨S4x32x128, .f32⟩
  | .local _ .vmem, ⟨15, _⟩ => ⟨S4x32x512, .f32⟩
  | .local _ .vmem, ⟨16, _⟩ => ⟨S4x32x2048, .f32⟩
  | .local _ .vmem, ⟨17, _⟩ => ⟨S3x4x32x128, .f32⟩
  | .local _ .vmem, ⟨18, _⟩ => ⟨S1x32x256, .f32⟩
  | .local _ .vmem, ⟨19, _⟩ => ⟨S1x32x256, .f32⟩
  | .local _ .vmem, ⟨20, _⟩ => ⟨S1x512x128, .f32⟩
  | .local _ .vmem, ⟨21, _⟩ => ⟨S1x512x128, .f32⟩
  | .local _ .vmem, ⟨22, _⟩ => ⟨S1x512x512, .f32⟩
  | .local _ .vmem, ⟨23, _⟩ => ⟨S1x512x512, .f32⟩
  | .local _ .vmem, ⟨24, _⟩ => ⟨S1x512x2048, .f32⟩
  | .local _ .vmem, ⟨25, _⟩ => ⟨S1x512x2048, .f32⟩
  | _, _ => ⟨S256x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_c_1 : Ref sig .tc := ⟨.hbm, 10, rfl⟩
abbrev main_c_2 : Ref sig .tc := ⟨.hbm, 11, rfl⟩
abbrev main_c_3 : Ref sig .tc := ⟨.hbm, 12, rfl⟩
abbrev main_c_4 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c_5 : Ref sig .tc := ⟨.hbm, 20, rfl⟩
abbrev main_call0_v0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c_6 : Ref sig .tc := ⟨.hbm, 25, rfl⟩
abbrev main_call1_v0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c_7 : Ref sig .tc := ⟨.hbm, 30, rfl⟩
abbrev main_call2_v0 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_c_8 : Ref sig .tc := ⟨.hbm, 35, rfl⟩
abbrev main_call3_v0 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_c_9 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst : Ref sig .tc := ⟨.hbm, 57, rfl⟩
abbrev main_v34 : Ref sig .tc := ⟨.hbm, 58, rfl⟩
abbrev main_v35 : Ref sig .tc := ⟨.hbm, 59, rfl⟩
abbrev main_cst_10 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_11 : Ref sig .tc := ⟨.hbm, 64, rfl⟩
abbrev main_v39 : Ref sig .tc := ⟨.hbm, 65, rfl⟩
abbrev main_cst_12 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_14 : Ref sig .tc := ⟨.hbm, 98, rfl⟩
abbrev main_v70 : Ref sig .tc := ⟨.hbm, 99, rfl⟩
abbrev main_v71 : Ref sig .tc := ⟨.hbm, 100, rfl⟩
abbrev main_cst_15 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_16 : Ref sig .tc := ⟨.hbm, 110, rfl⟩
abbrev main_v80 : Ref sig .tc := ⟨.hbm, 111, rfl⟩
abbrev main_cst_17 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_c_18 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_cst_19 : Ref sig .tc := ⟨.hbm, 144, rfl⟩
abbrev main_v111 : Ref sig .tc := ⟨.hbm, 145, rfl⟩
abbrev main_v112 : Ref sig .tc := ⟨.hbm, 146, rfl⟩
abbrev main_cst_20 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_cst_21 : Ref sig .tc := ⟨.hbm, 168, rfl⟩
abbrev main_v133 : Ref sig .tc := ⟨.hbm, 169, rfl⟩
abbrev main_cst_22 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164_0 : Ref sig .tc := ⟨.hbm, 201, rfl⟩
abbrev main_v164_1 : Ref sig .tc := ⟨.hbm, 202, rfl⟩
abbrev main_v164_2 : Ref sig .tc := ⟨.hbm, 203, rfl⟩
abbrev main_v164_3 : Ref sig .tc := ⟨.hbm, 204, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x4x32x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x32x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x32x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x32x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x4x32x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x32x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x512x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Kernel8Ideal.lean ====
variable {F : FTy → Type} [FloatOps F] [Named F]
def κ : String → Option EReal := fun
  | "inv_log_two" => some (((Real.log 2)⁻¹ : ℝ) : EReal)
  | _ => none
-- ==== Reference8Ideal.lean ====
abbrev S256x3072 : Shape := ⟨2, ![256, 3072]⟩
abbrev S256x512 : Shape := ⟨2, ![256, 512]⟩
abbrev S32x128x2x4x64 : Shape := ⟨5, ![32, 128, 2, 4, 64]⟩
abbrev S32x512x2x4x64 : Shape := ⟨5, ![32, 512, 2, 4, 64]⟩
abbrev S32x2048x2x4x64 : Shape := ⟨5, ![32, 2048, 2, 4, 64]⟩
abbrev S32x48 : Shape := ⟨2, ![32, 48]⟩
abbrev S32x8x2x4x64 : Shape := ⟨5, ![32, 8, 2, 4, 64]⟩
abbrev S32x136x2x4x64 : Shape := ⟨5, ![32, 136, 2, 4, 64]⟩
abbrev S32x2x4x64x128 : Shape := ⟨5, ![32, 2, 4, 64, 128]⟩
abbrev S32x512x128 : Shape := ⟨3, ![32, 512, 128]⟩
abbrev S32x520x2x4x64 : Shape := ⟨5, ![32, 520, 2, 4, 64]⟩
abbrev S32x2x4x64x512 : Shape := ⟨5, ![32, 2, 4, 64, 512]⟩
abbrev S32x512x512 : Shape := ⟨3, ![32, 512, 512]⟩
abbrev S32x2056x2x4x64 : Shape := ⟨5, ![32, 2056, 2, 4, 64]⟩
abbrev S32x2x4x64x2048 : Shape := ⟨5, ![32, 2, 4, 64, 2048]⟩
abbrev S32x512x2048 : Shape := ⟨3, ![32, 512, 2048]⟩

abbrev nBuf : Space → Nat
  | .hbm => 23
  | .vmem => 0
  | .smem => 0
  | _ => 0

abbrev bufTy : (tb : Table) → Fin (tcTables nBuf tb) → BufTy
  | .hbm, ⟨0, _⟩ => ⟨S256x3072, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S32x128x2x4x64, .f32⟩
  | .hbm, ⟨5, _⟩ => ⟨S32x512x2x4x64, .f32⟩
  | .hbm, ⟨6, _⟩ => ⟨S32x2048x2x4x64, .f32⟩
  | .hbm, ⟨7, _⟩ => ⟨S32x48, .f32⟩
  | .hbm, ⟨8, _⟩ => ⟨S32x8x2x4x64, .f32⟩
  | .hbm, ⟨9, _⟩ => ⟨S32x136x2x4x64, .f32⟩
  | .hbm, ⟨10, _⟩ => ⟨S32x128x2x4x64, .f32⟩
  | .hbm, ⟨11, _⟩ => ⟨S32x2x4x64x128, .f32⟩
  | .hbm, ⟨12, _⟩ => ⟨S32x512x128, .f32⟩
  | .hbm, ⟨13, _⟩ => ⟨S32x8x2x4x64, .f32⟩
  | .hbm, ⟨14, _⟩ => ⟨S32x520x2x4x64, .f32⟩
  | .hbm, ⟨15, _⟩ => ⟨S32x512x2x4x64, .f32⟩
  | .hbm, ⟨16, _⟩ => ⟨S32x2x4x64x512, .f32⟩
  | .hbm, ⟨17, _⟩ => ⟨S32x512x512, .f32⟩
  | .hbm, ⟨18, _⟩ => ⟨S32x8x2x4x64, .f32⟩
  | .hbm, ⟨19, _⟩ => ⟨S32x2056x2x4x64, .f32⟩
  | .hbm, ⟨20, _⟩ => ⟨S32x2048x2x4x64, .f32⟩
  | .hbm, ⟨21, _⟩ => ⟨S32x2x4x64x2048, .f32⟩
  | .hbm, ⟨22, _⟩ => ⟨S32x512x2048, .f32⟩
  | _, _ => ⟨S256x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== Proof.GlaUnit.lean ====
/- The arithmetic of the gated linear attention kernel, one head of one chunk of 64 positions at a time. -/
module

public import proofs.«01_k».proof.Proof.Gen.KernelIdeal.Frame.Runs

@[expose] public section

set_option maxRecDepth 16384

noncomputable section

namespace Cert.Gla

open Idealize.ShloMosaic Idealize.ShloMosaic.TcCoe Idealize.ShloMosaic.Tactic
open Cert.KernelIdeal Cert.KernelIdeal.Gen

variable {F : FTy → Type} [FloatOps F]

/-! ## Where the kernel reads and writes in a trip -/

/-- Where head `h` of chunk `j` of trip `k` lies in the block of the queries, of the keys and of the gates. -/
def offK (k : Fin k0_t1_loop.trips) (j h : Fin 4) : Fin 3 → ℕ :=
  (![k0_off2 k, k0_off3 k, k0_off4 k, k0_off5 k] : Fin 4 → BitVec 32 → Fin 3 → ℕ) h (BitVec.ofNat 32 (64 * j.val))

theorem offK_eq (k : Fin k0_t1_loop.trips) (j h : Fin 4) : offK k j h = ![0, 256 * k.val + 64 * j.val, 128 * h.val] := by
  fin_cases h
  · exact k0_off2_eq k j
  · exact k0_off3_eq k j
  · exact k0_off4_eq k j
  · exact k0_off5_eq k j

theorem offK_inb (k : Fin k0_t1_loop.trips) (j h : Fin 4) : ∀ a, offK k j h a + S1x64x128.size a ≤ S1x1024x512.size a := by
  fin_cases h
  · exact k0_off2_inb k j
  · exact k0_off3_inb k j
  · exact k0_off4_inb k j
  · exact k0_off5_inb k j

/-- Where head `h` of chunk `j` of trip `k` lies in the block of the values and of the output. -/
def offV (k : Fin k0_t1_loop.trips) (j h : Fin 4) : Fin 3 → ℕ :=
  (![k0_off6 k, k0_off7 k, k0_off8 k, k0_off9 k] : Fin 4 → BitVec 32 → Fin 3 → ℕ) h (BitVec.ofNat 32 (64 * j.val))

theorem offV_eq (k : Fin k0_t1_loop.trips) (j h : Fin 4) : offV k j h = ![0, 256 * k.val + 64 * j.val, 256 * h.val] := by
  fin_cases h
  · exact k0_off6_eq k j
  · exact k0_off7_eq k j
  · exact k0_off8_eq k j
  · exact k0_off9_eq k j

theorem offV_inb (k : Fin k0_t1_loop.trips) (j h : Fin 4) : ∀ a, offV k j h a + S1x64x256.size a ≤ S1x1024x1024.size a := by
  fin_cases h
  · exact k0_off6_inb k j
  · exact k0_off7_inb k j
  · exact k0_off8_inb k j
  · exact k0_off9_inb k j

theorem offB_slices (j h : Fin 4) : S256x512.Slices ![64 * j.val, 128 * h.val] S64x128 := by
  revert j h; decide

theorem offS_inb (h : Fin 4) : ∀ a, (![h.val, 0, 0] : Fin 3 → ℕ) a + S1x128x256.size a ≤ S4x128x256.size a := by
  revert h; decide

/-! ## The operands of one head of one chunk -/

/-- The queries, or the keys, of head `h` of chunk `j`. -/
def rowsK (x : Vec F S1x1024x512 .f32) (k : Fin k0_t1_loop.trips) (j h : Fin 4) : FVec F S64x128 .f32 :=
  shapeCast S64x128 (View.ld x (Rect.unit (offK k j h) S1x64x128.size (offK_inb k j h))) shapeCasts_S1x64x128_S64x128

/-- The values of head `h` of chunk `j`, with as many rows of zeros below. -/
def rowsV (x : Vec F S1x1024x1024 .bf16) (k : Fin k0_t1_loop.trips) (j h : Fin 4) : FVec F S128x256 .bf16 :=
  concatenate S128x256 0
    [⟨S64x256, shapeCast S64x256 (View.ld x (Rect.unit (offV k j h) S1x64x256.size (offV_inb k j h))) shapeCasts_S1x64x256_S64x256⟩,
     ⟨S64x256, broadcast S64x256 (Scalar.ofBits .bf16 0x0000#16)⟩] concatenates_S64x256_S64x256_S128x256_d0

/-- The running sums of the gates of a trip's four chunks, each chunk's from its own first row. -/
def sums (w : FVec F S256x256 .bf16) (x : Vec F S1x1024x512 .f32) (k : Fin k0_t1_loop.trips) : FVec F S256x512 .f32 :=
  k0_pay5 w (View.ld x (Rect.unit (k0_off1 k) S1x256x512.size (k0_off1_inb k)))

/-- The running sums of head `h` of chunk `j`. -/
def rowsB (w : FVec F S256x256 .bf16) (x : Vec F S1x1024x512 .f32) (k : Fin k0_t1_loop.trips) (j h : Fin 4) : FVec F S64x128 .f32 :=
  extractStridedSlice S64x128 ![64 * j.val, 128 * h.val] (sums w x k) (offB_slices j h)

/-- The state of head `h` when the trip begins. -/
def stateOf (s : Vec F S4x128x256 .f32) (h : Fin 4) : FVec F S128x256 .f32 :=
  shapeCast S128x256 (View.ld s (Rect.unit ![h.val, 0, 0] S1x128x256.size (offS_inb h))) shapeCasts_S1x128x256_S128x256

/-! ## What one head of one chunk computes -/

/-- Row `0`, `16`, `32` or `48` of the running sums: the reference row of a block of 16 rows. -/
def row0 (b : FVec F S64x128 .f32) : FVec F S1x128 .f32 := extractStridedSlice S1x128 ![0, 0] b slices_S64x128_o0_0_S1x128
def row16 (b : FVec F S64x128 .f32) : FVec F S1x128 .f32 := extractStridedSlice S1x128 ![16, 0] b slices_S64x128_o16_0_S1x128
def row32 (b : FVec F S64x128 .f32) : FVec F S1x128 .f32 := extractStridedSlice S1x128 ![32, 0] b slices_S64x128_o32_0_S1x128
def row48 (b : FVec F S64x128 .f32) : FVec F S1x128 .f32 := extractStridedSlice S1x128 ![48, 0] b slices_S64x128_o48_0_S1x128
/-- The last row of the running sums. -/
def row63 (b : FVec F S64x128 .f32) : FVec F S1x128 .f32 := extractStridedSlice S1x128 ![63, 0] b slices_S64x128_o63_0_S1x128

/-- The queries of the rows from a block on, scaled against the block's reference row, zeros above. -/
def query0 (b q : FVec F S64x128 .f32) : FVec F S64x128 .bf16 :=
  truncf .bf16 (mulf q (exp (subf b (broadcastTo S64x128 (row0 b) broadcasts_S1x128_S64x128)))) bitsLt_bf16_f32
def query16 (b q : FVec F S64x128 .f32) : FVec F S64x128 .bf16 :=
  concatenate S64x128 0 [⟨S16x128, broadcast S16x128 (Scalar.ofBits .bf16 0x0000#16)⟩,
    ⟨S48x128, truncf .bf16 (mulf (extractStridedSlice S48x128 ![16, 0] q slices_S64x128_o16_0_S48x128)
      (exp (subf (extractStridedSlice S48x128 ![16, 0] b slices_S64x128_o16_0_S48x128)
        (broadcastTo S48x128 (row16 b) broadcasts_S1x128_S48x128)))) bitsLt_bf16_f32⟩] concatenates_S16x128_S48x128_S64x128_d0
def query32 (b q : FVec F S64x128 .f32) : FVec F S64x128 .bf16 :=
  concatenate S64x128 0 [⟨S32x128, broadcast S32x128 (Scalar.ofBits .bf16 0x0000#16)⟩,
    ⟨S32x128, truncf .bf16 (mulf (extractStridedSlice S32x128 ![32, 0] q slices_S64x128_o32_0_S32x128)
      (exp (subf (extractStridedSlice S32x128 ![32, 0] b slices_S64x128_o32_0_S32x128)
        (broadcastTo S32x128 (row32 b) broadcasts_S1x128_S32x128)))) bitsLt_bf16_f32⟩] concatenates_S32x128_S32x128_S64x128_d0
def query48 (b q : FVec F S64x128 .f32) : FVec F S64x128 .bf16 :=
  concatenate S64x128 0 [⟨S48x128, broadcast S48x128 (Scalar.ofBits .bf16 0x0000#16)⟩,
    ⟨S16x128, truncf .bf16 (mulf (extractStridedSlice S16x128 ![48, 0] q slices_S64x128_o48_0_S16x128)
      (exp (subf (extractStridedSlice S16x128 ![48, 0] b slices_S64x128_o48_0_S16x128)
        (broadcastTo S16x128 (row48 b) broadcasts_S1x128_S16x128)))) bitsLt_bf16_f32⟩] concatenates_S48x128_S16x128_S64x128_d0

/-- The keys of the 16 rows of a block, scaled against the block's reference row. -/
def keys (ref : FVec F S1x128 .f32) (b k : FVec F S16x128 .f32) : FVec F S16x128 .bf16 :=
  truncf .bf16 (mulf k (exp (subf (broadcastTo S16x128 ref broadcasts_S1x128_S16x128) b))) bitsLt_bf16_f32

/-- The same in the rows of their block, zeros in the others. -/
def key0 (b k : FVec F S64x128 .f32) : FVec F S128x128 .bf16 :=
  concatenate S128x128 0 [⟨S16x128, keys (row0 b) (extractStridedSlice S16x128 ![0, 0] b slices_S64x128_o0_0_S16x128)
      (extractStridedSlice S16x128 ![0, 0] k slices_S64x128_o0_0_S16x128)⟩,
    ⟨S112x128, broadcast S112x128 (Scalar.ofBits .bf16 0x0000#16)⟩] concatenates_S16x128_S112x128_S128x128_d0
def key16 (b k : FVec F S64x128 .f32) : FVec F S128x128 .bf16 :=
  concatenate S128x128 0 [⟨S16x128, broadcast S16x128 (Scalar.ofBits .bf16 0x0000#16)⟩,
    ⟨S16x128, keys (row16 b) (extractStridedSlice S16x128 ![16, 0] b slices_S64x128_o16_0_S16x128)
      (extractStridedSlice S16x128 ![16, 0] k slices_S64x128_o16_0_S16x128)⟩,
    ⟨S96x128, broadcast S96x128 (Scalar.ofBits .bf16 0x0000#16)⟩] concatenates_S16x128_S16x128_S96x128_S128x128_d0
def key32 (b k : FVec F S64x128 .f32) : FVec F S128x128 .bf16 :=
  concatenate S128x128 0 [⟨S32x128, broadcast S32x128 (Scalar.ofBits .bf16 0x0000#16)⟩,
    ⟨S16x128, keys (row32 b) (extractStridedSlice S16x128 ![32, 0] b slices_S64x128_o32_0_S16x128)
      (extractStridedSlice S16x128 ![32, 0] k slices_S64x128_o32_0_S16x128)⟩,
    ⟨S80x128, broadcast S80x128 (Scalar.ofBits .bf16 0x0000#16)⟩] concatenates_S32x128_S16x128_S80x128_S128x128_d0
def key48 (b k : FVec F S64x128 .f32) : FVec F S128x128 .bf16 :=
  concatenate S128x128 0 [⟨S48x128, broadcast S48x128 (Scalar.ofBits .bf16 0x0000#16)⟩,
    ⟨S16x128, keys (row48 b) (extractStridedSlice S16x128 ![48, 0] b slices_S64x128_o48_0_S16x128)
      (extractStridedSlice S16x128 ![48, 0] k slices_S64x128_o48_0_S16x128)⟩,
    ⟨S64x128, broadcast S64x128 (Scalar.ofBits .bf16 0x0000#16)⟩] concatenates_S48x128_S16x128_S64x128_S128x128_d0

/-- The scores of a chunk's positions against each other, before the causal mask. -/
def scores (b q k : FVec F S64x128 .f32) : FVec F S64x128 .f32 :=
  matmul dot_S64x512_S128x512_S64x128_1_1_0_0_n_n none
    (concatenate S64x512 1 [⟨S64x128, query0 b q⟩, ⟨S64x128, query16 b q⟩, ⟨S64x128, query32 b q⟩, ⟨S64x128, query48 b q⟩]
      concatenates_S64x128_S64x128_S64x128_S64x128_S64x512_d1)
    (concatenate S128x512 1 [⟨S128x128, key0 b k⟩, ⟨S128x128, key16 b k⟩, ⟨S128x128, key32 b k⟩, ⟨S128x128, key48 b k⟩]
      concatenates_S128x128_S128x128_S128x128_S128x128_S128x512_d1)
    (constant S64x128 .f32 0x00000000#32)

/-- The left operand of the output: the decayed queries, and the masked scores. -/
def lhs (b q k : FVec F S64x128 .f32) : FVec F S64x256 .bf16 :=
  concatenate S64x256 1 [⟨S64x128, truncf .bf16 (mulf q (exp b)) bitsLt_bf16_f32⟩,
    ⟨S64x128, truncf .bf16 (select k0_pay2 (scores b q k) (broadcast S64x128 (Scalar.ofBits .f32 0x00000000#32))) bitsLt_bf16_f32⟩]
    concatenates_S64x128_S64x128_S64x256_d1

/-- The output of a chunk: from the state it begins with and from its own values. -/
def outU (b q k : FVec F S64x128 .f32) (v : FVec F S128x256 .bf16) (s : FVec F S128x256 .f32) : FVec F S1x64x256 .f32 :=
  shapeCast S1x64x256 (matmul dot_S64x256_S256x256_S64x256_1_0_0_1_n_n none (lhs b q k)
    (concatenate S256x256 0 [⟨S128x256, truncf .bf16 s bitsLt_bf16_f32⟩, ⟨S128x256, v⟩] concatenates_S128x256_S128x256_S256x256_d0)
    (constant S64x256 .f32 0x00000000#32)) shapeCasts_S64x256_S1x64x256

/-- What a chunk adds to the state. -/
def updU (b k : FVec F S64x128 .f32) (v : FVec F S128x256 .bf16) : FVec F S128x256 .f32 :=
  matmul dot_S128x128_S128x256_S128x256_1_0_0_1_n_n none
    (truncf .bf16 (transpose S128x128 [1, 0] (concatenate S128x128 0
      [⟨S64x128, mulf k (exp (subf (broadcastTo S64x128 (row63 b) broadcasts_S1x128_S64x128) b))⟩,
       ⟨S64x128, broadcast S64x128 (Scalar.ofBits .f32 0x00000000#32)⟩] concatenates_S64x128_S64x128_S128x128_d0)
      transposes_S128x128_p1_0_S128x128) bitsLt_bf16_f32) v (constant S128x256 .f32 0x00000000#32)

/-- By how much a chunk shrinks the state. -/
def decayU (b : FVec F S64x128 .f32) : FVec F S128x256 .f32 :=
  concatenate S128x256 1
    [⟨S128x128, transpose S128x128 [1, 0] (broadcastTo S128x128 (shapeCast S1x128 (exp (row63 b)) shapeCasts_S1x128_S1x128)
        broadcasts_S1x128_S128x128) transposes_S128x128_p1_0_S128x128⟩,
     ⟨S128x128, transpose S128x128 [1, 0] (broadcastTo S128x128 (shapeCast S1x128 (exp (row63 b)) shapeCasts_S1x128_S1x128)
        broadcasts_S1x128_S128x128) transposes_S128x128_p1_0_S128x128⟩] concatenates_S128x128_S128x128_S128x256_d1

/-- The state after a chunk. -/
def stepU (b k : FVec F S64x128 .f32) (v : FVec F S128x256 .bf16) (s : FVec F S128x256 .f32) : FVec F S128x256 .f32 :=
  addf (mulf s (decayU b)) (updU b k v)

/-! ## A trip: four chunks of four heads -/

section Trip
variable (w : FVec F S256x256 .bf16) (xq xk : Vec F S1x1024x512 .f32) (xv : Vec F S1x1024x1024 .bf16)
  (xg : Vec F S1x1024x512 .f32) (k : Fin k0_t1_loop.trips)

/-- The state of head `h` after chunk `j`, from the state before it. -/
def step (j h : Fin 4) (s : FVec F S128x256 .f32) : FVec F S128x256 .f32 :=
  stepU (rowsB w xg k j h) (rowsK xk k j h) (rowsV xv k j h) s

/-- The state of head `h` before chunk `j`. -/
def stateAt (s : Vec F S4x128x256 .f32) (h : Fin 4) : Fin 4 → FVec F S128x256 .f32 :=
  ![stateOf s h, step w xk xv xg k 0 h (stateOf s h),
    step w xk xv xg k 1 h (step w xk xv xg k 0 h (stateOf s h)),
    step w xk xv xg k 2 h (step w xk xv xg k 1 h (step w xk xv xg k 0 h (stateOf s h)))]

/-- The output of head `h` of chunk `j`. -/
def outAt (s : Vec F S4x128x256 .f32) (j h : Fin 4) : FVec F S1x64x256 .f32 :=
  outU (rowsB w xg k j h) (rowsK xq k j h) (rowsK xk k j h) (rowsV xv k j h) (stateAt w xk xv xg k s h j)

/-- The output of head `h` of chunk `j`, where it lies in the block. -/
def outPiece (s : Vec F S4x128x256 .f32) (j h : Fin 4) : View.Piece (Elt F) S1x1024x1024 .f32 :=
  ⟨Rect.unit (offV k j h) S1x64x256.size (offV_inb k j h), outAt w xq xk xv xg k s j h⟩

/-- What a trip writes into the block of the output, the last write first. -/
def outPieces (s : Vec F S4x128x256 .f32) : List (View.Piece (Elt F) S1x1024x1024 .f32) :=
  [outPiece w xq xk xv xg k s 3 3, outPiece w xq xk xv xg k s 3 2, outPiece w xq xk xv xg k s 3 1, outPiece w xq xk xv xg k s 3 0,
   outPiece w xq xk xv xg k s 2 3, outPiece w xq xk xv xg k s 2 2, outPiece w xq xk xv xg k s 2 1, outPiece w xq xk xv xg k s 2 0,
   outPiece w xq xk xv xg k s 1 3, outPiece w xq xk xv xg k s 1 2, outPiece w xq xk xv xg k s 1 1, outPiece w xq xk xv xg k s 1 0,
   outPiece w xq xk xv xg k s 0 3, outPiece w xq xk xv xg k s 0 2, outPiece w xq xk xv xg k s 0 1, outPiece w xq xk xv xg k s 0 0]

/-- The state of head `h` after the trip, where it lies in the buffer of the states. -/
def statePiece (s : Vec F S4x128x256 .f32) (h : Fin 4) : View.Piece (Elt F) S4x128x256 .f32 :=
  ⟨Rect.unit ![h.val, 0, 0] S1x128x256.size (offS_inb h),
   shapeCast S1x128x256 (step w xk xv xg k 3 h (stateAt w xk xv xg k s h 3)) shapeCasts_S128x256_S1x128x256⟩

/-- What a trip writes into the buffer of the states, the last write first. -/
def statePieces (s : Vec F S4x128x256 .f32) : List (View.Piece (Elt F) S4x128x256 .f32) :=
  [statePiece w xk xv xg k s 3, statePiece w xk xv xg k s 2, statePiece w xk xv xg k s 1, statePiece w xk xv xg k s 0]

end Trip

end Cert.Gla

end
-- ==== Proof.GlaTrip.lean ====
/- One trip of the gated linear attention kernel, run. -/
module

public import proofs.«01_k».proof.Proof.GlaUnit

@[expose] public section

set_option maxHeartbeats 4000000
set_option maxRecDepth 16384

noncomputable section

namespace Cert.Gla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

variable (𝒱 : Variants) (c : Dev nD) (bd : Option 𝒱.V) (i : grid0.Coords)
  (arg2 : Memref sig .tc .vmem S1x1024x512 .f32) (harg2 : arg2.IsWhole)
  (arg3 : Memref sig .tc .vmem S1x1024x512 .f32) (harg3 : arg3.IsWhole)
  (arg4 : Memref sig .tc .vmem S1x1024x1024 .bf16) (harg4 : arg4.IsWhole)
  (arg5 : Memref sig .tc .vmem S1x1024x512 .f32) (harg5 : arg5.IsWhole)
  (arg6 : Memref sig .tc .vmem S1x4x128x256 .f32) (harg6 : arg6.IsWhole)
  (arg7 : Memref sig .tc .vmem S1x1024x1024 .f32) (harg7 : arg7.IsWhole)
  (arg8 : Memref sig .tc .vmem S1x4x128x256 .f32) (harg8 : arg8.IsWhole)
  (arg9 : Memref sig .tc .vmem S4x128x256 .f32) (harg9 : arg9.IsWhole)
  (v4 : IVec S256x256 32) (v5 : IVec S256x256 1) (v29 : IVec S256x256 32) (c64 : BitVec 32)
  (v31 : IVec S256x256 32) (v38 : IVec S256x256 32) (v40 : BitVec 32) (v42 : BitVec 32)
  (f2 : BufTy.Contents (Elt F) arg2.view.ty) (f3 : BufTy.Contents (Elt F) arg3.view.ty)
  (f4 : BufTy.Contents (Elt F) arg4.view.ty) (f5 : BufTy.Contents (Elt F) arg5.view.ty)

/-- What a trip holds. -/
abbrev Held (f7 : BufTy.Contents (Elt F) arg7.view.ty) (f9 : BufTy.Contents (Elt F) arg9.view.ty) :
    sProp 𝕄 :=
  iprop((arg2.view.loc (c : Thread nD τ) ↦[arg2.view.set]{fullShare} f2)
    ∗ (arg3.view.loc (c : Thread nD τ) ↦[arg3.view.set]{fullShare} f3)
    ∗ (arg4.view.loc (c : Thread nD τ) ↦[arg4.view.set]{fullShare} f4)
    ∗ (arg5.view.loc (c : Thread nD τ) ↦[arg5.view.set]{fullShare} f5)
    ∗ (arg7.view.loc (c : Thread nD τ) ↦[arg7.view.set]{fullShare} f7)
    ∗ (arg9.view.loc (c : Thread nD τ) ↦[arg9.view.set]{fullShare} f9))

/-- One trip, run: what it leaves in the two buffers it writes is what the run finds. -/
def trip (k : Fin k0_t1_loop.trips) (f9 : BufTy.Contents (Elt F) arg9.view.ty) :
    Σ' (L7 : List (View.Piece (Elt F) S1x1024x1024 .f32)),
      { L9 : List (View.Piece (Elt F) S4x128x256 .f32) //
        ∀ (E : Set ℕ) (f7 : BufTy.Contents (Elt F) arg7.view.ty),
          Held (F := F) c arg2 arg3 arg4 arg5 arg7 arg9 f2 f3 f4 f5 f7 f9
          ⊢ wp frame (wpE (defs₀ (F := F)) 𝒱 (c : Thread nD τ) bd) E
              (k0_t1_body (F := F) i arg2 harg2 arg3 harg3 arg4 harg4 arg5 harg5 arg6 harg6 arg7 harg7 arg8 harg8 arg9 harg9 v4 v5 v29 c64 v31 v38 v40 v42 k PUnit.unit)
              (fun _ => Held (F := F) c arg2 arg3 arg4 arg5 arg7 arg9 f2 f3 f4 f5
                (arg7.view.writes (Elt F) f7 L7)
                (arg9.view.writes (Elt F) f9 L9)) } := by
  have hk : k.val < 4 := Nat.lt_of_lt_of_le k.isLt k0_t1_abs.2.1
  refine ⟨?_, ?_, fun E f7 => ?run⟩
  case run =>
    unfold k0_t1_body
    iintro ⟨H2, H3, H4, H5, H7, H9⟩
    sl_exec
    sl_step
    sl_close

/-- One trip leaves the outputs of its four chunks in the output's block and the states after them in the states' buffer. -/
theorem trip_run (k : Fin k0_t1_loop.trips) (E : Set ℕ) (f7 : BufTy.Contents (Elt F) arg7.view.ty) (f9 : BufTy.Contents (Elt F) arg9.view.ty) :
    Held (F := F) c arg2 arg3 arg4 arg5 arg7 arg9 f2 f3 f4 f5 f7 f9
    ⊢ wp frame (wpE (defs₀ (F := F)) 𝒱 (c : Thread nD τ) bd) E
        (k0_t1_body (F := F) i arg2 harg2 arg3 harg3 arg4 harg4 arg5 harg5 arg6 harg6 arg7 harg7 arg8 harg8 arg9 harg9 v4 v5 v29 c64 v31 v38 v40 v42 k PUnit.unit)
        (fun _ => Held (F := F) c arg2 arg3 arg4 arg5 arg7 arg9 f2 f3 f4 f5
          (arg7.view.writes (Elt F) f7 (outPieces (k0_pay1 v4 v5 v29 c64 v31 v38 v40 v42) (arg2.view.read (Elt F) f2) (arg3.view.read (Elt F) f3) (arg4.view.read (Elt F) f4) (arg5.view.read (Elt F) f5) k (arg9.view.read (Elt F) f9)))
          (arg9.view.writes (Elt F) f9 (statePieces (k0_pay1 v4 v5 v29 c64 v31 v38 v40 v42) (arg3.view.read (Elt F) f3) (arg4.view.read (Elt F) f4) (arg5.view.read (Elt F) f5) k (arg9.view.read (Elt F) f9)))) :=
  (trip (F := F) 𝒱 c bd i arg2 harg2 arg3 harg3 arg4 harg4 arg5 harg5 arg6 harg6 arg7 harg7 arg8 harg8 arg9 harg9 v4 v5 v29 c64 v31 v38 v40 v42 f2 f3 f4 f5 k f9).2.2 E f7

end Cert.Gla

end
-- ==== Proof.GlaBlock.lean ====
/- What the gated linear attention kernel leaves in a block of the output and in the buffer of the states. -/
module

public import proofs.«01_k».proof.Proof.GlaTrip
public import Idealize.ShloMosaic.Lib.Pipeline.ValueKit

@[expose] public section

set_option maxRecDepth 16384

noncomputable section

namespace Cert.Gla

open Idealize.ShloMosaic Idealize.ShloMosaic.TcCoe Idealize.ShloMosaic.Tactic
open Cert.KernelIdeal Cert.KernelIdeal.Gen

variable {F : FTy → Type} [FloatOps F]

theorem trips_eq : k0_t1_loop.trips = 4 := by decide +kernel

/-! ## Reading what pieces were written -/

section Read
variable {sig : RefSig} {κ : Kind} {sp : Space} {s : Shape} {e : EltTy} {Val : EltTy → Type}

/-- Where no piece lies, the contents stay. -/
theorem read_writes_off (v : View sig κ sp s e) (f : v.ty.Contents Val) (y : s.Idx) :
    ∀ L : List (View.Piece Val s e), (∀ p ∈ L, y ∉ p.1.set) → v.read Val (v.writes Val f L) y = v.read Val f y
  | [], _ => rfl
  | p :: L, h => by
    have hp : y ∉ Finset.univ.map p.1.emb := by rw [Rect.map_emb_univ]; exact h p (by simp)
    rw [View.writes_cons, View.read_slice_write_of_not_mem p.1 _ _ _ hp]
    exact read_writes_off v f y L fun q hq => h q (by simp [hq])

/-- Where a piece lies and every piece agrees with one function, the contents are that function's. -/
theorem read_writes_on (v : View sig κ sp s e) (f : v.ty.Contents Val) (G : s.Idx → Val e) (y : s.Idx) :
    ∀ L : List (View.Piece Val s e), (∀ p ∈ L, ∀ x : p.1.shape.Idx, p.2 x = G (p.1.emb x)) → (∃ p ∈ L, y ∈ p.1.set) →
      v.read Val (v.writes Val f L) y = G y
  | [], _, h => by obtain ⟨_, hp, _⟩ := h; exact absurd hp List.not_mem_nil
  | p :: L, hL, h => by
    by_cases hy : y ∈ p.1.set
    · obtain ⟨x, rfl⟩ := p.1.exists_idx_of_mem hy
      exact (View.read_writes_cons_emb v f p.1 p.2 L x).trans (hL p (by simp) x)
    · have hp : y ∉ Finset.univ.map p.1.emb := by rwa [Rect.map_emb_univ]
      rw [View.writes_cons, View.read_slice_write_of_not_mem p.1 _ _ _ hp]
      refine read_writes_on v f G y L (fun q hq => hL q (by simp [hq])) ?_
      obtain ⟨q, hq, hyq⟩ := h
      rcases List.mem_cons.mp hq with rfl | hq
      · exact absurd hyq hy
      · exact ⟨q, hq, hyq⟩

end Read

section Block
variable (w : FVec F S256x256 .bf16) (xq xk : Vec F S1x1024x512 .f32) (xv : Vec F S1x1024x1024 .bf16)
  (xg : Vec F S1x1024x512 .f32)

/-- The states after a trip. -/
def nextState (k : Fin k0_t1_loop.trips) (s : Vec F S4x128x256 .f32) : Vec F S4x128x256 .f32 := fun y =>
  step w xk xv xg k 3 (show Fin 4 from y 0) (stateAt w xk xv xg k s (show Fin 4 from y 0) 3) (ix2 (show Fin 128 from y 1) (show Fin 256 from y 2))

/-- The states before trip `n`. -/
def stateN (s : Vec F S4x128x256 .f32) : ℕ → Vec F S4x128x256 .f32
  | 0 => s
  | n + 1 => if h : n < k0_t1_loop.trips then nextState w xk xv xg ⟨n, h⟩ (stateN s n) else stateN s n

theorem stateN_succ (s : Vec F S4x128x256 .f32) (k : Fin k0_t1_loop.trips) :
    stateN w xk xv xg s (k.val + 1) = nextState w xk xv xg k (stateN w xk xv xg s k.val) := dif_pos k.isLt

/-- The block of the output. -/
def outBlock (s : Vec F S4x128x256 .f32) : Vec F S1x1024x1024 .f32 := fun y =>
  have h1 : (y 1).val < 1024 := (y 1).isLt
  have h2 : (y 2).val < 1024 := (y 2).isLt
  outAt w xq xk xv xg ⟨(y 1).val / 256, by rw [trips_eq]; omega⟩ (stateN w xk xv xg s ((y 1).val / 256))
    ⟨(y 1).val % 256 / 64, by omega⟩ ⟨(y 2).val / 256, by omega⟩
    (ix3 0 ⟨(y 1).val % 64, by omega⟩ ⟨(y 2).val % 256, by omega⟩)

theorem outBlock_eq (s : Vec F S4x128x256 .f32) (k : Fin k0_t1_loop.trips) (j h : Fin 4) (r : Fin 64) (d : Fin 256)
    (y : S1x1024x1024.Idx) (h1 : (y 1).val = 256 * k.val + 64 * j.val + r.val) (h2 : (y 2).val = 256 * h.val + d.val) :
    outBlock w xq xk xv xg s y = outAt w xq xk xv xg k (stateN w xk xv xg s k.val) j h (ix3 0 r d) := by
  unfold outBlock
  have e1 : (y 1).val / 256 = k.val := by omega
  have e2 : (y 1).val % 256 / 64 = j.val := by omega
  have e3 : (y 1).val % 64 = r.val := by omega
  have e4 : (y 2).val / 256 = h.val := by omega
  have e5 : (y 2).val % 256 = d.val := by omega
  simp only [e1, e2, e3, e4, e5]

theorem mem_outPieces (k : Fin k0_t1_loop.trips) (s : Vec F S4x128x256 .f32) (p : View.Piece (Elt F) S1x1024x1024 .f32)
    (hp : p ∈ outPieces w xq xk xv xg k s) : ∃ j h, p = outPiece w xq xk xv xg k s j h := by
  unfold outPieces at hp
  simp only [List.mem_cons, List.not_mem_nil, or_false] at hp
  rcases hp with h | h | h | h | h | h | h | h | h | h | h | h | h | h | h | h <;> exact ⟨_, _, h⟩

theorem outPiece_mem (k : Fin k0_t1_loop.trips) (s : Vec F S4x128x256 .f32) (j h : Fin 4) :
    outPiece w xq xk xv xg k s j h ∈ outPieces w xq xk xv xg k s := by
  unfold outPieces
  fin_cases j <;> fin_cases h <;> simp

theorem mem_statePieces (k : Fin k0_t1_loop.trips) (s : Vec F S4x128x256 .f32) (p : View.Piece (Elt F) S4x128x256 .f32)
    (hp : p ∈ statePieces w xk xv xg k s) : ∃ h, p = statePiece w xk xv xg k s h := by
  unfold statePieces at hp
  simp only [List.mem_cons, List.not_mem_nil, or_false] at hp
  rcases hp with h | h | h | h <;> exact ⟨_, h⟩

theorem statePiece_mem (k : Fin k0_t1_loop.trips) (s : Vec F S4x128x256 .f32) (h : Fin 4) :
    statePiece w xk xv xg k s h ∈ statePieces w xk xv xg k s := by
  unfold statePieces
  fin_cases h <;> simp

variable {sig : RefSig} {κ : Kind} {sp : Space}

theorem emb_unit {s : Shape} {off size : Fin s.rank → ℕ} (inb : ∀ a, off a + size a ≤ s.size a)
    (x : (Rect.unit off size inb).shape.Idx) (a : Fin s.rank) :
    ((Rect.unit off size inb).emb x a).val = off a + (x a).val := by
  show off a + 1 * (x a).val = _
  omega

theorem nextState_eq (k : Fin k0_t1_loop.trips) (s : Vec F S4x128x256 .f32) (h : Fin 4) (r : Fin 128) (d : Fin 256)
    (y : S4x128x256.Idx) (h0 : (y 0).val = h.val) (h1 : (y 1).val = r.val) (h2 : (y 2).val = d.val) :
    nextState w xk xv xg k s y = step w xk xv xg k 3 h (stateAt w xk xv xg k s h 3) (ix2 r d) := by
  have e : y = ix3 h r d := by
    funext a
    match a with
    | ⟨0, _⟩ => exact Fin.ext h0
    | ⟨1, _⟩ => exact Fin.ext h1
    | ⟨2, _⟩ => exact Fin.ext h2
  subst e
  rfl

/-- The buffer of the states after a trip. -/
theorem read_state (v : View sig κ sp S4x128x256 .f32) (f : v.ty.Contents (Elt F)) (k : Fin k0_t1_loop.trips)
    (s : Vec F S4x128x256 .f32) :
    v.read (Elt F) (v.writes (Elt F) f (statePieces w xk xv xg k s)) = nextState w xk xv xg k s := by
  funext y
  have hy0 : (y 0).val < 4 := (y 0).isLt
  have hy1 : (y 1).val < 128 := (y 1).isLt
  have hy2 : (y 2).val < 256 := (y 2).isLt
  refine read_writes_on v f _ y _ ?_ ⟨statePiece w xk xv xg k s ⟨(y 0).val, hy0⟩, statePiece_mem w xk xv xg k s _, ?_⟩
  · intro p hp x
    obtain ⟨h, rfl⟩ := mem_statePieces w xk xv xg k s p hp
    have hx0 : (x 0).val < 1 := (x 0).isLt
    refine Eq.trans ?_ (nextState_eq w xk xv xg k s h (x 1) (x 2) _ ((emb_unit (offS_inb h) x 0).trans ?_)
      ((emb_unit (offS_inb h) x 1).trans ?_) ((emb_unit (offS_inb h) x 2).trans ?_)).symm
    · show shapeCast S1x128x256 (step w xk xv xg k 3 h (stateAt w xk xv xg k s h 3)) shapeCasts_S128x256_S1x128x256 x = _
      revert x
      show ∀ x : S1x128x256.Idx, _
      intro x hx0
      idx_vars x
      pointwise
    · show h.val + (x 0).val = h.val
      omega
    · show 0 + (x 1).val = (x 1).val
      omega
    · show 0 + (x 2).val = (x 2).val
      omega
  · show y ∈ (Rect.unit (s := S4x128x256) ![(y 0).val, 0, 0] S1x128x256.size (offS_inb ⟨(y 0).val, hy0⟩)).set
    rw [Rect.mem_set_unit]
    intro a
    match a with
    | ⟨0, _⟩ => exact ⟨le_refl _, Nat.lt_succ_self _⟩
    | ⟨1, _⟩ => exact ⟨Nat.zero_le _, by show (y 1).val < 0 + 128; omega⟩
    | ⟨2, _⟩ => exact ⟨Nat.zero_le _, by show (y 2).val < 0 + 256; omega⟩

theorem outPiece_agrees (k : Fin k0_t1_loop.trips) (s : Vec F S4x128x256 .f32) (j h : Fin 4)
    (x : (outPiece w xq xk xv xg k (stateN w xk xv xg s k.val) j h).1.shape.Idx) :
    (outPiece w xq xk xv xg k (stateN w xk xv xg s k.val) j h).2 x
      = outBlock w xq xk xv xg s ((outPiece w xq xk xv xg k (stateN w xk xv xg s k.val) j h).1.emb x) := by
  have hx0 : (x 0).val < 1 := (x 0).isLt
  refine Eq.trans ?_ (outBlock_eq w xq xk xv xg s k j h (x 1) (x 2) _ ((emb_unit (offV_inb k j h) x 1).trans ?_)
    ((emb_unit (offV_inb k j h) x 2).trans ?_)).symm
  · show outAt w xq xk xv xg k (stateN w xk xv xg s k.val) j h x = _
    refine congrArg (outAt w xq xk xv xg k (stateN w xk xv xg s k.val) j h) ?_
    funext a
    match a with
    | ⟨0, _⟩ => exact Fin.ext (Nat.lt_one_iff.mp hx0)
    | ⟨1, _⟩ => rfl
    | ⟨2, _⟩ => rfl
  · exact congrArg (· + (x 1).val) (congrFun (offV_eq k j h) 1)
  · exact congrArg (· + (x 2).val) (congrFun (offV_eq k j h) 2)

/-- The block of the output after a trip: the trip's rows are written, the others stay. -/
theorem read_out (v : View sig κ sp S1x1024x1024 .f32) (f : v.ty.Contents (Elt F)) (k : Fin k0_t1_loop.trips)
    (s : Vec F S4x128x256 .f32) (hf : ∀ y : S1x1024x1024.Idx, (y 1).val < 256 * k.val → v.read (Elt F) f y = outBlock w xq xk xv xg s y)
    (y : S1x1024x1024.Idx) (hy : (y 1).val < 256 * (k.val + 1)) :
    v.read (Elt F) (v.writes (Elt F) f (outPieces w xq xk xv xg k (stateN w xk xv xg s k.val))) y = outBlock w xq xk xv xg s y := by
  have hy0 : (y 0).val < 1 := (y 0).isLt
  have hy2 : (y 2).val < 1024 := (y 2).isLt
  by_cases hk : (y 1).val < 256 * k.val
  · rw [read_writes_off v f y, hf y hk]
    intro p hp
    obtain ⟨j, h, rfl⟩ := mem_outPieces w xq xk xv xg k _ p hp
    show y ∉ (Rect.unit (s := S1x1024x1024) (offV k j h) S1x64x256.size (offV_inb k j h)).set
    rw [Rect.mem_set_unit]
    intro ha
    have := (ha 1).1
    rw [offV_eq] at this
    have : 256 * k.val + 64 * j.val ≤ (y 1).val := this
    omega
  · refine read_writes_on v f _ y _ ?_ ⟨_, outPiece_mem w xq xk xv xg k _ ⟨((y 1).val - 256 * k.val) / 64, by omega⟩ ⟨(y 2).val / 256, by omega⟩, ?_⟩
    · intro p hp x
      obtain ⟨j, h, rfl⟩ := mem_outPieces w xq xk xv xg k _ p hp
      exact outPiece_agrees w xq xk xv xg k s j h x
    · show y ∈ (Rect.unit (s := S1x1024x1024) (offV k _ _) S1x64x256.size (offV_inb k _ _)).set
      rw [Rect.mem_set_unit, offV_eq]
      intro a
      match a with
      | ⟨0, _⟩ => exact ⟨Nat.zero_le _, hy0⟩
      | ⟨1, _⟩ =>
        show 256 * k.val + 64 * (((y 1).val - 256 * k.val) / 64) ≤ (y 1).val ∧ (y 1).val < 256 * k.val + 64 * (((y 1).val - 256 * k.val) / 64) + 64
        omega
      | ⟨2, _⟩ =>
        show 256 * ((y 2).val / 256) ≤ (y 2).val ∧ (y 2).val < 256 * ((y 2).val / 256) + 256
        omega

end Block

end Cert.Gla

end
-- ==== Proof.GlaRun.lean ====
/- The gated linear attention kernel's body, run at a grid point. -/
module

public import proofs.«01_k».proof.Proof.GlaBlock
public import proofs.«01_k».proof.Proof.Gen.KernelIdeal.Frame.Runs

@[expose] public section

set_option maxHeartbeats 4000000
set_option maxRecDepth 16384

noncomputable section

namespace Cert.Gla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The matrix that adds up the gates of each chunk: a one where the row is not before the column and both lie in one chunk. -/
def sumMask : FVec F S256x256 .bf16 :=
  k0_pay1 (iota .tc S256x256 32 [1] iota_S256x256_d1_w32) k0_pay363 k0_pay364 64#32 k0_pay365 k0_pay366
    (Scalar.extui (Scalar.cmpi .sgt 64#32 0#32)) (Scalar.extui (Scalar.cmpi .slt 64#32 0#32))

section Loop
variable (𝒱 : Variants) (c : Dev nD) (bd : Option 𝒱.V) (i : grid0.Coords)
  (arg2 : Memref sig .tc .vmem S1x1024x512 .f32) (harg2 : arg2.IsWhole)
  (arg3 : Memref sig .tc .vmem S1x1024x512 .f32) (harg3 : arg3.IsWhole)
  (arg4 : Memref sig .tc .vmem S1x1024x1024 .bf16) (harg4 : arg4.IsWhole)
  (arg5 : Memref sig .tc .vmem S1x1024x512 .f32) (harg5 : arg5.IsWhole)
  (arg6 : Memref sig .tc .vmem S1x4x128x256 .f32) (harg6 : arg6.IsWhole)
  (arg7 : Memref sig .tc .vmem S1x1024x1024 .f32) (harg7 : arg7.IsWhole)
  (arg8 : Memref sig .tc .vmem S1x4x128x256 .f32) (harg8 : arg8.IsWhole)
  (arg9 : Memref sig .tc .vmem S4x128x256 .f32) (harg9 : arg9.IsWhole)
  (v4 : IVec S256x256 32) (v5 : IVec S256x256 1) (v29 : IVec S256x256 32) (c64 : BitVec 32)
  (v31 : IVec S256x256 32) (v38 : IVec S256x256 32) (v40 : BitVec 32) (v42 : BitVec 32)
  (f2 : BufTy.Contents (Elt F) arg2.view.ty) (f3 : BufTy.Contents (Elt F) arg3.view.ty)
  (f4 : BufTy.Contents (Elt F) arg4.view.ty) (f5 : BufTy.Contents (Elt F) arg5.view.ty)

/-- What the loop holds before trip `n`, when it began at the states `s`. -/
def Inv (w : FVec F S256x256 .bf16) (s : Vec F S4x128x256 .f32) (n : ℕ) : sProp 𝕄 :=
  iprop(∃ f7 f9, Held (F := F) c arg2 arg3 arg4 arg5 arg7 arg9 f2 f3 f4 f5 f7 f9
    ∗ ⌜arg9.view.read (Elt F) f9 = stateN w (arg3.view.read (Elt F) f3) (arg4.view.read (Elt F) f4) (arg5.view.read (Elt F) f5) s n
      ∧ ∀ y : S1x1024x1024.Idx, (y 1).val < 256 * n → arg7.view.read (Elt F) f7 y
        = outBlock w (arg2.view.read (Elt F) f2) (arg3.view.read (Elt F) f3) (arg4.view.read (Elt F) f4) (arg5.view.read (Elt F) f5) s y⌝)

theorem inv_step (s : Vec F S4x128x256 .f32) (k : Fin k0_t1_loop.trips) (E : Set ℕ) :
    Inv (F := F) c arg2 arg3 arg4 arg5 arg7 arg9 f2 f3 f4 f5 (k0_pay1 v4 v5 v29 c64 v31 v38 v40 v42) s k.val
    ⊢ wp frame (wpE (defs₀ (F := F)) 𝒱 (c : Thread nD τ) bd) E
        (k0_t1_body (F := F) i arg2 harg2 arg3 harg3 arg4 harg4 arg5 harg5 arg6 harg6 arg7 harg7 arg8 harg8 arg9 harg9 v4 v5 v29 c64 v31 v38 v40 v42 k PUnit.unit)
        (fun _ => Inv (F := F) c arg2 arg3 arg4 arg5 arg7 arg9 f2 f3 f4 f5 (k0_pay1 v4 v5 v29 c64 v31 v38 v40 v42) s (k.val + 1)) := by
  unfold Inv
  iintro ⟨%f7, %f9, H, %hf⟩
  iapply (wp_wand_r Idealize.ShloMosaic.frame (wpE (defs₀ (F := F)) 𝒱 (c : Thread nD τ) bd) E)
  isplitl [H]
  · iapply (trip_run 𝒱 c bd i arg2 harg2 arg3 harg3 arg4 harg4 arg5 harg5 arg6 harg6 arg7 harg7 arg8 harg8 arg9 harg9 v4 v5 v29 c64 v31 v38 v40 v42 f2 f3 f4 f5 k E f7 f9)
    iexact H
  iintro %_ H
  iexists _; iexists _; isplitl [H]; · iexact H
  ipureintro
  obtain ⟨h9, h7⟩ := hf
  rw [h9]
  refine ⟨?_, fun y hy => read_out _ _ _ _ _ _ _ k s h7 y hy⟩
  rw [read_state, stateN_succ]

/-- The loop: from the states `s` it leaves the outputs of its four trips and the states after them. -/
theorem loop_run (s : Vec F S4x128x256 .f32) (E : Set ℕ) (f7 : BufTy.Contents (Elt F) arg7.view.ty) (f9 : BufTy.Contents (Elt F) arg9.view.ty)
    (hs : arg9.view.read (Elt F) f9 = s) :
    Held (F := F) c arg2 arg3 arg4 arg5 arg7 arg9 f2 f3 f4 f5 f7 f9
    ⊢ wp frame (wpE (defs₀ (F := F)) 𝒱 (c : Thread nD τ) bd) E
        (Scf.Loop.for k0_t1_loop k0_t1_ok ⟨⟩ (k0_t1_body (F := F) i arg2 harg2 arg3 harg3 arg4 harg4 arg5 harg5 arg6 harg6 arg7 harg7 arg8 harg8 arg9 harg9 v4 v5 v29 c64 v31 v38 v40 v42))
        (fun _ => Inv (F := F) c arg2 arg3 arg4 arg5 arg7 arg9 f2 f3 f4 f5 (k0_pay1 v4 v5 v29 c64 v31 v38 v40 v42) s k0_t1_loop.trips) := by
  iintro H
  iapply (Scf.wp_for Idealize.ShloMosaic.frame (wpE (defs₀ (F := F)) 𝒱 (c : Thread nD τ) bd) E _ _ _ k0_t1_ok PUnit.unit _
    (fun n _ => Inv (F := F) c arg2 arg3 arg4 arg5 arg7 arg9 f2 f3 f4 f5 (k0_pay1 v4 v5 v29 c64 v31 v38 v40 v42) s n)
    (fun k _ => inv_step 𝒱 c bd i arg2 harg2 arg3 harg3 arg4 harg4 arg5 harg5 arg6 harg6 arg7 harg7 arg8 harg8 arg9 harg9 v4 v5 v29 c64 v31 v38 v40 v42 f2 f3 f4 f5 s k E))
  isplitl [H]
  · unfold Inv
    iexists _; iexists _; isplitl [H]; · iexact H
    ipureintro
    exact ⟨hs, fun y hy => absurd hy (Nat.not_lt_zero _)⟩
  iintro %_ H
  iexact H

end Loop

section Whole
variable {sp : Space}

theorem ld_whole3 (x : Vec F S4x128x256 .f32) :
    View.ld x (Rect.unit (s := S4x128x256) ![0, 0, 0] S4x128x256.size inb_S4x128x256_S4x128x256_0_0_0) = x := by
  funext y
  refine congrArg x (funext fun a => Fin.ext ?_)
  refine (emb_unit inb_S4x128x256_S4x128x256_0_0_0 y a).trans ?_
  match a with
  | ⟨0, _⟩ => exact Nat.zero_add _
  | ⟨1, _⟩ => exact Nat.zero_add _
  | ⟨2, _⟩ => exact Nat.zero_add _

theorem ld_whole4 (x : Vec F S1x4x128x256 .f32) :
    View.ld x (Rect.unit (s := S1x4x128x256) ![0, 0, 0, 0] S1x4x128x256.size inb_S1x4x128x256_S1x4x128x256_0_0_0_0) = x := by
  funext y
  refine congrArg x (funext fun a => Fin.ext ?_)
  refine (emb_unit inb_S1x4x128x256_S1x4x128x256_0_0_0_0 y a).trans ?_
  match a with
  | ⟨0, _⟩ => exact Nat.zero_add _
  | ⟨1, _⟩ => exact Nat.zero_add _
  | ⟨2, _⟩ => exact Nat.zero_add _
  | ⟨3, _⟩ => exact Nat.zero_add _

/-- A store of a whole buffer leaves what was stored. -/
theorem read_write_whole {κ : Kind} {S : RefSig} {s : Shape} {e : EltTy} (v : View S κ sp s e) (f : v.ty.Contents (Elt F))
    (off : Fin s.rank → ℕ) (h0 : ∀ a, off a = 0) (inb : ∀ a, off a + s.size a ≤ s.size a) (x : Vec F s e) :
    v.read (Elt F) (v.writes (Elt F) f [⟨Rect.unit off s.size inb, x⟩]) = x := by
  have he : ∀ y : s.Idx, (Rect.unit off s.size inb).emb y = y := fun y => by
    funext a
    exact Fin.ext ((emb_unit inb y a).trans (by rw [h0, Nat.zero_add]))
  funext y
  have := View.read_writes_cons_emb v f (Rect.unit off s.size inb) x [] y
  rwa [he] at this

end Whole

section Ends
variable (c : Dev nD) (i : grid0.Coords)
  (arg2 : Memref sig .tc .vmem S1x1024x512 .f32) (harg2 : arg2.IsWhole)
  (arg3 : Memref sig .tc .vmem S1x1024x512 .f32) (harg3 : arg3.IsWhole)
  (arg4 : Memref sig .tc .vmem S1x1024x1024 .bf16) (harg4 : arg4.IsWhole)
  (arg5 : Memref sig .tc .vmem S1x1024x512 .f32) (harg5 : arg5.IsWhole)
  (arg6 : Memref sig .tc .vmem S1x4x128x256 .f32) (harg6 : arg6.IsWhole)
  (arg7 : Memref sig .tc .vmem S1x1024x1024 .f32) (harg7 : arg7.IsWhole)
  (arg8 : Memref sig .tc .vmem S1x4x128x256 .f32) (harg8 : arg8.IsWhole)
  (arg9 : Memref sig .tc .vmem S4x128x256 .f32) (harg9 : arg9.IsWhole)

/-- What the body does after its loop: at a batch's second point it stores the states. -/
def storeStates (i : grid0.Coords) (arg8 : Memref sig .tc .vmem S1x4x128x256 .f32) (arg9 : Memref sig .tc .vmem S4x128x256 .f32) :
    Prog (TpuEff nD τ sig (Elt F) Λ₀ .tc) PUnit := do
  if k0_h2 : k0_cond2 i = 1#1 then do
    let v67 : Vec F S4x128x256 .f32 ← Prog.lift (.load arg9 (Rect.unit (s := S4x128x256) ![0, 0, 0] S4x128x256.size inb_S4x128x256_S4x128x256_0_0_0).toLoadRect (View.loadsAt_vmem h_S4x128x256))
    let _ : Vec F S1x4x128x256 .f32 ← Prog.lift (.load arg8 (Rect.unit (s := S1x4x128x256) ![0, 0, 0, 0] S1x4x128x256.size inb_S1x4x128x256_S1x4x128x256_0_0_0_0).toLoadRect (View.loadsAt_vmem h_S1x4x128x256))
    Prog.lift (.store arg8 (Rect.unit (s := S1x4x128x256) ![0, 0, 0, 0] S1x4x128x256.size inb_S1x4x128x256_S1x4x128x256_0_0_0_0) (k0_pay4 v67) Finset.univ (View.stores_vmem_bits_univ h_S1x4x128x256 rfl) (.inl rfl))
    pure ⟨⟩
  else do
    pure ⟨⟩
  pure ⟨⟩

/-- The body: what is computed before the loop, the loop, what is stored after it. -/
theorem body_eq : cc0_gla (F := F) i arg2 harg2 arg3 harg3 arg4 harg4 arg5 harg5 arg6 harg6 arg7 harg7 arg8 harg8 arg9 harg9
    = (k0_part42 (F := F) i arg2 harg2 arg3 harg3 arg4 harg4 arg5 harg5 arg6 harg6 arg7 harg7 arg8 harg8 arg9 harg9 >>= fun r =>
        (Scf.Loop.for k0_t1_loop k0_t1_ok ⟨⟩ (k0_t1_body (F := F) i arg2 harg2 arg3 harg3 arg4 harg4 arg5 harg5 arg6 harg6 arg7 harg7 arg8 harg8 arg9 harg9
          r.2.1 r.2.2.1 r.2.2.2.1 r.2.2.2.2.1 r.2.2.2.2.2.1 r.2.2.2.2.2.2.1 r.2.2.2.2.2.2.2.1 r.2.2.2.2.2.2.2.2)) >>= fun _ =>
        storeStates (F := F) i arg8 arg9) := by
  rw [cc0_gla_eq_skeleton]
  rfl

theorem out_all {w : FVec F S256x256 .bf16} {xq xk : Vec F S1x1024x512 .f32} {xv : Vec F S1x1024x1024 .bf16} {xg : Vec F S1x1024x512 .f32}
    {s : Vec F S4x128x256 .f32} {x : Vec F S1x1024x1024 .f32}
    (h : ∀ y : S1x1024x1024.Idx, (y 1).val < 256 * k0_t1_loop.trips → x y = outBlock w xq xk xv xg s y) : x = outBlock w xq xk xv xg s :=
  funext fun y => h y (by
    have h1 : (y 1).val < 1024 := (y 1).isLt
    rw [trips_eq]
    omega)

/-- The values the body computes before its loop. -/
def pre (i : grid0.Coords) : Σ' (arg1 : BitVec 32) (v4 : IVec S256x256 32) (v5 : IVec S256x256 1) (v29 : IVec S256x256 32) (c64_i32_6 : BitVec 32) (v31 : IVec S256x256 32) (v38 : IVec S256x256 32) (v40 : BitVec 32), BitVec 32 :=
  ⟨BitVec.ofNat 32 (i 1).val, iota .tc S256x256 32 [1] iota_S256x256_d1_w32, k0_pay363, k0_pay364, 64#32, k0_pay365, k0_pay366,
    Scalar.extui (Scalar.cmpi .sgt 64#32 0#32), Scalar.extui (Scalar.cmpi .slt 64#32 0#32)⟩

/-- Before the loop at a batch's first point: the states are the given ones. -/
theorem pre_first (hc : cond0_0 i) (E : Set ℕ) (f6 : BufTy.Contents (Elt F) arg6.view.ty) (f9 : BufTy.Contents (Elt F) arg9.view.ty) :
    (iprop((arg6.view.loc (c : Thread nD τ) ↦[arg6.view.set]{fullShare} f6) ∗ (arg9.view.loc (c : Thread nD τ) ↦[arg9.view.set]{fullShare} f9)) : sProp 𝕄)
    ⊢ wp frame (wpE (defs₀ (F := F)) Variants.none (c : Thread nD τ) none) E
        (k0_part42 (F := F) i arg2 harg2 arg3 harg3 arg4 harg4 arg5 harg5 arg6 harg6 arg7 harg7 arg8 harg8 arg9 harg9)
        (fun r => (iprop(⌜r = pre i⌝ ∗ (arg6.view.loc (c : Thread nD τ) ↦[arg6.view.set]{fullShare} f6)
          ∗ ∃ f9', (arg9.view.loc (c : Thread nD τ) ↦[arg9.view.set]{fullShare} f9') ∗ ⌜arg9.view.read (Elt F) f9' = k0_pay362 (arg6.view.read (Elt F) f6)⌝) : sProp 𝕄)) := by
  simp only [k0_part42_eq_skeleton]; unfold k0_part42_skel
  iintro ⟨H6, H9⟩
  sl_exec (disch := sl_exact hc)
  sl_step
  isplitr
  · ipureintro; rfl
  isplitl [H6]; · iexact H6
  iexists _; isplitl [H9]; · iexact H9
  ipureintro
  refine (read_write_whole arg9.view f9 ![0, 0, 0] (fun a => by fin_cases a <;> rfl) inb_S4x128x256_S4x128x256_0_0_0 _).trans ?_
  exact congrArg k0_pay362 (ld_whole4 (arg6.view.read (Elt F) f6))

/-- Before the loop at a batch's second point: the states are those the point before left. -/
theorem pre_second (hc : ¬cond0_0 i) (E : Set ℕ) :
    (iprop(emp) : sProp 𝕄)
    ⊢ wp frame (wpE (defs₀ (F := F)) Variants.none (c : Thread nD τ) none) E
        (k0_part42 (F := F) i arg2 harg2 arg3 harg3 arg4 harg4 arg5 harg5 arg6 harg6 arg7 harg7 arg8 harg8 arg9 harg9)
        (fun r => (iprop(⌜r = pre i⌝) : sProp 𝕄)) := by
  simp only [k0_part42_eq_skeleton]; unfold k0_part42_skel
  iintro H
  sl_exec (disch := sl_exact hc)
  sl_step
  ipureintro; rfl

/-- After the loop at a batch's second point: the states are stored. -/
theorem post_second (hc : cond0_1 i) (E : Set ℕ) (f8 : BufTy.Contents (Elt F) arg8.view.ty) (f9 : BufTy.Contents (Elt F) arg9.view.ty) :
    (iprop((arg8.view.loc (c : Thread nD τ) ↦[arg8.view.set]{fullShare} f8) ∗ (arg9.view.loc (c : Thread nD τ) ↦[arg9.view.set]{fullShare} f9)) : sProp 𝕄)
    ⊢ wp frame (wpE (defs₀ (F := F)) Variants.none (c : Thread nD τ) none) E
        (storeStates (F := F) i arg8 arg9)
        (fun _ => (iprop((arg9.view.loc (c : Thread nD τ) ↦[arg9.view.set]{fullShare} f9)
          ∗ ∃ f8', (arg8.view.loc (c : Thread nD τ) ↦[arg8.view.set]{fullShare} f8') ∗ ⌜arg8.view.read (Elt F) f8' = k0_pay4 (arg9.view.read (Elt F) f9)⌝) : sProp 𝕄)) := by
  unfold storeStates
  iintro ⟨H8, H9⟩
  sl_exec (disch := sl_exact hc)
  sl_step
  isplitl [H9]; · iexact H9
  iexists _; isplitl [H8]; · iexact H8
  ipureintro
  refine (read_write_whole arg8.view f8 ![0, 0, 0, 0] (fun a => by fin_cases a <;> rfl) inb_S1x4x128x256_S1x4x128x256_0_0_0_0 _).trans ?_
  exact congrArg k0_pay4 (ld_whole3 (arg9.view.read (Elt F) f9))

/-- After the loop at a batch's first point: nothing. -/
theorem post_first (hc : ¬cond0_1 i) (E : Set ℕ) :
    (iprop(emp) : sProp 𝕄)
    ⊢ wp frame (wpE (defs₀ (F := F)) Variants.none (c : Thread nD τ) none) E
        (storeStates (F := F) i arg8 arg9)
        (fun _ => (iprop(emp) : sProp 𝕄)) := by
  unfold storeStates
  iintro H
  sl_exec (disch := sl_exact hc)
  sl_step
  iexact H

/-- The body at a batch's first point. -/
theorem run_first (hc0 : cond0_0 i) (hc1 : ¬cond0_1 i)
    (x0 : Vec F S1x1024x512 .f32) (x1 : Vec F S1x1024x512 .f32) (x2 : Vec F S1x1024x1024 .bf16) (x3 : Vec F S1x1024x512 .f32) (x4 : Vec F S1x4x128x256 .f32)
    (xi6 : Vec F S1x4x128x256 .f32) (E : Set ℕ) (K : PUnit → sProp 𝕄) :
    (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ (∃ d, owns (c : Thread nD τ) arg9 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
          ∗ owns (c : Thread nD τ) arg7 fullShare (outBlock sumMask x0 x1 x2 x3 (k0_pay362 x4)) ∗ owns (c : Thread nD τ) arg8 fullShare xi6
          ∗ owns (c : Thread nD τ) arg9 fullShare (stateN sumMask x1 x2 x3 (k0_pay362 x4) 4)) -∗ K ⟨⟩)) : sProp 𝕄)
    ⊢ wp frame (wpE (defs₀ (F := F)) Variants.none c none) E (cc0_gla (F := F) i arg2 harg2 arg3 harg3 arg4 harg4 arg5 harg5 arg6 harg6 arg7 harg7 arg8 harg8 arg9 harg9) K := by
  rw [body_eq]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%ds0, %fs0, -, HS0⟩, Hk⟩
  subst hf0 hf1 hf2 hf3 hf4 hf6
  rw [wp_bind]
  iapply (wp_wand_r Idealize.ShloMosaic.frame (wpE (defs₀ (F := F)) Variants.none (c : Thread nD τ) none) E)
  isplitl [H4 HS0]
  · iapply (pre_first c i arg2 harg2 arg3 harg3 arg4 harg4 arg5 harg5 arg6 harg6 arg7 harg7 arg8 harg8 arg9 harg9 hc0 E f4 fs0)
    isplitl [H4]; · iexact H4
    iexact HS0
  iintro %r ⟨%hr, H4, ⟨%fs1, HS0, %hs⟩⟩
  subst hr
  rw [wp_bind]
  iapply (wp_wand_r Idealize.ShloMosaic.frame (wpE (defs₀ (F := F)) Variants.none (c : Thread nD τ) none) E)
  isplitl [H0 H1 H2 H3 H5 HS0]
  · iapply (loop_run Variants.none c none i arg2 harg2 arg3 harg3 arg4 harg4 arg5 harg5 arg6 harg6 arg7 harg7 arg8 harg8 arg9 harg9 _ _ _ _ _ _ _ _ f0 f1 f2 f3 _ E f5 fs1 hs)
    isplitl [H0]; · iexact H0
    isplitl [H1]; · iexact H1
    isplitl [H2]; · iexact H2
    isplitl [H3]; · iexact H3
    isplitl [H5]; · iexact H5
    iexact HS0
  iintro %_ HI
  unfold Inv
  icases HI with ⟨%f7, %f9, ⟨H0, H1, H2, H3, H5, HS0⟩, %hf⟩
  iapply (wp_wand_r Idealize.ShloMosaic.frame (wpE (defs₀ (F := F)) Variants.none (c : Thread nD τ) none) E)
  isplitr
  · iapply (post_first c i arg8 arg9 hc1 E)
    itrivial
  iintro %_ -
  iapply Hk
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro
    exact out_all hf.2
  isplitl [H6]
  · iexists _; isplitr
    swap; · iexact H6
    ipureintro; rfl
  iexists _; isplitr
  swap; · iexact HS0
  ipureintro
  exact hf.1.trans (congrArg _ trips_eq)

/-- The body at a batch's second point. -/
theorem run_second (hc0 : ¬cond0_0 i) (hc1 : cond0_1 i)
    (x0 : Vec F S1x1024x512 .f32) (x1 : Vec F S1x1024x512 .f32) (x2 : Vec F S1x1024x1024 .bf16) (x3 : Vec F S1x1024x512 .f32) (x4 : Vec F S1x4x128x256 .f32)
    (s : Vec F S4x128x256 .f32) (E : Set ℕ) (K : PUnit → sProp 𝕄) :
    (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare s
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
          ∗ owns (c : Thread nD τ) arg7 fullShare (outBlock sumMask x0 x1 x2 x3 s) ∗ owns (c : Thread nD τ) arg8 fullShare (k0_pay4 (stateN sumMask x1 x2 x3 s 4))
          ∗ owns (c : Thread nD τ) arg9 fullShare (stateN sumMask x1 x2 x3 s 4)) -∗ K ⟨⟩)) : sProp 𝕄)
    ⊢ wp frame (wpE (defs₀ (F := F)) Variants.none c none) E (cc0_gla (F := F) i arg2 harg2 arg3 harg3 arg4 harg4 arg5 harg5 arg6 harg6 arg7 harg7 arg8 harg8 arg9 harg9) K := by
  rw [body_eq]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hs, HS0⟩, Hk⟩
  subst hf0 hf1 hf2 hf3 hf4
  rw [wp_bind]
  iapply (wp_wand_r Idealize.ShloMosaic.frame (wpE (defs₀ (F := F)) Variants.none (c : Thread nD τ) none) E)
  isplitr
  · iapply (pre_second c i arg2 harg2 arg3 harg3 arg4 harg4 arg5 harg5 arg6 harg6 arg7 harg7 arg8 harg8 arg9 harg9 hc0 E)
    itrivial
  iintro %r %hr
  subst hr
  rw [wp_bind]
  iapply (wp_wand_r Idealize.ShloMosaic.frame (wpE (defs₀ (F := F)) Variants.none (c : Thread nD τ) none) E)
  isplitl [H0 H1 H2 H3 H5 HS0]
  · iapply (loop_run Variants.none c none i arg2 harg2 arg3 harg3 arg4 harg4 arg5 harg5 arg6 harg6 arg7 harg7 arg8 harg8 arg9 harg9 _ _ _ _ _ _ _ _ f0 f1 f2 f3 _ E f5 fs0 hs)
    isplitl [H0]; · iexact H0
    isplitl [H1]; · iexact H1
    isplitl [H2]; · iexact H2
    isplitl [H3]; · iexact H3
    isplitl [H5]; · iexact H5
    iexact HS0
  iintro %_ HI
  unfold Inv
  icases HI with ⟨%f7, %f9, ⟨H0, H1, H2, H3, H5, HS0⟩, %hf⟩
  iapply (wp_wand_r Idealize.ShloMosaic.frame (wpE (defs₀ (F := F)) Variants.none (c : Thread nD τ) none) E)
  isplitl [H6 HS0]
  · iapply (post_second c i arg8 arg9 hc1 E f6 f9)
    isplitl [H6]; · iexact H6
    iexact HS0
  iintro %_ ⟨HS0, ⟨%f8, H6, %h8⟩⟩
  iapply Hk
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro
    exact out_all hf.2
  isplitl [H6]
  · iexists _; isplitr
    swap; · iexact H6
    ipureintro
    exact h8.trans (congrArg k0_pay4 (hf.1.trans (congrArg _ trips_eq)))
  iexists _; isplitr
  swap; · iexact HS0
  ipureintro
  exact hf.1.trans (congrArg _ trips_eq)

end Ends

end Cert.Gla

end
-- ==== Proof.GlaMath.lean ====
/- The mathematics of one head of gated linear attention over the extended reals: what one chunk of 64 positions computes from
   its queries, keys, values and gates and from the state before it, and the identities by which the kernel's way of computing it
   agrees. -/
module

public import Idealize.ShloMosaic.Lib.Pointwise

@[expose] public section

set_option maxRecDepth 16384

noncomputable section

namespace Cert.GlaMath

open Idealize.ShloMosaic

/-! ## One chunk -/

/-- The running sums of the gates. -/
def cum (g : Fin 64 → Fin 128 → EReal) (r : Fin 64) (d : Fin 128) : EReal := ∑ t : Fin 64, if t ≤ r then g t d else 0

/-- The score of position `j` for position `i`: nothing when `j` comes later. -/
def score (b q k : Fin 64 → Fin 128 → EReal) (i j : Fin 64) : EReal :=
  if j ≤ i then ∑ d : Fin 128, q i d * k j d * Ideal.exp (b i d - b j d) else 0

/-- The output: what the state before the chunk gives, and what the chunk's own values give. -/
def out (b q k : Fin 64 → Fin 128 → EReal) (v : Fin 64 → Fin 256 → EReal) (s : Fin 128 → Fin 256 → EReal)
    (i : Fin 64) (e : Fin 256) : EReal :=
  (∑ d : Fin 128, q i d * Ideal.exp (b i d) * s d e) + ∑ j : Fin 64, score b q k i j * v j e

/-- The state after the chunk. -/
def next (b k : Fin 64 → Fin 128 → EReal) (v : Fin 64 → Fin 256 → EReal) (s : Fin 128 → Fin 256 → EReal)
    (d : Fin 128) (e : Fin 256) : EReal :=
  Ideal.exp (b 63 d) * s d e + ∑ j : Fin 64, k j d * Ideal.exp (b 63 d - b j d) * v j e

/-! ## Extended reals below infinity -/

theorem add_lt_top {x y : EReal} (hx : x < ⊤) (hy : y < ⊤) : x + y < ⊤ := EReal.add_lt_top hx.ne hy.ne

theorem sum_lt_top {n : ℕ} (f : Fin n → EReal) (h : ∀ t, f t < ⊤) (s : Finset (Fin n)) : ∑ t ∈ s, f t < ⊤ := by
  induction s using Finset.induction_on with
  | empty => simp
  | insert a s ha ih => rw [Finset.sum_insert ha]; exact add_lt_top (h a) ih

theorem sum_eq_bot {n : ℕ} (f : Fin n → EReal) (s : Finset (Fin n)) : ∑ t ∈ s, f t = ⊥ ↔ ∃ t ∈ s, f t = ⊥ := by
  induction s using Finset.induction_on with
  | empty => simp
  | insert a s ha ih => rw [Finset.sum_insert ha, EReal.add_eq_bot_iff, ih]; simp

/-- A number below infinity less itself changes nothing when it is added to that number. -/
theorem add_sub_self {x : EReal} (h : x < ⊤) : x + (x - x) = x := by
  induction x with
  | bot => simp
  | coe r => rw [← EReal.coe_sub, ← EReal.coe_add]; simp
  | top => exact absurd h (lt_irrefl _)

/-- The exponential of a difference splits at a point between: when the middle one is minus infinity, so must the first be. -/
theorem exp_split {x r y : EReal} (hx : x < ⊤) (hr : r < ⊤) (hy : y < ⊤) (h : r = ⊥ → x = ⊥) :
    Ideal.exp (x - r) * Ideal.exp (r - y) = Ideal.exp (x - y) := by
  induction r with
  | top => exact absurd hr (lt_irrefl _)
  | bot => rw [h rfl]; simp
  | coe r =>
    induction x with
    | top => exact absurd hx (lt_irrefl _)
    | bot => simp
    | coe x =>
      induction y with
      | top => exact absurd hy (lt_irrefl _)
      | bot =>
        rw [← EReal.coe_sub, EReal.coe_sub_bot, EReal.coe_sub_bot, Ideal.exp_top, Ideal.exp_coe]
        exact EReal.coe_mul_top_of_pos (Real.exp_pos _)
      | coe y =>
        rw [← EReal.coe_sub, ← EReal.coe_sub, ← EReal.coe_sub, Ideal.exp_coe, Ideal.exp_coe, Ideal.exp_coe, ← EReal.coe_mul,
          ← Real.exp_add]
        congr 2; ring

/-! ## The running sums -/

section Cum
variable {g : Fin 64 → Fin 128 → EReal} (hg : ∀ r d, g r d < ⊤)
include hg

theorem cum_lt_top (r : Fin 64) (d : Fin 128) : cum g r d < ⊤ := by
  refine sum_lt_top _ (fun t => ?_) _
  by_cases h : t ≤ r
  · rw [if_pos h]; exact hg t d
  · rw [if_neg h]; exact EReal.zero_lt_top

omit hg in
theorem cum_eq_bot {r i : Fin 64} {d : Fin 128} (hri : r ≤ i) (h : cum g r d = ⊥) : cum g i d = ⊥ := by
  obtain ⟨t, ht, e⟩ := (sum_eq_bot _ _).1 h
  by_cases htr : t ≤ r
  · rw [if_pos htr] at e
    exact (sum_eq_bot _ _).2 ⟨t, ht, by rw [if_pos (htr.trans hri)]; exact e⟩
  · rw [if_neg htr] at e; exact absurd e (by simp)

/-- The score of a position through the reference row of a block. -/
theorem score_split (q k : Fin 64 → Fin 128 → EReal) {i j r : Fin 64} (hri : r ≤ i) (hji : j ≤ i) :
    (∑ d : Fin 128, q i d * Ideal.exp (cum g i d - cum g r d) * (k j d * Ideal.exp (cum g r d - cum g j d)))
      = score (cum g) q k i j := by
  rw [score, if_pos hji]
  refine Finset.sum_congr rfl fun d _ => ?_
  rw [mul_mul_mul_comm, exp_split (cum_lt_top hg i d) (cum_lt_top hg r d) (cum_lt_top hg j d) (cum_eq_bot hri)]

end Cum

/-! ## Sums over parts -/

/-- A sum over 256 positions that one chunk of 64 alone contributes to. -/
theorem sum_chunk (f : Fin 256 → EReal) (j : Fin 4) (h : ∀ t : Fin 256, t.val / 64 ≠ j.val → f t = 0) :
    ∑ t : Fin 256, f t = ∑ t : Fin 64, f ⟨64 * j.val + t.val, by omega⟩ := by
  rw [← (finProdFinEquiv : Fin 4 × Fin 64 ≃ Fin 256).sum_comp, Fintype.sum_prod_type, Finset.sum_eq_single j]
  · refine Finset.sum_congr rfl fun t _ => congrArg f (Fin.ext ?_)
    simp only [finProdFinEquiv_apply_val]; omega
  · intro i _ hi
    refine Finset.sum_eq_zero fun t _ => h _ ?_
    simp only [finProdFinEquiv_apply_val]
    have := Fin.val_ne_of_ne hi
    omega
  · simp

/-- A sum over 512 positions that one part of 128 alone contributes to. -/
theorem sum_part (f : Fin 512 → EReal) (n : Fin 4) (h : ∀ t : Fin 512, t.val / 128 ≠ n.val → f t = 0) :
    ∑ t : Fin 512, f t = ∑ t : Fin 128, f ⟨128 * n.val + t.val, by omega⟩ := by
  rw [← (finProdFinEquiv : Fin 4 × Fin 128 ≃ Fin 512).sum_comp, Fintype.sum_prod_type, Finset.sum_eq_single n]
  · refine Finset.sum_congr rfl fun t _ => congrArg f (Fin.ext ?_)
    simp only [finProdFinEquiv_apply_val]; omega
  · intro i _ hi
    refine Finset.sum_eq_zero fun t _ => h _ ?_
    simp only [finProdFinEquiv_apply_val]
    have := Fin.val_ne_of_ne hi
    omega
  · simp

/-- A sum over 128 positions of which the last 64 contribute nothing. -/
theorem sum_low (f : Fin 128 → EReal) (h : ∀ t : Fin 128, 64 ≤ t.val → f t = 0) :
    ∑ t : Fin 128, f t = ∑ t : Fin 64, f ⟨t.val, by omega⟩ := by
  rw [show (∑ t : Fin 128, f t) = ∑ t : Fin (64 + 64), f t from rfl, Fin.sum_univ_add]
  rw [Finset.sum_eq_zero (s := Finset.univ) (f := fun i : Fin 64 => f (Fin.natAdd 64 i)) (fun t _ => h _ (by simp)), add_zero]
  rfl

/-- A sum over 256 positions as that over the first 128 and that over the first 64 of the others, the last 64 contributing nothing. -/
theorem sum_both (f : Fin 256 → EReal) (h : ∀ t : Fin 256, 192 ≤ t.val → f t = 0) :
    ∑ t : Fin 256, f t = (∑ t : Fin 128, f ⟨t.val, by omega⟩) + ∑ t : Fin 64, f ⟨128 + t.val, by omega⟩ := by
  rw [show (∑ t : Fin 256, f t) = ∑ t : Fin (128 + 128), f t from rfl, Fin.sum_univ_add]
  refine congrArg₂ (· + ·) rfl ?_
  exact sum_low (fun t => f ⟨128 + t.val, by omega⟩) (fun t ht => h _ (by simp; omega))

/-! ## One batch: chunk after chunk -/

/-- Row `r` of chunk `n` among a batch's 2048 rows. -/
def rowAt (n : ℕ) (r : Fin 64) : Fin 2048 := ⟨(64 * n + r.val) % 2048, Nat.mod_lt _ (by decide)⟩

/-- Column `d` of head `h` among the 512 columns of queries, keys and gates. -/
def colK (h : Fin 4) (d : Fin 128) : Fin 512 := ⟨128 * h.val + d.val, by omega⟩

/-- Column `e` of head `h` among the 1024 columns of values and outputs. -/
def colV (h : Fin 4) (e : Fin 256) : Fin 1024 := ⟨256 * h.val + e.val, by omega⟩

/-- The queries, keys or gates of head `h` of chunk `n`. -/
def chunkK (x : Fin 2048 → Fin 512 → EReal) (h : Fin 4) (n : ℕ) (r : Fin 64) (d : Fin 128) : EReal := x (rowAt n r) (colK h d)

/-- The values of head `h` of chunk `n`. -/
def chunkV (x : Fin 2048 → Fin 1024 → EReal) (h : Fin 4) (n : ℕ) (r : Fin 64) (e : Fin 256) : EReal := x (rowAt n r) (colV h e)

/-- The state of head `h` before chunk `n`. -/
def state (k g : Fin 2048 → Fin 512 → EReal) (v : Fin 2048 → Fin 1024 → EReal) (h : Fin 4) : ℕ → Fin 128 → Fin 256 → EReal
  | 0 => fun _ _ => 0
  | n + 1 => next (cum (chunkK g h n)) (chunkK k h n) (chunkV v h n) (state k g v h n)

/-- The output of head `h` of chunk `n`. -/
def output (q k g : Fin 2048 → Fin 512 → EReal) (v : Fin 2048 → Fin 1024 → EReal) (h : Fin 4) (n : ℕ) : Fin 64 → Fin 256 → EReal :=
  out (cum (chunkK g h n)) (chunkK q h n) (chunkK k h n) (chunkV v h n) (state k g v h n)

end Cert.GlaMath

end
-- ==== Proof.GlaKernel.lean ====
/- What the gated linear attention kernel computes in one head of one chunk, entry by entry. -/
module

public import proofs.«01_k».proof.Proof.GlaRun
public import proofs.«01_k».proof.Proof.GlaMath
public import Idealize.ShloMosaic.Lib.Pipeline.ValueKit

@[expose] public section

set_option maxRecDepth 16384

noncomputable section

namespace Cert.Gla

open Idealize.ShloMosaic Idealize.ShloMosaic.TcCoe Idealize.SL.Sem
open Cert.KernelIdeal Cert.KernelIdeal.Gen Cert.GlaMath

/-! ## The operands -/

/-- Row `r` of chunk `j` of trip `k`, among the 1024 rows of a block. -/
def rowOf (k : Fin k0_t1_loop.trips) (j : Fin 4) (r : Fin 64) : Fin 1024 :=
  ⟨256 * k.val + 64 * j.val + r.val, by have hk : k.val < 4 := lt_of_lt_of_eq k.isLt trips_eq; omega⟩

theorem castK_at (v : FVec Ideal S1x64x128 .f32) (r : Fin 64) (d : Fin 128) :
    shapeCast S64x128 v shapeCasts_S1x64x128_S64x128 (ix2 r d) = v (ix3 0 r d) := by
  pointwise []

theorem rowsK_at (x : Vec Ideal S1x1024x512 .f32) (k : Fin k0_t1_loop.trips) (j h : Fin 4) (r : Fin 64) (d : Fin 128) :
    rowsK x k j h (ix2 r d) = x (ix3 0 (rowOf k j r) ⟨128 * h.val + d.val, by omega⟩) := by
  refine (castK_at _ r d).trans (congrArg x (funext fun a => Fin.ext ?_))
  refine (emb_unit (offK_inb k j h) (ix3 0 r d) a).trans ?_
  rw [congrFun (offK_eq k j h) a]
  match a with
  | 0 => rfl
  | 1 => rfl
  | 2 => rfl

/-- The values of a chunk with the zeros below them. -/
theorem castV_at (v : FVec Ideal S1x64x256 .bf16) (j : Fin 128) (e : Fin 256) :
    concatenate S128x256 0 [⟨S64x256, shapeCast S64x256 v shapeCasts_S1x64x256_S64x256⟩,
        ⟨S64x256, broadcast S64x256 (Scalar.ofBits .bf16 0x0000#16)⟩] concatenates_S64x256_S64x256_S128x256_d0 (ix2 j e)
      = if h : j.val < 64 then v (ix3 0 ⟨j.val, h⟩ e) else 0 := by
  pointwise []

theorem rowsV_at (x : Vec Ideal S1x1024x1024 .bf16) (k : Fin k0_t1_loop.trips) (j h : Fin 4) (r : Fin 64) (e : Fin 256) :
    rowsV x k j h (ix2 ⟨r.val, by omega⟩ e) = x (ix3 0 (rowOf k j r) ⟨256 * h.val + e.val, by omega⟩) := by
  refine (castV_at _ _ e).trans ?_
  rw [dif_pos r.isLt]
  refine congrArg x (funext fun a => Fin.ext ?_)
  refine (emb_unit (offV_inb k j h) (ix3 0 r e) a).trans ?_
  rw [congrFun (offV_eq k j h) a]
  match a with
  | 0 => rfl
  | 1 => rfl
  | 2 => rfl

theorem rowsV_zero (x : Vec Ideal S1x1024x1024 .bf16) (k : Fin k0_t1_loop.trips) (j h : Fin 4) (r : Fin 128) (e : Fin 256)
    (hr : 64 ≤ r.val) : rowsV x k j h (ix2 r e) = 0 :=
  (castV_at _ _ e).trans (dif_neg (by omega))

theorem castS_at (v : FVec Ideal S1x128x256 .f32) (d : Fin 128) (e : Fin 256) :
    shapeCast S128x256 v shapeCasts_S1x128x256_S128x256 (ix2 d e) = v (ix3 0 d e) := by
  pointwise []

theorem stateOf_at (s : Vec Ideal S4x128x256 .f32) (h : Fin 4) (d : Fin 128) (e : Fin 256) :
    stateOf s h (ix2 d e) = s (ix3 h d e) := by
  refine (castS_at _ d e).trans (congrArg s (funext fun a => Fin.ext ?_))
  refine (emb_unit (offS_inb h) (ix3 0 d e) a).trans ?_
  match a with
  | 0 => rfl
  | 1 => exact Nat.zero_add _
  | 2 => exact Nat.zero_add _

/-! ## The mask of the running sums -/

theorem quotient (i : Fin 256) :
    Scalar.select
        (IntOp.andi
          (IntOp.cmpi CmpIPredicate.ne
            (IntOp.subi (BitVec.setWidth 32 (IntOp.cmpi CmpIPredicate.sgt (BitVec.ofNat 32 i.val) 0#32))
              (BitVec.setWidth 32 (IntOp.cmpi CmpIPredicate.slt (BitVec.ofNat 32 i.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 i.val) 64#32) 0#32))
        (IntOp.subi (IntOp.divsi ArithUnit.vector (BitVec.ofNat 32 i.val) 64#32) 1#32)
        (IntOp.divsi ArithUnit.vector (BitVec.ofNat 32 i.val) 64#32)
      = BitVec.ofNat 32 (i.val / 64) := by
  revert i; decide +kernel

theorem sumMask_at (i t : Fin 256) :
    (sumMask : FVec Ideal S256x256 .bf16) (ix2 i t) = if t ≤ i ∧ t.val / 64 = i.val / 64 then 1 else 0 := by
  pointwise [sumMask, k0_pay1, k0_pay363, k0_pay364, k0_pay365, k0_pay366]
  rw [quotient i, quotient t, WordCmp.cmpi_sge_ofNat (by omega) (by omega), WordCmp.cmpi_eq_ofNat (by omega) (by omega)]
  by_cases h1 : t.val ≤ i.val
  · by_cases h2 : i.val / 64 = t.val / 64
    · rw [if_pos ⟨h1, h2.symm⟩, decide_eq_true h1, decide_eq_true h2]; rfl
    · rw [if_neg (fun h => h2 h.2.symm), decide_eq_true h1, decide_eq_false h2]; rfl
  · rw [if_neg (fun h => h1 h.1), decide_eq_false h1]
    by_cases h2 : i.val / 64 = t.val / 64
    · rw [decide_eq_true h2]; rfl
    · rw [decide_eq_false h2]; rfl

theorem sums_at (x : Vec Ideal S1x1024x512 .f32) (hx : ∀ r c, x (ix3 0 r c) < ⊤) (k : Fin k0_t1_loop.trips) (j : Fin 4) (r : Fin 64) (c : Fin 512) :
    sums sumMask x k (ix2 ⟨64 * j.val + r.val, by omega⟩ c)
      = ∑ t : Fin 64, if t ≤ r then x (ix3 0 (rowOf k j t) c) else 0 := by
  have e (t : Fin 256) : (View.ld x (Rect.unit (k0_off1 k) S1x256x512.size (k0_off1_inb k))) (ix3 0 t c)
      = x (ix3 0 ⟨256 * k.val + t.val, by have hk : k.val < 4 := lt_of_lt_of_eq k.isLt trips_eq; omega⟩ c) := by
    refine congrArg x (funext fun a => Fin.ext ?_)
    refine (emb_unit (k0_off1_inb k) (ix3 0 t c) a).trans ?_
    rw [congrFun (k0_off1_eq k) a]
    match a with
    | 0 => rfl
    | 1 => rfl
    | 2 => exact Nat.zero_add _
  unfold sums
  generalize View.ld x (Rect.unit (k0_off1 k) S1x256x512.size (k0_off1_inb k)) = z at e ⊢
  have hz (t : Fin 256) : z (ix3 0 t c) < ⊤ := by rw [e]; exact hx _ _
  pointwise [k0_pay5, sumMask_at]
  rw [← Finset.sum_add_distrib]
  refine (Finset.sum_congr rfl fun t _ => ?_).trans (b := ∑ t : Fin 256, if t.val ≤ 64 * j.val + r.val ∧ t.val / 64 = j.val then z (ix3 0 t c) else 0) ?_
  · by_cases h : t.val ≤ 64 * j.val + r.val ∧ t.val / 64 = j.val
    · rw [if_pos h, if_pos ⟨h.1, by omega⟩, one_mul, one_mul]; exact add_sub_self (hz t)
    · rw [if_neg h, if_neg (fun h' => h ⟨h'.1, by have := h'.2; omega⟩), zero_mul, zero_mul, add_zero]
  · rw [sum_chunk _ j (fun t ht => if_neg (fun h => ht h.2))]
    refine Finset.sum_congr rfl fun t _ => ?_
    by_cases h : t ≤ r
    · have h' : t.val ≤ r.val := h
      rw [if_pos h, if_pos (show 64 * j.val + t.val ≤ 64 * j.val + r.val ∧ (64 * j.val + t.val) / 64 = j.val by omega), e]
      exact congrArg (fun i => x (ix3 0 i c)) (Fin.ext (by simp only [rowOf]; omega))
    · have h' : ¬ t.val ≤ r.val := h
      rw [if_neg h, if_neg (show ¬ (64 * j.val + t.val ≤ 64 * j.val + r.val ∧ (64 * j.val + t.val) / 64 = j.val) by omega)]

theorem rowsB_at (x : Vec Ideal S1x1024x512 .f32) (hx : ∀ r c, x (ix3 0 r c) < ⊤) (k : Fin k0_t1_loop.trips) (j h : Fin 4) (r : Fin 64) (d : Fin 128) :
    rowsB sumMask x k j h (ix2 r d)
      = cum (fun t d => x (ix3 0 (rowOf k j t) ⟨128 * h.val + d.val, by omega⟩)) r d := by
  refine Eq.trans (congrArg (sums sumMask x k) (funext fun a => Fin.ext ?_))
    (sums_at x hx k j r ⟨128 * h.val + d.val, by omega⟩)
  match a with
  | 0 => rfl
  | 1 => rfl

/-! ## The scores -/

/-- The queries of the rows from a block on. -/
theorem query0_at (b q : FVec Ideal S64x128 .f32) (i : Fin 64) (d : Fin 128) :
    query0 b q (ix2 i d) = q (ix2 i d) * Ideal.exp (b (ix2 i d) - b (ix2 0 d)) := by
  pointwise [query0, row0]

theorem query16_at (b q : FVec Ideal S64x128 .f32) (i : Fin 64) (d : Fin 128) (hi : 16 ≤ i.val) :
    query16 b q (ix2 i d) = q (ix2 i d) * Ideal.exp (b (ix2 i d) - b (ix2 16 d)) := by
  have e (p : 16 + (i.val - 16) < 64) : (⟨16 + (i.val - 16), p⟩ : Fin 64) = i := Fin.ext (by simp only; omega)
  pointwise [query16, row16]
  rw [dif_neg (show ¬ i.val < 16 by omega), e]

theorem query32_at (b q : FVec Ideal S64x128 .f32) (i : Fin 64) (d : Fin 128) (hi : 32 ≤ i.val) :
    query32 b q (ix2 i d) = q (ix2 i d) * Ideal.exp (b (ix2 i d) - b (ix2 32 d)) := by
  have e (p : 32 + (i.val - 32) < 64) : (⟨32 + (i.val - 32), p⟩ : Fin 64) = i := Fin.ext (by simp only; omega)
  pointwise [query32, row32]
  rw [dif_neg (show ¬ i.val < 32 by omega), e]

theorem query48_at (b q : FVec Ideal S64x128 .f32) (i : Fin 64) (d : Fin 128) (hi : 48 ≤ i.val) :
    query48 b q (ix2 i d) = q (ix2 i d) * Ideal.exp (b (ix2 i d) - b (ix2 48 d)) := by
  have e (p : 48 + (i.val - 48) < 64) : (⟨48 + (i.val - 48), p⟩ : Fin 64) = i := Fin.ext (by simp only; omega)
  pointwise [query48, row48]
  rw [dif_neg (show ¬ i.val < 48 by omega), e]

/-- The keys of the rows of a block. -/
theorem key0_at (b k : FVec Ideal S64x128 .f32) (j : Fin 64) (d : Fin 128) (hj : j.val < 16) :
    key0 b k (ix2 ⟨j.val, by omega⟩ d) = k (ix2 j d) * Ideal.exp (b (ix2 0 d) - b (ix2 j d)) := by
  pointwise [key0, keys, row0]
  rw [dif_pos hj]

/-- The keys outside a block are zero. -/
theorem key0_zero (b k : FVec Ideal S64x128 .f32) (j d : Fin 128) (hj : ¬ j.val < 16) : key0 b k (ix2 j d) = 0 := by
  pointwise [key0, keys, row0]
  rw [dif_neg hj]

theorem key16_at (b k : FVec Ideal S64x128 .f32) (j : Fin 64) (d : Fin 128) (hj : 16 ≤ j.val ∧ j.val < 32) :
    key16 b k (ix2 ⟨j.val, by omega⟩ d) = k (ix2 j d) * Ideal.exp (b (ix2 16 d) - b (ix2 j d)) := by
  have e (p : 16 + (j.val - 16) < 64) : (⟨16 + (j.val - 16), p⟩ : Fin 64) = j := Fin.ext (by simp only; omega)
  pointwise [key16, keys, row16]
  rw [dif_neg (show ¬ j.val < 16 by omega), dif_pos (show j.val - 16 < 16 by omega), e]

theorem key16_zero (b k : FVec Ideal S64x128 .f32) (j d : Fin 128) (hj : ¬ (16 ≤ j.val ∧ j.val < 32)) :
    key16 b k (ix2 j d) = 0 := by
  pointwise [key16, keys, row16]
  by_cases h1 : j.val < 16
  · rw [dif_pos h1]
  · rw [dif_neg h1, dif_neg (show ¬ j.val - 16 < 16 by omega)]

theorem key32_at (b k : FVec Ideal S64x128 .f32) (j : Fin 64) (d : Fin 128) (hj : 32 ≤ j.val ∧ j.val < 48) :
    key32 b k (ix2 ⟨j.val, by omega⟩ d) = k (ix2 j d) * Ideal.exp (b (ix2 32 d) - b (ix2 j d)) := by
  have e (p : 32 + (j.val - 32) < 64) : (⟨32 + (j.val - 32), p⟩ : Fin 64) = j := Fin.ext (by simp only; omega)
  pointwise [key32, keys, row32]
  rw [dif_neg (show ¬ j.val < 32 by omega), dif_pos (show j.val - 32 < 16 by omega), e]

theorem key32_zero (b k : FVec Ideal S64x128 .f32) (j d : Fin 128) (hj : ¬ (32 ≤ j.val ∧ j.val < 48)) :
    key32 b k (ix2 j d) = 0 := by
  pointwise [key32, keys, row32]
  by_cases h1 : j.val < 32
  · rw [dif_pos h1]
  · rw [dif_neg h1, dif_neg (show ¬ j.val - 32 < 16 by omega)]

theorem key48_at (b k : FVec Ideal S64x128 .f32) (j : Fin 64) (d : Fin 128) (hj : 48 ≤ j.val ∧ j.val < 64) :
    key48 b k (ix2 ⟨j.val, by omega⟩ d) = k (ix2 j d) * Ideal.exp (b (ix2 48 d) - b (ix2 j d)) := by
  have e (p : 48 + (j.val - 48) < 64) : (⟨48 + (j.val - 48), p⟩ : Fin 64) = j := Fin.ext (by simp only; omega)
  pointwise [key48, keys, row48]
  rw [dif_neg (show ¬ j.val < 48 by omega), dif_pos (show j.val - 48 < 16 by omega), e]

theorem key48_zero (b k : FVec Ideal S64x128 .f32) (j d : Fin 128) (hj : ¬ (48 ≤ j.val ∧ j.val < 64)) :
    key48 b k (ix2 j d) = 0 := by
  pointwise [key48, keys, row48]
  by_cases h1 : j.val < 48
  · rw [dif_pos h1]
  · rw [dif_neg h1, dif_neg (show ¬ j.val - 48 < 16 by omega)]

/-- The four scalings of the queries. -/
def queryOf (b q : FVec Ideal S64x128 .f32) : Fin 4 → FVec Ideal S64x128 .bf16 := ![query0 b q, query16 b q, query32 b q, query48 b q]

/-- The four blocks of keys. -/
def keyOf (b k : FVec Ideal S64x128 .f32) : Fin 4 → FVec Ideal S128x128 .bf16 := ![key0 b k, key16 b k, key32 b k, key48 b k]

/-- The reference row of a block. -/
def refRow (n : Fin 4) : Fin 64 := ⟨16 * n.val, by omega⟩

theorem queryOf_at (b q : FVec Ideal S64x128 .f32) (n : Fin 4) (i : Fin 64) (d : Fin 128) (hi : refRow n ≤ i) :
    queryOf b q n (ix2 i d) = q (ix2 i d) * Ideal.exp (b (ix2 i d) - b (ix2 (refRow n) d)) := by
  match n with
  | 0 => exact query0_at b q i d
  | 1 => exact query16_at b q i d hi
  | 2 => exact query32_at b q i d hi
  | 3 => exact query48_at b q i d hi

theorem keyOf_at (b k : FVec Ideal S64x128 .f32) (n : Fin 4) (j : Fin 64) (d : Fin 128) (hj : j.val / 16 = n.val) :
    keyOf b k n (ix2 ⟨j.val, by omega⟩ d) = k (ix2 j d) * Ideal.exp (b (ix2 (refRow n) d) - b (ix2 j d)) := by
  match n with
  | 0 => exact key0_at b k j d (by simp only [Fin.val_zero] at hj; omega)
  | 1 => exact key16_at b k j d (by have : j.val / 16 = 1 := hj; omega)
  | 2 => exact key32_at b k j d (by have : j.val / 16 = 2 := hj; omega)
  | 3 => exact key48_at b k j d (by have : j.val / 16 = 3 := hj; omega)

theorem keyOf_zero (b k : FVec Ideal S64x128 .f32) (n : Fin 4) (j d : Fin 128) (hj : j.val / 16 ≠ n.val) :
    keyOf b k n (ix2 j d) = 0 := by
  match n with
  | 0 => exact key0_zero b k j d (by have : j.val / 16 ≠ 0 := hj; omega)
  | 1 => exact key16_zero b k j d (by have : j.val / 16 ≠ 1 := hj; omega)
  | 2 => exact key32_zero b k j d (by have : j.val / 16 ≠ 2 := hj; omega)
  | 3 => exact key48_zero b k j d (by have : j.val / 16 ≠ 3 := hj; omega)

/-- Four arrays side by side, read in one of them. -/
theorem beside (x : Fin 4 → Fin 128 → EReal) (t : Fin 512) :
    (if h : t.val < 128 then x 0 ⟨t.val, h⟩
      else if h : t.val - 128 < 128 then x 1 ⟨t.val - 128, h⟩
      else if h : t.val - 128 - 128 < 128 then x 2 ⟨t.val - 128 - 128, h⟩
      else x 3 ⟨t.val - 128 - 128 - 128, by omega⟩) = x ⟨t.val / 128, by omega⟩ ⟨t.val % 128, by omega⟩ := by
  by_cases h0 : t.val < 128
  · rw [dif_pos h0]
    exact congrArg₂ x (Fin.ext (by show 0 = t.val / 128; omega)) (Fin.ext (by show t.val = t.val % 128; omega))
  rw [dif_neg h0]
  by_cases h1 : t.val - 128 < 128
  · rw [dif_pos h1]
    exact congrArg₂ x (Fin.ext (by show 1 = t.val / 128; omega)) (Fin.ext (by show t.val - 128 = t.val % 128; omega))
  rw [dif_neg h1]
  by_cases h2 : t.val - 128 - 128 < 128
  · rw [dif_pos h2]
    exact congrArg₂ x (Fin.ext (by show 2 = t.val / 128; omega)) (Fin.ext (by show t.val - 128 - 128 = t.val % 128; omega))
  rw [dif_neg h2]
  exact congrArg₂ x (Fin.ext (by show 3 = t.val / 128; omega)) (Fin.ext (by show t.val - 128 - 128 - 128 = t.val % 128; omega))

theorem scores_sum (b q k : FVec Ideal S64x128 .f32) (i : Fin 64) (j : Fin 128) :
    scores b q k (ix2 i j) = ∑ t : Fin 512, queryOf b q ⟨t.val / 128, by omega⟩ (ix2 i ⟨t.val % 128, by omega⟩)
      * keyOf b k ⟨t.val / 128, by omega⟩ (ix2 j ⟨t.val % 128, by omega⟩) := by
  pointwise [scores]
  exact Finset.sum_congr rfl fun t _ => congrArg₂ (· * ·) (beside (fun n d => queryOf b q n (ix2 i d)) t)
    (beside (fun n d => keyOf b k n (ix2 j d)) t)

/-- The scores of the positions that do not come later. -/
theorem scores_at (b q k : FVec Ideal S64x128 .f32) (g : Fin 64 → Fin 128 → EReal) (hg : ∀ r d, g r d < ⊤)
    (hb : ∀ r d, b (ix2 r d) = cum g r d) (i j : Fin 64) (hji : j ≤ i) :
    scores b q k (ix2 i ⟨j.val, by omega⟩) = score (cum g) (fun r d => q (ix2 r d)) (fun r d => k (ix2 r d)) i j := by
  have hji' : j.val ≤ i.val := hji
  have hr : refRow ⟨j.val / 16, by omega⟩ ≤ i := by show 16 * (j.val / 16) ≤ i.val; omega
  rw [scores_sum, sum_part _ ⟨j.val / 16, by omega⟩
    (fun t ht => by rw [keyOf_zero b k _ _ _ (fun h => ht h.symm), mul_zero])]
  rw [← score_split hg (fun r d => q (ix2 r d)) (fun r d => k (ix2 r d)) hr hji]
  refine Finset.sum_congr rfl fun d _ => ?_
  have en (p : (128 * (j.val / 16) + d.val) / 128 < 4) : (⟨(128 * (j.val / 16) + d.val) / 128, p⟩ : Fin 4) = ⟨j.val / 16, by omega⟩ :=
    Fin.ext (by simp only; omega)
  have ed (p : (128 * (j.val / 16) + d.val) % 128 < 128) : (⟨(128 * (j.val / 16) + d.val) % 128, p⟩ : Fin 128) = d :=
    Fin.ext (by simp only; omega)
  simp only [en, ed]
  rw [queryOf_at b q _ i d hr, keyOf_at b k _ j d rfl, hb, hb, hb]

/-! ## The output and the state -/

section Values
variable (b q k : FVec Ideal S64x128 .f32) (v : FVec Ideal S128x256 .bf16) (s : FVec Ideal S128x256 .f32)
  (g : Fin 64 → Fin 128 → EReal) (hg : ∀ r d, g r d < ⊤) (hb : ∀ r d, b (ix2 r d) = cum g r d)
  (hv : ∀ (j : Fin 128) (e : Fin 256), 64 ≤ j.val → v (ix2 j e) = 0)
include hb

include hg hv in

theorem outU_at (i : Fin 64) (e : Fin 256) :
    outU b q k v s (ix3 0 i e)
      = out (cum g) (fun r d => q (ix2 r d)) (fun r d => k (ix2 r d)) (fun r e => v (ix2 ⟨r.val, by omega⟩ e)) (fun d e => s (ix2 d e)) i e := by
  pointwise [outU, lhs, k0_pay2]
  refine congrArg₂ (· + ·) (Finset.sum_congr rfl fun d _ => by rw [hb]) ?_
  rw [sum_low _ (fun t ht => by rw [hv t e ht, mul_zero]; exact ite_self _)]
  refine Finset.sum_congr rfl fun j _ => ?_
  rw [WordCmp.cmpi_sge_ofNat (by omega) (by omega)]
  by_cases h : j.val ≤ i.val
  · rw [decide_eq_true h, scores_at b q k g hg hb i j h]; rfl
  · rw [decide_eq_false h, score, if_neg (show ¬ j ≤ i from h), zero_mul]; rfl

theorem stepU_at (d : Fin 128) (e : Fin 256) :
    stepU b k v s (ix2 d e)
      = next (cum g) (fun r d => k (ix2 r d)) (fun r e => v (ix2 ⟨r.val, by omega⟩ e)) (fun d e => s (ix2 d e)) d e := by
  pointwise [stepU, decayU, updU, row63]
  have z : ∑ x : Fin 64, (0 : EReal) * v (ix2 ⟨64 + x.val, by omega⟩ e) = 0 :=
    Finset.sum_eq_zero fun x _ => zero_mul _
  refine congrArg₂ (· + ·) ?_ ((congrArg₂ (· + ·) (Finset.sum_congr rfl fun j _ => by rw [hb, hb]) z).trans (add_zero _))
  have e0 : (if h : e.val < 128 then Ideal.exp (b (ix2 63 d)) else Ideal.exp (b (ix2 63 d))) = Ideal.exp (cum g 63 d) := by
    rw [hb]; exact ite_self _
  exact (congrArg (s (ix2 d e) * ·) e0).trans (mul_comm _ _)

end Values

end Cert.Gla

end
-- ==== Proof.GlaChain.lean ====
/- The gated linear attention kernel over half a batch: sixteen chunks, each head's state handed from one to the next. -/
module

public import proofs.«01_k».proof.Proof.GlaKernel

@[expose] public section

set_option maxRecDepth 16384

noncomputable section

namespace Cert.Gla

open Idealize.ShloMosaic Idealize.ShloMosaic.TcCoe Idealize.SL.Sem
open Cert.KernelIdeal Cert.KernelIdeal.Gen Cert.GlaMath

/-- Row `r` of half `i` of a batch. -/
def halfRow (i : Fin 2) (r : Fin 1024) : Fin 2048 := ⟨1024 * i.val + r.val, by omega⟩

section Half
variable (xq xk xg : Vec Ideal S1x1024x512 .f32) (xv : Vec Ideal S1x1024x1024 .bf16)
  (q k g : Fin 2048 → Fin 512 → EReal) (v : Fin 2048 → Fin 1024 → EReal) (i : Fin 2)
  (hq : ∀ r c, xq (ix3 0 r c) = q (halfRow i r) c) (hk : ∀ r c, xk (ix3 0 r c) = k (halfRow i r) c)
  (hg : ∀ r c, xg (ix3 0 r c) = g (halfRow i r) c) (hv : ∀ r c, xv (ix3 0 r c) = v (halfRow i r) c)
  (below : ∀ r c, g r c < ⊤)

/-- The chunk of the batch that chunk `j` of trip `u` is. -/
def chunkNo (i : Fin 2) (u : Fin k0_t1_loop.trips) (j : Fin 4) : ℕ := 16 * i.val + 4 * u.val + j.val

theorem row_chunk (i : Fin 2) (u : Fin k0_t1_loop.trips) (j : Fin 4) (r : Fin 64) :
    halfRow i (rowOf u j r) = rowAt (chunkNo i u j) r := by
  have hu : u.val < 4 := lt_of_lt_of_eq u.isLt trips_eq
  refine Fin.ext ?_
  show 1024 * i.val + (256 * u.val + 64 * j.val + r.val) = (64 * (16 * i.val + 4 * u.val + j.val) + r.val) % 2048
  omega

include hk in
theorem rowsK_chunk (u : Fin k0_t1_loop.trips) (j h : Fin 4) (r : Fin 64) (d : Fin 128) :
    rowsK xk u j h (ix2 r d) = chunkK k h (chunkNo i u j) r d := by
  rw [rowsK_at, hk, row_chunk]; rfl

include hv in
theorem rowsV_chunk (u : Fin k0_t1_loop.trips) (j h : Fin 4) (r : Fin 64) (e : Fin 256) :
    rowsV xv u j h (ix2 ⟨r.val, by omega⟩ e) = chunkV v h (chunkNo i u j) r e := by
  rw [rowsV_at, hv, row_chunk]; rfl

include hg below in
theorem rowsB_chunk (u : Fin k0_t1_loop.trips) (j h : Fin 4) (r : Fin 64) (d : Fin 128) :
    rowsB sumMask xg u j h (ix2 r d) = cum (chunkK g h (chunkNo i u j)) r d := by
  rw [rowsB_at xg (fun r c => by rw [hg]; exact below _ _)]
  refine congrArg (fun f => cum f r d) (funext fun t => funext fun d => ?_)
  rw [hg, row_chunk]; rfl

include hk hg hv below

/-- One chunk's step of one head's state. -/
theorem step_chunk (u : Fin k0_t1_loop.trips) (j h : Fin 4) (s : FVec Ideal S128x256 .f32)
    (hs : ∀ d e, s (ix2 d e) = state k g v h (chunkNo i u j) d e) (d : Fin 128) (e : Fin 256) :
    step sumMask xk xv xg u j h s (ix2 d e) = state k g v h (chunkNo i u j + 1) d e := by
  unfold step
  rw [stepU_at _ _ _ _ _ (rowsB_chunk xg g i hg below u j h)]
  simp only [rowsK_chunk xk k i hk, rowsV_chunk xv v i hv, hs]
  rfl

/-- The states before each chunk of a trip. -/
theorem stateAt_chunk (u : Fin k0_t1_loop.trips) (h : Fin 4) (s : Vec Ideal S4x128x256 .f32)
    (hs : ∀ d e, s (ix3 h d e) = state k g v h (chunkNo i u 0) d e) (j : Fin 4) (d : Fin 128) (e : Fin 256) :
    stateAt sumMask xk xv xg u s h j (ix2 d e) = state k g v h (chunkNo i u j) d e := by
  have h0 : ∀ d e, stateAt sumMask xk xv xg u s h 0 (ix2 d e) = state k g v h (chunkNo i u 0) d e :=
    fun d e => (stateOf_at s h d e).trans (hs d e)
  have h1 : ∀ d e, stateAt sumMask xk xv xg u s h 1 (ix2 d e) = state k g v h (chunkNo i u 1) d e :=
    step_chunk xk xg xv k g v i hk hg hv below u 0 h _ h0
  have h2 : ∀ d e, stateAt sumMask xk xv xg u s h 2 (ix2 d e) = state k g v h (chunkNo i u 2) d e :=
    step_chunk xk xg xv k g v i hk hg hv below u 1 h _ h1
  have h3 : ∀ d e, stateAt sumMask xk xv xg u s h 3 (ix2 d e) = state k g v h (chunkNo i u 3) d e :=
    step_chunk xk xg xv k g v i hk hg hv below u 2 h _ h2
  match j with
  | 0 => exact h0 d e
  | 1 => exact h1 d e
  | 2 => exact h2 d e
  | 3 => exact h3 d e

/-- The states before each trip. -/
theorem stateN_chunk (s : Vec Ideal S4x128x256 .f32) (hs : ∀ h d e, s (ix3 h d e) = state k g v h (16 * i.val) d e)
    (n : ℕ) (hn : n ≤ 4) (h : Fin 4) (d : Fin 128) (e : Fin 256) :
    stateN sumMask xk xv xg s n (ix3 h d e) = state k g v h (16 * i.val + 4 * n) d e := by
  induction n generalizing h d e with
  | zero => exact hs h d e
  | succ n ih =>
    have hn' : n < k0_t1_loop.trips := by rw [trips_eq]; omega
    refine (congrFun (stateN_succ sumMask xk xv xg s ⟨n, hn'⟩) (ix3 h d e)).trans ?_
    refine (nextState_eq sumMask xk xv xg ⟨n, hn'⟩ _ h d e _ rfl rfl rfl).trans ?_
    exact step_chunk xk xg xv k g v i hk hg hv below ⟨n, hn'⟩ 3 h _
      (stateAt_chunk xk xg xv k g v i hk hg hv below ⟨n, hn'⟩ h _ (fun d e => ih (by omega) h d e) 3) d e

include hq in
/-- The output block, at row `r` of chunk `j` of trip `u` and column `e` of head `h`. -/
theorem outBlock_chunk (s : Vec Ideal S4x128x256 .f32) (hs : ∀ h d e, s (ix3 h d e) = state k g v h (16 * i.val) d e)
    (u : Fin k0_t1_loop.trips) (j h : Fin 4) (r : Fin 64) (e : Fin 256) :
    outBlock sumMask xq xk xv xg s (ix3 0 (rowOf u j r) (colV h e)) = output q k g v h (chunkNo i u j) r e := by
  have hu : u.val ≤ 4 := le_of_lt (lt_of_lt_of_eq u.isLt trips_eq)
  rw [outBlock_eq sumMask xq xk xv xg s u j h r e _ rfl rfl]
  unfold outAt
  rw [outU_at _ _ _ _ _ _ (fun r d => below _ _) (rowsB_chunk xg g i hg below u j h) (fun j' e' hj => rowsV_zero xv u j h j' e' hj)]
  simp only [rowsK_chunk xq q i hq, rowsK_chunk xk k i hk, rowsV_chunk xv v i hv,
    stateAt_chunk xk xg xv k g v i hk hg hv below u h _ (stateN_chunk xk xg xv k g v i hk hg hv below s hs u.val hu h)]
  rfl

end Half

end Cert.Gla

end
-- ==== Proof.GlaFrame.lean ====
/- The gated linear attention kernel's run, from its body's runs at the grid points: what its arrays hold at the end. -/
module

public import proofs.«01_k».proof.Proof.GlaRun

@[expose] public section

set_option maxRecDepth 16384

noncomputable section

namespace Cert.Gla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The states the body leaves at point `t` when it finds `s`. -/
def after (c : Dev nD) (t : Fin cfg0.N) (s : Vec F S4x128x256 .f32) : Vec F S4x128x256 .f32 :=
  stateN sumMask (iblk m c 1 t) (iblk m c 2 t) (iblk m c 3 t) s 4

/-- The states the loop begins with at point `n`: the given ones at a batch's first point, those the point before left at its second. -/
def enters (c : Dev nD) : (n : ℕ) → n < cfg0.N → Vec F S4x128x256 .f32
  | 0, hn => k0_pay362 (iblk m c 4 ⟨0, hn⟩)
  | n + 1, hn => if (n + 1) % 2 = 0 then k0_pay362 (iblk m c 4 ⟨n + 1, hn⟩) else after m c ⟨n, Nat.lt_of_succ_lt hn⟩ (enters c n (Nat.lt_of_succ_lt hn))

theorem enters_first (c : Dev nD) (t : Fin cfg0.N) (h : t.val % 2 = 0) : enters m c t.val t.isLt = k0_pay362 (iblk m c 4 t) := by
  obtain ⟨n, hn⟩ := t
  cases n with
  | zero => rfl
  | succ n => exact if_pos h

/-- The states after point `n`. -/
def leaves (c : Dev nD) (n : ℕ) (hn : n < cfg0.N) : Vec F S4x128x256 .f32 := after m c ⟨n, hn⟩ (enters m c n hn)

theorem enters_second (c : Dev nD) (t : Fin cfg0.N) (h : t.val % 2 = 1) (hn : t.val - 1 < cfg0.N) :
    enters m c t.val t.isLt = leaves m c (t.val - 1) hn := by
  obtain ⟨n, hn⟩ := t
  cases n with
  | zero => exact absurd h (by simp)
  | succ n => exact if_neg (by simpa using h)

/-- What is held between points: the states' buffer, at what the point before left in it. -/
def Between (c : Dev nD) : (n : ℕ) → n ≤ cfg0.N → sProp 𝕄
  | 0, _ => Pipeline.ΦA spec0 c
  | n + 1, hn => iprop(owns (c : Thread nD τ) scM0_0 fullShare (leaves m c n hn) ∗ (∃ r, prngReg c r))

theorem between_pos (c : Dev nD) (n : ℕ) (h : n ≤ cfg0.N) (hz : n ≠ 0) :
    Between m c n h = iprop(owns (c : Thread nD τ) scM0_0 fullShare (leaves m c (n - 1) (by omega)) ∗ (∃ r, prngReg c r)) := by
  cases n with
  | zero => exact absurd rfl hz
  | succ n => rfl

/-- Between points the states' buffer holds something. -/
theorem between_any (c : Dev nD) (n : ℕ) (h : n ≤ cfg0.N) : Between m c n h ⊢ Pipeline.ΦA spec0 c := by
  by_cases hz : n = 0
  · subst hz; exact .rfl
  rw [between_pos m c n h hz, PhiA0_eq]
  iintro ⟨H, Hg⟩
  isplitl [H]
  · iexists _; iexact H
  iexact Hg

/-- The arrays and what the body leaves in each window's buffer. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock sumMask (iblk m c 0 t) (iblk m c 1 t) (iblk m c 2 t) (iblk m c 3 t) (enters m c t.val t.isLt)
    | ⟨6, _⟩ => k0_pay4 (leaves m c t.val t.isLt)
  Φ t := Between m c t.val (Nat.le_of_lt_succ t.isLt)
  q _ := fullShare
  owed _ := 0

theorem arrays (c : Dev nD) (w : Fin cfg0.W) : (dats m 0 c).A w = V m c (Pipeline.arrRef spec0 w) := by
  dsimp only [dats]

theorem phi_at (c : Dev nD) (t : Fin cfg0.N) : (dats m 0 c).Φ t.castSucc = Between m c t.val (Nat.le_of_lt t.isLt) := by
  dsimp only [dats]; exact Pipeline.Dat.Φ_castSucc (Between m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) :
    (dats m 0 c).after 5 t = outBlock sumMask (iblk m c 0 t) (iblk m c 1 t) (iblk m c 2 t) (iblk m c 3 t) (enters m c t.val t.isLt) := by dsimp only [dats]
theorem after_6 (c : Dev nD) (t : Fin cfg0.N) : (dats m 0 c).after 6 t = k0_pay4 (leaves m c t.val t.isLt) := by dsimp only [dats]

/-- What the body is given at point `t`. -/
def Given (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What the body leaves at point `t`. -/
def Left (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t)

theorem given_eq (c : Dev nD) (t : Fin cfg0.N) : Given m c t =
    iprop(Between m c t.val (Nat.le_of_lt t.isLt) ∗ (dats m 0 c).owesAt () t.castSucc
    ∗ (∃ d : Vec F S1x1024x512 .f32, owns (c : Thread nD τ) (ms0_0 t) fullShare (iblk m c 0 t))
    ∗ (∃ d : Vec F S1x1024x512 .f32, owns (c : Thread nD τ) (ms0_1 t) fullShare (iblk m c 1 t))
    ∗ (∃ d : Vec F S1x1024x1024 .bf16, owns (c : Thread nD τ) (ms0_2 t) fullShare (iblk m c 2 t))
    ∗ (∃ d : Vec F S1x1024x512 .f32, owns (c : Thread nD τ) (ms0_3 t) fullShare (iblk m c 3 t))
    ∗ (∃ d : Vec F S1x4x128x256 .f32, owns (c : Thread nD τ) (ms0_4 t) fullShare (iblk m c 4 t))
    ∗ (∃ d, owns (c : Thread nD τ) (ms0_5 t) fullShare ((dats m 0 c).before 5 t d))
    ∗ (∃ d, owns (c : Thread nD τ) (ms0_6 t) fullShare ((dats m 0 c).before 6 t d))) := by
  unfold Given
  rw [phi_at]
  simp only [before0_0_of m (dats m 0 c) (arrays m c 0) (after_0 m c), before0_1_of m (dats m 0 c) (arrays m c 1) (after_1 m c),
    before0_2_of m (dats m 0 c) (arrays m c 2) (after_2 m c), before0_3_of m (dats m 0 c) (arrays m c 3) (after_3 m c),
    before0_4_of m (dats m 0 c) (arrays m c 4) (after_4 m c)]
  rfl

theorem left_eq (c : Dev nD) (t : Fin cfg0.N) : Left m c t =
    iprop((owns (c : Thread nD τ) scM0_0 fullShare (leaves m c t.val t.isLt) ∗ (∃ r, prngReg c r)) ∗ (dats m 0 c).owesAt () t.castSucc
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (outBlock sumMask (iblk m c 0 t) (iblk m c 1 t) (iblk m c 2 t) (iblk m c 3 t) (enters m c t.val t.isLt))
    ∗ (dats m 0 c).leavesExact 6 t) := by
  rw [← after_5, ← after_0, ← after_1, ← after_2, ← after_3, ← after_4]
  unfold Left
  rw [show (dats m 0 c).leavesExact 0 t = owns (c : Thread nD τ) (ms0_0 t) fullShare ((dats m 0 c).after 0 t) from by
      unfold Dat.leavesExact; rw [liveAt0_0 t],
    show (dats m 0 c).leavesExact 1 t = owns (c : Thread nD τ) (ms0_1 t) fullShare ((dats m 0 c).after 1 t) from by
      unfold Dat.leavesExact; rw [liveAt0_1 t],
    show (dats m 0 c).leavesExact 2 t = owns (c : Thread nD τ) (ms0_2 t) fullShare ((dats m 0 c).after 2 t) from by
      unfold Dat.leavesExact; rw [liveAt0_2 t],
    show (dats m 0 c).leavesExact 3 t = owns (c : Thread nD τ) (ms0_3 t) fullShare ((dats m 0 c).after 3 t) from by
      unfold Dat.leavesExact; rw [liveAt0_3 t],
    show (dats m 0 c).leavesExact 4 t = owns (c : Thread nD τ) (ms0_4 t) fullShare ((dats m 0 c).after 4 t) from by
      unfold Dat.leavesExact; rw [liveAt0_4 t],
    show (dats m 0 c).leavesExact 5 t = owns (c : Thread nD τ) (ms0_5 t) fullShare ((dats m 0 c).after 5 t) from by
      unfold Dat.leavesExact; rw [liveAt0_5 t]]
  rfl

theorem body_first (c : Dev nD) (t : Fin cfg0.N) (h0 : t.val % 2 = 0) :
    Given m c t ⊢ wp frame (wpE (defs₀ (F := F)) Variants.none c none) Set.univ (bodyAt0 t) (fun _ => Left m c t) := by
  have hc0 : cond0_0 (grid0.coords t) := (hcond0_0 t).mpr h0
  have hc1 : ¬cond0_1 (grid0.coords t) := fun h => by have := (hcond0_1 t).mp h; omega
  rw [given_eq, left_eq]
  rw [Dat.leavesExact_idle (dats m 0 c) 6 t (idleAt0_6_A t hc0 hc1) (noFlush0_6_A t hc0 hc1)]
  unfold leaves after bodyAt0
  rw [enters_first m c t h0]
  refine (show _ ⊢ _ from sep_mono (between_any m c t.val (Nat.le_of_lt t.isLt)) .rfl).trans ?_
  rw [PhiA0_eq]
  iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
  iapply (run_first c (grid0.coords t) _ _ _ _ _ _ _ _ _ _ _ _ _ _ _ _ hc0 hc1 (iblk m c 0 t) (iblk m c 1 t) (iblk m c 2 t) (iblk m c 3 t) (iblk m c 4 t) _ Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [HS]; · iexact HS
  iintro ⟨H0, H1, H2, H3, H4, H5, H6, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

theorem body_second (c : Dev nD) (t : Fin cfg0.N) (h1 : t.val % 2 = 1) :
    Given m c t ⊢ wp frame (wpE (defs₀ (F := F)) Variants.none c none) Set.univ (bodyAt0 t) (fun _ => Left m c t) := by
  have hc0 : ¬cond0_0 (grid0.coords t) := fun h => by have := (hcond0_0 t).mp h; omega
  have hc1 : cond0_1 (grid0.coords t) := (hcond0_1 t).mpr h1
  have hz : t.val ≠ 0 := by omega
  rw [given_eq, left_eq]
  rw [show (dats m 0 c).leavesExact 6 t = owns (c : Thread nD τ) (ms0_6 t) fullShare ((dats m 0 c).after 6 t) from by
      unfold Dat.leavesExact; rw [liveAt0_6_B t hc0 hc1], after_6]
  rw [between_pos m c _ _ hz, ← enters_second m c t h1]
  unfold leaves after bodyAt0
  iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
  iapply (run_second c (grid0.coords t) _ _ _ _ _ _ _ _ _ _ _ _ _ _ _ _ hc0 hc1 (iblk m c 0 t) (iblk m c 1 t) (iblk m c 2 t) (iblk m c 3 t) (iblk m c 4 t) _ Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS]; · iexact HS
  iintro ⟨H0, H1, H2, H3, H4, H5, H6, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_holds (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  refine triple_restated ?_ rfl .rfl fun _ => .rfl
  exact (Nat.mod_two_eq_zero_or_one t.val).elim (body_first m c t) (body_second m c t)

theorem begins (c : Dev nD) : Pipeline.ΦA spec0 c ⊢ (dats m 0 c).Φ 0 := by
  rw [show (dats m 0 c).Φ 0 = Pipeline.ΦA spec0 c from rfl]

theorem ends (c : Dev nD) : (dats m 0 c).Φ (Fin.last cfg0.N) ⊢ Pipeline.ΦA spec0 c := by
  rw [show (dats m 0 c).Φ (Fin.last cfg0.N) = Between m c (Fin.last cfg0.N).val (Nat.le_of_lt_succ (Fin.last cfg0.N).isLt) from rfl]
  exact between_any m c _ _

set_option backward.isDefEq.respectTransparency.types false in
/-- Every run ends, with the arrays at what the points' blocks make of them and every semaphore at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_holds m c).loose) (hshare := fun c => (dats m 0 c).share_full fun _ => rfl)
    (howed := fun _ _ => rfl) (V := V m) (hmain := hmain m Variants.none) (hA := arrays m) (hin := begins m) (hout := ends m)

theorem run_arrays : θ_run defs (onTc (τ := τ) (main (F := F))) (s₀ m ρ) (Pipeline.FramePost cfgs (dats m) 0 (V m)) :=
  (θ_run defs _ _).mono (fun _ h => h.1) (run_quiescent m ρ)

/-- Every run ends with the arguments unchanged and every semaphore at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (arrays m) (run_arrays m ρ)) ((θ_run defs _ _).mono (fun _ h => h.2) (run_quiescent m ρ))

end Cert.Gla

end
-- ==== Proof.GlaValue.lean ====
/- What the gated linear attention kernel's two result arrays hold at the end, as functions of its arguments. -/
module

public import proofs.«01_k».proof.Proof.GlaChain
public import proofs.«01_k».proof.Proof.GlaFrame

@[expose] public section

set_option maxRecDepth 16384

noncomputable section

namespace Cert.Gla

open Idealize.ShloMosaic Idealize.ShloMosaic.TcCoe Idealize.SL.Sem
open Cert.KernelIdeal Cert.KernelIdeal.Gen Cert.GlaMath

/-- The queries, keys or gates of batch `b`. -/
def batchK (x : FVec Ideal S16x2048x512 .f32) (b : Fin 16) : Fin 2048 → Fin 512 → EReal := fun r c => x (ix3 b r c)

/-- The values of batch `b`. -/
def batchV (x : FVec Ideal S16x2048x1024 .bf16) (b : Fin 16) : Fin 2048 → Fin 1024 → EReal := fun r c => x (ix3 b r c)

/-- The state of every head of every batch before chunk `n`. -/
def states (k : FVec Ideal S16x2048x512 .f32) (v : FVec Ideal S16x2048x1024 .bf16) (g : FVec Ideal S16x2048x512 .f32) (n : ℕ) :
    FVec Ideal S16x4x128x256 .f32 := fun y =>
  state (batchK k (y 0)) (batchK g (y 0)) (batchV v (y 0)) (y 1) n (y 2) (y 3)

/-- The output of every head of every batch. -/
def outputs (q k : FVec Ideal S16x2048x512 .f32) (v : FVec Ideal S16x2048x1024 .bf16) (g : FVec Ideal S16x2048x512 .f32) :
    FVec Ideal S16x2048x1024 .f32 := fun y =>
  have h1 : (y 1).val < 2048 := (y 1).isLt
  have h2 : (y 2).val < 1024 := (y 2).isLt
  output (batchK q (y 0)) (batchK k (y 0)) (batchK g (y 0)) (batchV v (y 0)) ⟨(y 2).val / 256, by omega⟩ ((y 1).val / 64)
    ⟨(y 1).val % 64, by omega⟩ ⟨(y 2).val % 256, by omega⟩

/-- Where each window's block of point `t` lies: half `t % 2` of batch `t / 2`. -/
theorem idx : ∀ t : Fin cfg0.N, win0_0.index t = ![t.val / 2, t.val % 2, 0] ∧ win0_1.index t = ![t.val / 2, t.val % 2, 0]
    ∧ win0_2.index t = ![t.val / 2, t.val % 2, 0] ∧ win0_3.index t = ![t.val / 2, t.val % 2, 0]
    ∧ win0_4.index t = ![t.val / 2, 0, 0, 0] ∧ win0_5.index t = ![t.val / 2, t.val % 2, 0]
    ∧ win0_6.index t = ![t.val / 2, 0, 0, 0] :=
  (by decide +kernel : ∀ t : Fin grid0.N, _)

variable (m : (ℓ : Loc nD τ sig) → Buf (Elt Ideal) ℓ)

/-- The batch and the half of point `t`. -/
def batchOf (t : Fin cfg0.N) : Fin 16 := ⟨t.val / 2, by have : t.val < 32 := t.isLt; omega⟩
def halfOf (t : Fin cfg0.N) : Fin 2 := ⟨t.val % 2, by omega⟩

section Blocks
variable (c : Dev nD) (t : Fin cfg0.N)

theorem blkQ (r : Fin 1024) (j : Fin 512) : (show FVec Ideal S1x1024x512 .f32 from iblk m c 0 t) (ix3 0 r j)
    = batchK (m ((c : Thread nD τ).loc main_arg0)) (batchOf t) (halfRow (halfOf t) r) j := by
  show _ = (show FVec Ideal S16x2048x512 .f32 from m ((c : Thread nD τ).loc main_arg0)) (ix3 (batchOf t) (halfRow (halfOf t) r) j)
  blk_simp [iblk]; entry_read; pointwise; blk_ext [idx t, batchOf, halfOf, halfRow]

theorem blkK (r : Fin 1024) (j : Fin 512) : (show FVec Ideal S1x1024x512 .f32 from iblk m c 1 t) (ix3 0 r j)
    = batchK (m ((c : Thread nD τ).loc main_arg1)) (batchOf t) (halfRow (halfOf t) r) j := by
  show _ = (show FVec Ideal S16x2048x512 .f32 from m ((c : Thread nD τ).loc main_arg1)) (ix3 (batchOf t) (halfRow (halfOf t) r) j)
  blk_simp [iblk]; entry_read; pointwise; blk_ext [idx t, batchOf, halfOf, halfRow]

theorem blkV (r : Fin 1024) (j : Fin 1024) : (show FVec Ideal S1x1024x1024 .bf16 from iblk m c 2 t) (ix3 0 r j)
    = batchV (m ((c : Thread nD τ).loc main_arg2)) (batchOf t) (halfRow (halfOf t) r) j := by
  show _ = (show FVec Ideal S16x2048x1024 .bf16 from m ((c : Thread nD τ).loc main_arg2)) (ix3 (batchOf t) (halfRow (halfOf t) r) j)
  blk_simp [iblk]; entry_read; pointwise; blk_ext [idx t, batchOf, halfOf, halfRow]

theorem blkG (r : Fin 1024) (j : Fin 512) : (show FVec Ideal S1x1024x512 .f32 from iblk m c 3 t) (ix3 0 r j)
    = batchK (m ((c : Thread nD τ).loc main_arg3)) (batchOf t) (halfRow (halfOf t) r) j := by
  show _ = (show FVec Ideal S16x2048x512 .f32 from m ((c : Thread nD τ).loc main_arg3)) (ix3 (batchOf t) (halfRow (halfOf t) r) j)
  blk_simp [iblk]; entry_read; pointwise; blk_ext [idx t, batchOf, halfOf, halfRow]

/-- The first states are zero. -/
theorem blkS (h : Fin 4) (d : Fin 128) (e : Fin 256) : k0_pay362 (F := Ideal) (iblk m c 4 t) (ix3 h d e) = 0 := by
  have z : ∀ y, (show FVec Ideal S1x4x128x256 .f32 from iblk m c 4 t) y = 0 := by
    intro y
    blk_simp [iblk]; entry_read; pointwise
  generalize iblk m c 4 t = x at z ⊢
  pointwise [k0_pay362]
  exact z _

end Blocks

section Arrays
variable (c : Dev nD) (below : ∀ y, (show FVec Ideal S16x2048x512 .f32 from m ((c : Thread nD τ).loc main_arg3)) y < ⊤)
include below

/-- The states the loop begins with at a point. -/
theorem enters_state : ∀ (n : ℕ) (hn : n < cfg0.N) (h : Fin 4) (d : Fin 128) (e : Fin 256), enters (F := Ideal) m c n hn (ix3 h d e)
    = state (batchK (m ((c : Thread nD τ).loc main_arg1)) (batchOf ⟨n, hn⟩)) (batchK (m ((c : Thread nD τ).loc main_arg3)) (batchOf ⟨n, hn⟩))
        (batchV (m ((c : Thread nD τ).loc main_arg2)) (batchOf ⟨n, hn⟩)) h (16 * (halfOf ⟨n, hn⟩).val) d e := by
  intro n hn h d e
  have first (n : ℕ) (hn : n < cfg0.N) (hz : n % 2 = 0) (h : Fin 4) (d : Fin 128) (e : Fin 256) : enters (F := Ideal) m c n hn (ix3 h d e)
    = state (batchK (m ((c : Thread nD τ).loc main_arg1)) (batchOf ⟨n, hn⟩)) (batchK (m ((c : Thread nD τ).loc main_arg3)) (batchOf ⟨n, hn⟩))
        (batchV (m ((c : Thread nD τ).loc main_arg2)) (batchOf ⟨n, hn⟩)) h (16 * (halfOf ⟨n, hn⟩).val) d e := by
    rw [show 16 * (halfOf ⟨n, hn⟩).val = 0 by show 16 * (n % 2) = 0; omega]
    rw [show enters (F := Ideal) m c n hn = k0_pay362 (iblk m c 4 ⟨n, hn⟩) from enters_first m c ⟨n, hn⟩ hz]
    exact blkS m c ⟨n, hn⟩ h d e
  by_cases hz : n % 2 = 0
  · exact first n hn hz h d e
  · have hm : n - 1 < cfg0.N := Nat.lt_of_le_of_lt (Nat.sub_le n 1) hn
    rw [show enters (F := Ideal) m c n hn = leaves m c (n - 1) hm from enters_second m c ⟨n, hn⟩ (by show n % 2 = 1; omega) hm]
    have hb : batchOf ⟨n - 1, hm⟩ = batchOf ⟨n, hn⟩ := Fin.ext (by show (n - 1) / 2 = n / 2; omega)
    have hh : 16 * (halfOf ⟨n, hn⟩).val = 16 * (halfOf ⟨n - 1, hm⟩).val + 4 * 4 := by
      show 16 * (n % 2) = 16 * ((n - 1) % 2) + 4 * 4; omega
    rw [hh, ← hb]
    exact stateN_chunk _ _ _ _ _ _ (halfOf ⟨n - 1, hm⟩) (blkK m c ⟨n - 1, hm⟩) (blkG m c ⟨n - 1, hm⟩) (blkV m c ⟨n - 1, hm⟩)
      (fun r j => below _) _ (first (n - 1) hm (by omega)) 4 le_rfl h d e

/-- The states after a batch's second point. -/
theorem leaves_state (n : ℕ) (hn : n < cfg0.N) (hz : n % 2 = 1) (h : Fin 4) (d : Fin 128) (e : Fin 256) :
    leaves (F := Ideal) m c n hn (ix3 h d e)
      = state (batchK (m ((c : Thread nD τ).loc main_arg1)) (batchOf ⟨n, hn⟩)) (batchK (m ((c : Thread nD τ).loc main_arg3)) (batchOf ⟨n, hn⟩))
          (batchV (m ((c : Thread nD τ).loc main_arg2)) (batchOf ⟨n, hn⟩)) h 32 d e := by
  rw [show 32 = 16 * (halfOf ⟨n, hn⟩).val + 4 * 4 by show 32 = 16 * (n % 2) + 4 * 4; omega]
  exact stateN_chunk _ _ _ _ _ _ (halfOf ⟨n, hn⟩) (blkK m c ⟨n, hn⟩) (blkG m c ⟨n, hn⟩) (blkV m c ⟨n, hn⟩)
    (fun r j => below _) _ (enters_state m c below n hn) 4 le_rfl h d e

/-- The array of the states at the end. -/
theorem final_states : (dats m 0 c).arrAt 6 (cfgs 0).N
    = states (m ((c : Thread nD τ).loc main_arg1)) (m ((c : Thread nD τ).loc main_arg2)) (m ((c : Thread nD τ).loc main_arg3)) 32 := by
  refine (dats m 0 c).arrAt_eq_of_covers 6 _ (by decide +kernel) fun t hf y => ?_
  have odd : t.val % 2 = 1 := (by decide +kernel : ∀ t : Fin cfg0.N, (cfg0.win 6).flush t = true → t.val % 2 = 1) t hf
  have ht : t.val < 32 := t.isLt
  blk_simp
  rw [after_6]
  idx_vars y
  have e : ((View.whole main_v1_1).slice (win0_6.rect t)).emb (ix4 y0 y1 y2 y3) = ix4 (batchOf t) y1 y2 y3 := by
    blk_ext [idx t, batchOf]
  rw [e]
  refine Eq.trans ?_ (leaves_state m c below t.val t.isLt odd y1 y2 y3)
  generalize leaves (F := Ideal) m c t.val t.isLt = z
  pointwise [k0_pay4]

/-- The array of the outputs at the end. -/
theorem final_outputs : (dats m 0 c).arrAt 5 (cfgs 0).N
    = outputs (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t _ y => ?_
  have ht : t.val < 32 := t.isLt
  blk_simp
  rw [after_5]
  idx_vars y
  have e : ((View.whole main_v1_0).slice (win0_5.rect t)).emb (ix3 y0 y1 y2) = ix3 (batchOf t) (halfRow (halfOf t) y1) y2 := by
    blk_ext [idx t, batchOf, halfOf, halfRow]
  rw [e]
  have hu : y1.val / 256 < k0_t1_loop.trips := by rw [trips_eq]; omega
  have e0 : y0 = 0 := Fin.ext (by omega)
  have e1 : y1 = rowOf ⟨y1.val / 256, hu⟩ ⟨y1.val % 256 / 64, by omega⟩ ⟨y1.val % 64, by omega⟩ :=
    Fin.ext (by show y1.val = 256 * (y1.val / 256) + 64 * (y1.val % 256 / 64) + y1.val % 64; omega)
  have e2 : y2 = colV ⟨y2.val / 256, by omega⟩ ⟨y2.val % 256, by omega⟩ :=
    Fin.ext (by show y2.val = 256 * (y2.val / 256) + y2.val % 256; omega)
  refine Eq.trans (congrArg _ (congrArg₂ (fun a b => ix3 a b y2) e0 e1)) ?_
  refine Eq.trans (congrArg (fun b => outBlock (F := Ideal) sumMask (iblk m c 0 t) (iblk m c 1 t) (iblk m c 2 t) (iblk m c 3 t) (enters m c t.val t.isLt)
    (ix3 0 (rowOf ⟨y1.val / 256, hu⟩ ⟨y1.val % 256 / 64, by omega⟩ ⟨y1.val % 64, by omega⟩) b)) e2) ?_
  refine (outBlock_chunk _ _ _ _ _ _ _ _ (halfOf t) (blkQ m c t) (blkK m c t) (blkG m c t) (blkV m c t) (fun r j => below _) _
    (enters_state m c below t.val t.isLt) _ _ _ _ _).trans ?_
  have en : (chunkNo (halfOf t) ⟨y1.val / 256, hu⟩ ⟨y1.val % 256 / 64, by omega⟩) = (halfRow (halfOf t) y1).val / 64 := by
    show 16 * (t.val % 2) + 4 * (y1.val / 256) + y1.val % 256 / 64 = (1024 * (t.val % 2) + y1.val) / 64; omega
  have er : (⟨y1.val % 64, by omega⟩ : Fin 64) = ⟨(halfRow (halfOf t) y1).val % 64, by omega⟩ :=
    Fin.ext (by show y1.val % 64 = (1024 * (t.val % 2) + y1.val) % 64; omega)
  rw [en, er]
  rfl

end Arrays

end Cert.Gla

end
-- ==== Proof.GlaReference.lean ====
/- The reference's gated linear attention, entry by entry: what one trip of its loop makes of the carried arrays. -/
module

public import proofs.«01_k».proof.Proof.Gen.ReferenceIdeal.Run
public import proofs.«01_k».proof.Proof.GlaValue
public import Idealize.ShloMosaic.Lib.DynamicIndex

@[expose] public section

set_option maxRecDepth 16384

noncomputable section

namespace Cert.GlaReference

open Idealize.ShloMosaic Idealize.ShloMosaic.TcCoe Idealize.ShloMosaic.StableHlo Cert.ReferenceIdeal Cert.ReferenceIdeal.Gen Cert.ReferenceIdeal.Value Cert.GlaMath

/-! ## The running sum -/

/-- A position of the window is its third coordinate: the other three have one value. -/
def third : (⟨4, ![1, 1, 64, 1]⟩ : Shape).Idx ≃ Fin 64 where
  toFun w := w 2
  invFun t := ix4 0 0 t 0
  left_inv w := by
    refine funext fun a => Fin.ext ?_
    have w0 : (w 0).val < 1 := (w 0).isLt
    have w1 : (w 1).val < 1 := (w 1).isLt
    have w3 : (w 3).val < 1 := (w 3).isLt
    fin_cases a
    · show 0 = (w 0).val; omega
    · show 0 = (w 1).val; omega
    · rfl
    · show 0 = (w 3).val; omega
  right_inv _ := rfl

/-- The running sum along the third axis, written as a window sum. -/
theorem cumsum_at (x : FVec Ideal S16x4x64x128 .f32) (z : FVec Ideal S_ .f32) (hz : ∀ y, z y = 0)
    (hw : S16x4x64x128.ReduceWindows ![1, 1, 64, 1] ![1, 1, 1, 1] ![0, 0, 63, 0] ![0, 0, 0, 0] S16x4x64x128) (hu : 0 < S_.numel)
    (b : Fin 16) (h : Fin 4) (r : Fin 64) (d : Fin 128) :
    Host.reduceWindowAdd (φ := .f32) ![1, 1, 64, 1] ![1, 1, 1, 1] ![0, 0, 63, 0] ![0, 0, 0, 0] x z hw hu (ix4 b h r d)
      = ∑ t : Fin 64, if t ≤ r then x (ix4 b h t d) else 0 := by
  have fold : ∀ (n : ℕ) (f : Fin n → EReal) (v : EReal), (List.finRange n).foldl (fun s i => s + f i) v = v + ∑ i, f i := by
    intro n f v
    rw [← List.sum_ofFn, List.ofFn_eq_map]
    generalize List.finRange n = l
    induction l generalizing v with
    | nil => simp
    | cons a l ih => simp [ih, add_assoc]
  show Host.reduceWindow (· + ·) ![1, 1, 64, 1] ![1, 1, 1, 1] ![0, 0, 63, 0] ![0, 0, 0, 0] x (fun _ : (⟨0, ![]⟩ : Shape).Idx => z (Shape.Idx.first hu)) hw (by decide) (ix4 b h r d) = _
  unfold Host.reduceWindow
  rw [fold, hz, zero_add]
  refine Fintype.sum_equiv (((⟨4, ![1, 1, 64, 1]⟩ : Shape).rowMajor.symm.trans third).trans (Equiv.addRight (r + 1))) _ _ fun i => ?_
  let w : (⟨4, ![1, 1, 64, 1]⟩ : Shape).Idx := (⟨4, ![1, 1, 64, 1]⟩ : Shape).rowMajor.symm i
  show _ = if third w + (r + 1) ≤ r then x (ix4 b h (third w + (r + 1)) d) else 0
  have w0 : (w 0).val < 1 := (w 0).isLt
  have w1 : (w 1).val < 1 := (w 1).isLt
  have w2 : (w 2).val < 64 := (w 2).isLt
  have w3 : (w 3).val < 1 := (w 3).isLt
  have hr := r.isLt
  have hval : (third w + (r + 1)).val = ((w 2).val + (r.val + 1) % 64) % 64 := by
    rw [Fin.val_add, Fin.val_add]; rfl
  by_cases hc : 63 ≤ r.val + (w 2).val
  · rw [dif_pos, if_pos]
    · refine congrArg x (funext fun a => Fin.ext ?_)
      fin_cases a
      · show b.val * 1 + (w 0).val - 0 = b.val; omega
      · show h.val * 1 + (w 1).val - 0 = h.val; omega
      · show r.val * 1 + (w 2).val - 63 = (third w + (r + 1)).val; omega
      · show d.val * 1 + (w 3).val - 0 = d.val; omega
    · rw [Fin.le_def]; omega
    · intro a
      have hb := b.isLt
      have hh := h.isLt
      have hd := d.isLt
      fin_cases a
      · show 0 ≤ b.val * 1 + (w 0).val ∧ b.val * 1 + (w 0).val - 0 < 16; omega
      · show 0 ≤ h.val * 1 + (w 1).val ∧ h.val * 1 + (w 1).val - 0 < 4; omega
      · show 63 ≤ r.val * 1 + (w 2).val ∧ r.val * 1 + (w 2).val - 63 < 64; omega
      · show 0 ≤ d.val * 1 + (w 3).val ∧ d.val * 1 + (w 3).val - 0 < 128; omega
  · rw [dif_neg, if_neg]
    · rw [Fin.le_def]; omega
    · intro ha
      have h2 : 63 ≤ r.val * 1 + (w 2).val := (ha 2).1
      omega

/-! ## The slices of one trip -/

theorem slices_at (n : Fin 32) (w : ℕ) : (⟨5, ![32, 16, 4, 64, w]⟩ : Shape).Slices ![n.val, 0, 0, 0, 0] ⟨5, ![1, 16, 4, 64, w]⟩ := by
  refine ⟨rfl, fun a => ?_⟩
  have := n.isLt
  fin_cases a
  · show n.val + 1 ≤ 32; omega
  · exact (Nat.zero_add _).le
  · exact (Nat.zero_add _).le
  · exact (Nat.zero_add _).le
  · exact (Nat.zero_add _).le

theorem clamp_at (n : Fin 32) : ∀ a : Fin 5, (min (max (((![n.val, 0, 0, 0, 0] : Fin 5 → ℕ) a : ℕ) : ℤ) 0)
    ((S32x16x4x64x256.size a - S1x16x4x64x256.size a : ℕ) : ℤ)).toNat = (![n.val, 0, 0, 0, 0] : Fin 5 → ℕ) a := by
  intro a
  have := n.isLt
  fin_cases a
  · show (min (max ((n.val : ℕ) : ℤ) 0) ((32 - 1 : ℕ) : ℤ)).toNat = n.val; omega
  · rfl
  · rfl
  · rfl
  · rfl

theorem sliceK_at (x : FVec Ideal S32x16x4x64x128 .f32) (s : Fin 5 → ℤ) (n : Fin 32) (hs : ∀ a, s a = ((![n.val, 0, 0, 0, 0] : Fin 5 → ℕ) a : ℤ))
    (b : Fin 16) (h : Fin 4) (r : Fin 64) (d : Fin 128) :
    shapeCast S16x4x64x128 (Host.dynamicSlice S1x16x4x64x128 x s sliceFits_S32x16x4x64x128_S1x16x4x64x128) shapeCasts_S1x16x4x64x128_S16x4x64x128 (ix4 b h r d)
      = x (ix5 n b h r d) := by
  rw [Host.dynamicSlice_eq_extractStridedSlice S1x16x4x64x128 x s ![n.val, 0, 0, 0, 0] _ (slices_at n 128) hs]
  pointwise

theorem sliceV_at (x : FVec Ideal S32x16x4x64x256 .f32) (s : Fin 5 → ℤ) (n : Fin 32) (hs : ∀ a, s a = ((![n.val, 0, 0, 0, 0] : Fin 5 → ℕ) a : ℤ))
    (b : Fin 16) (h : Fin 4) (r : Fin 64) (e : Fin 256) :
    shapeCast S16x4x64x256 (Host.dynamicSlice S1x16x4x64x256 x s sliceFits_S32x16x4x64x256_S1x16x4x64x256) shapeCasts_S1x16x4x64x256_S16x4x64x256 (ix4 b h r e)
      = x (ix5 n b h r e) := by
  rw [Host.dynamicSlice_eq_extractStridedSlice S1x16x4x64x256 x s ![n.val, 0, 0, 0, 0] _ (slices_at n 256) hs]
  pointwise

/-- One trip's result put in place: the block of trip `n` is the new one, every other block stays. -/
theorem update_at (x : FVec Ideal S32x16x4x64x256 .f32) (u : FVec Ideal S1x16x4x64x256 .f32) (s : Fin 5 → ℤ) (n : Fin 32)
    (hs : ∀ a, s a = ((![n.val, 0, 0, 0, 0] : Fin 5 → ℕ) a : ℤ)) (i : Fin 32) (b : Fin 16) (h : Fin 4) (r : Fin 64) (e : Fin 256) :
    Host.dynamicUpdateSlice x u s updateFits_S32x16x4x64x256_S1x16x4x64x256 (ix5 i b h r e)
      = if i = n then u (ix5 0 b h r e) else x (ix5 i b h r e) := by
  rw [Host.dynamicUpdateSlice_eq_updateSlice x u s _ ![n.val, 0, 0, 0, 0] (fun a => by rw [hs]; exact clamp_at n a) (slices_at n 256)]
  pointwise
  by_cases hi : i = n
  · subst hi
    rw [if_pos rfl, dif_pos ⟨le_rfl, Nat.lt_succ_self _⟩]
    refine congrArg u (congrArg (fun k : Fin 1 => ix5 k b h r e) (Fin.ext ?_))
    show i.val - i.val = 0
    omega
  · have := Fin.val_ne_of_ne hi
    rw [if_neg hi, dif_neg (by omega)]

/-! ## One trip -/

/-- The states after a trip, of the last running sums, the keys, the running sums, the values and the states before it. -/
def tripState (l : FVec Ideal S16x4x128 .f32) (k c : FVec Ideal S16x4x64x128 .f32) (v : FVec Ideal S16x4x64x256 .f32)
    (s : FVec Ideal S16x4x128x256 .f32) : FVec Ideal S16x4x128x256 .f32 :=
  addf (mulf (broadcastInDim S16x4x128x256 ![0, 1, 2, 3] bcast_S16x4x128x1_S16x4x128x256_0_1_2_3
      (broadcastInDim S16x4x128x1 ![0, 1, 2] bcast_S16x4x128_S16x4x128x1_0_1_2 (Host.exp l))) s)
    (Host.dotGeneral dot_S16x4x64x128_S16x4x64x256_S16x4x128x256_2_2_3_3_01_01 none
      (mulf k (Host.exp (subf (broadcastInDim S16x4x64x128 ![0, 1, 2, 3] bcast_S16x4x1x128_S16x4x64x128_0_1_2_3
        (broadcastInDim S16x4x1x128 ![0, 1, 3] bcast_S16x4x128_S16x4x1x128_0_1_3 l)) c))) v)

theorem tripState_at (l : FVec Ideal S16x4x128 .f32) (k c : FVec Ideal S16x4x64x128 .f32) (v : FVec Ideal S16x4x64x256 .f32)
    (s : FVec Ideal S16x4x128x256 .f32) (b : Fin 16) (h : Fin 4) (d : Fin 128) (e : Fin 256) : tripState l k c v s (ix4 b h d e)
      = Ideal.exp (l (ix3 b h d)) * s (ix4 b h d e)
        + ∑ j : Fin 64, k (ix4 b h j d) * Ideal.exp (l (ix3 b h d) - c (ix4 b h j d)) * v (ix4 b h j e) := by
  pointwise [tripState]

/-- The scores of a trip, of the queries, the keys, the running sums and the mask. -/
def tripScore (q k c : FVec Ideal S16x4x64x128 .f32) (w : IVec S64x64 1) (z : FVec Ideal S_ .f32) : FVec Ideal S16x4x64x64 .f32 :=
  Host.reduceAdd (mulf (mulf
      (broadcastInDim S16x4x64x64x128 ![0, 1, 2, 3, 4] bcast_S16x4x64x1x128_S16x4x64x64x128_0_1_2_3_4
        (broadcastInDim S16x4x64x1x128 ![0, 1, 2, 4] bcast_S16x4x64x128_S16x4x64x1x128_0_1_2_4 q))
      (broadcastInDim S16x4x64x64x128 ![0, 1, 2, 3, 4] bcast_S16x4x1x64x128_S16x4x64x64x128_0_1_2_3_4
        (broadcastInDim S16x4x1x64x128 ![0, 1, 3, 4] bcast_S16x4x64x128_S16x4x1x64x128_0_1_3_4 k)))
      (Host.exp (select
        (broadcastInDim S16x4x64x64x128 ![2, 3, 4] bcast_S64x64x1_S16x4x64x64x128_2_3_4
          (broadcastInDim S64x64x1 ![0, 1] bcast_S64x64_S64x64x1_0_1 w))
        (subf (broadcastInDim S16x4x64x64x128 ![0, 1, 2, 3, 4] bcast_S16x4x64x1x128_S16x4x64x64x128_0_1_2_3_4
            (broadcastInDim S16x4x64x1x128 ![0, 1, 2, 4] bcast_S16x4x64x128_S16x4x64x1x128_0_1_2_4 c))
          (broadcastInDim S16x4x64x64x128 ![0, 1, 2, 3, 4] bcast_S16x4x1x64x128_S16x4x64x64x128_0_1_2_3_4
            (broadcastInDim S16x4x1x64x128 ![0, 1, 3, 4] bcast_S16x4x64x128_S16x4x1x64x128_0_1_3_4 c)))
        (broadcastInDim S16x4x64x64x128 ![] bcast_S_S16x4x64x64x128 z))))
    (constant S_ .f32 0x00000000#32) reducesTo_S16x4x64x64x128_S16x4x64x64_d4 h_S_

theorem tripScore_at (q k c : FVec Ideal S16x4x64x128 .f32) (w : IVec S64x64 1) (z : FVec Ideal S_ .f32) (hz : ∀ y, z y = ⊥)
    (hw : ∀ i j : Fin 64, w (ix2 i j) = if j ≤ i then 1#1 else 0#1) (b : Fin 16) (h : Fin 4) (i j : Fin 64) :
    tripScore q k c w z (ix4 b h i j)
      = score (fun r d => c (ix4 b h r d)) (fun r d => q (ix4 b h r d)) (fun r d => k (ix4 b h r d)) i j := by
  pointwise [tripScore]
  rw [hw, hz]
  by_cases hij : j ≤ i
  · rw [score, if_pos hij, if_pos hij]; rfl
  · rw [score, if_neg hij, if_neg hij]
    refine Finset.sum_eq_zero fun d _ => ?_
    show _ * Ideal.exp ⊥ = 0
    rw [Ideal.exp_bot, mul_zero]

/-- The outputs of a trip, of the queries, the running sums, the states before it, the scores and the values. -/
def tripOut (q c : FVec Ideal S16x4x64x128 .f32) (s : FVec Ideal S16x4x128x256 .f32) (a : FVec Ideal S16x4x64x64 .f32)
    (v : FVec Ideal S16x4x64x256 .f32) : FVec Ideal S1x16x4x64x256 .f32 :=
  broadcastInDim S1x16x4x64x256 ![1, 2, 3, 4] bcast_S16x4x64x256_S1x16x4x64x256_1_2_3_4
    (addf (Host.dotGeneral dot_S16x4x64x128_S16x4x128x256_S16x4x64x256_3_2_2_3_01_01 none (mulf q (Host.exp c)) s)
      (Host.dotGeneral dot_S16x4x64x64_S16x4x64x256_S16x4x64x256_3_2_2_3_01_01 none a v))

theorem tripOut_at (q c : FVec Ideal S16x4x64x128 .f32) (s : FVec Ideal S16x4x128x256 .f32) (a : FVec Ideal S16x4x64x64 .f32)
    (v : FVec Ideal S16x4x64x256 .f32) (b : Fin 16) (h : Fin 4) (i : Fin 64) (e : Fin 256) : tripOut q c s a v (ix5 0 b h i e)
      = (∑ d : Fin 128, q (ix4 b h i d) * Ideal.exp (c (ix4 b h i d)) * s (ix4 b h d e)) + ∑ j : Fin 64, a (ix4 b h i j) * v (ix4 b h j e) := by
  pointwise [tripOut]

section Steps
variable (V : Valuation τ sig (Elt Ideal))

theorem step_state : step_main_v13_6 V = tripState (res_main_while0b_v41 V) (res_main_while0b_v17 V) (res_main_while0b_v20 V)
    (res_main_while0b_v18 V) (V (Proc.devRef .tc main_v13_6)) := rfl

theorem step_outs : step_main_v13_7 V = Host.dynamicUpdateSlice (V (Proc.devRef .tc main_v13_7))
    (tripOut (res_main_while0b_v16 V) (res_main_while0b_v20 V) (V (Proc.devRef .tc main_v13_6))
      (tripScore (res_main_while0b_v16 V) (res_main_while0b_v17 V) (res_main_while0b_v20 V) (V (Proc.devRef .tc main_v13_4)) (id (constant S_ .f32 0xFF800000#32))) (res_main_while0b_v18 V))
    (fun k => (((![V (Proc.devRef .tc main_v13_5), constantI S_ 32 0#32, constantI S_ 32 0#32, constantI S_ 32 0#32, constantI S_ 32 0#32] : Fin 5 → (⟨S_, .i32⟩ : BufTy).Contents (Elt Ideal))) k (Shape.Idx.first h_S_)).toInt) updateFits_S32x16x4x64x256_S1x16x4x64x256 := by
  unfold step_main_v13_7 tripOut tripScore
  exact id_eq _

end Steps

/-! ## The loop -/

/-- What the carried arrays hold before trip `n`: the chunks, the mask, the trip's number, the states and the outputs so far. -/
structure Before (q k : FVec Ideal S16x2048x512 .f32) (v : FVec Ideal S16x2048x1024 .bf16) (g : FVec Ideal S16x2048x512 .f32)
    (n : ℕ) (V : Valuation τ sig (Elt Ideal)) : Prop where
  queries : ∀ (i : Fin 32) (b : Fin 16) (h : Fin 4) (r : Fin 64) (d : Fin 128),
    (show FVec Ideal S32x16x4x64x128 .f32 from V (Proc.devRef .tc main_v13_0)) (ix5 i b h r d) = chunkK (Gla.batchK q b) h i r d
  keys : ∀ (i : Fin 32) (b : Fin 16) (h : Fin 4) (r : Fin 64) (d : Fin 128),
    (show FVec Ideal S32x16x4x64x128 .f32 from V (Proc.devRef .tc main_v13_1)) (ix5 i b h r d) = chunkK (Gla.batchK k b) h i r d
  values : ∀ (i : Fin 32) (b : Fin 16) (h : Fin 4) (r : Fin 64) (e : Fin 256),
    (show FVec Ideal S32x16x4x64x256 .f32 from V (Proc.devRef .tc main_v13_2)) (ix5 i b h r e) = chunkV (Gla.batchV v b) h i r e
  gates : ∀ (i : Fin 32) (b : Fin 16) (h : Fin 4) (r : Fin 64) (d : Fin 128),
    (show FVec Ideal S32x16x4x64x128 .f32 from V (Proc.devRef .tc main_v13_3)) (ix5 i b h r d) = chunkK (Gla.batchK g b) h i r d
  mask : ∀ i j : Fin 64, (show IVec S64x64 1 from V (Proc.devRef .tc main_v13_4)) (ix2 i j) = if j ≤ i then 1#1 else 0#1
  trip : (show IVec S_ 32 from V (Proc.devRef .tc main_v13_5)) = fun _ => BitVec.ofNat 32 n
  states : ∀ (b : Fin 16) (h : Fin 4) (d : Fin 128) (e : Fin 256),
    (show FVec Ideal S16x4x128x256 .f32 from V (Proc.devRef .tc main_v13_6)) (ix4 b h d e)
      = state (Gla.batchK k b) (Gla.batchK g b) (Gla.batchV v b) h n d e
  outs : ∀ i : Fin 32, i.val < n → ∀ (b : Fin 16) (h : Fin 4) (r : Fin 64) (e : Fin 256),
    (show FVec Ideal S32x16x4x64x256 .f32 from V (Proc.devRef .tc main_v13_7)) (ix5 i b h r e)
      = output (Gla.batchK q b) (Gla.batchK k b) (Gla.batchK g b) (Gla.batchV v b) h i r e

section Loop
variable {q k : FVec Ideal S16x2048x512 .f32} {v : FVec Ideal S16x2048x1024 .bf16} {g : FVec Ideal S16x2048x512 .f32}

section Trip
variable {n : Fin 32} {V : Valuation τ sig (Elt Ideal)} (H : Before q k v g n.val V)
include H

theorem start_at (a : Fin 5) : (((![V (Proc.devRef .tc main_v13_5), constantI S_ 32 0#32, constantI S_ 32 0#32, constantI S_ 32 0#32,
    constantI S_ 32 0#32] : Fin 5 → (⟨S_, .i32⟩ : BufTy).Contents (Elt Ideal))) a (Shape.Idx.first h_S_)).toInt
    = ((![n.val, 0, 0, 0, 0] : Fin 5 → ℕ) a : ℤ) := by
  have e : (show IVec S_ 32 from V (Proc.devRef .tc main_v13_5)) (Shape.Idx.first h_S_) = BitVec.ofNat 32 n.val := congrFun H.trip _
  fin_cases a
  · refine (congrArg BitVec.toInt e).trans ?_
    show (BitVec.ofNat 32 n.val).toInt = (n.val : ℤ)
    exact (by decide : ∀ n : Fin 32, (BitVec.ofNat 32 n.val).toInt = (n.val : ℤ)) n
  · rfl
  · rfl
  · rfl
  · rfl

theorem query_at (b : Fin 16) (h : Fin 4) (r : Fin 64) (d : Fin 128) :
    (show FVec Ideal S16x4x64x128 .f32 from res_main_while0b_v16 V) (ix4 b h r d) = chunkK (Gla.batchK q b) h n r d :=
  (sliceK_at _ _ n (start_at H) b h r d).trans (H.queries n b h r d)

theorem key_at (b : Fin 16) (h : Fin 4) (r : Fin 64) (d : Fin 128) :
    (show FVec Ideal S16x4x64x128 .f32 from res_main_while0b_v17 V) (ix4 b h r d) = chunkK (Gla.batchK k b) h n r d :=
  (sliceK_at _ _ n (start_at H) b h r d).trans (H.keys n b h r d)

theorem value_at (b : Fin 16) (h : Fin 4) (r : Fin 64) (e : Fin 256) :
    (show FVec Ideal S16x4x64x256 .f32 from res_main_while0b_v18 V) (ix4 b h r e) = chunkV (Gla.batchV v b) h n r e :=
  (sliceV_at _ _ n (start_at H) b h r e).trans (H.values n b h r e)

theorem sums_at (b : Fin 16) (h : Fin 4) (r : Fin 64) (d : Fin 128) :
    (show FVec Ideal S16x4x64x128 .f32 from res_main_while0b_v20 V) (ix4 b h r d) = cum (chunkK (Gla.batchK g b) h n) r d := by
  refine (cumsum_at _ _ (fun y => by pointwise) _ _ b h r d).trans ?_
  unfold cum
  refine Finset.sum_congr rfl fun t _ => ?_
  by_cases ht : t ≤ r
  · rw [if_pos ht, if_pos ht]
    exact (sliceK_at _ _ n (start_at H) b h t d).trans (H.gates n b h t d)
  · rw [if_neg ht, if_neg ht]

theorem last_at (b : Fin 16) (h : Fin 4) (d : Fin 128) :
    (show FVec Ideal S16x4x128 .f32 from res_main_while0b_v41 V) (ix3 b h d) = cum (chunkK (Gla.batchK g b) h n) 63 d := by
  have e : ∀ x : FVec Ideal S16x4x64x128 .f32, shapeCast S16x4x128 (extractStridedSlice S16x4x1x128 ![0, 0, 63, 0] x
      slices_S16x4x64x128_S16x4x1x128_0_0_63_0) shapeCasts_S16x4x1x128_S16x4x128 (ix3 b h d) = x (ix4 b h 63 d) := by
    intro x; pointwise
  exact (e _).trans (sums_at H b h 63 d)

theorem state_next (b : Fin 16) (h : Fin 4) (d : Fin 128) (e : Fin 256) :
    (show FVec Ideal S16x4x128x256 .f32 from step_main_v13_6 V) (ix4 b h d e)
      = state (Gla.batchK k b) (Gla.batchK g b) (Gla.batchV v b) h (n.val + 1) d e := by
  rw [step_state]
  refine (tripState_at _ _ _ _ _ b h d e).trans ?_
  rw [state, next]
  refine congrArg₂ (· + ·) (congrArg₂ (· * ·) (congrArg Ideal.exp (last_at H b h d)) (H.states b h d e)) (Finset.sum_congr rfl fun j _ => ?_)
  exact congrArg₂ (· * ·) (congrArg₂ (· * ·) (key_at H b h j d)
    (congrArg Ideal.exp (congrArg₂ (· - ·) (last_at H b h d) (sums_at H b h j d)))) (value_at H b h j e)

theorem score_at (b : Fin 16) (h : Fin 4) (i j : Fin 64) :
    tripScore (res_main_while0b_v16 V) (res_main_while0b_v17 V) (res_main_while0b_v20 V) (V (Proc.devRef .tc main_v13_4))
        (id (constant S_ .f32 0xFF800000#32)) (ix4 b h i j)
      = score (cum (chunkK (Gla.batchK g b) h n)) (chunkK (Gla.batchK q b) h n) (chunkK (Gla.batchK k b) h n) i j := by
  have z : ∀ y, (id (constant S_ .f32 0xFF800000#32) : FVec Ideal S_ .f32) y = ⊥ := by
    intro y
    show (constant S_ .f32 0xFF800000#32 : FVec Ideal S_ .f32) y = ⊥
    pointwise
    simp [Ideal.ofBits, Ideal.ieee]
  refine (tripScore_at _ _ _ _ _ z H.mask b h i j).trans ?_
  congr 1
  · exact funext fun r => funext fun d => sums_at H b h r d
  · exact funext fun r => funext fun d => query_at H b h r d
  · exact funext fun r => funext fun d => key_at H b h r d

theorem outs_next (i : Fin 32) (hi : i.val < n.val + 1) (b : Fin 16) (h : Fin 4) (r : Fin 64) (e : Fin 256) :
    (show FVec Ideal S32x16x4x64x256 .f32 from step_main_v13_7 V) (ix5 i b h r e)
      = output (Gla.batchK q b) (Gla.batchK k b) (Gla.batchK g b) (Gla.batchV v b) h i r e := by
  rw [step_outs]
  refine (update_at _ _ _ n (start_at H) i b h r e).trans ?_
  by_cases hin : i = n
  · subst hin
    rw [if_pos rfl]
    refine (tripOut_at _ _ _ _ _ b h r e).trans ?_
    rw [output, out]
    refine congrArg₂ (· + ·) (Finset.sum_congr rfl fun d _ => ?_) (Finset.sum_congr rfl fun j _ => ?_)
    · exact congrArg₂ (· * ·) (congrArg₂ (· * ·) (query_at H b h r d) (congrArg Ideal.exp (sums_at H b h r d))) (H.states b h d e)
    · exact congrArg₂ (· * ·) (score_at H b h r j) (value_at H b h j e)
  · rw [if_neg hin]
    have := Fin.val_ne_of_ne hin
    exact H.outs i (by omega) b h r e

/-- One trip. -/
theorem before_next : Before q k v g (n.val + 1) (STEP V) where
  queries := by rw [STEP_main_v13_0]; exact H.queries
  keys := by rw [STEP_main_v13_1]; exact H.keys
  values := by rw [STEP_main_v13_2]; exact H.values
  gates := by rw [STEP_main_v13_3]; exact H.gates
  mask := by rw [STEP_main_v13_4]; exact H.mask
  trip := by
    rw [STEP_main_v13_5]
    refine funext fun y => ?_
    show (show IVec S_ 32 from V (Proc.devRef .tc main_v13_5)) y + 1#32 = _
    rw [H.trip]
    exact (BitVec.ofNat_add n.val 1).symm
  states := by rw [STEP_main_v13_6]; exact state_next H
  outs := by rw [STEP_main_v13_7]; exact outs_next H

end Trip

/-- All trips up to `n`. -/
theorem before_at {V : Valuation τ sig (Elt Ideal)} (H : Before q k v g 0 V) : ∀ n : ℕ, n ≤ 32 → Before q k v g n (STEP^[n] V)
  | 0, _ => H
  | n + 1, hn => by
    rw [Function.iterate_succ_apply']
    exact before_next (n := ⟨n, hn⟩) (before_at H n (by omega))

end Loop

/-! ## The loop's entry -/

section Entry
variable (m : (ℓ : Loc nD τ sig) → Buf (Elt Ideal) ℓ) (c : Dev nD)

/-- The chunks of a `[16, 2048, 512]` array, chunk by chunk. -/
def chunksK (x : FVec Ideal S16x2048x512 .f32) : FVec Ideal S32x16x4x64x128 .f32 :=
  transpose S32x16x4x64x128 [1, 0, 3, 2, 4] (shapeCast S16x32x64x4x128 x shapeCasts_S16x2048x512_S16x32x64x4x128) transposes_S16x32x64x4x128_S32x16x4x64x128_1_0_3_2_4

theorem chunksK_at (x : FVec Ideal S16x2048x512 .f32) (i : Fin 32) (b : Fin 16) (h : Fin 4) (r : Fin 64) (d : Fin 128) :
    chunksK x (ix5 i b h r d) = chunkK (Gla.batchK x b) h i r d := by
  show _ = x (ix3 b (rowAt i r) (colK h d))
  pointwise [chunksK]
  refine congrArg x (congrArg₂ (ix3 b) (Fin.ext ?_) (Fin.ext ?_))
  · show i.val * 64 + r.val = (64 * i.val + r.val) % 2048; omega
  · show h.val * 128 + d.val = 128 * h.val + d.val; omega

/-- The chunks of a `[16, 2048, 1024]` array, chunk by chunk. -/
def chunksV (x : FVec Ideal S16x2048x1024 .bf16) : FVec Ideal S32x16x4x64x256 .f32 :=
  transpose S32x16x4x64x256 [1, 0, 3, 2, 4] (shapeCast S16x32x64x4x256 (extf .f32 x bitsLt_bf16_f32) shapeCasts_S16x2048x1024_S16x32x64x4x256) transposes_S16x32x64x4x256_S32x16x4x64x256_1_0_3_2_4

theorem chunksV_at (x : FVec Ideal S16x2048x1024 .bf16) (i : Fin 32) (b : Fin 16) (h : Fin 4) (r : Fin 64) (e : Fin 256) :
    chunksV x (ix5 i b h r e) = chunkV (Gla.batchV x b) h i r e := by
  show _ = x (ix3 b (rowAt i r) (colV h e))
  pointwise [chunksV]
  refine congrArg x (congrArg₂ (ix3 b) (Fin.ext ?_) (Fin.ext ?_))
  · show i.val * 64 + r.val = (64 * i.val + r.val) % 2048; omega
  · show h.val * 256 + e.val = 256 * h.val + e.val; omega

theorem entry_0 : entryContents preI m c (Proc.devRef .tc main_v13_0) = chunksK (m ((c : Thread nD τ).loc main_arg0)) := by
  simp only [entryContents, afterL_cons, afterL_nil]
  after_reads_simp
  rfl

theorem entry_1 : entryContents preI m c (Proc.devRef .tc main_v13_1) = chunksK (m ((c : Thread nD τ).loc main_arg1)) := by
  simp only [entryContents, afterL_cons, afterL_nil]
  after_reads_simp
  rfl

theorem entry_2 : entryContents preI m c (Proc.devRef .tc main_v13_2) = chunksV (m ((c : Thread nD τ).loc main_arg2)) := by
  simp only [entryContents, afterL_cons, afterL_nil]
  after_reads_simp
  rfl

theorem entry_3 : entryContents preI m c (Proc.devRef .tc main_v13_3) = chunksK (m ((c : Thread nD τ).loc main_arg3)) := by
  simp only [entryContents, afterL_cons, afterL_nil]
  after_reads_simp
  rfl

/-- The mask: a position sees itself and the positions before it. -/
def maskOf : IVec S64x64 1 :=
  select (cmpi .sge (addi (iotaInDim S64x64 32 0) (broadcastInDim S64x64 ![] bcast_S_S64x64 (constantI S_ 32 0#32))) (iotaInDim S64x64 32 1))
    (broadcastInDim S64x64 ![] bcast_S_S64x64 (constantI S_ 1 1#1)) (broadcastInDim S64x64 ![] bcast_S_S64x64 (constantI S_ 1 0#1))

theorem mask_at (i j : Fin 64) : maskOf (ix2 i j) = if j ≤ i then 1#1 else 0#1 := by
  pointwise [maskOf]
  exact (by decide +kernel : ∀ i j : Fin 64, Scalar.select (IntOp.cmpi .sge (IntOp.addi (BitVec.ofNat 32 i.val) 0#32) (BitVec.ofNat 32 j.val)) 1#1 0#1
    = if j ≤ i then 1#1 else 0#1) i j

theorem entry_4 (i j : Fin 64) : (show IVec S64x64 1 from entryContents preI m c (Proc.devRef .tc main_v13_4)) (ix2 i j)
    = if j ≤ i then 1#1 else 0#1 := by
  simp only [entryContents, afterL_cons, afterL_nil]
  after_reads_simp
  exact mask_at i j

theorem entry_6 (b : Fin 16) (h : Fin 4) (d : Fin 128) (e : Fin 256) :
    (show FVec Ideal S16x4x128x256 .f32 from entryContents preI m c (Proc.devRef .tc main_v13_6)) (ix4 b h d e) = 0 := by
  simp only [entryContents, afterL_cons, afterL_nil]
  after_reads_simp
  show (broadcastInDim S16x4x128x256 ![] bcast_S_S16x4x128x256 (constant S_ FTy.f32 0#32) : FVec Ideal S16x4x128x256 .f32) (ix4 b h d e) = 0
  pointwise

/-- The loop's entry. -/
theorem before_entry : Before (m ((c : Thread nD τ).loc main_arg0)) (m ((c : Thread nD τ).loc main_arg1))
    (m ((c : Thread nD τ).loc main_arg2)) (m ((c : Thread nD τ).loc main_arg3)) 0 (entryContents preI m c) where
  queries := by rw [entry_0]; exact chunksK_at _
  keys := by rw [entry_1]; exact chunksK_at _
  values := by rw [entry_2]; exact chunksV_at _
  gates := by rw [entry_3]; exact chunksK_at _
  mask := entry_4 m c
  trip := ctr_entry m c
  states := entry_6 m c
  outs := fun i hi => absurd hi (Nat.not_lt_zero _)

end Entry

/-! ## The results -/

section Results
variable {q k : FVec Ideal S16x2048x512 .f32} {v : FVec Ideal S16x2048x1024 .bf16} {g : FVec Ideal S16x2048x512 .f32}
variable {V : Valuation τ sig (Elt Ideal)} (H : Before q k v g 32 V)
include H

theorem result_states : (show FVec Ideal S16x4x128x256 .f32 from V (Proc.devRef .tc main_v13_6)) = Gla.states k v g 32 := by
  funext y
  idx_vars y
  exact H.states y0 y1 y2 y3

theorem result_outputs : (show FVec Ideal S16x2048x1024 .f32 from out_main_v15 V) = Gla.outputs q k v g := by
  have e : ∀ (x : FVec Ideal S32x16x4x64x256 .f32) (b : Fin 16) (t : Fin 2048) (j : Fin 1024),
      shapeCast S16x2048x1024 (transpose S16x32x64x4x256 [1, 0, 3, 2, 4] x transposes_S32x16x4x64x256_S16x32x64x4x256_1_0_3_2_4)
        shapeCasts_S16x32x64x4x256_S16x2048x1024 (ix3 b t j)
      = x (ix5 ⟨t.val / 64, by omega⟩ b ⟨j.val / 256, by omega⟩ ⟨t.val % 64, by omega⟩ ⟨j.val % 256, by omega⟩) := by
    intro x b t j
    pointwise
  funext y
  idx_vars y
  exact (e _ y0 y1 y2).trans (H.outs _ (Fin.isLt _) _ _ _ _)

end Results

end Cert.GlaReference
-- ==== Proof.GlaClaims.lean ====
/- The claims of the gated linear attention kernel. -/
module

public import proofs.«01_k».proof.Defs
public import proofs.«01_k».proof.Proof.Gen.Kernel
public import proofs.«01_k».proof.Proof.Gen.Pre_gates_below_inf
public import proofs.«01_k».proof.Proof.GlaReference
public import Idealize.ShloMosaic.Lib.Claim
public import Idealize.ShloMosaic.Lib.Quiescent
public import Idealize.ShloMosaic.Lib.ReduceAll

@[expose] public section

set_option maxRecDepth 16384

noncomputable section

namespace Cert.Gla

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_gates_below_inf.Facts := Cert.Pre_gates_below_inf.Gen.facts

/-! ## The frames

The kernel's two programs have one text, so the run over any floats serves both. -/

section OneText
variable {F : FTy → Type} [FloatOps F]

theorem text_eq : @Cert.Kernel.cc0_gla F _ Cert.Kernel.Gen.facts = @Cert.KernelIdeal.cc0_gla F _ Cert.KernelIdeal.Gen.facts := rfl

theorem defs₀_eq : Cert.Kernel.defs₀ (F := F) = Cert.KernelIdeal.defs₀ (F := F) := by
  unfold Cert.Kernel.defs₀ Cert.KernelIdeal.defs₀
  refine congrArg Defs.onTc (funext fun l => funext fun a => ?_)
  obtain ⟨l, hl⟩ := l
  cases l with
  | zero =>
    obtain ⟨t, s⟩ := a
    exact congrFun (congrFun (congrFun (congrFun (congrFun (congrFun (congrFun (congrFun (congrFun (
      congrFun (congrFun (congrFun (congrFun (congrFun (congrFun (congrFun (congrFun text_eq _) _) _) _) _) _) _) _) _) _) _) _) _) _) _) _) _
  | succ n => exact absurd hl (Nat.not_lt.2 (Nat.le_add_left _ _))

theorem defs_eq : Cert.Kernel.defs (F := F) = Cert.KernelIdeal.defs (F := F) := congrArg (Pipeline.defs Cert.Kernel.pcfgs) defs₀_eq

end OneText

/-- The kernel at its machine floats. -/
theorem frame_kernel : Cert.quiescent_Kernel := fun m ρ _ =>
  (congrArg (fun D => θ_run D (onTc (τ := Cert.Kernel.τ) (Cert.Kernel.main (F := Bits))) ⟨m, fun _ => 0, ρ⟩ _) defs_eq).mpr
    (run_frame (F := Bits) m ρ)

/-- The kernel over the extended reals. -/
theorem frame_ideal : Cert.quiescent_KernelIdeal := fun m ρ _ => run_frame (F := Ideal) m ρ

/-- The same where the gates are below infinity. -/
theorem frame_ideal_pre : Cert.quiescent_KernelIdeal_pre_gates_below_inf := fun m ρ _ => run_frame (F := Ideal) m ρ

/-- The reference runs and ends with its arguments unchanged; it declares no counter. -/
theorem frame_reference : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

/-- The same where the gates are below infinity. -/
theorem frame_reference_pre : Cert.quiescent_ReferenceIdeal_pre_gates_below_inf := fun m ρ _ =>
  frame_reference m ρ (by trivial)

/-- The precondition, at one entry of the gates. -/
theorem gates_below (q k : FVec Ideal Cert.KernelIdeal.S16x2048x512 .f32) (v : FVec Ideal Cert.KernelIdeal.S16x2048x1024 .bf16)
    (g : FVec Ideal Cert.KernelIdeal.S16x2048x512 .f32) (h : Cert.Pre_gates_below_inf.fn (F := Ideal) q k v g = fun _ => 1#1)
    (y : Cert.KernelIdeal.S16x2048x512.Idx) : g y < ⊤ := by
  have : Subsingleton Cert.Pre_gates_below_inf.S_.Idx := ⟨fun a b => funext fun i => Fin.elim0 i⟩
  have e := Host.reduce_andi_all _ _ _ _ ix0 (congrFun h ix0) y
  have f : cmpf .olt g (broadcastInDim Cert.Pre_gates_below_inf.S16x2048x512 ![] Cert.Pre_gates_below_inf.Gen.bcast_S_S16x2048x512
      (constant (F := Ideal) Cert.Pre_gates_below_inf.S_ .f32 0x7F800000#32)) y = BitVec.ofBool (decide (g y < ⊤)) := by
    pointwise
    simp [Ideal.ofBits, Ideal.ieee]
  have := f.symm.trans e
  by_contra hn
  rw [decide_eq_false hn] at this
  exact absurd this (by decide)

/-- Over the extended reals the kernel's outputs and states are the reference's, element by element, where the gates are below
    infinity. -/
theorem algebraic : Cert.algebraic_KernelIdeal_ReferenceIdeal_pre_gates_below_inf := by
  intro m g m' g' hpre hagree
  refine ⟨fun c => (dats m 0 c).arrAt 5 (Cert.KernelIdeal.cfgs 0).N, fun c => (dats m 0 c).arrAt 6 (Cert.KernelIdeal.cfgs 0).N, ?_, ?_⟩
  · run_from run_arrays m g
  · refine (θ_run Cert.ReferenceIdeal.defs _ _).mono (fun r h c => ?_) (Cert.ReferenceIdeal.Value.run (F := Ideal) m' g')
    obtain ⟨e0, e1, e2, e3⟩ := hagree c
    obtain ⟨ho, hs, h0, h1, h2, h3⟩ := h c
    have B := GlaReference.before_at (GlaReference.before_entry m' c) 32 le_rfl
    have below := gates_below _ _ _ _ (hpre c)
    refine ⟨?_, ?_, h0, h1, h2, h3⟩
    · refine (ho.trans (GlaReference.result_outputs B)).trans ?_
      rw [e0, e1, e2, e3]
      exact (final_outputs m c below).symm
    · refine (hs.trans (GlaReference.result_states B)).trans ?_
      rw [e1, e2, e3]
      exact (final_states m c below).symm

end Cert.Gla

end
-- ==== Proof.RowMath.lean ====
/- The mathematics of one row of the layer over the extended reals: the root-mean-square normalisation, the gate
   function, and the block "mix, normalise, SwiGLU, normalise" as functions of one token's row. The kernels and the
   references are each shown to compute these functions. -/
module

public import Idealize.ShloMosaic.Lib.Pointwise

@[expose] public section

set_option maxRecDepth 16384

noncomputable section

namespace Cert.RowMath

open Idealize.ShloMosaic

/-- The number added under the root of a normalisation, as the programs' constant. -/
def eps : EReal := Ideal.ofBits .f32 0x358637BD#32

/-- The width 1024 of a row, as the programs' constant. -/
def width : EReal := Ideal.ofBits .f32 0x44800000#32

/-- A row normalised by its root mean square and scaled: `x j · (mean (x²) + ε)^(-1/2) · g j`, the mean over `n`
    entries with the count `cnt` given as the programs' constant. -/
def rms {n : ℕ} (cnt : EReal) (x g : Fin n → EReal) (j : Fin n) : EReal :=
  x j * Ideal.rsqrt (Ideal.div (∑ k : Fin n, x k * x k) cnt + eps) * g j

/-- The gate `z · 1 / (1 + e^(-z))`. -/
def silu (z : EReal) : EReal := z * Ideal.div 1 (1 + Ideal.exp (-z))

/-- The residual stream after the mixer: `h + rms (x · W)`. -/
def mixRow (x h g : Fin 1024 → EReal) (w : Fin 1024 → Fin 1024 → EReal) (j : Fin 1024) : EReal :=
  h j + rms width (fun j => ∑ k : Fin 1024, x k * w k j) g j

/-- The part of the feed-forward sum over `n` of the inner columns: `∑ d, silu (u·wg d) · (u·wu d) · wd d j`. -/
def swi {n : ℕ} (u : Fin 1024 → EReal) (wg wu : Fin 1024 → Fin n → EReal) (wd : Fin n → Fin 1024 → EReal)
    (j : Fin 1024) : EReal :=
  ∑ d : Fin n, silu (∑ k : Fin 1024, u k * wg k d) * (∑ k : Fin 1024, u k * wu k d) * wd d j

/-- The feed-forward row: the gate columns are the first 2816 of `wgu`, the up columns the other 2816. -/
def ffn (u : Fin 1024 → EReal) (wgu : Fin 1024 → Fin 5632 → EReal) (wd : Fin 2816 → Fin 1024 → EReal)
    (j : Fin 1024) : EReal :=
  swi u (fun k (d : Fin 2816) => wgu k ⟨d.val, by omega⟩) (fun k d => wgu k ⟨2816 + d.val, by omega⟩) wd j

/-- The feed-forward sum over 2816 inner columns is the sum over the first 1536 and the sum over the last 1280. -/
theorem ffn_split (u : Fin 1024 → EReal) (wgu : Fin 1024 → Fin 5632 → EReal) (wd : Fin 2816 → Fin 1024 → EReal)
    (j : Fin 1024) :
    ffn u wgu wd j
      = swi u (fun k (d : Fin 1536) => wgu k ⟨d.val, by omega⟩) (fun k d => wgu k ⟨2816 + d.val, by omega⟩)
          (fun d j => wd ⟨d.val, by omega⟩ j) j
        + swi u (fun k (d : Fin 1280) => wgu k ⟨1536 + d.val, by omega⟩) (fun k d => wgu k ⟨4352 + d.val, by omega⟩)
          (fun d j => wd ⟨1536 + d.val, by omega⟩ j) j := by
  unfold ffn swi
  refine (Fin.sum_univ_add (a := 1536) (b := 1280) (fun d : Fin (1536 + 1280) =>
    silu (∑ k : Fin 1024, u k * wgu k ⟨d.val, by omega⟩) * (∑ k : Fin 1024, u k * wgu k ⟨2816 + d.val, by omega⟩)
      * wd d j)).trans (congrArg₂ (· + ·) rfl (Finset.sum_congr rfl fun d _ => ?_))
  have e (k : Fin 1024) : wgu k ⟨2816 + (1536 + d.val), by omega⟩ = wgu k ⟨4352 + d.val, by omega⟩ :=
    congrArg (wgu k) (Fin.ext (by simp; omega))
  simp only [Fin.val_natAdd, e]
  rfl

/-- The whole block on one row: `h1 = mixRow …`, then `h1 + rms (ffn (rms h1))`. -/
def blockRow (x h g1 g2 g3 : Fin 1024 → EReal) (w : Fin 1024 → Fin 1024 → EReal)
    (wgu : Fin 1024 → Fin 5632 → EReal) (wd : Fin 2816 → Fin 1024 → EReal) (j : Fin 1024) : EReal :=
  mixRow x h g1 w j + rms width (fun j => ffn (fun j => rms width (mixRow x h g1 w) g2 j) wgu wd j) g3 j

/-- The gated mixer output: each head of 256 columns normalised and scaled, times the gate of `r`. -/
def gated (o r : Fin 1024 → EReal) (g : Fin 256 → EReal) (j : Fin 1024) : EReal :=
  rms (Ideal.ofBits .f32 0x43800000#32) (fun d : Fin 256 => o ⟨j.val / 256 * 256 + d.val, by omega⟩) g ⟨j.val % 256, by omega⟩
    * silu (r j)

/-- The gated output by the head that holds column `j`: the head starts at column `b` and `j = b + d`. -/
theorem gated_head (o r : Fin 1024 → EReal) (g : Fin 256 → EReal) (j : Fin 1024) (b d : ℕ) (hb : b % 256 = 0)
    (hb' : b + 256 ≤ 1024) (hd : d < 256) (e : j.val = b + d) :
    o j * Ideal.rsqrt (Ideal.div (∑ k : Fin 256, o ⟨b + k.val, by omega⟩ * o ⟨b + k.val, by omega⟩)
        (Ideal.ofBits .f32 0x43800000#32) + eps) * g ⟨d, hd⟩ * silu (r j) = gated o r g j := by
  unfold gated rms
  have e1 : j.val / 256 * 256 = b := by omega
  have e2 : j.val % 256 = d := by omega
  have e3 : (⟨j.val / 256 * 256 + j.val % 256, by omega⟩ : Fin 1024) = j := Fin.ext (by simp; omega)
  simp only [e3]
  simp only [e1, e2]

end Cert.RowMath

end
-- ==== Proof.Ffn2Kernel.lean ====
/- What the body of the first layer's gated feed-forward kernel computes, row by row. -/
module

public import proofs.«01_k».proof.Proof.Gen.Kernel2Ideal.Value
public import proofs.«01_k».proof.Proof.RowMath
public import Idealize.ShloMosaic.Lib.Pipeline.ValueKit

@[expose] public section

set_option maxRecDepth 16384

noncomputable section

namespace Cert.Ffn2

open Idealize.ShloMosaic Idealize.ShloMosaic.TcCoe Idealize.SL.Sem
open Cert.Kernel2Ideal Cert.Kernel2Ideal.Gen Cert.RowMath

/-- The first half block's gated mixer output. -/
theorem pay10_at (o r : FVec Ideal S256x1024 .f32) (g : FVec Ideal S1x256 .f32) (i : Fin 256) (j : Fin 1024) :
    k0_pay10 (F := Ideal) (k0_pay3 o) (k0_pay4 r) (k0_pay5 o g) (k0_pay6 o g) (k0_pay7 o) g (k0_pay8 o) (k0_pay9 (F := Ideal)) g (ix2 i j)
      = gated (fun k => o (ix2 i k)) (fun k => r (ix2 i k)) (fun k => g (ix2 0 k)) j := by
  pointwise [k0_pay10, k0_pay3, k0_pay4, k0_pay5, k0_pay6, k0_pay7, k0_pay8, k0_pay9, zero_sub]
  by_cases h0 : j.val < 256
  · rw [dif_pos h0]
    refine Eq.trans ?_ (gated_head (fun k => o (ix2 i k)) (fun k => r (ix2 i k)) (fun k => g (ix2 0 k)) j 0 j.val rfl (by decide) h0 (by omega))
    simp only [silu, eps, Nat.zero_add]
  rw [dif_neg h0]
  by_cases h1 : j.val - 256 < 256
  · rw [dif_pos h1]
    refine Eq.trans ?_ (gated_head (fun k => o (ix2 i k)) (fun k => r (ix2 i k)) (fun k => g (ix2 0 k)) j 256 (j.val - 256) rfl (by decide) h1 (by omega))
    simp only [silu, eps, show (⟨256 + (j.val - 256), by omega⟩ : Fin 1024) = j from Fin.ext (by simp; omega)]
  rw [dif_neg h1]
  by_cases h2 : j.val - 256 - 256 < 256
  · rw [dif_pos h2]
    refine Eq.trans ?_ (gated_head (fun k => o (ix2 i k)) (fun k => r (ix2 i k)) (fun k => g (ix2 0 k)) j 512 (j.val - 256 - 256) rfl (by decide) h2 (by omega))
    simp only [silu, eps, show (⟨512 + (j.val - 256 - 256), by omega⟩ : Fin 1024) = j from Fin.ext (by simp; omega)]
  rw [dif_neg h2]
  refine Eq.trans ?_ (gated_head (fun k => o (ix2 i k)) (fun k => r (ix2 i k)) (fun k => g (ix2 0 k)) j 768 (j.val - 256 - 256 - 256) rfl (by decide) (by omega) (by omega))
  simp only [silu, eps, show (⟨768 + (j.val - 256 - 256 - 256), by omega⟩ : Fin 1024) = j from Fin.ext (by simp; omega)]

/-- The second half block's product of the gated mixer output with the output weights. -/
theorem pay19_at (o r : FVec Ideal S256x1024 .f32) (g : FVec Ideal S1x256 .f32) (w : FVec Ideal S1024x1024 .bf16) (i : Fin 256) (j : Fin 1024) :
    k0_pay19 (F := Ideal) (k0_pay12 r) (k0_pay15 (k0_pay13 o) g (k0_pay14 o)) (k0_pay16 (k0_pay11 o) g) (k0_pay17 (k0_pay11 o) g) g
        (k0_pay18 (k0_pay11 o)) w (ix2 i j)
      = ∑ k : Fin 1024, gated (fun k => o (ix2 i k)) (fun k => r (ix2 i k)) (fun k => g (ix2 0 k)) k * w (ix2 k j) := by
  pointwise [k0_pay19, k0_pay12, k0_pay15, k0_pay13, k0_pay14, k0_pay16, k0_pay17, k0_pay11, k0_pay18, zero_sub]
  refine Finset.sum_congr rfl fun k _ => congrArg (· * _) ?_
  by_cases h0 : k.val < 256
  · rw [dif_pos h0]
    refine Eq.trans ?_ (gated_head (fun k => o (ix2 i k)) (fun k => r (ix2 i k)) (fun k => g (ix2 0 k)) k 0 k.val rfl (by decide) h0 (by omega))
    simp only [silu, eps, Nat.zero_add]
  rw [dif_neg h0]
  by_cases h1 : k.val - 256 < 256
  · rw [dif_pos h1]
    refine Eq.trans ?_ (gated_head (fun k => o (ix2 i k)) (fun k => r (ix2 i k)) (fun k => g (ix2 0 k)) k 256 (k.val - 256) rfl (by decide) h1 (by omega))
    simp only [silu, eps, show (⟨256 + (k.val - 256), by omega⟩ : Fin 1024) = k from Fin.ext (by simp; omega)]
  rw [dif_neg h1]
  by_cases h2 : k.val - 256 - 256 < 256
  · rw [dif_pos h2]
    refine Eq.trans ?_ (gated_head (fun k => o (ix2 i k)) (fun k => r (ix2 i k)) (fun k => g (ix2 0 k)) k 512 (k.val - 256 - 256) rfl (by decide) h2 (by omega))
    simp only [silu, eps, show (⟨512 + (k.val - 256 - 256), by omega⟩ : Fin 1024) = k from Fin.ext (by simp; omega)]
  rw [dif_neg h2]
  refine Eq.trans ?_ (gated_head (fun k => o (ix2 i k)) (fun k => r (ix2 i k)) (fun k => g (ix2 0 k)) k 768 (k.val - 256 - 256 - 256) rfl (by decide) (by omega) (by omega))
  simp only [silu, eps, show (⟨768 + (k.val - 256 - 256 - 256), by omega⟩ : Fin 1024) = k from Fin.ext (by simp; omega)]

/-- The first half block's residual stream after the mixer, from the gated mixer output `x`. -/
theorem pay20_at (x : FVec Ideal S256x1024 .f32) (w : FVec Ideal S1024x1024 .bf16) (h : FVec Ideal S256x1024 .f32)
    (g : FVec Ideal S1x1024 .f32) (r : Fin 256) (j : Fin 1024) :
    k0_pay20 (F := Ideal) x w h g (ix2 r j)
      = mixRow (fun k => x (ix2 r k)) (fun k => h (ix2 r k)) (fun k => g (ix2 0 k)) (fun k l => w (ix2 k l)) j := by
  pointwise [k0_pay20, mixRow, rms, eps, width]
  try rfl

/-- The second half block's residual stream after the mixer, from the product `p`. -/
theorem pay22_at (p h : FVec Ideal S256x1024 .f32) (g : FVec Ideal S1x1024 .f32) (r : Fin 256) (j : Fin 1024) :
    k0_pay22 (F := Ideal) p (k0_pay21 h) g (ix2 r j)
      = h (ix2 r j) + rms width (fun k => p (ix2 r k)) (fun k => g (ix2 0 k)) j := by
  pointwise [k0_pay22, k0_pay21, rms, eps, width]
  try rfl

/-- The first half block's normalised rows. -/
theorem pay23_at (x : FVec Ideal S256x1024 .f32) (g : FVec Ideal S1x1024 .f32) (r : Fin 256) (j : Fin 1024) :
    k0_pay23 (F := Ideal) x g (ix2 r j) = rms width (fun k => x (ix2 r k)) (fun k => g (ix2 0 k)) j := by
  pointwise [k0_pay23, rms, eps, width]
  try rfl

/-- The second half block's normalised rows. -/
theorem pay24_at (p h : FVec Ideal S256x1024 .f32) (g g' : FVec Ideal S1x1024 .f32) (r : Fin 256) (j : Fin 1024) :
    k0_pay24 (F := Ideal) p h g g' (ix2 r j)
      = rms width (fun k => k0_pay22 (F := Ideal) p h g (ix2 r k)) (fun k => g' (ix2 0 k)) j := by
  pointwise [k0_pay24, rms, eps, width]
  try rfl

/-- The first half block's last step: the residual stream plus the normalised feed-forward sum. -/
theorem pay1_at (h : FVec Ideal S256x1024 .f32) (u : FVec Ideal S256x1024 .bf16)
    (wg wu : FVec Ideal S1024x1536 .bf16) (wd : FVec Ideal S1536x1024 .bf16)
    (wg' wu' : FVec Ideal S1024x1280 .bf16) (wd' : FVec Ideal S1280x1024 .bf16) (g : FVec Ideal S1x1024 .f32) (r : Fin 256) (j : Fin 1024) :
    k0_pay1 (F := Ideal) h (k0_pay25 u wg wu wd) (k0_pay27 u wg' wu' wd') g (ix2 r j)
      = h (ix2 r j) + rms width (fun j =>
          swi (fun k => u (ix2 r k)) (fun k d => wg (ix2 k d)) (fun k d => wu (ix2 k d)) (fun d l => wd (ix2 d l)) j
          + swi (fun k => u (ix2 r k)) (fun k d => wg' (ix2 k d)) (fun k d => wu' (ix2 k d)) (fun d l => wd' (ix2 d l)) j)
          (fun k => g (ix2 0 k)) j := by
  pointwise [k0_pay1, k0_pay25, k0_pay27, rms, eps, width, swi, silu, zero_sub]
  try rfl

/-- The second half block's last step: the residual stream plus the normalised feed-forward sum. -/
theorem pay2_at (h : FVec Ideal S256x1024 .f32) (u : FVec Ideal S256x1024 .bf16)
    (wg wu : FVec Ideal S1024x1536 .bf16) (wd : FVec Ideal S1536x1024 .bf16)
    (wg' wu' : FVec Ideal S1024x1280 .bf16) (wd' : FVec Ideal S1280x1024 .bf16) (g : FVec Ideal S1x1024 .f32) (r : Fin 256) (j : Fin 1024) :
    k0_pay2 (F := Ideal) h (k0_pay26 u wg wu wd) (k0_pay28 u wg' wu') (k0_pay29 wd') (constant S256x1024 .f32 0x00000000#32) g (ix2 r j)
      = h (ix2 r j) + rms width (fun j =>
          swi (fun k => u (ix2 r k)) (fun k d => wg (ix2 k d)) (fun k d => wu (ix2 k d)) (fun d l => wd (ix2 d l)) j
          + swi (fun k => u (ix2 r k)) (fun k d => wg' (ix2 k d)) (fun k d => wu' (ix2 k d)) (fun d l => wd' (ix2 d l)) j)
          (fun k => g (ix2 0 k)) j := by
  pointwise [k0_pay2, k0_pay26, k0_pay28, k0_pay29, rms, eps, width, swi, silu, zero_sub]
  try rfl

end Cert.Ffn2

end
-- ==== Proof.Ffn2Reference.lean ====
/- What the first layer's feed-forward reference computes, row by row. -/
module

public import proofs.«01_k».proof.Proof.Gen.Reference2Ideal.Run
public import proofs.«01_k».proof.Proof.RowMath

@[expose] public section

set_option maxRecDepth 16384

noncomputable section

namespace Cert.Ffn2

open Idealize.ShloMosaic Idealize.ShloMosaic.TcCoe Idealize.SL.Sem
open Cert.Reference2Ideal Cert.Reference2Ideal.Gen Cert.RowMath

/-- The reference's normalisation of a `[16, 2048, 1024]` array by a vector of 1024 scales. -/
def refRms (x : FVec Ideal S16x2048x1024 .f32) (g : FVec Ideal S1024 .f32) : FVec Ideal S16x2048x1024 .f32 :=
  mulf (mulf x (broadcastInDim S16x2048x1024 ![0, 1, 2] bcast_S16x2048x1_S16x2048x1024_0_1_2 (Host.rsqrt (addf (Host.divf
      (broadcastInDim S16x2048x1 ![0, 1] bcast_S16x2048_S16x2048x1_0_1
        (Host.reduceAdd (mulf x x) (constant S_ .f32 0x00000000#32) reducesTo_S16x2048x1024_S16x2048_d2 h_S_))
      (broadcastInDim S16x2048x1 ![] bcast_S_S16x2048x1 (constant S_ .f32 0x44800000#32)))
      (broadcastInDim S16x2048x1 ![] bcast_S_S16x2048x1 (constant S_ .f32 0x358637BD#32))))))
    (broadcastInDim S16x2048x1024 ![0, 1, 2] bcast_S1x1x1024_S16x2048x1024_0_1_2
      (broadcastInDim S1x1x1024 ![2] bcast_S1024_S1x1x1024_2 g))

/-- The reference's normalisation, at an index. -/
theorem refRms_at (x : FVec Ideal S16x2048x1024 .f32) (g : FVec Ideal S1024 .f32) (b : Fin 16) (t : Fin 2048) (j : Fin 1024) :
    refRms x g (ix3 b t j) = rms width (fun k => x (ix3 b t k)) (fun k => g (ix1 k)) j := by
  pointwise [refRms, rms, eps, width]
  try rfl

/-- The scales after the mixer. -/
def g1 (ng : FVec Ideal S2x4x1024 .f32) : FVec Ideal S1024 .f32 :=
  shapeCast _ (extractStridedSlice S1x1x1024 ![0, 1, 0] ng slices_S2x4x1024_S1x1x1024_0_1_0) shapeCasts_S1x1x1024_S1024

/-- The scales before the feed-forward part. -/
def g2 (ng : FVec Ideal S2x4x1024 .f32) : FVec Ideal S1024 .f32 :=
  shapeCast _ (extractStridedSlice S1x1x1024 ![0, 2, 0] ng slices_S2x4x1024_S1x1x1024_0_2_0) shapeCasts_S1x1x1024_S1024

/-- The scales after the feed-forward part. -/
def g3 (ng : FVec Ideal S2x4x1024 .f32) : FVec Ideal S1024 .f32 :=
  shapeCast _ (extractStridedSlice S1x1x1024 ![0, 3, 0] ng slices_S2x4x1024_S1x1x1024_0_3_0) shapeCasts_S1x1x1024_S1024

/-- The reference's gated mixer output: each head normalised and scaled, times the gate of `r`. -/
def refGated (o r : FVec Ideal S16x2048x1024 .f32) (g : FVec Ideal S1x256 .f32) : FVec Ideal S16x2048x1024 .f32 :=
  mulf (shapeCast _ (mulf (mulf (shapeCast S16x2048x4x256 o shapeCasts_S16x2048x1024_S16x2048x4x256)
      (broadcastInDim S16x2048x4x256 ![0, 1, 2, 3] bcast_S16x2048x4x1_S16x2048x4x256_0_1_2_3 (Host.rsqrt (addf (Host.divf
        (broadcastInDim S16x2048x4x1 ![0, 1, 2] bcast_S16x2048x4_S16x2048x4x1_0_1_2
          (Host.reduceAdd (mulf (shapeCast S16x2048x4x256 o shapeCasts_S16x2048x1024_S16x2048x4x256) (shapeCast S16x2048x4x256 o shapeCasts_S16x2048x1024_S16x2048x4x256))
            (constant S_ .f32 0x00000000#32) reducesTo_S16x2048x4x256_S16x2048x4_d3 h_S_))
        (broadcastInDim S16x2048x4x1 ![] bcast_S_S16x2048x4x1 (constant S_ .f32 0x43800000#32)))
        (broadcastInDim S16x2048x4x1 ![] bcast_S_S16x2048x4x1 (constant S_ .f32 0x358637BD#32))))))
      (broadcastInDim S16x2048x4x256 ![0, 1, 2, 3] bcast_S1x1x1x256_S16x2048x4x256_0_1_2_3
        (broadcastInDim S1x1x1x256 ![3] bcast_S256_S1x1x1x256_3 (shapeCast _ g shapeCasts_S1x256_S256))))
      shapeCasts_S16x2048x4x256_S16x2048x1024)
    (mulf r (Host.divf (broadcastInDim S16x2048x1024 ![] bcast_S_S16x2048x1024 (constant S_ .f32 0x3F800000#32))
      (addf (broadcastInDim S16x2048x1024 ![] bcast_S_S16x2048x1024 (constant S_ .f32 0x3F800000#32)) (Host.exp (Host.negf r)))))

/-- The reference's gated mixer output, at an index. -/
theorem refGated_at (o r : FVec Ideal S16x2048x1024 .f32) (g : FVec Ideal S1x256 .f32) (b : Fin 16) (t : Fin 2048) (j : Fin 1024) :
    refGated o r g (ix3 b t j)
      = gated (fun k => o (ix3 b t k)) (fun k => r (ix3 b t k)) (fun k => g (ix2 0 k)) j := by
  pointwise [refGated, gated, silu, rms, eps]
  simp only [show (⟨j.val / 256 * 256 + j.val % 256, by omega⟩ : Fin 1024) = j from Fin.ext (by simp; omega)]

/-- The reference's residual stream after the mixer. -/
def refMix (x h : FVec Ideal S16x2048x1024 .f32) (ng : FVec Ideal S2x4x1024 .f32) (w : FVec Ideal S1x1024x1024 .f32) :
    FVec Ideal S16x2048x1024 .f32 :=
  addf h (refRms (Host.dotGeneral dot_S16x2048x1024_S1024x1024_S16x2048x1024_2_0_01_1_n_n none x
    (shapeCast _ w shapeCasts_S1x1024x1024_S1024x1024)) (g1 ng))

/-- The reference's residual stream after the mixer, at an index. -/
theorem refMix_at (x h : FVec Ideal S16x2048x1024 .f32) (ng : FVec Ideal S2x4x1024 .f32) (w : FVec Ideal S1x1024x1024 .f32)
    (b : Fin 16) (t : Fin 2048) (j : Fin 1024) :
    refMix x h ng w (ix3 b t j)
      = mixRow (fun k => x (ix3 b t k)) (fun k => h (ix3 b t k)) (fun k => ng (ix3 0 1 k)) (fun k l => w (ix3 0 k l)) j := by
  unfold refMix mixRow
  pointwise [refRms_at, g1]
  try rfl

/-- The reference's product with the gate and up columns. -/
def refGu (u : FVec Ideal S16x2048x1024 .f32) (wgu : FVec Ideal S2x1024x5632 .f32) : FVec Ideal S16x2048x5632 .f32 :=
  Host.dotGeneral dot_S16x2048x1024_S1024x5632_S16x2048x5632_2_0_01_1_n_n none u
    (shapeCast _ (extractStridedSlice S1x1024x5632 ![0, 0, 0] wgu slices_S2x1024x5632_S1x1024x5632_0_0_0) shapeCasts_S1x1024x5632_S1024x5632)

/-- The reference's feed-forward part, from the product with the gate and up columns. -/
def refFfn (p : FVec Ideal S16x2048x5632 .f32) (wd : FVec Ideal S2x2816x1024 .f32) : FVec Ideal S16x2048x1024 .f32 :=
  Host.dotGeneral dot_S16x2048x2816_S2816x1024_S16x2048x1024_2_0_01_1_n_n none
    (mulf (mulf (extractStridedSlice S16x2048x2816 ![0, 0, 0] p slices_S16x2048x5632_S16x2048x2816_0_0_0)
      (Host.divf (broadcastInDim S16x2048x2816 ![] bcast_S_S16x2048x2816 (constant S_ .f32 0x3F800000#32))
        (addf (broadcastInDim S16x2048x2816 ![] bcast_S_S16x2048x2816 (constant S_ .f32 0x3F800000#32))
          (Host.exp (Host.negf (extractStridedSlice S16x2048x2816 ![0, 0, 0] p slices_S16x2048x5632_S16x2048x2816_0_0_0))))))
      (extractStridedSlice S16x2048x2816 ![0, 0, 2816] p slices_S16x2048x5632_S16x2048x2816_0_0_2816))
    (shapeCast _ (extractStridedSlice S1x2816x1024 ![0, 0, 0] wd slices_S2x2816x1024_S1x2816x1024_0_0_0) shapeCasts_S1x2816x1024_S2816x1024)

/-- The reference's feed-forward part, at an index. -/
theorem refFfn_at (u : FVec Ideal S16x2048x1024 .f32) (wgu : FVec Ideal S2x1024x5632 .f32) (wd : FVec Ideal S2x2816x1024 .f32)
    (b : Fin 16) (t : Fin 2048) (j : Fin 1024) :
    refFfn (refGu u wgu) wd (ix3 b t j)
      = ffn (fun k => u (ix3 b t k)) (fun k d => wgu (ix3 0 k d)) (fun d l => wd (ix3 0 d l)) j := by
  pointwise [refFfn, refGu, ffn, swi, silu]
  try rfl

/-- The whole reference before its last reshape. -/
def refBlock (o r h : FVec Ideal S16x2048x1024 .f32) (ng : FVec Ideal S2x4x1024 .f32) (go : FVec Ideal S1x256 .f32) (w : FVec Ideal S1x1024x1024 .f32)
    (wgu : FVec Ideal S2x1024x5632 .f32) (wd : FVec Ideal S2x2816x1024 .f32) : FVec Ideal S16x2048x1024 .f32 :=
  addf (refMix (refGated o r go) h ng w) (refRms (refFfn (refGu (refRms (refMix (refGated o r go) h ng w) (g2 ng)) wgu) wd) (g3 ng))

/-- The whole reference before its last reshape, at an index. -/
theorem refBlock_at (o r h : FVec Ideal S16x2048x1024 .f32) (ng : FVec Ideal S2x4x1024 .f32) (go : FVec Ideal S1x256 .f32) (w : FVec Ideal S1x1024x1024 .f32)
    (wgu : FVec Ideal S2x1024x5632 .f32) (wd : FVec Ideal S2x2816x1024 .f32) (b : Fin 16) (t : Fin 2048) (j : Fin 1024) :
    refBlock o r h ng go w wgu wd (ix3 b t j)
      = blockRow (gated (fun k => o (ix3 b t k)) (fun k => r (ix3 b t k)) (fun k => go (ix2 0 k))) (fun k => h (ix3 b t k)) (fun k => ng (ix3 0 1 k)) (fun k => ng (ix3 0 2 k))
          (fun k => ng (ix3 0 3 k)) (fun k l => w (ix3 0 k l)) (fun k d => wgu (ix3 0 k d)) (fun d l => wd (ix3 0 d l)) j := by
  have e2 (k : Fin 1024) : g2 ng (ix1 k) = ng (ix3 0 2 k) := by pointwise [g2]; try rfl
  have e3 (k : Fin 1024) : g3 ng (ix1 k) = ng (ix3 0 3 k) := by pointwise [g3]; try rfl
  unfold refBlock blockRow
  pointwise [refRms_at, refFfn_at, refMix_at, refGated_at, e2, e3]
  try rfl

/-- The reference's result as a function of its arguments. -/
def REF (o r h : FVec Ideal S16x2048x1024 .f32) (ng : FVec Ideal S2x4x1024 .f32) (go : FVec Ideal S1x256 .f32) (w : FVec Ideal S1x1024x1024 .f32)
    (wgu : FVec Ideal S2x1024x5632 .f32) (wd : FVec Ideal S2x2816x1024 .f32) : FVec Ideal S32768x1024 .f32 :=
  shapeCast _ (refBlock o r h ng go w wgu wd) shapeCasts_S16x2048x1024_S32768x1024

/-- The reference's result, at row `i` and column `j`. -/
theorem REF_at (o r h : FVec Ideal S16x2048x1024 .f32) (ng : FVec Ideal S2x4x1024 .f32) (go : FVec Ideal S1x256 .f32) (w : FVec Ideal S1x1024x1024 .f32)
    (wgu : FVec Ideal S2x1024x5632 .f32) (wd : FVec Ideal S2x2816x1024 .f32) (i : Fin 32768) (j : Fin 1024) :
    REF o r h ng go w wgu wd (ix2 i j)
      = blockRow (gated (fun k => o (ix3 ⟨i.val / 2048, by omega⟩ ⟨i.val % 2048, by omega⟩ k)) (fun k => r (ix3 ⟨i.val / 2048, by omega⟩ ⟨i.val % 2048, by omega⟩ k)) (fun k => go (ix2 0 k)))
          (fun k => h (ix3 ⟨i.val / 2048, by omega⟩ ⟨i.val % 2048, by omega⟩ k)) (fun k => ng (ix3 0 1 k)) (fun k => ng (ix3 0 2 k))
          (fun k => ng (ix3 0 3 k)) (fun k l => w (ix3 0 k l)) (fun k d => wgu (ix3 0 k d)) (fun d l => wd (ix3 0 d l)) j := by
  pointwise [REF]
  exact refBlock_at o r h ng go w wgu wd ⟨i.val / 2048, by omega⟩ ⟨i.val % 2048, by omega⟩ j

/-- The reference's run ends with `REF` of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v77)
        = REF (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7)) :=
  (θ_run defs _ _).mono (fun _ h c => (h c).1) (Cert.Reference2Ideal.Value.run m ρ)

end Cert.Ffn2

end
-- ==== Proof.Ffn2Final.lean ====
/- The first layer's gated feed-forward kernel writes the reference's result. -/
module

public import proofs.«01_k».proof.Proof.Ffn2Kernel
public import proofs.«01_k».proof.Proof.Ffn2Reference

@[expose] public section

set_option maxRecDepth 16384

noncomputable section

namespace Cert.Ffn2

open Idealize.ShloMosaic Idealize.ShloMosaic.TcCoe Idealize.SL.Sem
open Cert.Kernel2Ideal Cert.Kernel2Ideal.Gen Cert.RowMath

set_option maxHeartbeats 4000000 in
/-- The body's result at row `i`, column `j` of a block: the layer's block function of row `i` of the row windows. -/
theorem out_at (x0 x1 x2 : FVec Ideal S512x1024 .f32) (x3 : FVec Ideal S1x256 .f32) (x4 : FVec Ideal S1024x1024 .bf16)
    (x5 : FVec Ideal S4x1024 .f32) (x6 : FVec Ideal S1024x5632 .bf16) (x7 : FVec Ideal S2816x1024 .bf16) (i : Fin 512) (j : Fin 1024) :
    out0_8 (F := Ideal) x0 x1 x2 x3 x4 x5 x6 x7 (ix2 i j)
      = blockRow (gated (fun k => x0 (ix2 i k)) (fun k => x1 (ix2 i k)) (fun k => x3 (ix2 0 k))) (fun k => x2 (ix2 i k))
          (fun k => x5 (ix2 1 k)) (fun k => x5 (ix2 2 k)) (fun k => x5 (ix2 3 k))
          (fun k l => x4 (ix2 k l)) (fun k d => x6 (ix2 k d)) (fun d l => x7 (ix2 d l)) j := by
  unfold out0_8 k0_pay35 k0_pay34 k0_pay33 k0_pay32 k0_pay31 k0_pay30 blockRow
  simp only [ffn_split]
  canon_tiles x h
  · idx_vars x
    obtain rfl : j = x1 := Fin.ext h1
    obtain rfl : i = ⟨256 + x0.val, Nat.lt_of_lt_of_le (Nat.add_lt_add_left x0.isLt 256) (by decide)⟩ := Fin.ext h0
    simp only [pay2_at, pay24_at, pay22_at, pay19_at, mixRow]
    pointwise
    try rfl
  · idx_vars x
    obtain rfl : j = x1 := Fin.ext (by omega)
    obtain rfl : i = ⟨x0.val, Nat.lt_of_lt_of_le x0.isLt (by decide)⟩ := Fin.ext (by omega)
    simp only [pay1_at, pay23_at, pay20_at, pay10_at]
    pointwise
    try rfl

/-- Where each window's block of point `t` lies: the row windows and the result advance by one block of 512 rows. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![t.val, 0] :=
  (by decide +kernel : ∀ t : Fin grid0.N, _)

variable (m : (ℓ : Loc nD τ sig) → Buf (Elt Ideal) ℓ)

set_option maxHeartbeats 2000000 in
/-- The result array after the run is the reference's function of the arguments. -/
theorem final (c : Dev nD) : (dats m 0 c).arrAt 8 (cfgs 0).N
    = REF (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t _ y => ?_
  have ht : t.val < 64 := t.isLt
  blk_simp
  rw [after0_8]
  idx_vars y
  have e : ((View.whole main_v13).slice (win0_8.rect t)).emb (ix2 y0 y1) = ix2 (⟨512 * t.val + y0.val, by omega⟩ : Fin 32768) y1 := by
    blk_ext [idx t]
  have h0 (k : Fin 1024) : (show FVec Ideal S512x1024 .f32 from iblk m c 0 t) (ix2 y0 k)
      = (show FVec Ideal S16x2048x1024 .f32 from m ((c : Thread nD τ).loc main_arg0)) (ix3 ⟨(512 * t.val + y0.val) / 2048, by omega⟩ ⟨(512 * t.val + y0.val) % 2048, by omega⟩ k) := by
    blk_simp [iblk]; entry_read; pointwise; blk_ext [idx t]
  have h1 (k : Fin 1024) : (show FVec Ideal S512x1024 .f32 from iblk m c 1 t) (ix2 y0 k)
      = (show FVec Ideal S16x2048x1024 .f32 from m ((c : Thread nD τ).loc main_arg1)) (ix3 ⟨(512 * t.val + y0.val) / 2048, by omega⟩ ⟨(512 * t.val + y0.val) % 2048, by omega⟩ k) := by
    blk_simp [iblk]; entry_read; pointwise; blk_ext [idx t]
  have h2 (k : Fin 1024) : (show FVec Ideal S512x1024 .f32 from iblk m c 2 t) (ix2 y0 k)
      = (show FVec Ideal S16x2048x1024 .f32 from m ((c : Thread nD τ).loc main_arg2)) (ix3 ⟨(512 * t.val + y0.val) / 2048, by omega⟩ ⟨(512 * t.val + y0.val) % 2048, by omega⟩ k) := by
    blk_simp [iblk]; entry_read; pointwise; blk_ext [idx t]
  have h3 (k : Fin 256) : (show FVec Ideal S1x256 .f32 from iblk m c 3 t) (ix2 0 k)
      = (show FVec Ideal S1x256 .f32 from m ((c : Thread nD τ).loc main_arg4)) (ix2 0 k) := by
    blk_simp [iblk]; entry_read; pointwise; blk_ext [idx t]
  have h4 (k l : Fin 1024) : (show FVec Ideal S1024x1024 .bf16 from iblk m c 4 t) (ix2 k l)
      = (show FVec Ideal S1x1024x1024 .f32 from m ((c : Thread nD τ).loc main_arg5)) (ix3 0 k l) := by
    blk_simp [iblk]; entry_read; pointwise; blk_ext [idx t]
  have h5 (a : Fin 4) (k : Fin 1024) : (show FVec Ideal S4x1024 .f32 from iblk m c 5 t) (ix2 a k)
      = (show FVec Ideal S2x4x1024 .f32 from m ((c : Thread nD τ).loc main_arg3)) (ix3 0 a k) := by
    blk_simp [iblk]; entry_read; pointwise; blk_ext [idx t]
  have h6 (k : Fin 1024) (d : Fin 5632) : (show FVec Ideal S1024x5632 .bf16 from iblk m c 6 t) (ix2 k d)
      = (show FVec Ideal S2x1024x5632 .f32 from m ((c : Thread nD τ).loc main_arg6)) (ix3 0 k d) := by
    blk_simp [iblk]; entry_read; pointwise; blk_ext [idx t]
  have h7 (d : Fin 2816) (l : Fin 1024) : (show FVec Ideal S2816x1024 .bf16 from iblk m c 7 t) (ix2 d l)
      = (show FVec Ideal S2x2816x1024 .f32 from m ((c : Thread nD τ).loc main_arg7)) (ix3 0 d l) := by
    blk_simp [iblk]; entry_read; pointwise; blk_ext [idx t]
  rw [e]
  refine (out_at (iblk m c 0 t) (iblk m c 1 t) (iblk m c 2 t) (iblk m c 3 t) (iblk m c 4 t) (iblk m c 5 t) (iblk m c 6 t) (iblk m c 7 t) y0 y1).trans ?_
  refine Eq.trans ?_ (REF_at _ _ _ _ _ _ _ _ _ y1).symm
  simp only [h0, h1, h2, h3, h4, h5, h6, h7]

end Cert.Ffn2

end
-- ==== Proof.Ffn2Claims.lean ====
/- The claims of the first layer's feed-forward kernel. -/
module

public import proofs.«01_k».proof.Defs
public import proofs.«01_k».proof.Proof.Gen.Kernel2.Frame
public import proofs.«01_k».proof.Proof.Ffn2Final
public import Idealize.ShloMosaic.Lib.Claim
public import Idealize.ShloMosaic.Lib.Quiescent

@[expose] public section

set_option maxRecDepth 16384

noncomputable section

namespace Cert.Ffn2

open Idealize.ShloMosaic Idealize.ShloMosaic.TcCoe Idealize.SL.Sem

instance : Cert.Kernel2.Facts := Cert.Kernel2.Gen.facts
instance : Cert.Kernel2Ideal.Facts := Cert.Kernel2Ideal.Gen.facts
instance : Cert.Reference2Ideal.Facts := Cert.Reference2Ideal.Gen.facts

/-- The kernel at its machine floats runs, ends with its arguments unchanged and every counter at zero. -/
theorem frame_kernel : Cert.quiescent_Kernel2 := fun m ρ _ => Cert.Kernel2.Gen.frame (F := Bits) m ρ

/-- The kernel over the extended reals runs, ends with its arguments unchanged and every counter at zero. -/
theorem frame_ideal : Cert.quiescent_Kernel2Ideal := fun m ρ _ => Cert.Kernel2Ideal.Gen.frame (F := Ideal) m ρ

/-- The reference runs and ends with its arguments unchanged; it declares no counter. -/
theorem frame_reference : Cert.quiescent_Reference2Ideal := fun m ρ _ =>
  (θ_run Cert.Reference2Ideal.defs _ _).mono
    (fun r h => ⟨fun c => (h c).2, sem_eq_zero_of_no_sems (by decide) r.2⟩)
    (Cert.Reference2Ideal.Value.run (F := Ideal) m ρ)

/-- Over the extended reals the kernel's result is the reference's, element by element. -/
theorem algebraic : Cert.algebraic_Kernel2Ideal_Reference2Ideal := by
  intro m g m' g' _ hagree
  refine ⟨fun c => (Cert.Kernel2Ideal.Gen.dats m 0 c).arrAt 8 (Cert.Kernel2Ideal.cfgs 0).N, ?_, ?_⟩
  · run_from Cert.Kernel2Ideal.Gen.run_main m g
  · refine (θ_run Cert.Reference2Ideal.defs _ _).mono (fun r h c => ?_) (Cert.Reference2Ideal.Value.run (F := Ideal) m' g')
    obtain ⟨e0, e1, e2, e3, e4, e5, e6, e7⟩ := hagree c
    obtain ⟨hr, h0, h1, h2, h3, h4, h5, h6, h7⟩ := h c
    refine ⟨?_, h0, h1, h2, h3, h4, h5, h6, h7⟩
    refine Eq.trans (b := REF (m' ((c.tc : Thread _ _).loc Cert.Reference2Ideal.main_arg0)) (m' ((c.tc : Thread _ _).loc Cert.Reference2Ideal.main_arg1)) (m' ((c.tc : Thread _ _).loc Cert.Reference2Ideal.main_arg2)) (m' ((c.tc : Thread _ _).loc Cert.Reference2Ideal.main_arg3)) (m' ((c.tc : Thread _ _).loc Cert.Reference2Ideal.main_arg4)) (m' ((c.tc : Thread _ _).loc Cert.Reference2Ideal.main_arg5)) (m' ((c.tc : Thread _ _).loc Cert.Reference2Ideal.main_arg6)) (m' ((c.tc : Thread _ _).loc Cert.Reference2Ideal.main_arg7))) hr ?_
    rw [e0, e1, e2, e3, e4, e5, e6, e7]
    exact (final m c).symm

end Cert.Ffn2

end
-- ==== Proof.Ffn3Kernel.lean ====
/- What the body of the second layer's feed-forward kernel computes, row by row. -/
module

public import proofs.«01_k».proof.Proof.Gen.Kernel3Ideal.Value
public import proofs.«01_k».proof.Proof.RowMath
public import Idealize.ShloMosaic.Lib.Pipeline.ValueKit

@[expose] public section

set_option maxRecDepth 16384

noncomputable section

namespace Cert.Ffn3

open Idealize.ShloMosaic Idealize.ShloMosaic.TcCoe Idealize.SL.Sem
open Cert.Kernel3Ideal Cert.Kernel3Ideal.Gen Cert.RowMath

/-- The first half block's residual stream after the mixer. -/
theorem pay4_at (x : FVec Ideal S256x1024 .f32) (w : FVec Ideal S1024x1024 .bf16) (h : FVec Ideal S256x1024 .f32)
    (g : FVec Ideal S1x1024 .f32) (r : Fin 256) (j : Fin 1024) :
    k0_pay4 (F := Ideal) x w h g (ix2 r j)
      = mixRow (fun k => x (ix2 r k)) (fun k => h (ix2 r k)) (fun k => g (ix2 0 k)) (fun k l => w (ix2 k l)) j := by
  pointwise [k0_pay4, mixRow, rms, eps, width]
  try rfl

/-- The second half block's residual stream after the mixer. -/
theorem pay8_at (x : FVec Ideal S256x1024 .f32) (w : FVec Ideal S1024x1024 .bf16) (h : FVec Ideal S256x1024 .f32)
    (g : FVec Ideal S1x1024 .f32) (r : Fin 256) (j : Fin 1024) :
    k0_pay8 (F := Ideal) (k0_pay3 x w) (k0_pay5 h) (k0_pay6 g) (k0_pay7 x w) (Scalar.ofBits .f32 0x44800000#32) (ix2 r j)
      = mixRow (fun k => x (ix2 r k)) (fun k => h (ix2 r k)) (fun k => g (ix2 0 k)) (fun k l => w (ix2 k l)) j := by
  pointwise [k0_pay8, k0_pay3, k0_pay5, k0_pay6, k0_pay7, mixRow, rms, eps, width]
  try rfl

/-- The first half block's normalised rows. -/
theorem pay9_at (x : FVec Ideal S256x1024 .f32) (g : FVec Ideal S1x1024 .f32) (r : Fin 256) (j : Fin 1024) :
    k0_pay9 (F := Ideal) x g (ix2 r j) = rms width (fun k => x (ix2 r k)) (fun k => g (ix2 0 k)) j := by
  pointwise [k0_pay9, rms, eps, width]
  try rfl

/-- The second half block's normalised rows. -/
theorem pay10_at (a : FVec Ideal S256x1024 .f32) (b : FVec Ideal S256x1024 .f32) (e : FVec Ideal S1x1024 .f32)
    (d : FVec Ideal S256x1 .f32) (s : Ideal .f32) (g : FVec Ideal S1x1024 .f32) (r : Fin 256) (j : Fin 1024) :
    k0_pay10 (F := Ideal) a b e d s g (ix2 r j)
      = rms width (fun k => k0_pay8 (F := Ideal) a b e d s (ix2 r k)) (fun k => g (ix2 0 k)) j := by
  pointwise [k0_pay10, rms, eps, width]
  try rfl

/-- The first half block's feed-forward sum. -/
theorem pay15_at (x : FVec Ideal S256x1024 .f32) (g : FVec Ideal S1x1024 .f32)
    (wg wu : FVec Ideal S1024x1536 .bf16) (wd : FVec Ideal S1536x1024 .bf16)
    (wg' wu' : FVec Ideal S1024x1280 .bf16) (wd' : FVec Ideal S1280x1024 .bf16) (r : Fin 256) (j : Fin 1024) :
    k0_pay15 (F := Ideal) (k0_pay9 x g) (k0_pay12 (k0_pay9 x g) (k0_pay11 x g wg) wu wd) (k0_pay14 (k0_pay9 x g) wg') wu' wd' (ix2 r j)
      = swi (fun k => k0_pay9 (F := Ideal) x g (ix2 r k)) (fun k d => wg (ix2 k d)) (fun k d => wu (ix2 k d)) (fun d l => wd (ix2 d l)) j
        + swi (fun k => k0_pay9 (F := Ideal) x g (ix2 r k)) (fun k d => wg' (ix2 k d)) (fun k d => wu' (ix2 k d)) (fun d l => wd' (ix2 d l)) j := by
  unfold k0_pay11
  generalize k0_pay9 (F := Ideal) x g = u
  pointwise [k0_pay15, k0_pay12, k0_pay14, swi, silu, zero_sub]
  try rfl

/-- The second half block's feed-forward sum. -/
theorem pay16_at (u : FVec Ideal S256x1024 .bf16)
    (wg wu : FVec Ideal S1024x1536 .bf16) (wd : FVec Ideal S1536x1024 .bf16)
    (wg' wu' : FVec Ideal S1024x1280 .bf16) (wd' : FVec Ideal S1280x1024 .bf16) (r : Fin 256) (j : Fin 1024) :
    k0_pay16 (F := Ideal) u (k0_pay13 u wg wu wd) wg' wu' wd' (ix2 r j)
      = swi (fun k => u (ix2 r k)) (fun k d => wg (ix2 k d)) (fun k d => wu (ix2 k d)) (fun d l => wd (ix2 d l)) j
        + swi (fun k => u (ix2 r k)) (fun k d => wg' (ix2 k d)) (fun k d => wu' (ix2 k d)) (fun d l => wd' (ix2 d l)) j := by
  pointwise [k0_pay16, k0_pay13, swi, silu, zero_sub]
  try rfl

/-- The last step: the residual stream plus the normalised feed-forward sum (first half block). -/
theorem pay1_at (h f : FVec Ideal S256x1024 .f32) (g : FVec Ideal S1x1024 .f32) (r : Fin 256) (j : Fin 1024) :
    k0_pay1 (F := Ideal) h f g (ix2 r j) = h (ix2 r j) + rms width (fun k => f (ix2 r k)) (fun k => g (ix2 0 k)) j := by
  pointwise [k0_pay1, rms, eps, width]
  try rfl

/-- The last step: the residual stream plus the normalised feed-forward sum (second half block). -/
theorem pay2_at (h f : FVec Ideal S256x1024 .f32) (g : FVec Ideal S1x1024 .f32) (r : Fin 256) (j : Fin 1024) :
    k0_pay2 (F := Ideal) h f g (ix2 r j) = h (ix2 r j) + rms width (fun k => f (ix2 r k)) (fun k => g (ix2 0 k)) j := by
  pointwise [k0_pay2, rms, eps, width]
  try rfl

end Cert.Ffn3

end
-- ==== Proof.Ffn3Reference.lean ====
/- What the second layer's feed-forward reference computes, row by row. -/
module

public import proofs.«01_k».proof.Proof.Gen.Reference3Ideal.Run
public import proofs.«01_k».proof.Proof.RowMath

@[expose] public section

set_option maxRecDepth 16384

noncomputable section

namespace Cert.Ffn3

open Idealize.ShloMosaic Idealize.ShloMosaic.TcCoe Idealize.SL.Sem
open Cert.Reference3Ideal Cert.Reference3Ideal.Gen Cert.RowMath

/-- The reference's normalisation of a `[16, 2048, 1024]` array by a vector of 1024 scales. -/
def refRms (x : FVec Ideal S16x2048x1024 .f32) (g : FVec Ideal S1024 .f32) : FVec Ideal S16x2048x1024 .f32 :=
  mulf (mulf x (broadcastInDim S16x2048x1024 ![0, 1, 2] bcast_S16x2048x1_S16x2048x1024_0_1_2 (Host.rsqrt (addf (Host.divf
      (broadcastInDim S16x2048x1 ![0, 1] bcast_S16x2048_S16x2048x1_0_1
        (Host.reduceAdd (mulf x x) (constant S_ .f32 0x00000000#32) reducesTo_S16x2048x1024_S16x2048_d2 h_S_))
      (broadcastInDim S16x2048x1 ![] bcast_S_S16x2048x1 (constant S_ .f32 0x44800000#32)))
      (broadcastInDim S16x2048x1 ![] bcast_S_S16x2048x1 (constant S_ .f32 0x358637BD#32))))))
    (broadcastInDim S16x2048x1024 ![0, 1, 2] bcast_S1x1x1024_S16x2048x1024_0_1_2
      (broadcastInDim S1x1x1024 ![2] bcast_S1024_S1x1x1024_2 g))

/-- The reference's normalisation, at an index. -/
theorem refRms_at (x : FVec Ideal S16x2048x1024 .f32) (g : FVec Ideal S1024 .f32) (b : Fin 16) (t : Fin 2048) (j : Fin 1024) :
    refRms x g (ix3 b t j) = rms width (fun k => x (ix3 b t k)) (fun k => g (ix1 k)) j := by
  pointwise [refRms, rms, eps, width]
  try rfl

/-- The scales after the mixer. -/
def g1 (ng : FVec Ideal S2x4x1024 .f32) : FVec Ideal S1024 .f32 :=
  shapeCast _ (extractStridedSlice S1x1x1024 ![1, 1, 0] ng slices_S2x4x1024_S1x1x1024_1_1_0) shapeCasts_S1x1x1024_S1024

/-- The scales before the feed-forward part. -/
def g2 (ng : FVec Ideal S2x4x1024 .f32) : FVec Ideal S1024 .f32 :=
  shapeCast _ (extractStridedSlice S1x1x1024 ![1, 2, 0] ng slices_S2x4x1024_S1x1x1024_1_2_0) shapeCasts_S1x1x1024_S1024

/-- The scales after the feed-forward part. -/
def g3 (ng : FVec Ideal S2x4x1024 .f32) : FVec Ideal S1024 .f32 :=
  shapeCast _ (extractStridedSlice S1x1x1024 ![1, 3, 0] ng slices_S2x4x1024_S1x1x1024_1_3_0) shapeCasts_S1x1x1024_S1024

/-- The reference's residual stream after the mixer. -/
def refMix (x h : FVec Ideal S16x2048x1024 .f32) (ng : FVec Ideal S2x4x1024 .f32) (w : FVec Ideal S1x1024x1024 .f32) :
    FVec Ideal S16x2048x1024 .f32 :=
  addf h (refRms (Host.dotGeneral dot_S16x2048x1024_S1024x1024_S16x2048x1024_2_0_01_1_n_n none x
    (shapeCast _ w shapeCasts_S1x1024x1024_S1024x1024)) (g1 ng))

/-- The reference's residual stream after the mixer, at an index. -/
theorem refMix_at (x h : FVec Ideal S16x2048x1024 .f32) (ng : FVec Ideal S2x4x1024 .f32) (w : FVec Ideal S1x1024x1024 .f32)
    (b : Fin 16) (t : Fin 2048) (j : Fin 1024) :
    refMix x h ng w (ix3 b t j)
      = mixRow (fun k => x (ix3 b t k)) (fun k => h (ix3 b t k)) (fun k => ng (ix3 1 1 k)) (fun k l => w (ix3 0 k l)) j := by
  unfold refMix mixRow
  pointwise [refRms_at, g1]
  try rfl

/-- The reference's product with the gate and up columns. -/
def refGu (u : FVec Ideal S16x2048x1024 .f32) (wgu : FVec Ideal S2x1024x5632 .f32) : FVec Ideal S16x2048x5632 .f32 :=
  Host.dotGeneral dot_S16x2048x1024_S1024x5632_S16x2048x5632_2_0_01_1_n_n none u
    (shapeCast _ (extractStridedSlice S1x1024x5632 ![1, 0, 0] wgu slices_S2x1024x5632_S1x1024x5632_1_0_0) shapeCasts_S1x1024x5632_S1024x5632)

/-- The reference's feed-forward part, from the product with the gate and up columns. -/
def refFfn (p : FVec Ideal S16x2048x5632 .f32) (wd : FVec Ideal S2x2816x1024 .f32) : FVec Ideal S16x2048x1024 .f32 :=
  Host.dotGeneral dot_S16x2048x2816_S2816x1024_S16x2048x1024_2_0_01_1_n_n none
    (mulf (mulf (extractStridedSlice S16x2048x2816 ![0, 0, 0] p slices_S16x2048x5632_S16x2048x2816_0_0_0)
      (Host.divf (broadcastInDim S16x2048x2816 ![] bcast_S_S16x2048x2816 (constant S_ .f32 0x3F800000#32))
        (addf (broadcastInDim S16x2048x2816 ![] bcast_S_S16x2048x2816 (constant S_ .f32 0x3F800000#32))
          (Host.exp (Host.negf (extractStridedSlice S16x2048x2816 ![0, 0, 0] p slices_S16x2048x5632_S16x2048x2816_0_0_0))))))
      (extractStridedSlice S16x2048x2816 ![0, 0, 2816] p slices_S16x2048x5632_S16x2048x2816_0_0_2816))
    (shapeCast _ (extractStridedSlice S1x2816x1024 ![1, 0, 0] wd slices_S2x2816x1024_S1x2816x1024_1_0_0) shapeCasts_S1x2816x1024_S2816x1024)

/-- The reference's feed-forward part, at an index. -/
theorem refFfn_at (u : FVec Ideal S16x2048x1024 .f32) (wgu : FVec Ideal S2x1024x5632 .f32) (wd : FVec Ideal S2x2816x1024 .f32)
    (b : Fin 16) (t : Fin 2048) (j : Fin 1024) :
    refFfn (refGu u wgu) wd (ix3 b t j)
      = ffn (fun k => u (ix3 b t k)) (fun k d => wgu (ix3 1 k d)) (fun d l => wd (ix3 1 d l)) j := by
  pointwise [refFfn, refGu, ffn, swi, silu]
  try rfl

/-- The whole reference before its last reshape. -/
def refBlock (x h : FVec Ideal S16x2048x1024 .f32) (ng : FVec Ideal S2x4x1024 .f32) (w : FVec Ideal S1x1024x1024 .f32)
    (wgu : FVec Ideal S2x1024x5632 .f32) (wd : FVec Ideal S2x2816x1024 .f32) : FVec Ideal S16x2048x1024 .f32 :=
  addf (refMix x h ng w) (refRms (refFfn (refGu (refRms (refMix x h ng w) (g2 ng)) wgu) wd) (g3 ng))

/-- The whole reference before its last reshape, at an index. -/
theorem refBlock_at (x h : FVec Ideal S16x2048x1024 .f32) (ng : FVec Ideal S2x4x1024 .f32) (w : FVec Ideal S1x1024x1024 .f32)
    (wgu : FVec Ideal S2x1024x5632 .f32) (wd : FVec Ideal S2x2816x1024 .f32) (b : Fin 16) (t : Fin 2048) (j : Fin 1024) :
    refBlock x h ng w wgu wd (ix3 b t j)
      = blockRow (fun k => x (ix3 b t k)) (fun k => h (ix3 b t k)) (fun k => ng (ix3 1 1 k)) (fun k => ng (ix3 1 2 k))
          (fun k => ng (ix3 1 3 k)) (fun k l => w (ix3 0 k l)) (fun k d => wgu (ix3 1 k d)) (fun d l => wd (ix3 1 d l)) j := by
  have e2 (k : Fin 1024) : g2 ng (ix1 k) = ng (ix3 1 2 k) := by pointwise [g2]; try rfl
  have e3 (k : Fin 1024) : g3 ng (ix1 k) = ng (ix3 1 3 k) := by pointwise [g3]; try rfl
  unfold refBlock blockRow
  pointwise [refRms_at, refFfn_at, refMix_at, e2, e3]
  try rfl

/-- The reference's result as a function of its arguments. -/
def REF (x h : FVec Ideal S16x2048x1024 .f32) (ng : FVec Ideal S2x4x1024 .f32) (w : FVec Ideal S1x1024x1024 .f32)
    (wgu : FVec Ideal S2x1024x5632 .f32) (wd : FVec Ideal S2x2816x1024 .f32) : FVec Ideal S32768x1024 .f32 :=
  shapeCast _ (refBlock x h ng w wgu wd) shapeCasts_S16x2048x1024_S32768x1024

/-- The reference's result, at row `i` and column `j`. -/
theorem REF_at (x h : FVec Ideal S16x2048x1024 .f32) (ng : FVec Ideal S2x4x1024 .f32) (w : FVec Ideal S1x1024x1024 .f32)
    (wgu : FVec Ideal S2x1024x5632 .f32) (wd : FVec Ideal S2x2816x1024 .f32) (i : Fin 32768) (j : Fin 1024) :
    REF x h ng w wgu wd (ix2 i j)
      = blockRow (fun k => x (ix3 ⟨i.val / 2048, by omega⟩ ⟨i.val % 2048, by omega⟩ k))
          (fun k => h (ix3 ⟨i.val / 2048, by omega⟩ ⟨i.val % 2048, by omega⟩ k)) (fun k => ng (ix3 1 1 k)) (fun k => ng (ix3 1 2 k))
          (fun k => ng (ix3 1 3 k)) (fun k l => w (ix3 0 k l)) (fun k d => wgu (ix3 1 k d)) (fun d l => wd (ix3 1 d l)) j := by
  pointwise [REF]
  exact refBlock_at x h ng w wgu wd ⟨i.val / 2048, by omega⟩ ⟨i.val % 2048, by omega⟩ j

/-- The reference's run ends with `REF` of its arguments. -/
theorem res_eq (m : (ℓ : Loc nD τ sig) → Buf (Elt Ideal) ℓ) (c : Dev nD) :
    Cert.Reference3Ideal.Value.res_out0 (F := Ideal) m c
      = REF (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) :=
  rfl

end Cert.Ffn3

end
-- ==== Proof.Ffn3Final.lean ====
/- The second layer's feed-forward kernel writes the reference's result. -/
module

public import proofs.«01_k».proof.Proof.Ffn3Kernel
public import proofs.«01_k».proof.Proof.Ffn3Reference

@[expose] public section

set_option maxRecDepth 16384

noncomputable section

namespace Cert.Ffn3

open Idealize.ShloMosaic Idealize.ShloMosaic.TcCoe Idealize.SL.Sem
open Cert.Kernel3Ideal Cert.Kernel3Ideal.Gen Cert.RowMath

set_option maxHeartbeats 2000000 in
/-- The body's result at row `i`, column `j` of a block: the layer's block function of row `i` of the two row windows. -/
theorem out_at (x0 x1 : FVec Ideal S512x1024 .f32) (x2 : FVec Ideal S1024x1024 .bf16) (x3 : FVec Ideal S4x1024 .f32)
    (x4 : FVec Ideal S1024x5632 .bf16) (x5 : FVec Ideal S2816x1024 .bf16) (i : Fin 512) (j : Fin 1024) :
    out0_6 (F := Ideal) x0 x1 x2 x3 x4 x5 (ix2 i j)
      = blockRow (fun k => x0 (ix2 i k)) (fun k => x1 (ix2 i k)) (fun k => x3 (ix2 1 k)) (fun k => x3 (ix2 2 k))
          (fun k => x3 (ix2 3 k)) (fun k l => x2 (ix2 k l)) (fun k d => x4 (ix2 k d)) (fun d l => x5 (ix2 d l)) j := by
  unfold out0_6 k0_pay23 k0_pay22 k0_pay21 k0_pay20 k0_pay19 k0_pay18 k0_pay17 blockRow
  simp only [ffn_split]
  canon_tiles x h
  · idx_vars x
    obtain rfl : j = x1 := Fin.ext h1
    obtain rfl : i = ⟨256 + x0.val, Nat.lt_of_lt_of_le (Nat.add_lt_add_left x0.isLt 256) (by decide)⟩ := Fin.ext h0
    simp only [pay2_at, pay16_at, pay10_at, pay8_at]
    pointwise
    try rfl
  · idx_vars x
    obtain rfl : j = x1 := Fin.ext (by omega)
    obtain rfl : i = ⟨x0.val, Nat.lt_of_lt_of_le x0.isLt (by decide)⟩ := Fin.ext (by omega)
    simp only [pay1_at, pay15_at, pay9_at, pay4_at]
    pointwise
    try rfl

/-- Where each window's block of point `t` lies: the row windows and the result advance by one block of 512 rows. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

variable (m : (ℓ : Loc nD τ sig) → Buf (Elt Ideal) ℓ)

set_option maxHeartbeats 2000000 in
/-- The result array after the run is the reference's function of the arguments. -/
theorem final (c : Dev nD) : (dats m 0 c).arrAt 6 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t _ y => ?_
  have ht : t.val < 64 := t.isLt
  blk_simp
  rw [after0_6]
  idx_vars y
  have e : ((View.whole main_v12).slice (win0_6.rect t)).emb (ix2 y0 y1) = ix2 (⟨512 * t.val + y0.val, by omega⟩ : Fin 32768) y1 := by
    blk_ext [idx t]
  have h0 (k : Fin 1024) : (show FVec Ideal S512x1024 .f32 from iblk m c 0 t) (ix2 y0 k)
      = (show FVec Ideal S16x2048x1024 .f32 from m ((c : Thread nD τ).loc main_arg0)) (ix3 ⟨(512 * t.val + y0.val) / 2048, by omega⟩ ⟨(512 * t.val + y0.val) % 2048, by omega⟩ k) := by
    blk_simp [iblk]; entry_read; pointwise; blk_ext [idx t]
  have h1 (k : Fin 1024) : (show FVec Ideal S512x1024 .f32 from iblk m c 1 t) (ix2 y0 k)
      = (show FVec Ideal S16x2048x1024 .f32 from m ((c : Thread nD τ).loc main_arg1)) (ix3 ⟨(512 * t.val + y0.val) / 2048, by omega⟩ ⟨(512 * t.val + y0.val) % 2048, by omega⟩ k) := by
    blk_simp [iblk]; entry_read; pointwise; blk_ext [idx t]
  have h2 (k l : Fin 1024) : (show FVec Ideal S1024x1024 .bf16 from iblk m c 2 t) (ix2 k l)
      = (show FVec Ideal S1x1024x1024 .f32 from m ((c : Thread nD τ).loc main_arg3)) (ix3 0 k l) := by
    blk_simp [iblk]; entry_read; pointwise; blk_ext [idx t]
  have h3 (a : Fin 4) (k : Fin 1024) : (show FVec Ideal S4x1024 .f32 from iblk m c 3 t) (ix2 a k)
      = (show FVec Ideal S2x4x1024 .f32 from m ((c : Thread nD τ).loc main_arg2)) (ix3 1 a k) := by
    blk_simp [iblk]; entry_read; pointwise; blk_ext [idx t]
  have h4 (k : Fin 1024) (d : Fin 5632) : (show FVec Ideal S1024x5632 .bf16 from iblk m c 4 t) (ix2 k d)
      = (show FVec Ideal S2x1024x5632 .f32 from m ((c : Thread nD τ).loc main_arg4)) (ix3 1 k d) := by
    blk_simp [iblk]; entry_read; pointwise; blk_ext [idx t]
  have h5 (d : Fin 2816) (l : Fin 1024) : (show FVec Ideal S2816x1024 .bf16 from iblk m c 5 t) (ix2 d l)
      = (show FVec Ideal S2x2816x1024 .f32 from m ((c : Thread nD τ).loc main_arg5)) (ix3 1 d l) := by
    blk_simp [iblk]; entry_read; pointwise; blk_ext [idx t]
  rw [e]
  refine (out_at (iblk m c 0 t) (iblk m c 1 t) (iblk m c 2 t) (iblk m c 3 t) (iblk m c 4 t) (iblk m c 5 t) y0 y1).trans ?_
  refine Eq.trans ?_ (REF_at _ _ _ _ _ _ _ y1).symm
  simp only [h0, h1, h2, h3, h4, h5]

end Cert.Ffn3

end
-- ==== Proof.Ffn3Claims.lean ====
/- The claims of the second layer's feed-forward kernel. -/
module

public import proofs.«01_k».proof.Defs
public import proofs.«01_k».proof.Proof.Gen.Kernel3.Frame
public import proofs.«01_k».proof.Proof.Ffn3Final
public import Idealize.ShloMosaic.Lib.Claim
public import Idealize.ShloMosaic.Lib.Quiescent

@[expose] public section

set_option maxRecDepth 16384

noncomputable section

namespace Cert.Ffn3

open Idealize.ShloMosaic Idealize.ShloMosaic.TcCoe Idealize.SL.Sem

instance : Cert.Kernel3.Facts := Cert.Kernel3.Gen.facts
instance : Cert.Kernel3Ideal.Facts := Cert.Kernel3Ideal.Gen.facts
instance : Cert.Reference3Ideal.Facts := Cert.Reference3Ideal.Gen.facts

/-- The kernel at its machine floats runs, ends with its arguments unchanged and every counter at zero. -/
theorem frame_kernel : Cert.quiescent_Kernel3 := fun m ρ _ => Cert.Kernel3.Gen.frame (F := Bits) m ρ

/-- The kernel over the extended reals runs, ends with its arguments unchanged and every counter at zero. -/
theorem frame_ideal : Cert.quiescent_Kernel3Ideal := fun m ρ _ => Cert.Kernel3Ideal.Gen.frame (F := Ideal) m ρ

/-- The reference runs and ends with its arguments unchanged; it declares no counter. -/
theorem frame_reference : Cert.quiescent_Reference3Ideal := fun m ρ _ =>
  (θ_run Cert.Reference3Ideal.defs _ _).mono
    (fun r h => ⟨fun c => (h c).2, sem_eq_zero_of_no_sems (by decide) r.2⟩)
    (Cert.Reference3Ideal.Value.run (F := Ideal) m ρ)

/-- Over the extended reals the kernel's result is the reference's, element by element. -/
theorem algebraic : Cert.algebraic_Kernel3Ideal_Reference3Ideal := by
  intro m g m' g' _ hagree
  refine ⟨fun c => (Cert.Kernel3Ideal.Gen.dats m 0 c).arrAt 6 (Cert.Kernel3Ideal.cfgs 0).N, ?_, ?_⟩
  · run_from Cert.Kernel3Ideal.Gen.run_main m g
  · refine (θ_run Cert.Reference3Ideal.defs _ _).mono (fun r h c => ?_) (Cert.Reference3Ideal.Value.run (F := Ideal) m' g')
    obtain ⟨e0, e1, e2, e3, e4, e5⟩ := hagree c
    obtain ⟨hr, h0, h1, h2, h3, h4, h5⟩ := h c
    refine ⟨?_, h0, h1, h2, h3, h4, h5⟩
    refine Eq.trans (b := REF (m' ((c.tc : Thread _ _).loc Cert.Reference3Ideal.main_arg0)) (m' ((c.tc : Thread _ _).loc Cert.Reference3Ideal.main_arg1)) (m' ((c.tc : Thread _ _).loc Cert.Reference3Ideal.main_arg2)) (m' ((c.tc : Thread _ _).loc Cert.Reference3Ideal.main_arg3)) (m' ((c.tc : Thread _ _).loc Cert.Reference3Ideal.main_arg4)) (m' ((c.tc : Thread _ _).loc Cert.Reference3Ideal.main_arg5))) hr ?_
    rw [e0, e1, e2, e3, e4, e5]
    exact (final m c).symm

end Cert.Ffn3

end
-- ==== Proof.ProjMath.lean ====
/- The mathematics of a projected row: a token's row normalised by its root mean square and multiplied by a matrix. -/
module

public import proofs.«01_k».proof.Proof.RowMath

@[expose] public section

set_option maxRecDepth 16384

noncomputable section

namespace Cert.RowMath

open Idealize.ShloMosaic

/-- The normalised row times one column of a matrix. -/
def proj (x g w : Fin 1024 → EReal) : EReal := ∑ k : Fin 1024, rms width x g k * w k

/-- A sum of products whose second factors all carry a factor `c`, a nonnegative real number, is the sum times `c`. -/
theorem sum_mul_scale {n : ℕ} (a w : Fin n → EReal) {c : EReal} (h0 : 0 ≤ c) (h1 : c ≠ ⊤) :
    ∑ k : Fin n, a k * (w k * c) = (∑ k : Fin n, a k * w k) * c := by
  induction n with
  | zero => simp
  | succ n ih => rw [Fin.sum_univ_succ, Fin.sum_univ_succ, ih, EReal.right_distrib_of_nonneg_of_ne_top h0 h1, mul_assoc]

/-- The factor that the query columns carry: `128^(-1/2) · log₂ e`, as the programs' constant. -/
def qScale : EReal := Ideal.ofBits .f32 0x3E38AA3B#32

theorem qScale_nonneg : 0 ≤ qScale := by
  simp [qScale, Ideal.ofBits, Ideal.ieee]
  try positivity

theorem qScale_ne_top : qScale ≠ ⊤ := by
  simp only [qScale, Ideal.ofBits, Ideal.ieee]
  norm_num
  exact_mod_cast EReal.coe_ne_top _

/-- A projection by columns that carry the query factor is the projection times the factor. -/
theorem proj_scale (x g w : Fin 1024 → EReal) : proj x g (fun k => w k * qScale) = proj x g w * qScale :=
  sum_mul_scale _ _ qScale_nonneg qScale_ne_top

end Cert.RowMath

end
-- ==== Proof.QkvKernel.lean ====
/- What the body of the key, value and query projections of the attention layers computes, row by row. -/
module

public import proofs.«01_k».proof.Proof.Gen.Kernel4Ideal.Value
public import proofs.«01_k».proof.Proof.ProjMath
public import Idealize.ShloMosaic.Lib.Pipeline.ValueKit

@[expose] public section

set_option maxRecDepth 16384

noncomputable section

namespace Cert.Qkv

open Idealize.ShloMosaic Idealize.ShloMosaic.TcCoe Idealize.SL.Sem
open Cert.Kernel4Ideal Cert.Kernel4Ideal.Gen Cert.RowMath

/-- A half block's rows normalised for the key and value columns. -/
theorem pay5_at (x : FVec Ideal S256x1024 .f32) (g : FVec Ideal S1x1024 .f32) (r : Fin 256) (k : Fin 1024) :
    k0_pay5 (F := Ideal) x g (ix2 r k) = rms width (fun k => x (ix2 r k)) (fun k => g (ix2 0 k)) k := by
  pointwise [k0_pay5, k0_pay3, rms, eps, width]
  try rfl

/-- The other three normalisations of a half block are the same function. -/
theorem pay6_eq (x : FVec Ideal S256x1024 .f32) (g : FVec Ideal S1x1024 .f32) : k0_pay6 (F := Ideal) x g = k0_pay5 x g := rfl
theorem pay7_eq (x : FVec Ideal S256x1024 .f32) (g : FVec Ideal S1x1024 .f32) : k0_pay7 (F := Ideal) x g = k0_pay5 x g := rfl
theorem pay9_eq (x : FVec Ideal S256x1024 .f32) (g : FVec Ideal S1x1024 .f32) :
    k0_pay9 (F := Ideal) (k0_pay4 x) (k0_pay8 g) = k0_pay5 x g := rfl

/-- A half block's product with 512 columns. -/
theorem pay10_at (x : FVec Ideal S256x1024 .f32) (g : FVec Ideal S1x1024 .f32) (w : FVec Ideal S1024x512 .bf16)
    (r : Fin 256) (j : Fin 512) :
    k0_pay10 (F := Ideal) (k0_pay5 x g) w (ix2 r j)
      = proj (fun k => x (ix2 r k)) (fun k => g (ix2 0 k)) (fun k => w (ix2 k j)) := by
  unfold proj
  pointwise [k0_pay10, pay5_at]
  try rfl

/-- The other products with 512 columns are the same function. -/
theorem pay11_eq (u : FVec Ideal S256x1024 .bf16) (w : FVec Ideal S1024x512 .bf16) : k0_pay11 (F := Ideal) u w = k0_pay10 u w := rfl
theorem pay12_eq (u : FVec Ideal S256x1024 .bf16) (w : FVec Ideal S1024x512 .bf16) : k0_pay12 (F := Ideal) u w = k0_pay10 u w := rfl
theorem pay18_eq (u : FVec Ideal S256x1024 .bf16) (w : FVec Ideal S1024x512 .bf16) : k0_pay18 (F := Ideal) u w = k0_pay10 u w := rfl
theorem pay19_eq (u : FVec Ideal S256x1024 .bf16) (w : FVec Ideal S1024x512 .bf16) : k0_pay19 (F := Ideal) u w = k0_pay10 u w := rfl
theorem pay21_eq (u : FVec Ideal S256x1024 .bf16) (w : FVec Ideal S1024x512 .bf16) : k0_pay21 (F := Ideal) u w = k0_pay13 u w := rfl

/-- A half block's product with 512 columns, transposed. -/
theorem pay13_at (x : FVec Ideal S256x1024 .f32) (g : FVec Ideal S1x1024 .f32) (w : FVec Ideal S1024x512 .bf16)
    (z : Fin 1) (j : Fin 512) (r : Fin 256) :
    k0_pay13 (F := Ideal) (k0_pay5 x g) w (ix3 z j r)
      = proj (fun k => x (ix2 r k)) (fun k => g (ix2 0 k)) (fun k => w (ix2 k j)) := by
  rw [← pay10_at]
  pointwise [k0_pay13, pay12_eq]
  try rfl

/-- A half block's product with the 2048 query columns of the two dense layers. -/
theorem pay27_at (x : FVec Ideal S256x1024 .f32) (g : FVec Ideal S1x1024 .f32) (w : FVec Ideal S1024x2048 .bf16)
    (r : Fin 256) (j : Fin 2048) :
    k0_pay27 (F := Ideal) (k0_pay5 x g) w (ix2 r j)
      = proj (fun k => x (ix2 r k)) (fun k => g (ix2 0 k)) (fun k => w (ix2 k j)) := by
  unfold proj
  pointwise [k0_pay27, pay5_at]
  try rfl

theorem pay38_eq (u : FVec Ideal S256x1024 .bf16) (w : FVec Ideal S1024x2048 .bf16) : k0_pay38 (F := Ideal) u w = k0_pay27 u w := rfl

end Cert.Qkv

end
-- ==== Proof.QkvReference.lean ====
/- What the reference of the attention layers' projections computes, row by row. -/
module

public import proofs.«01_k».proof.Proof.Gen.Reference4Ideal.Run
public import proofs.«01_k».proof.Proof.ProjMath
public import proofs.«01_k».proof.Proof.Ffn3Reference

@[expose] public section

set_option maxRecDepth 16384

noncomputable section

namespace Cert.Qkv

open Idealize.ShloMosaic Idealize.ShloMosaic.TcCoe Idealize.SL.Sem
open Cert.Reference4Ideal Cert.Reference4Ideal.Gen Cert.RowMath

/-- The scales before the second layer's mixer. -/
def g0 (ng : FVec Ideal S2x4x1024 .f32) : FVec Ideal S1024 .f32 :=
  shapeCast _ (extractStridedSlice S1x1x1024 ![1, 0, 0] ng slices_S2x4x1024_S1x1x1024_1_0_0) shapeCasts_S1x1x1024_S1024

/-- The reference's keys and values of the three attention heads groups. -/
def kv (h : FVec Ideal S16x2048x1024 .f32) (g : FVec Ideal S1024 .f32) (w : FVec Ideal S1024x1536 .f32) : FVec Ideal S16x2048x1536 .f32 :=
  Host.dotGeneral dot_S16x2048x1024_S1024x1536_S16x2048x1536_2_0_01_1_n_n none (Ffn3.refRms h g) w

theorem kv_at (h : FVec Ideal S16x2048x1024 .f32) (g : FVec Ideal S1024 .f32) (w : FVec Ideal S1024x1536 .f32)
    (b : Fin 16) (t : Fin 2048) (j : Fin 1536) :
    kv h g w (ix3 b t j) = proj (fun k => h (ix3 b t k)) (fun k => g (ix1 k)) (fun k => w (ix2 k j)) := by
  unfold proj
  pointwise [kv, Ffn3.refRms_at]
  try rfl

/-- The reference's scaled queries. -/
def qs (h : FVec Ideal S16x2048x1024 .f32) (ng : FVec Ideal S2x4x1024 .f32) (w : FVec Ideal S1x1024x3072 .f32) : FVec Ideal S16x2048x3072 .f32 :=
  mulf (Host.dotGeneral dot_S16x2048x1024_S1024x3072_S16x2048x3072_2_0_01_1_n_n none (Ffn3.refRms h (g0 ng))
      (shapeCast _ w shapeCasts_S1x1024x3072_S1024x3072))
    (broadcastInDim S16x2048x3072 ![] bcast_S_S16x2048x3072 (constant S_ .f32 0x3E38AA3B#32))

theorem qs_at (h : FVec Ideal S16x2048x1024 .f32) (ng : FVec Ideal S2x4x1024 .f32) (w : FVec Ideal S1x1024x3072 .f32)
    (b : Fin 16) (t : Fin 2048) (j : Fin 3072) :
    qs h ng w (ix3 b t j)
      = proj (fun k => h (ix3 b t k)) (fun k => ng (ix3 1 0 k)) (fun k => w (ix3 0 k j)) * qScale := by
  have e0 (k : Fin 1024) : g0 ng (ix1 k) = ng (ix3 1 0 k) := by pointwise [g0]; try rfl
  unfold proj qScale
  pointwise [qs, Ffn3.refRms_at, e0]
  try rfl

/-- The reference's four results: the keys and values of the first two groups, row by row, … -/
def REF0 (h : FVec Ideal S16x2048x1024 .f32) (g : FVec Ideal S1024 .f32) (w : FVec Ideal S1024x1536 .f32) : FVec Ideal S32768x512 .f32 :=
  shapeCast _ (extractStridedSlice S16x2048x512 ![0, 0, 0] (kv h g w) slices_S16x2048x1536_S16x2048x512_0_0_0) shapeCasts_S16x2048x512_S32768x512
def REF1 (h : FVec Ideal S16x2048x1024 .f32) (g : FVec Ideal S1024 .f32) (w : FVec Ideal S1024x1536 .f32) : FVec Ideal S32768x512 .f32 :=
  shapeCast _ (extractStridedSlice S16x2048x512 ![0, 0, 512] (kv h g w) slices_S16x2048x1536_S16x2048x512_0_0_512) shapeCasts_S16x2048x512_S32768x512

/-- … the scaled queries of the first two groups, … -/
def REF2 (h : FVec Ideal S16x2048x1024 .f32) (ng : FVec Ideal S2x4x1024 .f32) (w : FVec Ideal S1x1024x3072 .f32) : FVec Ideal S32768x2048 .f32 :=
  shapeCast _ (extractStridedSlice S16x2048x2048 ![0, 0, 0] (qs h ng w) slices_S16x2048x3072_S16x2048x2048_0_0_0) shapeCasts_S16x2048x2048_S32768x2048

/-- … and the keys and values of the third group, transposed. -/
def REF3 (h : FVec Ideal S16x2048x1024 .f32) (g : FVec Ideal S1024 .f32) (w : FVec Ideal S1024x1536 .f32) : FVec Ideal S16x512x2048 .f32 :=
  transpose S16x512x2048 [0, 2, 1] (extractStridedSlice S16x2048x512 ![0, 0, 1024] (kv h g w) slices_S16x2048x1536_S16x2048x512_0_0_1024) transposes_S16x2048x512_S16x512x2048_0_2_1

theorem REF0_at (h : FVec Ideal S16x2048x1024 .f32) (g : FVec Ideal S1024 .f32) (w : FVec Ideal S1024x1536 .f32) (i : Fin 32768) (j : Fin 512) :
    REF0 h g w (ix2 i j) = proj (fun k => h (ix3 ⟨i.val / 2048, by omega⟩ ⟨i.val % 2048, by omega⟩ k)) (fun k => g (ix1 k))
      (fun k => w (ix2 k ⟨j.val, by omega⟩)) := by
  rw [← kv_at]
  pointwise [REF0]
  try rfl

theorem REF1_at (h : FVec Ideal S16x2048x1024 .f32) (g : FVec Ideal S1024 .f32) (w : FVec Ideal S1024x1536 .f32) (i : Fin 32768) (j : Fin 512) :
    REF1 h g w (ix2 i j) = proj (fun k => h (ix3 ⟨i.val / 2048, by omega⟩ ⟨i.val % 2048, by omega⟩ k)) (fun k => g (ix1 k))
      (fun k => w (ix2 k ⟨512 + j.val, by omega⟩)) := by
  rw [← kv_at]
  pointwise [REF1]
  try rfl

theorem REF2_at (h : FVec Ideal S16x2048x1024 .f32) (ng : FVec Ideal S2x4x1024 .f32) (w : FVec Ideal S1x1024x3072 .f32) (i : Fin 32768) (j : Fin 2048) :
    REF2 h ng w (ix2 i j) = proj (fun k => h (ix3 ⟨i.val / 2048, by omega⟩ ⟨i.val % 2048, by omega⟩ k)) (fun k => ng (ix3 1 0 k))
      (fun k => w (ix3 0 k ⟨j.val, by omega⟩)) * qScale := by
  rw [← qs_at]
  pointwise [REF2]
  try rfl

theorem REF3_at (h : FVec Ideal S16x2048x1024 .f32) (g : FVec Ideal S1024 .f32) (w : FVec Ideal S1024x1536 .f32) (b : Fin 16) (j : Fin 512) (t : Fin 2048) :
    REF3 h g w (ix3 b j t) = proj (fun k => h (ix3 b t k)) (fun k => g (ix1 k)) (fun k => w (ix2 k ⟨1024 + j.val, by omega⟩)) := by
  rw [← kv_at]
  pointwise [REF3]
  try rfl

end Cert.Qkv

end
-- ==== Proof.QkvFinal.lean ====
/- The projections' kernel writes the reference's results. -/
module

public import proofs.«01_k».proof.Proof.QkvKernel
public import proofs.«01_k».proof.Proof.QkvReference

@[expose] public section

set_option maxRecDepth 16384

noncomputable section

namespace Cert.Qkv

open Idealize.ShloMosaic Idealize.ShloMosaic.TcCoe Idealize.SL.Sem
open Cert.Kernel4Ideal Cert.Kernel4Ideal.Gen Cert.RowMath

variable (m : (ℓ : Loc nD τ sig) → Buf (Elt Ideal) ℓ)

/-- The blocks of a grid point: 512 rows of the residual stream, the two rows of scales, the two matrices. -/
abbrev bh (c : Dev nD) (t : Fin cfg0.N) : FVec Ideal S512x1024 .f32 := iblk m c 0 t
abbrev bgk (c : Dev nD) (t : Fin cfg0.N) : FVec Ideal S1x1024 .f32 := iblk m c 1 t
abbrev bng (c : Dev nD) (t : Fin cfg0.N) : FVec Ideal S4x1024 .f32 := iblk m c 2 t
abbrev bwk (c : Dev nD) (t : Fin cfg0.N) : FVec Ideal S1024x1536 .bf16 := iblk m c 3 t
abbrev bwq (c : Dev nD) (t : Fin cfg0.N) : FVec Ideal S1024x3072 .bf16 := iblk m c 4 t

set_option maxHeartbeats 2000000 in
/-- What a grid point leaves in the block of the first group of keys and values. -/
theorem out5_at (c : Dev nD) (t : Fin cfg0.N) (i : Fin 512) (j : Fin 512) :
    (outsAt0 m c t).1 (ix2 i j)
      = proj (fun k => bh m c t (ix2 i k)) (fun k => bgk m c t (ix2 0 k))
          (fun k => bwk m c t (ix2 k ⟨j.val, by omega⟩)) := by
  unfold outsAt0
  dsimp only
  unfold out0_A_5
  rw [View.read_writes_junk_eq_canon]
  unfold kernelRun0_A
  dsimp only
  canon_tiles x h
  · sl_unfold_words
    simp only [View.readAt_eq_ld, Memref.IsWhole.read_unread, pay18_eq, pay6_eq]
    idx_vars x
    obtain rfl : j = x1 := Fin.ext h1
    obtain rfl : i = ⟨256 + x0.val, Nat.lt_of_lt_of_le (Nat.add_lt_add_left x0.isLt 256) (by decide)⟩ := Fin.ext h0
    simp only [pay10_at]
    pointwise
    try rfl
  · sl_unfold_words
    simp only [View.readAt_eq_ld, Memref.IsWhole.read_unread, pay11_eq]
    idx_vars x
    obtain rfl : j = x1 := Fin.ext (by omega)
    obtain rfl : i = ⟨x0.val, Nat.lt_of_lt_of_le x0.isLt (by decide)⟩ := Fin.ext (by omega)
    simp only [pay10_at]
    pointwise
    try rfl

set_option maxHeartbeats 2000000 in
/-- What a grid point leaves in the block of the second group of keys and values. -/
theorem out6_at (c : Dev nD) (t : Fin cfg0.N) (i : Fin 512) (j : Fin 512) :
    (outsAt0 m c t).2.1 (ix2 i j)
      = proj (fun k => bh m c t (ix2 i k)) (fun k => bgk m c t (ix2 0 k))
          (fun k => bwk m c t (ix2 k ⟨512 + j.val, by omega⟩)) := by
  unfold outsAt0
  dsimp only
  unfold out0_A_6
  rw [View.read_writes_junk_eq_canon]
  unfold kernelRun0_A
  dsimp only
  canon_tiles x h
  · sl_unfold_words
    simp only [View.readAt_eq_ld, Memref.IsWhole.read_unread, pay19_eq, pay6_eq]
    idx_vars x
    obtain rfl : j = x1 := Fin.ext h1
    obtain rfl : i = ⟨256 + x0.val, Nat.lt_of_lt_of_le (Nat.add_lt_add_left x0.isLt 256) (by decide)⟩ := Fin.ext h0
    simp only [pay10_at]
    pointwise
    try rfl
  · sl_unfold_words
    simp only [View.readAt_eq_ld, Memref.IsWhole.read_unread, pay11_eq]
    idx_vars x
    obtain rfl : j = x1 := Fin.ext (by omega)
    obtain rfl : i = ⟨x0.val, Nat.lt_of_lt_of_le x0.isLt (by decide)⟩ := Fin.ext (by omega)
    simp only [pay10_at]
    pointwise
    try rfl

set_option maxHeartbeats 2000000 in
/-- What a grid point leaves in the block of the scaled queries. -/
theorem out7_at (c : Dev nD) (t : Fin cfg0.N) (i : Fin 512) (j : Fin 2048) :
    (outsAt0 m c t).2.2.1 (ix2 i j)
      = proj (fun k => bh m c t (ix2 i k)) (fun k => bng m c t (ix2 0 k))
          (fun k => bwq m c t (ix2 k ⟨j.val, by omega⟩)) := by
  unfold outsAt0
  dsimp only
  unfold out0_A_7
  rw [View.read_writes_junk_eq_canon]
  unfold kernelRun0_A
  dsimp only
  canon_tiles x h
  · sl_unfold_words
    simp only [View.readAt_eq_ld, Memref.IsWhole.read_unread, pay38_eq, pay9_eq]
    idx_vars x
    obtain rfl : j = x1 := Fin.ext h1
    obtain rfl : i = ⟨256 + x0.val, Nat.lt_of_lt_of_le (Nat.add_lt_add_left x0.isLt 256) (by decide)⟩ := Fin.ext h0
    simp only [pay27_at]
    pointwise
    try rfl
  · sl_unfold_words
    simp only [View.readAt_eq_ld, Memref.IsWhole.read_unread, pay7_eq]
    idx_vars x
    obtain rfl : j = x1 := Fin.ext (by omega)
    obtain rfl : i = ⟨x0.val, Nat.lt_of_lt_of_le x0.isLt (by decide)⟩ := Fin.ext (by omega)
    simp only [pay27_at]
    pointwise
    try rfl

set_option maxHeartbeats 2000000 in
/-- What a grid point leaves in the block of the transposed third group of keys and values. -/
theorem out8_at (c : Dev nD) (t : Fin cfg0.N) (z : Fin 1) (i j : Fin 512) :
    (outsAt0 m c t).2.2.2.1 (ix3 z j i)
      = proj (fun k => bh m c t (ix2 i k)) (fun k => bgk m c t (ix2 0 k))
          (fun k => bwk m c t (ix2 k ⟨1024 + j.val, by omega⟩)) := by
  unfold outsAt0
  dsimp only
  unfold out0_A_8
  rw [View.read_writes_junk_eq_canon]
  unfold kernelRun0_A
  dsimp only
  canon_tiles x h
  · sl_unfold_words
    simp only [View.readAt_eq_ld, Memref.IsWhole.read_unread, pay21_eq, pay6_eq]
    idx_vars x
    obtain rfl : j = x1 := Fin.ext h1
    obtain rfl : i = ⟨256 + x2.val, Nat.lt_of_lt_of_le (Nat.add_lt_add_left x2.isLt 256) (by decide)⟩ := Fin.ext h2
    simp only [pay13_at]
    pointwise
    try rfl
  · sl_unfold_words
    simp only [View.readAt_eq_ld, Memref.IsWhole.read_unread, pay11_eq]
    idx_vars x
    obtain rfl : j = x1 := Fin.ext (by omega)
    obtain rfl : i = ⟨x2.val, Nat.lt_of_lt_of_le x2.isLt (by decide)⟩ := Fin.ext (by omega)
    simp only [pay13_at]
    pointwise
    try rfl

/-- Where each window's block of point `t` lies. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val / 4, 0, t.val % 4] :=
  (by decide +kernel : ∀ t : Fin grid0.N, _)

/-- Row `i` of a block of 512 rows, in the residual stream. -/
theorem bh_at (c : Dev nD) (t : Fin cfg0.N) (i : Fin 512) (k : Fin 1024) (h : t.val < 64) : bh m c t (ix2 i k)
    = (show FVec Ideal S16x2048x1024 .f32 from m ((c : Thread nD τ).loc main_arg0)) (ix3 ⟨(512 * t.val + i.val) / 2048, by omega⟩ ⟨(512 * t.val + i.val) % 2048, by omega⟩ k) := by
  unfold bh
  blk_simp [iblk]; entry_read; pointwise; blk_ext [idx t]

theorem bgk_at (c : Dev nD) (t : Fin cfg0.N) (k : Fin 1024) : bgk m c t (ix2 0 k)
    = (show FVec Ideal S1024 .f32 from m ((c : Thread nD τ).loc main_arg1)) (ix1 k) := by
  unfold bgk
  blk_simp [iblk]; entry_read; pointwise; blk_ext [idx t]

theorem bng_at (c : Dev nD) (t : Fin cfg0.N) (a : Fin 4) (k : Fin 1024) : bng m c t (ix2 a k)
    = (show FVec Ideal S2x4x1024 .f32 from m ((c : Thread nD τ).loc main_arg2)) (ix3 1 a k) := by
  unfold bng
  blk_simp [iblk]; entry_read; pointwise; blk_ext [idx t]

theorem bwk_at (c : Dev nD) (t : Fin cfg0.N) (k : Fin 1024) (j : Fin 1536) : bwk m c t (ix2 k j)
    = (show FVec Ideal S1024x1536 .f32 from m ((c : Thread nD τ).loc main_arg3)) (ix2 k j) := by
  unfold bwk
  blk_simp [iblk]; entry_read; pointwise; blk_ext [idx t]

theorem bwq_at (c : Dev nD) (t : Fin cfg0.N) (k : Fin 1024) (j : Fin 3072) : bwq m c t (ix2 k j)
    = (show FVec Ideal S1x1024x3072 .f32 from m ((c : Thread nD τ).loc main_arg4)) (ix3 0 k j) * qScale := by
  unfold bwq
  blk_simp [iblk]; entry_read; pointwise [qScale]
  refine congrArg (· * Ideal.ofBits .f32 0x3E38AA3B#32) ?_
  blk_ext [idx t]

set_option maxHeartbeats 2000000 in
/-- The first group of keys and values after the run. -/
theorem final5 (c : Dev nD) : (dats m 0 c).arrAt 5 (cfgs 0).N = REF0 (m ((c : Thread nD τ).loc main_arg0)) (m ((c : Thread nD τ).loc main_arg1)) (m ((c : Thread nD τ).loc main_arg3)) := by
  refine (dats m 0 c).arrAt_eq_of_covers 5 _ (by decide +kernel) fun t _ y => ?_
  have ht : t.val < 64 := t.isLt
  blk_simp
  rw [after0_5]
  idx_vars y
  have e : ((View.whole main_v9_0).slice (win0_5.rect t)).emb (ix2 y0 y1) = ix2 (⟨512 * t.val + y0.val, by omega⟩ : Fin 32768) y1 := by
    blk_ext [idx t]
  rw [e]
  refine (out5_at m c t y0 y1).trans ?_
  refine Eq.trans ?_ (REF0_at _ _ _ _ y1).symm
  simp only [bh_at m c t _ _ ht, bgk_at, bng_at, bwk_at, bwq_at]

set_option maxHeartbeats 2000000 in
/-- The second group of keys and values after the run. -/
theorem final6 (c : Dev nD) : (dats m 0 c).arrAt 6 (cfgs 0).N = REF1 (m ((c : Thread nD τ).loc main_arg0)) (m ((c : Thread nD τ).loc main_arg1)) (m ((c : Thread nD τ).loc main_arg3)) := by
  refine (dats m 0 c).arrAt_eq_of_covers 6 _ (by decide +kernel) fun t _ y => ?_
  have ht : t.val < 64 := t.isLt
  blk_simp
  rw [after0_6]
  idx_vars y
  have e : ((View.whole main_v9_1).slice (win0_6.rect t)).emb (ix2 y0 y1) = ix2 (⟨512 * t.val + y0.val, by omega⟩ : Fin 32768) y1 := by
    blk_ext [idx t]
  rw [e]
  refine (out6_at m c t y0 y1).trans ?_
  refine Eq.trans ?_ (REF1_at _ _ _ _ y1).symm
  simp only [bh_at m c t _ _ ht, bgk_at, bng_at, bwk_at, bwq_at]

set_option maxHeartbeats 2000000 in
/-- The scaled queries after the run. -/
theorem final7 (c : Dev nD) : (dats m 0 c).arrAt 7 (cfgs 0).N = REF2 (m ((c : Thread nD τ).loc main_arg0)) (m ((c : Thread nD τ).loc main_arg2)) (m ((c : Thread nD τ).loc main_arg4)) := by
  refine (dats m 0 c).arrAt_eq_of_covers 7 _ (by decide +kernel) fun t _ y => ?_
  have ht : t.val < 64 := t.isLt
  blk_simp
  rw [after0_7]
  idx_vars y
  have e : ((View.whole main_v9_2).slice (win0_7.rect t)).emb (ix2 y0 y1) = ix2 (⟨512 * t.val + y0.val, by omega⟩ : Fin 32768) y1 := by
    blk_ext [idx t]
  rw [e]
  refine (out7_at m c t y0 y1).trans ?_
  refine Eq.trans ?_ (REF2_at _ _ _ _ y1).symm
  simp only [bh_at m c t _ _ ht, bgk_at, bng_at, bwk_at, bwq_at, proj_scale]

set_option maxHeartbeats 2000000 in
/-- The transposed third group of keys and values after the run. -/
theorem final8 (c : Dev nD) : (dats m 0 c).arrAt 8 (cfgs 0).N = REF3 (m ((c : Thread nD τ).loc main_arg0)) (m ((c : Thread nD τ).loc main_arg1)) (m ((c : Thread nD τ).loc main_arg3)) := by
  refine (dats m 0 c).arrAt_eq_of_covers 8 _ (by decide +kernel) fun t _ y => ?_
  have ht : t.val < 64 := t.isLt
  blk_simp
  rw [after0_8]
  idx_vars y
  have e : ((View.whole main_v9_3).slice (win0_8.rect t)).emb (ix3 y0 y1 y2) = ix3 (⟨t.val / 4, by omega⟩ : Fin 16) y1 (⟨512 * (t.val % 4) + y2.val, by omega⟩ : Fin 2048) := by
    blk_ext [idx t]
  rw [e]
  refine (out8_at m c t y0 y2 y1).trans ?_
  refine Eq.trans ?_ (REF3_at _ _ _ _ y1 _).symm
  have hb : (⟨(512 * t.val + y2.val) / 2048, by omega⟩ : Fin 16) = ⟨t.val / 4, by omega⟩ := Fin.ext (by show (512 * t.val + y2.val) / 2048 = t.val / 4; omega)
  have hr : (⟨(512 * t.val + y2.val) % 2048, by omega⟩ : Fin 2048) = ⟨512 * (t.val % 4) + y2.val, by omega⟩ := Fin.ext (by show (512 * t.val + y2.val) % 2048 = 512 * (t.val % 4) + y2.val; omega)
  simp only [bh_at m c t _ _ ht, hb, hr, bgk_at, bng_at, bwk_at, bwq_at]

end Cert.Qkv

end
-- ==== Proof.QkvClaims.lean ====
/- The claims of the projections' kernel. -/
module

public import proofs.«01_k».proof.Defs
public import proofs.«01_k».proof.Proof.Gen.Kernel4.Frame
public import proofs.«01_k».proof.Proof.QkvFinal
public import Idealize.ShloMosaic.Lib.Claim
public import Idealize.ShloMosaic.Lib.Quiescent

@[expose] public section

set_option maxRecDepth 16384

noncomputable section

namespace Cert.Qkv

open Idealize.ShloMosaic Idealize.ShloMosaic.TcCoe Idealize.SL.Sem

instance : Cert.Kernel4.Facts := Cert.Kernel4.Gen.facts
instance : Cert.Kernel4Ideal.Facts := Cert.Kernel4Ideal.Gen.facts
instance : Cert.Reference4Ideal.Facts := Cert.Reference4Ideal.Gen.facts

/-- The kernel at its machine floats runs, ends with its arguments unchanged and every counter at zero. -/
theorem frame_kernel : Cert.quiescent_Kernel4 := fun m ρ _ => Cert.Kernel4.Gen.frame (F := Bits) m ρ

/-- The kernel over the extended reals runs, ends with its arguments unchanged and every counter at zero. -/
theorem frame_ideal : Cert.quiescent_Kernel4Ideal := fun m ρ _ => Cert.Kernel4Ideal.Gen.frame (F := Ideal) m ρ

/-- The reference runs and ends with its arguments unchanged; it declares no counter. -/
theorem frame_reference : Cert.quiescent_Reference4Ideal := fun m ρ _ =>
  (θ_run Cert.Reference4Ideal.defs _ _).mono
    (fun r h => ⟨fun c => (h c).2.2.2.2, sem_eq_zero_of_no_sems (by decide) r.2⟩)
    (Cert.Reference4Ideal.Value.run (F := Ideal) m ρ)

/-- Over the extended reals the kernel's results are the reference's, element by element. -/
theorem algebraic : Cert.algebraic_Kernel4Ideal_Reference4Ideal := by
  intro m g m' g' _ hagree
  refine ⟨fun c => (Cert.Kernel4Ideal.Gen.dats m 0 c).arrAt 5 (Cert.Kernel4Ideal.cfgs 0).N,
    fun c => (Cert.Kernel4Ideal.Gen.dats m 0 c).arrAt 6 (Cert.Kernel4Ideal.cfgs 0).N,
    fun c => (Cert.Kernel4Ideal.Gen.dats m 0 c).arrAt 7 (Cert.Kernel4Ideal.cfgs 0).N,
    fun c => (Cert.Kernel4Ideal.Gen.dats m 0 c).arrAt 8 (Cert.Kernel4Ideal.cfgs 0).N, ?_, ?_⟩
  · refine (θ_run Cert.Kernel4Ideal.defs _ _).mono (fun r h c => ?_) (Cert.Kernel4Ideal.Value.run_blocks (F := Ideal) m g)
    obtain ⟨h5, h6, h7, h8, _, _, ha⟩ := h c
    exact ⟨h5, h6, h7, h8, ha⟩
  · refine (θ_run Cert.Reference4Ideal.defs _ _).mono (fun r h c => ?_) (Cert.Reference4Ideal.Value.run (F := Ideal) m' g')
    obtain ⟨e0, e1, e2, e3, e4⟩ := hagree c
    obtain ⟨r0, r1, r2, r3, ha⟩ := h c
    refine ⟨?_, ?_, ?_, ?_, ha⟩
    · refine Eq.trans (b := REF0 (m' ((c.tc : Thread _ _).loc Cert.Reference4Ideal.main_arg0)) (m' ((c.tc : Thread _ _).loc Cert.Reference4Ideal.main_arg1)) (m' ((c.tc : Thread _ _).loc Cert.Reference4Ideal.main_arg3))) r0 ?_
      rw [e0, e1, e3]
      exact (final5 m c).symm
    · refine Eq.trans (b := REF1 (m' ((c.tc : Thread _ _).loc Cert.Reference4Ideal.main_arg0)) (m' ((c.tc : Thread _ _).loc Cert.Reference4Ideal.main_arg1)) (m' ((c.tc : Thread _ _).loc Cert.Reference4Ideal.main_arg3))) r1 ?_
      rw [e0, e1, e3]
      exact (final6 m c).symm
    · refine Eq.trans (b := REF2 (m' ((c.tc : Thread _ _).loc Cert.Reference4Ideal.main_arg0)) (m' ((c.tc : Thread _ _).loc Cert.Reference4Ideal.main_arg2)) (m' ((c.tc : Thread _ _).loc Cert.Reference4Ideal.main_arg4))) r2 ?_
      rw [e0, e2, e4]
      exact (final7 m c).symm
    · refine Eq.trans (b := REF3 (m' ((c.tc : Thread _ _).loc Cert.Reference4Ideal.main_arg0)) (m' ((c.tc : Thread _ _).loc Cert.Reference4Ideal.main_arg1)) (m' ((c.tc : Thread _ _).loc Cert.Reference4Ideal.main_arg3))) r3 ?_
      rw [e0, e1, e3]
      exact (final8 m c).symm

end Cert.Qkv

end
-- ==== Proof.GateMath.lean ====
/- The mathematics of the log gates: the log sigmoid in the two forms that the programs use, the low-rank product whose
   inner width is padded with zeros, and the two divisions by a constant. -/
module

public import proofs.«01_k».proof.Proof.ProjMath

@[expose] public section

set_option maxRecDepth 16384

noncomputable section

namespace Cert.RowMath

open Idealize.ShloMosaic

/-- The log sigmoid `min z 0 − log (1 + e^(−|z|))`. -/
def lsig (z : EReal) : EReal := min z 0 - Ideal.log (1 + Ideal.exp (0 - max z (-z)))

/-- The correction term of the log sigmoid is a real number at every extended real. -/
theorem corr_real (z : EReal) : ∃ l : ℝ, Ideal.log (1 + Ideal.exp (0 - max z (-z))) = (l : EReal) := by
  have key (s : ℝ) : ∃ l : ℝ, Ideal.log ((1 : EReal) + ((Real.exp s : ℝ) : EReal)) = (l : EReal) := by
    refine ⟨Real.log (1 + Real.exp s), ?_⟩
    rw [← EReal.coe_one, ← EReal.coe_add, Ideal.log_coe, if_neg (by have := Real.exp_pos s; linarith)]
  have inf : ∃ l : ℝ, Ideal.log ((1 : EReal) + 0) = (l : EReal) := by
    refine ⟨Real.log 1, ?_⟩
    rw [add_zero, ← EReal.coe_one, Ideal.log_coe, if_neg (by norm_num)]
  induction z with
  | bot => simpa using inf
  | top => simpa using inf
  | coe r =>
    have e : (0 : EReal) - max (r : EReal) (-(r : EReal)) = ((0 - max r (-r) : ℝ) : EReal) := by
      rw [EReal.coe_sub, EReal.coe_strictMono.monotone.map_max, EReal.coe_neg, EReal.coe_zero]
    rw [e, Ideal.exp_coe]
    exact key _

/-- The log sigmoid as the negated soft plus of the negated argument. -/
theorem lsig_eq (z : EReal) :
    -(max (-z) 0 + Ideal.log1p (Ideal.exp (-max (-z) (- -z)))) = lsig z := by
  have e : Ideal.log1p (Ideal.exp (-max (-z) (- -z))) = Ideal.log (1 + Ideal.exp (0 - max z (-z))) := by
    rw [neg_neg, max_comm, zero_sub]
    rfl
  obtain ⟨l, hl⟩ := corr_real z
  have hm : -max (-z) 0 = min z 0 := by
    rcases le_total z 0 with h | h
    · rw [max_eq_left (EReal.neg_nonneg.mpr h), min_eq_left h, neg_neg]
    · rw [max_eq_right (by simpa using EReal.neg_le_neg_iff.mpr h), min_eq_right h, neg_zero]
  unfold lsig
  rw [e, hl, EReal.neg_add (Or.inr (EReal.coe_ne_top l)) (Or.inr (EReal.coe_ne_bot l)), hm]

/-- A low-rank product whose inner width 16 is padded to 128: the padded rows of the second factor are zero. -/
theorem sum_padded (f w : Fin 128 → EReal) (h : ∀ a : Fin 112, w ⟨16 + a.val, by omega⟩ = 0) :
    ∑ a : Fin 128, f a * w a = ∑ a : Fin 16, f ⟨a.val, by omega⟩ * w ⟨a.val, by omega⟩ := by
  refine (Fin.sum_univ_add (a := 16) (b := 112) (fun a : Fin (16 + 112) => f a * w a)).trans ?_
  have z (a : Fin 112) : f (Fin.natAdd 16 a) * w (Fin.natAdd 16 a) = 0 := by
    rw [show w (Fin.natAdd 16 a) = 0 from h a, mul_zero]
  simp only [z, Finset.sum_const_zero, add_zero]
  rfl

/-- The argument of the log sigmoid: the projection to 16 columns, times a 16-row matrix's column, plus the bias. -/
def gateArg (x g : Fin 1024 → EReal) (wa : Fin 1024 → Fin 16 → EReal) (w2 : Fin 16 → EReal) (b : EReal) : EReal :=
  ∑ a : Fin 16, proj x g (fun k => wa k a) * w2 a + b

/-- The constant 16 divides as its inverse multiplies. -/
theorem div_sixteen (x : EReal) :
    Ideal.div x (Ideal.ofBits .f32 0x41800000#32) = x * Ideal.ofBits .f32 0x3D800000#32 := by
  have e1 : Ideal.ofBits .f32 0x41800000#32 = ((16 : ℝ) : EReal) := by
    simp [Ideal.ofBits, Ideal.ieee]
    rw [← EReal.coe_mul]
    norm_num
  have e2 : Ideal.ofBits .f32 0x3D800000#32 = ((1 / 16 : ℝ) : EReal) := by
    simp [Ideal.ofBits, Ideal.ieee]
    rw [← EReal.coe_mul]
    norm_num
  rw [e1, e2, Ideal.div_coe (by norm_num)]

/-- The root of 128 divides as its inverse multiplies. -/
theorem div_root (x : EReal) :
    Ideal.div x (Ideal.sqrt (Ideal.ofBits .f32 0x43000000#32)) = x * (((Real.sqrt 128)⁻¹ : ℝ) : EReal) := by
  have e1 : Ideal.ofBits .f32 0x43000000#32 = ((128 : ℝ) : EReal) := by
    simp [Ideal.ofBits, Ideal.ieee]
    rw [← EReal.coe_mul]
    norm_num
  rw [e1, Ideal.sqrt_coe, if_neg (by norm_num), Ideal.div_coe (by positivity), one_div]

end Cert.RowMath

end
-- ==== Proof.GlaInKernel.lean ====
/- What the body of the input projections of the gated linear attention computes, row by row. -/
module

public import proofs.«01_k».proof.Proof.Gen.Kernel5Ideal.Value
public import proofs.«01_k».proof.Proof.GateMath
public import Idealize.ShloMosaic.Lib.Pipeline.ValueKit

@[expose] public section

set_option maxRecDepth 16384

noncomputable section

namespace Cert.GlaIn

open Idealize.ShloMosaic Idealize.ShloMosaic.TcCoe Idealize.SL.Sem
open Cert.Kernel5Ideal Cert.Kernel5Ideal.Gen Cert.RowMath

/-- A half block's normalised rows. -/
theorem pay4_at (x : FVec Ideal S256x1024 .f32) (g : FVec Ideal S1x1024 .f32) (r : Fin 256) (k : Fin 1024) :
    k0_pay4 (F := Ideal) x g (ix2 r k) = rms width (fun k => x (ix2 r k)) (fun k => g (ix2 0 k)) k := by
  pointwise [k0_pay4, rms, eps, width]
  try rfl

/-- The other half block's normalised rows are the same function. -/
theorem pay5_eq (x : FVec Ideal S256x1024 .f32) (g : FVec Ideal S1x1024 .f32) : k0_pay5 (F := Ideal) x g = k0_pay4 x g := rfl

/-- The queries: a half block's product with 512 columns, divided by the root of the head width. -/
theorem pay11_at (x : FVec Ideal S256x1024 .f32) (g : FVec Ideal S1x1024 .f32) (w : FVec Ideal S1024x512 .bf16)
    (r : Fin 256) (j : Fin 512) :
    k0_pay11 (F := Ideal) (k0_pay4 x g) w (ix2 r j)
      = proj (fun k => x (ix2 r k)) (fun k => g (ix2 0 k)) (fun k => w (ix2 k j)) * (((Real.sqrt 128)⁻¹ : ℝ) : EReal) := by
  have e : Named.named (F := Ideal) κ "head_scale" (φ := .f32) 0x3DB504F3#32 = (((Real.sqrt 128)⁻¹ : ℝ) : EReal) :=
    IdealRules.named_const.ideal_named_scalar _ _ _ _ rfl
  unfold proj
  pointwise [k0_pay11, pay4_at, e]
  try rfl

/-- The keys: a half block's product with 512 columns. -/
theorem pay12_at (x : FVec Ideal S256x1024 .f32) (g : FVec Ideal S1x1024 .f32) (w : FVec Ideal S1024x512 .bf16)
    (r : Fin 256) (j : Fin 512) :
    k0_pay12 (F := Ideal) (k0_pay4 x g) w (ix2 r j)
      = proj (fun k => x (ix2 r k)) (fun k => g (ix2 0 k)) (fun k => w (ix2 k j)) := by
  unfold proj
  pointwise [k0_pay12, pay4_at]
  try rfl

/-- The gate's rows and the values: a half block's product with 1024 columns. -/
theorem pay14_at (x : FVec Ideal S256x1024 .f32) (g : FVec Ideal S1x1024 .f32) (w : FVec Ideal S1024x1024 .bf16)
    (r : Fin 256) (j : Fin 1024) :
    k0_pay14 (F := Ideal) (k0_pay4 x g) w (ix2 r j)
      = proj (fun k => x (ix2 r k)) (fun k => g (ix2 0 k)) (fun k => w (ix2 k j)) := by
  unfold proj
  pointwise [k0_pay14, pay4_at]
  try rfl
theorem pay13_at (x : FVec Ideal S256x1024 .f32) (g : FVec Ideal S1x1024 .f32) (w : FVec Ideal S1024x1024 .bf16)
    (r : Fin 256) (j : Fin 1024) :
    k0_pay13 (F := Ideal) (k0_pay4 x g) w (ix2 r j)
      = proj (fun k => x (ix2 r k)) (fun k => g (ix2 0 k)) (fun k => w (ix2 k j)) := by
  unfold proj
  pointwise [k0_pay13, pay4_at]
  try rfl

/-- The same products of the other half block are the same functions. -/
theorem pay15_eq (u : FVec Ideal S256x1024 .bf16) (w : FVec Ideal S1024x512 .bf16) : k0_pay15 (F := Ideal) u w = k0_pay11 u w := rfl
theorem pay1_eq (u : FVec Ideal S256x1024 .bf16) (w : FVec Ideal S1024x512 .bf16) : k0_pay1 (F := Ideal) u w = k0_pay12 u w := rfl
theorem pay2_eq (u : FVec Ideal S256x1024 .bf16) (w : FVec Ideal S1024x1024 .bf16) : k0_pay2 (F := Ideal) u w = k0_pay13 u w := rfl
theorem pay3_eq (u : FVec Ideal S256x1024 .bf16) (w : FVec Ideal S1024x1024 .bf16) : k0_pay3 (F := Ideal) u w = k0_pay14 u w := rfl
theorem pay10_eq (x : FVec Ideal S256x1024 .f32) (g : FVec Ideal S1x1024 .f32) (wa : FVec Ideal S1024x128 .bf16)
    (wa2 : FVec Ideal S128x512 .bf16) (b : FVec Ideal S1x512 .f32) :
    k0_pay10 (F := Ideal) (k0_pay9 (k0_pay4 x g) (k0_pay7 wa) wa2 b) = k0_pay8 (k0_pay6 x g wa) wa2 b := rfl

/-- The log gates of a half block. -/
theorem pay8_at (x : FVec Ideal S256x1024 .f32) (g : FVec Ideal S1x1024 .f32) (wa : FVec Ideal S1024x128 .bf16)
    (wa2 : FVec Ideal S128x512 .bf16) (b : FVec Ideal S1x512 .f32) (r : Fin 256) (j : Fin 512) :
    k0_pay8 (F := Ideal) (k0_pay6 x g wa) wa2 b (ix2 r j)
      = lsig (∑ a : Fin 128, proj (fun k => x (ix2 r k)) (fun k => g (ix2 0 k)) (fun k => wa (ix2 k a)) * wa2 (ix2 a j) + b (ix2 0 j))
          * Ideal.ofBits .f32 0x3D800000#32 := by
  unfold proj lsig
  pointwise [k0_pay8, k0_pay6, pay4_at]
  rfl

end Cert.GlaIn

end
-- ==== Proof.GlaInReference.lean ====
/- What the reference of the gated linear attention's input projections computes, row by row. -/
module

public import proofs.«01_k».proof.Proof.Gen.Reference5Ideal.Run
public import proofs.«01_k».proof.Proof.GateMath
public import proofs.«01_k».proof.Proof.Ffn3Reference

@[expose] public section

set_option maxRecDepth 16384

noncomputable section

namespace Cert.GlaIn

open Idealize.ShloMosaic Idealize.ShloMosaic.TcCoe Idealize.SL.Sem
open Cert.Reference5Ideal Cert.Reference5Ideal.Gen Cert.RowMath

/-- The scales before the first layer's mixer. -/
def g0 (ng : FVec Ideal S2x4x1024 .f32) : FVec Ideal S1024 .f32 :=
  shapeCast _ (extractStridedSlice S1x1x1024 ![0, 0, 0] ng slices_S2x4x1024_S1x1x1024_0_0_0) shapeCasts_S1x1x1024_S1024

/-- The reference's product with all 3088 columns. -/
def pr (x : FVec Ideal S16x2048x1024 .f32) (ng : FVec Ideal S2x4x1024 .f32) (w : FVec Ideal S1x1024x3088 .f32) : FVec Ideal S16x2048x3088 .f32 :=
  Host.dotGeneral dot_S16x2048x1024_S1024x3088_S16x2048x3088_2_0_01_1_n_n none (Ffn3.refRms x (g0 ng))
    (shapeCast _ w shapeCasts_S1x1024x3088_S1024x3088)

theorem pr_at (x : FVec Ideal S16x2048x1024 .f32) (ng : FVec Ideal S2x4x1024 .f32) (w : FVec Ideal S1x1024x3088 .f32)
    (b : Fin 16) (t : Fin 2048) (j : Fin 3088) :
    pr x ng w (ix3 b t j) = proj (fun k => x (ix3 b t k)) (fun k => ng (ix3 0 0 k)) (fun k => w (ix3 0 k j)) := by
  have e0 (k : Fin 1024) : g0 ng (ix1 k) = ng (ix3 0 0 k) := by pointwise [g0]; try rfl
  unfold proj
  pointwise [pr, Ffn3.refRms_at, e0]
  try rfl

/-- The reference's argument of the log sigmoid. -/
def za (p : FVec Ideal S16x2048x3088 .f32) (w2 : FVec Ideal S1x16x512 .f32) (ba : FVec Ideal S1x512 .f32) : FVec Ideal S16x2048x512 .f32 :=
  addf (Host.dotGeneral dot_S16x2048x16_S16x512_S16x2048x512_2_0_01_1_n_n none
      (extractStridedSlice S16x2048x16 ![0, 0, 3072] p slices_S16x2048x3088_S16x2048x16_0_0_3072)
      (shapeCast _ w2 shapeCasts_S1x16x512_S16x512))
    (broadcastInDim S16x2048x512 ![0, 1, 2] bcast_S1x1x512_S16x2048x512_0_1_2
      (broadcastInDim S1x1x512 ![2] bcast_S512_S1x1x512_2 (shapeCast _ ba shapeCasts_S1x512_S512)))

theorem za_at (p : FVec Ideal S16x2048x3088 .f32) (w2 : FVec Ideal S1x16x512 .f32) (ba : FVec Ideal S1x512 .f32)
    (b : Fin 16) (t : Fin 2048) (j : Fin 512) :
    za p w2 ba (ix3 b t j) = ∑ a : Fin 16, p (ix3 b t ⟨3072 + a.val, by omega⟩) * w2 (ix3 0 a j) + ba (ix2 0 j) := by
  pointwise [za]
  try rfl

/-- The reference's log sigmoid, as it is printed, divided by 16. -/
def ls (z : FVec Ideal S16x2048x512 .f32) : FVec Ideal S16x2048x512 .f32 :=
  Host.divf (Host.negf (select
      (cmpf CmpFPredicate.une
        (subf (Host.negf z) (broadcastInDim S16x2048x512 ![] bcast_S_S16x2048x512 (constant S_ .f32 0x00000000#32)))
        (subf (Host.negf z) (broadcastInDim S16x2048x512 ![] bcast_S_S16x2048x512 (constant S_ .f32 0x00000000#32))))
      (addf (Host.negf z) (broadcastInDim S16x2048x512 ![] bcast_S_S16x2048x512 (constant S_ .f32 0x00000000#32)))
      (addf (maximumf (Host.negf z) (broadcastInDim S16x2048x512 ![] bcast_S_S16x2048x512 (constant S_ .f32 0x00000000#32)))
        (Host.log1p (Host.exp (Host.negf (Host.absf (subf (Host.negf z)
          (broadcastInDim S16x2048x512 ![] bcast_S_S16x2048x512 (constant S_ .f32 0x00000000#32))))))))))
    (broadcastInDim S16x2048x512 ![] bcast_S_S16x2048x512 (constant S_ .f32 0x41800000#32))

theorem ls_at (z : FVec Ideal S16x2048x512 .f32) (b : Fin 16) (t : Fin 2048) (j : Fin 512) :
    ls z (ix3 b t j) = lsig (z (ix3 b t j)) * Ideal.ofBits .f32 0x3D800000#32 := by
  rw [← lsig_eq, ← div_sixteen]
  pointwise [ls]
  rw [if_neg (fun h => h rfl)]
  rfl

/-- The reference's five results as functions of its arguments: the queries, … -/
def REFq (x : FVec Ideal S16x2048x1024 .f32) (ng : FVec Ideal S2x4x1024 .f32) (w : FVec Ideal S1x1024x3088 .f32) : FVec Ideal S32768x512 .f32 :=
  shapeCast _ (Host.divf (extractStridedSlice S16x2048x512 ![0, 0, 0] (pr x ng w) slices_S16x2048x3088_S16x2048x512_0_0_0)
    (broadcastInDim S16x2048x512 ![] bcast_S_S16x2048x512 (Host.sqrt (constant S_ .f32 0x43000000#32)))) shapeCasts_S16x2048x512_S32768x512

/-- … the keys, … -/
def REFk (x : FVec Ideal S16x2048x1024 .f32) (ng : FVec Ideal S2x4x1024 .f32) (w : FVec Ideal S1x1024x3088 .f32) : FVec Ideal S32768x512 .f32 :=
  shapeCast _ (extractStridedSlice S16x2048x512 ![0, 0, 512] (pr x ng w) slices_S16x2048x3088_S16x2048x512_0_0_512) shapeCasts_S16x2048x512_S32768x512

/-- … the values, … -/
def REFv (x : FVec Ideal S16x2048x1024 .f32) (ng : FVec Ideal S2x4x1024 .f32) (w : FVec Ideal S1x1024x3088 .f32) : FVec Ideal S32768x1024 .bf16 :=
  shapeCast _ (truncf .bf16 (extractStridedSlice S16x2048x1024 ![0, 0, 1024] (pr x ng w) slices_S16x2048x3088_S16x2048x1024_0_0_1024) bitsLt_bf16_f32)
    shapeCasts_S16x2048x1024_S32768x1024

/-- … the output gate's rows, … -/
def REFr (x : FVec Ideal S16x2048x1024 .f32) (ng : FVec Ideal S2x4x1024 .f32) (w : FVec Ideal S1x1024x3088 .f32) : FVec Ideal S32768x1024 .f32 :=
  shapeCast _ (extractStridedSlice S16x2048x1024 ![0, 0, 2048] (pr x ng w) slices_S16x2048x3088_S16x2048x1024_0_0_2048) shapeCasts_S16x2048x1024_S32768x1024

/-- … and the log gates. -/
def REFg (x : FVec Ideal S16x2048x1024 .f32) (ng : FVec Ideal S2x4x1024 .f32) (w : FVec Ideal S1x1024x3088 .f32) (w2 : FVec Ideal S1x16x512 .f32)
    (ba : FVec Ideal S1x512 .f32) : FVec Ideal S32768x512 .f32 :=
  shapeCast _ (ls (za (pr x ng w) w2 ba)) shapeCasts_S16x2048x512_S32768x512

variable (x : FVec Ideal S16x2048x1024 .f32) (ng : FVec Ideal S2x4x1024 .f32) (w : FVec Ideal S1x1024x3088 .f32)
  (w2 : FVec Ideal S1x16x512 .f32) (ba : FVec Ideal S1x512 .f32)

theorem REFq_at (i : Fin 32768) (j : Fin 512) :
    REFq x ng w (ix2 i j) = proj (fun k => x (ix3 ⟨i.val / 2048, by omega⟩ ⟨i.val % 2048, by omega⟩ k)) (fun k => ng (ix3 0 0 k))
      (fun k => w (ix3 0 k ⟨j.val, by omega⟩)) * (((Real.sqrt 128)⁻¹ : ℝ) : EReal) := by
  rw [← pr_at, ← div_root]
  pointwise [REFq]
  try rfl

theorem REFk_at (i : Fin 32768) (j : Fin 512) :
    REFk x ng w (ix2 i j) = proj (fun k => x (ix3 ⟨i.val / 2048, by omega⟩ ⟨i.val % 2048, by omega⟩ k)) (fun k => ng (ix3 0 0 k))
      (fun k => w (ix3 0 k ⟨512 + j.val, by omega⟩)) := by
  rw [← pr_at]
  pointwise [REFk]
  try rfl

theorem REFv_at (i : Fin 32768) (j : Fin 1024) :
    REFv x ng w (ix2 i j) = proj (fun k => x (ix3 ⟨i.val / 2048, by omega⟩ ⟨i.val % 2048, by omega⟩ k)) (fun k => ng (ix3 0 0 k))
      (fun k => w (ix3 0 k ⟨1024 + j.val, by omega⟩)) := by
  rw [← pr_at]
  pointwise [REFv]
  try rfl

theorem REFr_at (i : Fin 32768) (j : Fin 1024) :
    REFr x ng w (ix2 i j) = proj (fun k => x (ix3 ⟨i.val / 2048, by omega⟩ ⟨i.val % 2048, by omega⟩ k)) (fun k => ng (ix3 0 0 k))
      (fun k => w (ix3 0 k ⟨2048 + j.val, by omega⟩)) := by
  rw [← pr_at]
  pointwise [REFr]
  try rfl

theorem REFg_at (i : Fin 32768) (j : Fin 512) :
    REFg x ng w w2 ba (ix2 i j)
      = lsig (gateArg (fun k => x (ix3 ⟨i.val / 2048, by omega⟩ ⟨i.val % 2048, by omega⟩ k)) (fun k => ng (ix3 0 0 k))
          (fun k a => w (ix3 0 k ⟨3072 + a.val, by omega⟩)) (fun a => w2 (ix3 0 a j)) (ba (ix2 0 j)))
        * Ideal.ofBits .f32 0x3D800000#32 := by
  unfold gateArg
  simp only [← pr_at]
  rw [← za_at, ← ls_at]
  pointwise [REFg]
  try rfl

/-- The last result of the run is the log gates of the arguments. -/
theorem res_eq (m : (ℓ : Loc nD τ sig) → Buf (Elt Ideal) ℓ) (c : Dev nD) :
    Cert.Reference5Ideal.Value.res_out4 (F := Ideal) m c
      = REFg (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) :=
  rfl

end Cert.GlaIn

end
-- ==== Proof.GlaInFinal.lean ====
/- The input projections' kernel writes the reference's results. -/
module

public import proofs.«01_k».proof.Proof.GlaInKernel
public import proofs.«01_k».proof.Proof.GlaInReference

@[expose] public section

set_option maxRecDepth 16384

noncomputable section

namespace Cert.GlaIn

open Idealize.ShloMosaic Idealize.ShloMosaic.TcCoe Idealize.SL.Sem
open Cert.Kernel5Ideal Cert.Kernel5Ideal.Gen Cert.RowMath

set_option maxHeartbeats 2000000 in
/-- The queries of a block of 512 rows. -/
theorem out6_at (x0 : FVec Ideal S512x1024 .f32) (x1 : FVec Ideal S4x1024 .f32) (x2 : FVec Ideal S1024x3088 .bf16)
    (x3 : FVec Ideal S1024x128 .bf16) (x4 : FVec Ideal S128x512 .bf16) (x5 : FVec Ideal S1x512 .f32) (i : Fin 512) (j : Fin 512) :
    out0_6 (F := Ideal) x0 x1 x2 x3 x4 x5 (ix2 i j)
      = proj (fun k => x0 (ix2 i k)) (fun k => x1 (ix2 0 k)) (fun k => x2 (ix2 k ⟨j.val, by omega⟩)) * (((Real.sqrt 128)⁻¹ : ℝ) : EReal) := by
  unfold out0_6 k0_pay17
  try unfold k0_pay16
  canon_tiles x h
  · idx_vars x
    obtain rfl : j = x1 := Fin.ext h1
    obtain rfl : i = ⟨256 + x0.val, Nat.lt_of_lt_of_le (Nat.add_lt_add_left x0.isLt 256) (by decide)⟩ := Fin.ext h0
    simp only [pay5_eq, pay15_eq, pay11_at]
    pointwise
    try rfl
  · idx_vars x
    obtain rfl : j = x1 := Fin.ext (by omega)
    obtain rfl : i = ⟨x0.val, Nat.lt_of_lt_of_le x0.isLt (by decide)⟩ := Fin.ext (by omega)
    simp only [pay11_at]
    pointwise
    try rfl

set_option maxHeartbeats 2000000 in
/-- The keys of a block of 512 rows. -/
theorem out7_at (x0 : FVec Ideal S512x1024 .f32) (x1 : FVec Ideal S4x1024 .f32) (x2 : FVec Ideal S1024x3088 .bf16)
    (x3 : FVec Ideal S1024x128 .bf16) (x4 : FVec Ideal S128x512 .bf16) (x5 : FVec Ideal S1x512 .f32) (i : Fin 512) (j : Fin 512) :
    out0_7 (F := Ideal) x0 x1 x2 x3 x4 x5 (ix2 i j)
      = proj (fun k => x0 (ix2 i k)) (fun k => x1 (ix2 0 k)) (fun k => x2 (ix2 k ⟨512 + j.val, by omega⟩)) := by
  unfold out0_7 k0_pay17
  try unfold k0_pay16
  canon_tiles x h
  · idx_vars x
    obtain rfl : j = x1 := Fin.ext h1
    obtain rfl : i = ⟨256 + x0.val, Nat.lt_of_lt_of_le (Nat.add_lt_add_left x0.isLt 256) (by decide)⟩ := Fin.ext h0
    simp only [pay5_eq, pay1_eq, pay12_at]
    pointwise
    try rfl
  · idx_vars x
    obtain rfl : j = x1 := Fin.ext (by omega)
    obtain rfl : i = ⟨x0.val, Nat.lt_of_lt_of_le x0.isLt (by decide)⟩ := Fin.ext (by omega)
    simp only [pay12_at]
    pointwise
    try rfl

set_option maxHeartbeats 2000000 in
/-- The values of a block of 512 rows. -/
theorem out8_at (x0 : FVec Ideal S512x1024 .f32) (x1 : FVec Ideal S4x1024 .f32) (x2 : FVec Ideal S1024x3088 .bf16)
    (x3 : FVec Ideal S1024x128 .bf16) (x4 : FVec Ideal S128x512 .bf16) (x5 : FVec Ideal S1x512 .f32) (i : Fin 512) (j : Fin 1024) :
    out0_8 (F := Ideal) x0 x1 x2 x3 x4 x5 (ix2 i j)
      = proj (fun k => x0 (ix2 i k)) (fun k => x1 (ix2 0 k)) (fun k => x2 (ix2 k ⟨1024 + j.val, by omega⟩)) := by
  unfold out0_8 k0_pay17
  try unfold k0_pay16
  canon_tiles x h
  · idx_vars x
    obtain rfl : j = x1 := Fin.ext h1
    obtain rfl : i = ⟨256 + x0.val, Nat.lt_of_lt_of_le (Nat.add_lt_add_left x0.isLt 256) (by decide)⟩ := Fin.ext h0
    simp only [pay5_eq, pay2_eq, pay13_at]
    pointwise
    try rfl
  · idx_vars x
    obtain rfl : j = x1 := Fin.ext (by omega)
    obtain rfl : i = ⟨x0.val, Nat.lt_of_lt_of_le x0.isLt (by decide)⟩ := Fin.ext (by omega)
    simp only [pay13_at]
    pointwise
    try rfl

set_option maxHeartbeats 2000000 in
/-- The output gate's rows of a block of 512 rows. -/
theorem out9_at (x0 : FVec Ideal S512x1024 .f32) (x1 : FVec Ideal S4x1024 .f32) (x2 : FVec Ideal S1024x3088 .bf16)
    (x3 : FVec Ideal S1024x128 .bf16) (x4 : FVec Ideal S128x512 .bf16) (x5 : FVec Ideal S1x512 .f32) (i : Fin 512) (j : Fin 1024) :
    out0_9 (F := Ideal) x0 x1 x2 x3 x4 x5 (ix2 i j)
      = proj (fun k => x0 (ix2 i k)) (fun k => x1 (ix2 0 k)) (fun k => x2 (ix2 k ⟨2048 + j.val, by omega⟩)) := by
  unfold out0_9 k0_pay17
  try unfold k0_pay16
  canon_tiles x h
  · idx_vars x
    obtain rfl : j = x1 := Fin.ext h1
    obtain rfl : i = ⟨256 + x0.val, Nat.lt_of_lt_of_le (Nat.add_lt_add_left x0.isLt 256) (by decide)⟩ := Fin.ext h0
    simp only [pay5_eq, pay3_eq, pay14_at]
    pointwise
    try rfl
  · idx_vars x
    obtain rfl : j = x1 := Fin.ext (by omega)
    obtain rfl : i = ⟨x0.val, Nat.lt_of_lt_of_le x0.isLt (by decide)⟩ := Fin.ext (by omega)
    simp only [pay14_at]
    pointwise
    try rfl

set_option maxHeartbeats 2000000 in
/-- The log gates of a block of 512 rows. -/
theorem out10_at (x0 : FVec Ideal S512x1024 .f32) (x1 : FVec Ideal S4x1024 .f32) (x2 : FVec Ideal S1024x3088 .bf16)
    (x3 : FVec Ideal S1024x128 .bf16) (x4 : FVec Ideal S128x512 .bf16) (x5 : FVec Ideal S1x512 .f32) (i : Fin 512) (j : Fin 512) :
    out0_10 (F := Ideal) x0 x1 x2 x3 x4 x5 (ix2 i j)
      = lsig (∑ a : Fin 128, proj (fun k => x0 (ix2 i k)) (fun k => x1 (ix2 0 k)) (fun k => x3 (ix2 k a)) * x4 (ix2 a j) + x5 (ix2 0 j))
          * Ideal.ofBits .f32 0x3D800000#32 := by
  unfold out0_10 k0_pay17
  try unfold k0_pay16
  canon_tiles x h
  · idx_vars x
    obtain rfl : j = x1 := Fin.ext h1
    obtain rfl : i = ⟨256 + x0.val, Nat.lt_of_lt_of_le (Nat.add_lt_add_left x0.isLt 256) (by decide)⟩ := Fin.ext h0
    simp only [pay5_eq, pay10_eq, pay8_at]
    pointwise
    try rfl
  · idx_vars x
    obtain rfl : j = x1 := Fin.ext (by omega)
    obtain rfl : i = ⟨x0.val, Nat.lt_of_lt_of_le x0.isLt (by decide)⟩ := Fin.ext (by omega)
    simp only [pay8_at]
    pointwise
    try rfl

/-- Where each window's block of point `t` lies. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0]
    ∧ win0_7.index t = ![t.val, 0] ∧ win0_8.index t = ![t.val, 0] ∧ win0_9.index t = ![t.val, 0] ∧ win0_10.index t = ![t.val, 0] :=
  (by decide +kernel : ∀ t : Fin grid0.N, _)

variable (m : (ℓ : Loc nD τ sig) → Buf (Elt Ideal) ℓ) (c : Dev nD)

/-- What the region finds in each window's buffer. -/
theorem entry :
    V m c main_v5
        = shapeCast S32768x1024 (show FVec Ideal S16x2048x1024 .f32 from m ((c : Thread nD τ).loc main_arg0)) shapeCasts_S16x2048x1024_S32768x1024
    ∧ V m c main_v7
        = shapeCast S4x1024 (extractStridedSlice S1x4x1024 ![0, 0, 0] (show FVec Ideal S2x4x1024 .f32 from m ((c : Thread nD τ).loc main_arg1)) slices_S2x4x1024_S1x4x1024_0_0_0) shapeCasts_S1x4x1024_S4x1024
    ∧ V m c main_v8
        = truncf .bf16 (shapeCast S1024x3088 (show FVec Ideal S1x1024x3088 .f32 from m ((c : Thread nD τ).loc main_arg2)) shapeCasts_S1x1024x3088_S1024x3088) bitsLt_bf16_f32
    ∧ V m c main_v9
        = truncf .bf16 (pad S1024x128 ![0, 0] ![0, 112] ![0, 0]
            (extractStridedSlice S1024x16 ![0, 3072] (shapeCast S1024x3088 (show FVec Ideal S1x1024x3088 .f32 from m ((c : Thread nD τ).loc main_arg2)) shapeCasts_S1x1024x3088_S1024x3088) slices_S1024x3088_S1024x16_0_3072)
            (sitofp (F := Ideal) .f32 (constantI S_ 32 0#32)) pads_S1024x16_S1024x128_000_01120 h_S_) bitsLt_bf16_f32
    ∧ V m c main_v10
        = truncf .bf16 (pad S128x512 ![0, 0] ![112, 0] ![0, 0]
            (shapeCast S16x512 (show FVec Ideal S1x16x512 .f32 from m ((c : Thread nD τ).loc main_arg3)) shapeCasts_S1x16x512_S16x512)
            (sitofp (F := Ideal) .f32 (constantI S_ 32 0#32)) pads_S16x512_S128x512_01120_000 h_S_) bitsLt_bf16_f32
    ∧ V m c main_v12
        = broadcastInDim S1x512 ![1] bcast_S512_S1x512_1 (shapeCast S512 (show FVec Ideal S1x512 .f32 from m ((c : Thread nD τ).loc main_arg4)) shapeCasts_S1x512_S512) := by
  simp only [V, hostOps0, hostOps0_1, hostOps0_2, hostOps0_3, hostOps0_4, List.flatten_cons, List.flatten_nil, List.append_nil, List.cons_append, List.nil_append,
    StableHlo.TRef.binary, StableHlo.TRef.unary, StableHlo.TRef.toBuf, StableHlo.TRef.ofBuf, cast_eq, StableHlo.after_cons, StableHlo.after_nil]
  after_results_simp
  exact ⟨rfl, rfl, rfl, rfl, rfl, rfl⟩

/-- The blocks of a grid point, at an index: 512 rows of the input, … -/
theorem b0_at (t : Fin cfg0.N) (h : t.val < 64) (i : Fin 512) (k : Fin 1024) : (show FVec Ideal S512x1024 .f32 from iblk m c 0 t) (ix2 i k)
    = (show FVec Ideal S16x2048x1024 .f32 from m ((c : Thread nD τ).loc main_arg0)) (ix3 ⟨(512 * t.val + i.val) / 2048, by omega⟩ ⟨(512 * t.val + i.val) % 2048, by omega⟩ k) := by
  blk_simp [iblk]; rw [(entry m c).1]; pointwise; blk_ext [idx t]

/-- … the scales, … -/
theorem b1_at (t : Fin cfg0.N) (a : Fin 4) (k : Fin 1024) : (show FVec Ideal S4x1024 .f32 from iblk m c 1 t) (ix2 a k)
    = (show FVec Ideal S2x4x1024 .f32 from m ((c : Thread nD τ).loc main_arg1)) (ix3 0 a k) := by
  blk_simp [iblk]; rw [(entry m c).2.1]; pointwise; blk_ext [idx t]

/-- … the matrix, … -/
theorem b2_at (t : Fin cfg0.N) (k : Fin 1024) (j : Fin 3088) : (show FVec Ideal S1024x3088 .bf16 from iblk m c 2 t) (ix2 k j)
    = (show FVec Ideal S1x1024x3088 .f32 from m ((c : Thread nD τ).loc main_arg2)) (ix3 0 k j) := by
  blk_simp [iblk]; rw [(entry m c).2.2.1]; pointwise; blk_ext [idx t]

/-- … its last 16 columns, padded to 128, … -/
theorem b3_at (t : Fin cfg0.N) (k : Fin 1024) (a : Fin 16) :
    (show FVec Ideal S1024x128 .bf16 from iblk m c 3 t) (ix2 k ⟨a.val, by omega⟩)
    = (show FVec Ideal S1x1024x3088 .f32 from m ((c : Thread nD τ).loc main_arg2)) (ix3 0 k ⟨3072 + a.val, by omega⟩) := by
  blk_simp [iblk]
  rw [(entry m c).2.2.2.1, show ((View.whole main_v9).slice (win0_3.rect t)).emb (ix2 k (⟨a.val, by omega⟩ : Fin 128)) = ix2 k (⟨a.val, by omega⟩ : Fin 128) by blk_ext [idx t]]
  pointwise

/-- … the second factor's 16 rows, padded by zeros to 128, … -/
theorem b4_at (t : Fin cfg0.N) (a : Fin 16) (j : Fin 512) :
    (show FVec Ideal S128x512 .bf16 from iblk m c 4 t) (ix2 ⟨a.val, by omega⟩ j)
    = (show FVec Ideal S1x16x512 .f32 from m ((c : Thread nD τ).loc main_arg3)) (ix3 0 a j) := by
  blk_simp [iblk]
  rw [(entry m c).2.2.2.2.1, show ((View.whole main_v10).slice (win0_4.rect t)).emb (ix2 (⟨a.val, by omega⟩ : Fin 128) j) = ix2 (⟨a.val, by omega⟩ : Fin 128) j by blk_ext [idx t]]
  pointwise

/-- … whose padding is zero, … -/
theorem b4_zero (t : Fin cfg0.N) (a : Fin 112) (j : Fin 512) :
    (show FVec Ideal S128x512 .bf16 from iblk m c 4 t) (ix2 ⟨16 + a.val, by omega⟩ j) = 0 := by
  blk_simp [iblk]
  rw [(entry m c).2.2.2.2.1, show ((View.whole main_v10).slice (win0_4.rect t)).emb (ix2 (⟨16 + a.val, by omega⟩ : Fin 128) j) = ix2 (⟨16 + a.val, by omega⟩ : Fin 128) j by blk_ext [idx t]]
  pointwise
  simp [FloatOps.sitofp]

/-- … and the bias. -/
theorem b5_at (t : Fin cfg0.N) (j : Fin 512) : (show FVec Ideal S1x512 .f32 from iblk m c 5 t) (ix2 0 j)
    = (show FVec Ideal S1x512 .f32 from m ((c : Thread nD τ).loc main_arg4)) (ix2 0 j) := by
  blk_simp [iblk]; rw [(entry m c).2.2.2.2.2]; pointwise; blk_ext [idx t]

set_option maxHeartbeats 2000000 in
/-- The queries after the run. -/
theorem final6 : (dats m 0 c).arrAt 6 (cfgs 0).N = REFq (m ((c : Thread nD τ).loc main_arg0)) (m ((c : Thread nD τ).loc main_arg1)) (m ((c : Thread nD τ).loc main_arg2)) := by
  refine (dats m 0 c).arrAt_eq_of_covers 6 _ (by decide +kernel) fun t _ y => ?_
  have ht : t.val < 64 := t.isLt
  blk_simp
  rw [after0_6]
  idx_vars y
  have e : ((View.whole main_v13_0).slice (win0_6.rect t)).emb (ix2 y0 y1) = ix2 (⟨512 * t.val + y0.val, by omega⟩ : Fin 32768) y1 := by
    blk_ext [idx t]
  rw [e]
  refine (out6_at (iblk m c 0 t) (iblk m c 1 t) (iblk m c 2 t) (iblk m c 3 t) (iblk m c 4 t) (iblk m c 5 t) y0 y1).trans ?_
  refine Eq.trans ?_ (REFq_at _ _ _ _ y1).symm
  simp only [b0_at m c t ht, b1_at, b2_at]

set_option maxHeartbeats 2000000 in
/-- The keys after the run. -/
theorem final7 : (dats m 0 c).arrAt 7 (cfgs 0).N = REFk (m ((c : Thread nD τ).loc main_arg0)) (m ((c : Thread nD τ).loc main_arg1)) (m ((c : Thread nD τ).loc main_arg2)) := by
  refine (dats m 0 c).arrAt_eq_of_covers 7 _ (by decide +kernel) fun t _ y => ?_
  have ht : t.val < 64 := t.isLt
  blk_simp
  rw [after0_7]
  idx_vars y
  have e : ((View.whole main_v13_1).slice (win0_7.rect t)).emb (ix2 y0 y1) = ix2 (⟨512 * t.val + y0.val, by omega⟩ : Fin 32768) y1 := by
    blk_ext [idx t]
  rw [e]
  refine (out7_at (iblk m c 0 t) (iblk m c 1 t) (iblk m c 2 t) (iblk m c 3 t) (iblk m c 4 t) (iblk m c 5 t) y0 y1).trans ?_
  refine Eq.trans ?_ (REFk_at _ _ _ _ y1).symm
  simp only [b0_at m c t ht, b1_at, b2_at]

set_option maxHeartbeats 2000000 in
/-- The values after the run. -/
theorem final8 : (dats m 0 c).arrAt 8 (cfgs 0).N = REFv (m ((c : Thread nD τ).loc main_arg0)) (m ((c : Thread nD τ).loc main_arg1)) (m ((c : Thread nD τ).loc main_arg2)) := by
  refine (dats m 0 c).arrAt_eq_of_covers 8 _ (by decide +kernel) fun t _ y => ?_
  have ht : t.val < 64 := t.isLt
  blk_simp
  rw [after0_8]
  idx_vars y
  have e : ((View.whole main_v13_2).slice (win0_8.rect t)).emb (ix2 y0 y1) = ix2 (⟨512 * t.val + y0.val, by omega⟩ : Fin 32768) y1 := by
    blk_ext [idx t]
  rw [e]
  refine (out8_at (iblk m c 0 t) (iblk m c 1 t) (iblk m c 2 t) (iblk m c 3 t) (iblk m c 4 t) (iblk m c 5 t) y0 y1).trans ?_
  refine Eq.trans ?_ (REFv_at _ _ _ _ y1).symm
  simp only [b0_at m c t ht, b1_at, b2_at]

set_option maxHeartbeats 2000000 in
/-- The output gate's rows after the run. -/
theorem final9 : (dats m 0 c).arrAt 9 (cfgs 0).N = REFr (m ((c : Thread nD τ).loc main_arg0)) (m ((c : Thread nD τ).loc main_arg1)) (m ((c : Thread nD τ).loc main_arg2)) := by
  refine (dats m 0 c).arrAt_eq_of_covers 9 _ (by decide +kernel) fun t _ y => ?_
  have ht : t.val < 64 := t.isLt
  blk_simp
  rw [after0_9]
  idx_vars y
  have e : ((View.whole main_v13_3).slice (win0_9.rect t)).emb (ix2 y0 y1) = ix2 (⟨512 * t.val + y0.val, by omega⟩ : Fin 32768) y1 := by
    blk_ext [idx t]
  rw [e]
  refine (out9_at (iblk m c 0 t) (iblk m c 1 t) (iblk m c 2 t) (iblk m c 3 t) (iblk m c 4 t) (iblk m c 5 t) y0 y1).trans ?_
  refine Eq.trans ?_ (REFr_at _ _ _ _ y1).symm
  simp only [b0_at m c t ht, b1_at, b2_at]

set_option maxHeartbeats 2000000 in
/-- The log gates after the run. -/
theorem final10 : (dats m 0 c).arrAt 10 (cfgs 0).N = REFg (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 10 _ (by decide +kernel) fun t _ y => ?_
  have ht : t.val < 64 := t.isLt
  blk_simp
  rw [after0_10]
  idx_vars y
  have e : ((View.whole main_v13_4).slice (win0_10.rect t)).emb (ix2 y0 y1) = ix2 (⟨512 * t.val + y0.val, by omega⟩ : Fin 32768) y1 := by
    blk_ext [idx t]
  rw [e]
  refine (out10_at (iblk m c 0 t) (iblk m c 1 t) (iblk m c 2 t) (iblk m c 3 t) (iblk m c 4 t) (iblk m c 5 t) y0 y1).trans ?_
  refine Eq.trans ?_ (REFg_at _ _ _ _ _ _ y1).symm
  unfold gateArg
  rw [sum_padded _ _ fun a => b4_zero m c t a y1]
  simp only [b0_at m c t ht, b1_at, b3_at, b4_at, b5_at]

end Cert.GlaIn

end
-- ==== Proof.GlaInClaims.lean ====
/- The claims of the input projections' kernel. -/
module

public import proofs.«01_k».proof.Defs
public import proofs.«01_k».proof.Proof.Gen.Kernel5.Frame
public import proofs.«01_k».proof.Proof.Gen.Kernel5Ideal.Value
public import proofs.«01_k».proof.Proof.Gen.Reference5Ideal.Run
public import proofs.«01_k».proof.Proof.GlaInFinal
public import Idealize.ShloMosaic.Lib.Claim
public import Idealize.ShloMosaic.Lib.Quiescent

@[expose] public section

set_option maxRecDepth 16384

noncomputable section

namespace Cert.GlaIn

open Idealize.ShloMosaic Idealize.ShloMosaic.TcCoe Idealize.SL.Sem

instance : Cert.Kernel5.Facts := Cert.Kernel5.Gen.facts
instance : Cert.Kernel5Ideal.Facts := Cert.Kernel5Ideal.Gen.facts
instance : Cert.Reference5Ideal.Facts := Cert.Reference5Ideal.Gen.facts

/-- The kernel at its machine floats runs, ends with its arguments unchanged and every counter at zero. -/
theorem frame_kernel : Cert.quiescent_Kernel5 := fun m ρ _ => Cert.Kernel5.Gen.frame (F := Bits) m ρ

/-- The kernel over the extended reals runs, ends with its arguments unchanged and every counter at zero. -/
theorem frame_ideal : Cert.quiescent_Kernel5Ideal := fun m ρ _ => Cert.Kernel5Ideal.Gen.frame (F := Ideal) m ρ

/-- The reference runs and ends with its arguments unchanged; it declares no counter. -/
theorem frame_reference : Cert.quiescent_Reference5Ideal := fun m ρ _ =>
  (θ_run Cert.Reference5Ideal.defs _ _).mono
    (fun r h => ⟨fun c => (h c).2.2.2.2.2, sem_eq_zero_of_no_sems (by decide) r.2⟩)
    (Cert.Reference5Ideal.Value.run (F := Ideal) m ρ)

/-- Over the extended reals the kernel's results are the reference's, element by element. -/
theorem algebraic : Cert.algebraic_Kernel5Ideal_Reference5Ideal := by
  intro m g m' g' _ hagree
  refine ⟨fun c => (Cert.Kernel5Ideal.Gen.dats m 0 c).arrAt 6 (Cert.Kernel5Ideal.cfgs 0).N,
    fun c => (Cert.Kernel5Ideal.Gen.dats m 0 c).arrAt 7 (Cert.Kernel5Ideal.cfgs 0).N,
    fun c => (Cert.Kernel5Ideal.Gen.dats m 0 c).arrAt 8 (Cert.Kernel5Ideal.cfgs 0).N,
    fun c => (Cert.Kernel5Ideal.Gen.dats m 0 c).arrAt 9 (Cert.Kernel5Ideal.cfgs 0).N,
    fun c => (Cert.Kernel5Ideal.Gen.dats m 0 c).arrAt 10 (Cert.Kernel5Ideal.cfgs 0).N, ?_, ?_⟩
  · refine (θ_run Cert.Kernel5Ideal.defs _ _).mono (fun r h c => ?_) (Cert.Kernel5Ideal.Gen.run_main (F := Ideal) m g)
    exact ⟨Cert.Kernel5Ideal.Value.post6 m r h c, Cert.Kernel5Ideal.Value.post7 m r h c, Cert.Kernel5Ideal.Value.post8 m r h c,
      Cert.Kernel5Ideal.Value.post9 m r h c, Cert.Kernel5Ideal.Value.post10 m r h c,
      Cert.Kernel5Ideal.Value.kept_main_arg0 m r h c, Cert.Kernel5Ideal.Value.kept_main_arg1 m r h c, Cert.Kernel5Ideal.Value.kept_main_arg2 m r h c,
      Cert.Kernel5Ideal.Value.kept_main_arg3 m r h c, Cert.Kernel5Ideal.Value.kept_main_arg4 m r h c⟩
  · refine (θ_run Cert.Reference5Ideal.defs _ _).mono (fun r h c => ?_) (Cert.Reference5Ideal.Value.run (F := Ideal) m' g')
    obtain ⟨e0, e1, e2, e3, e4⟩ := hagree c
    obtain ⟨r0, r1, r2, r3, r4, ha⟩ := h c
    refine ⟨?_, ?_, ?_, ?_, ?_, ha⟩
    · refine Eq.trans (b := REFq (m' ((c.tc : Thread _ _).loc Cert.Reference5Ideal.main_arg0)) (m' ((c.tc : Thread _ _).loc Cert.Reference5Ideal.main_arg1)) (m' ((c.tc : Thread _ _).loc Cert.Reference5Ideal.main_arg2))) r0 ?_
      rw [e0, e1, e2]
      exact (final6 m c).symm
    · refine Eq.trans (b := REFk (m' ((c.tc : Thread _ _).loc Cert.Reference5Ideal.main_arg0)) (m' ((c.tc : Thread _ _).loc Cert.Reference5Ideal.main_arg1)) (m' ((c.tc : Thread _ _).loc Cert.Reference5Ideal.main_arg2))) r1 ?_
      rw [e0, e1, e2]
      exact (final7 m c).symm
    · refine Eq.trans (b := REFv (m' ((c.tc : Thread _ _).loc Cert.Reference5Ideal.main_arg0)) (m' ((c.tc : Thread _ _).loc Cert.Reference5Ideal.main_arg1)) (m' ((c.tc : Thread _ _).loc Cert.Reference5Ideal.main_arg2))) r2 ?_
      rw [e0, e1, e2]
      exact (final8 m c).symm
    · refine Eq.trans (b := REFr (m' ((c.tc : Thread _ _).loc Cert.Reference5Ideal.main_arg0)) (m' ((c.tc : Thread _ _).loc Cert.Reference5Ideal.main_arg1)) (m' ((c.tc : Thread _ _).loc Cert.Reference5Ideal.main_arg2))) r3 ?_
      rw [e0, e1, e2]
      exact (final9 m c).symm
    · refine Eq.trans (b := REFg (m' ((c.tc : Thread _ _).loc Cert.Reference5Ideal.main_arg0)) (m' ((c.tc : Thread _ _).loc Cert.Reference5Ideal.main_arg1)) (m' ((c.tc : Thread _ _).loc Cert.Reference5Ideal.main_arg2)) (m' ((c.tc : Thread _ _).loc Cert.Reference5Ideal.main_arg3)) (m' ((c.tc : Thread _ _).loc Cert.Reference5Ideal.main_arg4))) r4 ?_
      rw [e0, e1, e2, e3, e4]
      exact (final10 m c).symm

end Cert.GlaIn

end
-- ==== Proof.Ffn6Kernel.lean ====
/- What the body of the second layer's feed-forward sample kernel computes, row by row. -/
module

public import proofs.«01_k».proof.Proof.Gen.Kernel6Ideal.Value
public import proofs.«01_k».proof.Proof.RowMath
public import Idealize.ShloMosaic.Lib.Pipeline.ValueKit

@[expose] public section

set_option maxRecDepth 16384

noncomputable section

namespace Cert.Ffn6

open Idealize.ShloMosaic Idealize.ShloMosaic.TcCoe Idealize.SL.Sem
open Cert.Kernel6Ideal Cert.Kernel6Ideal.Gen Cert.RowMath

/-- The first half block's residual stream after the mixer. -/
theorem pay4_at (x : FVec Ideal S128x1024 .f32) (w : FVec Ideal S1024x1024 .bf16) (h : FVec Ideal S128x1024 .f32)
    (g : FVec Ideal S1x1024 .f32) (r : Fin 128) (j : Fin 1024) :
    k0_pay4 (F := Ideal) x w h g (ix2 r j)
      = mixRow (fun k => x (ix2 r k)) (fun k => h (ix2 r k)) (fun k => g (ix2 0 k)) (fun k l => w (ix2 k l)) j := by
  pointwise [k0_pay4, mixRow, rms, eps, width]
  try rfl

/-- The second half block's residual stream after the mixer. -/
theorem pay8_at (x : FVec Ideal S128x1024 .f32) (w : FVec Ideal S1024x1024 .bf16) (h : FVec Ideal S128x1024 .f32)
    (g : FVec Ideal S1x1024 .f32) (r : Fin 128) (j : Fin 1024) :
    k0_pay8 (F := Ideal) (k0_pay3 x w) (k0_pay5 h) (k0_pay6 g) (k0_pay7 x w) (Scalar.ofBits .f32 0x44800000#32) (ix2 r j)
      = mixRow (fun k => x (ix2 r k)) (fun k => h (ix2 r k)) (fun k => g (ix2 0 k)) (fun k l => w (ix2 k l)) j := by
  pointwise [k0_pay8, k0_pay3, k0_pay5, k0_pay6, k0_pay7, mixRow, rms, eps, width]
  try rfl

/-- The first half block's normalised rows. -/
theorem pay9_at (x : FVec Ideal S128x1024 .f32) (g : FVec Ideal S1x1024 .f32) (r : Fin 128) (j : Fin 1024) :
    k0_pay9 (F := Ideal) x g (ix2 r j) = rms width (fun k => x (ix2 r k)) (fun k => g (ix2 0 k)) j := by
  pointwise [k0_pay9, rms, eps, width]
  try rfl

/-- The second half block's normalised rows. -/
theorem pay10_at (a : FVec Ideal S128x1024 .f32) (b : FVec Ideal S128x1024 .f32) (e : FVec Ideal S1x1024 .f32)
    (d : FVec Ideal S128x1 .f32) (s : Ideal .f32) (g : FVec Ideal S1x1024 .f32) (r : Fin 128) (j : Fin 1024) :
    k0_pay10 (F := Ideal) a b e d s g (ix2 r j)
      = rms width (fun k => k0_pay8 (F := Ideal) a b e d s (ix2 r k)) (fun k => g (ix2 0 k)) j := by
  pointwise [k0_pay10, rms, eps, width]
  try rfl

/-- The first half block's feed-forward sum. -/
theorem pay15_at (x : FVec Ideal S128x1024 .f32) (g : FVec Ideal S1x1024 .f32)
    (wg wu : FVec Ideal S1024x1536 .bf16) (wd : FVec Ideal S1536x1024 .bf16)
    (wg' wu' : FVec Ideal S1024x1280 .bf16) (wd' : FVec Ideal S1280x1024 .bf16) (r : Fin 128) (j : Fin 1024) :
    k0_pay15 (F := Ideal) (k0_pay9 x g) (k0_pay12 (k0_pay9 x g) (k0_pay11 x g wg) wu wd) (k0_pay14 (k0_pay9 x g) wg') wu' wd' (ix2 r j)
      = swi (fun k => k0_pay9 (F := Ideal) x g (ix2 r k)) (fun k d => wg (ix2 k d)) (fun k d => wu (ix2 k d)) (fun d l => wd (ix2 d l)) j
        + swi (fun k => k0_pay9 (F := Ideal) x g (ix2 r k)) (fun k d => wg' (ix2 k d)) (fun k d => wu' (ix2 k d)) (fun d l => wd' (ix2 d l)) j := by
  unfold k0_pay11
  generalize k0_pay9 (F := Ideal) x g = u
  pointwise [k0_pay15, k0_pay12, k0_pay14, swi, silu, zero_sub]
  try rfl

/-- The second half block's feed-forward sum. -/
theorem pay16_at (u : FVec Ideal S128x1024 .bf16)
    (wg wu : FVec Ideal S1024x1536 .bf16) (wd : FVec Ideal S1536x1024 .bf16)
    (wg' wu' : FVec Ideal S1024x1280 .bf16) (wd' : FVec Ideal S1280x1024 .bf16) (r : Fin 128) (j : Fin 1024) :
    k0_pay16 (F := Ideal) u (k0_pay13 u wg wu wd) wg' wu' wd' (ix2 r j)
      = swi (fun k => u (ix2 r k)) (fun k d => wg (ix2 k d)) (fun k d => wu (ix2 k d)) (fun d l => wd (ix2 d l)) j
        + swi (fun k => u (ix2 r k)) (fun k d => wg' (ix2 k d)) (fun k d => wu' (ix2 k d)) (fun d l => wd' (ix2 d l)) j := by
  pointwise [k0_pay16, k0_pay13, swi, silu, zero_sub]
  try rfl

/-- The last step: the residual stream plus the normalised feed-forward sum (first half block). -/
theorem pay1_at (h f : FVec Ideal S128x1024 .f32) (g : FVec Ideal S1x1024 .f32) (r : Fin 128) (j : Fin 1024) :
    k0_pay1 (F := Ideal) h f g (ix2 r j) = h (ix2 r j) + rms width (fun k => f (ix2 r k)) (fun k => g (ix2 0 k)) j := by
  pointwise [k0_pay1, rms, eps, width]
  try rfl

/-- The last step: the residual stream plus the normalised feed-forward sum (second half block). -/
theorem pay2_at (h f : FVec Ideal S128x1024 .f32) (g : FVec Ideal S1x1024 .f32) (r : Fin 128) (j : Fin 1024) :
    k0_pay2 (F := Ideal) h f g (ix2 r j) = h (ix2 r j) + rms width (fun k => f (ix2 r k)) (fun k => g (ix2 0 k)) j := by
  pointwise [k0_pay2, rms, eps, width]
  try rfl

end Cert.Ffn6

end
-- ==== Proof.Ffn6Reference.lean ====
/- What the second layer's feed-forward sample reference computes, row by row. -/
module

public import proofs.«01_k».proof.Proof.Gen.Reference6Ideal.Run
public import proofs.«01_k».proof.Proof.RowMath

@[expose] public section

set_option maxRecDepth 16384

noncomputable section

namespace Cert.Ffn6

open Idealize.ShloMosaic Idealize.ShloMosaic.TcCoe Idealize.SL.Sem
open Cert.Reference6Ideal Cert.Reference6Ideal.Gen Cert.RowMath

/-- The reference's normalisation of a `[32, 8, 1024]` array by a vector of 1024 scales. -/
def refRms (x : FVec Ideal S32x8x1024 .f32) (g : FVec Ideal S1024 .f32) : FVec Ideal S32x8x1024 .f32 :=
  mulf (mulf x (broadcastInDim S32x8x1024 ![0, 1, 2] bcast_S32x8x1_S32x8x1024_0_1_2 (Host.rsqrt (addf (Host.divf
      (broadcastInDim S32x8x1 ![0, 1] bcast_S32x8_S32x8x1_0_1
        (Host.reduceAdd (mulf x x) (constant S_ .f32 0x00000000#32) reducesTo_S32x8x1024_S32x8_d2 h_S_))
      (broadcastInDim S32x8x1 ![] bcast_S_S32x8x1 (constant S_ .f32 0x44800000#32)))
      (broadcastInDim S32x8x1 ![] bcast_S_S32x8x1 (constant S_ .f32 0x358637BD#32))))))
    (broadcastInDim S32x8x1024 ![0, 1, 2] bcast_S1x1x1024_S32x8x1024_0_1_2
      (broadcastInDim S1x1x1024 ![2] bcast_S1024_S1x1x1024_2 g))

/-- The reference's normalisation, at an index. -/
theorem refRms_at (x : FVec Ideal S32x8x1024 .f32) (g : FVec Ideal S1024 .f32) (b : Fin 32) (t : Fin 8) (j : Fin 1024) :
    refRms x g (ix3 b t j) = rms width (fun k => x (ix3 b t k)) (fun k => g (ix1 k)) j := by
  pointwise [refRms, rms, eps, width]
  try rfl

/-- The scales after the mixer. -/
def g1 (ng : FVec Ideal S2x4x1024 .f32) : FVec Ideal S1024 .f32 :=
  shapeCast _ (extractStridedSlice S1x1x1024 ![1, 1, 0] ng slices_S2x4x1024_S1x1x1024_1_1_0) shapeCasts_S1x1x1024_S1024

/-- The scales before the feed-forward part. -/
def g2 (ng : FVec Ideal S2x4x1024 .f32) : FVec Ideal S1024 .f32 :=
  shapeCast _ (extractStridedSlice S1x1x1024 ![1, 2, 0] ng slices_S2x4x1024_S1x1x1024_1_2_0) shapeCasts_S1x1x1024_S1024

/-- The scales after the feed-forward part. -/
def g3 (ng : FVec Ideal S2x4x1024 .f32) : FVec Ideal S1024 .f32 :=
  shapeCast _ (extractStridedSlice S1x1x1024 ![1, 3, 0] ng slices_S2x4x1024_S1x1x1024_1_3_0) shapeCasts_S1x1x1024_S1024

/-- The reference's residual stream after the mixer. -/
def refMix (x h : FVec Ideal S32x8x1024 .f32) (ng : FVec Ideal S2x4x1024 .f32) (w : FVec Ideal S1x1024x1024 .f32) :
    FVec Ideal S32x8x1024 .f32 :=
  addf h (refRms (Host.dotGeneral dot_S32x8x1024_S1024x1024_S32x8x1024_2_0_01_1_n_n none x
    (shapeCast _ w shapeCasts_S1x1024x1024_S1024x1024)) (g1 ng))

/-- The reference's residual stream after the mixer, at an index. -/
theorem refMix_at (x h : FVec Ideal S32x8x1024 .f32) (ng : FVec Ideal S2x4x1024 .f32) (w : FVec Ideal S1x1024x1024 .f32)
    (b : Fin 32) (t : Fin 8) (j : Fin 1024) :
    refMix x h ng w (ix3 b t j)
      = mixRow (fun k => x (ix3 b t k)) (fun k => h (ix3 b t k)) (fun k => ng (ix3 1 1 k)) (fun k l => w (ix3 0 k l)) j := by
  unfold refMix mixRow
  pointwise [refRms_at, g1]
  try rfl

/-- The reference's product with the gate and up columns. -/
def refGu (u : FVec Ideal S32x8x1024 .f32) (wgu : FVec Ideal S2x1024x5632 .f32) : FVec Ideal S32x8x5632 .f32 :=
  Host.dotGeneral dot_S32x8x1024_S1024x5632_S32x8x5632_2_0_01_1_n_n none u
    (shapeCast _ (extractStridedSlice S1x1024x5632 ![1, 0, 0] wgu slices_S2x1024x5632_S1x1024x5632_1_0_0) shapeCasts_S1x1024x5632_S1024x5632)

/-- The reference's feed-forward part, from the product with the gate and up columns. -/
def refFfn (p : FVec Ideal S32x8x5632 .f32) (wd : FVec Ideal S2x2816x1024 .f32) : FVec Ideal S32x8x1024 .f32 :=
  Host.dotGeneral dot_S32x8x2816_S2816x1024_S32x8x1024_2_0_01_1_n_n none
    (mulf (mulf (extractStridedSlice S32x8x2816 ![0, 0, 0] p slices_S32x8x5632_S32x8x2816_0_0_0)
      (Host.divf (broadcastInDim S32x8x2816 ![] bcast_S_S32x8x2816 (constant S_ .f32 0x3F800000#32))
        (addf (broadcastInDim S32x8x2816 ![] bcast_S_S32x8x2816 (constant S_ .f32 0x3F800000#32))
          (Host.exp (Host.negf (extractStridedSlice S32x8x2816 ![0, 0, 0] p slices_S32x8x5632_S32x8x2816_0_0_0))))))
      (extractStridedSlice S32x8x2816 ![0, 0, 2816] p slices_S32x8x5632_S32x8x2816_0_0_2816))
    (shapeCast _ (extractStridedSlice S1x2816x1024 ![1, 0, 0] wd slices_S2x2816x1024_S1x2816x1024_1_0_0) shapeCasts_S1x2816x1024_S2816x1024)

/-- The reference's feed-forward part, at an index. -/
theorem refFfn_at (u : FVec Ideal S32x8x1024 .f32) (wgu : FVec Ideal S2x1024x5632 .f32) (wd : FVec Ideal S2x2816x1024 .f32)
    (b : Fin 32) (t : Fin 8) (j : Fin 1024) :
    refFfn (refGu u wgu) wd (ix3 b t j)
      = ffn (fun k => u (ix3 b t k)) (fun k d => wgu (ix3 1 k d)) (fun d l => wd (ix3 1 d l)) j := by
  pointwise [refFfn, refGu, ffn, swi, silu]
  try rfl

/-- The whole reference before its last reshape. -/
def refBlock (x h : FVec Ideal S32x8x1024 .f32) (ng : FVec Ideal S2x4x1024 .f32) (w : FVec Ideal S1x1024x1024 .f32)
    (wgu : FVec Ideal S2x1024x5632 .f32) (wd : FVec Ideal S2x2816x1024 .f32) : FVec Ideal S32x8x1024 .f32 :=
  addf (refMix x h ng w) (refRms (refFfn (refGu (refRms (refMix x h ng w) (g2 ng)) wgu) wd) (g3 ng))

/-- The whole reference before its last reshape, at an index. -/
theorem refBlock_at (x h : FVec Ideal S32x8x1024 .f32) (ng : FVec Ideal S2x4x1024 .f32) (w : FVec Ideal S1x1024x1024 .f32)
    (wgu : FVec Ideal S2x1024x5632 .f32) (wd : FVec Ideal S2x2816x1024 .f32) (b : Fin 32) (t : Fin 8) (j : Fin 1024) :
    refBlock x h ng w wgu wd (ix3 b t j)
      = blockRow (fun k => x (ix3 b t k)) (fun k => h (ix3 b t k)) (fun k => ng (ix3 1 1 k)) (fun k => ng (ix3 1 2 k))
          (fun k => ng (ix3 1 3 k)) (fun k l => w (ix3 0 k l)) (fun k d => wgu (ix3 1 k d)) (fun d l => wd (ix3 1 d l)) j := by
  have e2 (k : Fin 1024) : g2 ng (ix1 k) = ng (ix3 1 2 k) := by pointwise [g2]; try rfl
  have e3 (k : Fin 1024) : g3 ng (ix1 k) = ng (ix3 1 3 k) := by pointwise [g3]; try rfl
  unfold refBlock blockRow
  pointwise [refRms_at, refFfn_at, refMix_at, e2, e3]
  try rfl

/-- The reference's result as a function of its arguments. -/
def REF (x h : FVec Ideal S32x8x1024 .f32) (ng : FVec Ideal S2x4x1024 .f32) (w : FVec Ideal S1x1024x1024 .f32)
    (wgu : FVec Ideal S2x1024x5632 .f32) (wd : FVec Ideal S2x2816x1024 .f32) : FVec Ideal S256x1024 .f32 :=
  shapeCast _ (refBlock x h ng w wgu wd) shapeCasts_S32x8x1024_S256x1024

/-- The reference's result, at row `i` and column `j`. -/
theorem REF_at (x h : FVec Ideal S32x8x1024 .f32) (ng : FVec Ideal S2x4x1024 .f32) (w : FVec Ideal S1x1024x1024 .f32)
    (wgu : FVec Ideal S2x1024x5632 .f32) (wd : FVec Ideal S2x2816x1024 .f32) (i : Fin 256) (j : Fin 1024) :
    REF x h ng w wgu wd (ix2 i j)
      = blockRow (fun k => x (ix3 ⟨i.val / 8, by omega⟩ ⟨i.val % 8, by omega⟩ k))
          (fun k => h (ix3 ⟨i.val / 8, by omega⟩ ⟨i.val % 8, by omega⟩ k)) (fun k => ng (ix3 1 1 k)) (fun k => ng (ix3 1 2 k))
          (fun k => ng (ix3 1 3 k)) (fun k l => w (ix3 0 k l)) (fun k d => wgu (ix3 1 k d)) (fun d l => wd (ix3 1 d l)) j := by
  pointwise [REF]
  exact refBlock_at x h ng w wgu wd ⟨i.val / 8, by omega⟩ ⟨i.val % 8, by omega⟩ j

/-- The reference's run ends with `REF` of its arguments. -/
theorem res_eq (m : (ℓ : Loc nD τ sig) → Buf (Elt Ideal) ℓ) (c : Dev nD) :
    Cert.Reference6Ideal.Value.res_out0 (F := Ideal) m c
      = REF (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) :=
  rfl

end Cert.Ffn6

end
-- ==== Proof.Ffn6Final.lean ====
/- The second layer's feed-forward sample kernel writes the reference's result. -/
module

public import proofs.«01_k».proof.Proof.Ffn6Kernel
public import proofs.«01_k».proof.Proof.Ffn6Reference

@[expose] public section

set_option maxRecDepth 16384

noncomputable section

namespace Cert.Ffn6

open Idealize.ShloMosaic Idealize.ShloMosaic.TcCoe Idealize.SL.Sem
open Cert.Kernel6Ideal Cert.Kernel6Ideal.Gen Cert.RowMath

set_option maxHeartbeats 2000000 in
/-- The body's result at row `i`, column `j` of a block: the layer's block function of row `i` of the two row windows. -/
theorem out_at (x0 x1 : FVec Ideal S256x1024 .f32) (x2 : FVec Ideal S1024x1024 .bf16) (x3 : FVec Ideal S4x1024 .f32)
    (x4 : FVec Ideal S1024x5632 .bf16) (x5 : FVec Ideal S2816x1024 .bf16) (i : Fin 256) (j : Fin 1024) :
    out0_6 (F := Ideal) x0 x1 x2 x3 x4 x5 (ix2 i j)
      = blockRow (fun k => x0 (ix2 i k)) (fun k => x1 (ix2 i k)) (fun k => x3 (ix2 1 k)) (fun k => x3 (ix2 2 k))
          (fun k => x3 (ix2 3 k)) (fun k l => x2 (ix2 k l)) (fun k d => x4 (ix2 k d)) (fun d l => x5 (ix2 d l)) j := by
  unfold out0_6 k0_pay23 k0_pay22 k0_pay21 k0_pay20 k0_pay19 k0_pay18 k0_pay17 blockRow
  simp only [ffn_split]
  canon_tiles x h
  · idx_vars x
    obtain rfl : j = x1 := Fin.ext h1
    obtain rfl : i = ⟨128 + x0.val, Nat.lt_of_lt_of_le (Nat.add_lt_add_left x0.isLt 128) (by decide)⟩ := Fin.ext h0
    simp only [pay2_at, pay16_at, pay10_at, pay8_at]
    pointwise
    try rfl
  · idx_vars x
    obtain rfl : j = x1 := Fin.ext (by omega)
    obtain rfl : i = ⟨x0.val, Nat.lt_of_lt_of_le x0.isLt (by decide)⟩ := Fin.ext (by omega)
    simp only [pay1_at, pay15_at, pay9_at, pay4_at]
    pointwise
    try rfl

/-- Where each window's block of point `t` lies: the row windows and the result advance by one block of 256 rows. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

variable (m : (ℓ : Loc nD τ sig) → Buf (Elt Ideal) ℓ)

set_option maxHeartbeats 2000000 in
/-- The result array after the run is the reference's function of the arguments. -/
theorem final (c : Dev nD) : (dats m 0 c).arrAt 6 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t _ y => ?_
  have ht : t.val < 1 := t.isLt
  blk_simp
  rw [after0_6]
  idx_vars y
  have e : ((View.whole main_v12).slice (win0_6.rect t)).emb (ix2 y0 y1) = ix2 (⟨256 * t.val + y0.val, by omega⟩ : Fin 256) y1 := by
    blk_ext [idx t]
  have h0 (k : Fin 1024) : (show FVec Ideal S256x1024 .f32 from iblk m c 0 t) (ix2 y0 k)
      = (show FVec Ideal S32x8x1024 .f32 from m ((c : Thread nD τ).loc main_arg0)) (ix3 ⟨(256 * t.val + y0.val) / 8, by omega⟩ ⟨(256 * t.val + y0.val) % 8, by omega⟩ k) := by
    blk_simp [iblk]; entry_read; pointwise; blk_ext [idx t]
  have h1 (k : Fin 1024) : (show FVec Ideal S256x1024 .f32 from iblk m c 1 t) (ix2 y0 k)
      = (show FVec Ideal S32x8x1024 .f32 from m ((c : Thread nD τ).loc main_arg1)) (ix3 ⟨(256 * t.val + y0.val) / 8, by omega⟩ ⟨(256 * t.val + y0.val) % 8, by omega⟩ k) := by
    blk_simp [iblk]; entry_read; pointwise; blk_ext [idx t]
  have h2 (k l : Fin 1024) : (show FVec Ideal S1024x1024 .bf16 from iblk m c 2 t) (ix2 k l)
      = (show FVec Ideal S1x1024x1024 .f32 from m ((c : Thread nD τ).loc main_arg3)) (ix3 0 k l) := by
    blk_simp [iblk]; entry_read; pointwise; blk_ext [idx t]
  have h3 (a : Fin 4) (k : Fin 1024) : (show FVec Ideal S4x1024 .f32 from iblk m c 3 t) (ix2 a k)
      = (show FVec Ideal S2x4x1024 .f32 from m ((c : Thread nD τ).loc main_arg2)) (ix3 1 a k) := by
    blk_simp [iblk]; entry_read; pointwise; blk_ext [idx t]
  have h4 (k : Fin 1024) (d : Fin 5632) : (show FVec Ideal S1024x5632 .bf16 from iblk m c 4 t) (ix2 k d)
      = (show FVec Ideal S2x1024x5632 .f32 from m ((c : Thread nD τ).loc main_arg4)) (ix3 1 k d) := by
    blk_simp [iblk]; entry_read; pointwise; blk_ext [idx t]
  have h5 (d : Fin 2816) (l : Fin 1024) : (show FVec Ideal S2816x1024 .bf16 from iblk m c 5 t) (ix2 d l)
      = (show FVec Ideal S2x2816x1024 .f32 from m ((c : Thread nD τ).loc main_arg5)) (ix3 1 d l) := by
    blk_simp [iblk]; entry_read; pointwise; blk_ext [idx t]
  rw [e]
  refine (out_at (iblk m c 0 t) (iblk m c 1 t) (iblk m c 2 t) (iblk m c 3 t) (iblk m c 4 t) (iblk m c 5 t) y0 y1).trans ?_
  refine Eq.trans ?_ (REF_at _ _ _ _ _ _ _ y1).symm
  simp only [h0, h1, h2, h3, h4, h5]

end Cert.Ffn6

end
-- ==== Proof.Ffn6Claims.lean ====
/- The claims of the second layer's feed-forward sample kernel. -/
module

public import proofs.«01_k».proof.Defs
public import proofs.«01_k».proof.Proof.Gen.Kernel6.Frame
public import proofs.«01_k».proof.Proof.Ffn6Final
public import Idealize.ShloMosaic.Lib.Claim
public import Idealize.ShloMosaic.Lib.Quiescent

@[expose] public section

set_option maxRecDepth 16384

noncomputable section

namespace Cert.Ffn6

open Idealize.ShloMosaic Idealize.ShloMosaic.TcCoe Idealize.SL.Sem

instance : Cert.Kernel6.Facts := Cert.Kernel6.Gen.facts
instance : Cert.Kernel6Ideal.Facts := Cert.Kernel6Ideal.Gen.facts
instance : Cert.Reference6Ideal.Facts := Cert.Reference6Ideal.Gen.facts

/-- The kernel at its machine floats runs, ends with its arguments unchanged and every counter at zero. -/
theorem frame_kernel : Cert.quiescent_Kernel6 := fun m ρ _ => Cert.Kernel6.Gen.frame (F := Bits) m ρ

/-- The kernel over the extended reals runs, ends with its arguments unchanged and every counter at zero. -/
theorem frame_ideal : Cert.quiescent_Kernel6Ideal := fun m ρ _ => Cert.Kernel6Ideal.Gen.frame (F := Ideal) m ρ

/-- The reference runs and ends with its arguments unchanged; it declares no counter. -/
theorem frame_reference : Cert.quiescent_Reference6Ideal := fun m ρ _ =>
  (θ_run Cert.Reference6Ideal.defs _ _).mono
    (fun r h => ⟨fun c => (h c).2, sem_eq_zero_of_no_sems (by decide) r.2⟩)
    (Cert.Reference6Ideal.Value.run (F := Ideal) m ρ)

/-- Over the extended reals the kernel's result is the reference's, element by element. -/
theorem algebraic : Cert.algebraic_Kernel6Ideal_Reference6Ideal := by
  intro m g m' g' _ hagree
  refine ⟨fun c => (Cert.Kernel6Ideal.Gen.dats m 0 c).arrAt 6 (Cert.Kernel6Ideal.cfgs 0).N, ?_, ?_⟩
  · run_from Cert.Kernel6Ideal.Gen.run_main m g
  · refine (θ_run Cert.Reference6Ideal.defs _ _).mono (fun r h c => ?_) (Cert.Reference6Ideal.Value.run (F := Ideal) m' g')
    obtain ⟨e0, e1, e2, e3, e4, e5⟩ := hagree c
    obtain ⟨hr, h0, h1, h2, h3, h4, h5⟩ := h c
    refine ⟨?_, h0, h1, h2, h3, h4, h5⟩
    refine Eq.trans (b := REF (m' ((c.tc : Thread _ _).loc Cert.Reference6Ideal.main_arg0)) (m' ((c.tc : Thread _ _).loc Cert.Reference6Ideal.main_arg1)) (m' ((c.tc : Thread _ _).loc Cert.Reference6Ideal.main_arg2)) (m' ((c.tc : Thread _ _).loc Cert.Reference6Ideal.main_arg3)) (m' ((c.tc : Thread _ _).loc Cert.Reference6Ideal.main_arg4)) (m' ((c.tc : Thread _ _).loc Cert.Reference6Ideal.main_arg5))) hr ?_
    rw [e0, e1, e2, e3, e4, e5]
    exact (final m c).symm

end Cert.Ffn6

end
-- ==== Proof.GlaStepMath.lean ====
/- The mathematics of one head of gated linear attention over the extended reals, for the eight positions of the sample, which
   start from a given state. -/
module

public import proofs.«01_k».proof.Proof.GlaMath

@[expose] public section

set_option maxRecDepth 16384

noncomputable section

namespace Cert.GlaStep

open Idealize.ShloMosaic

/-- The running sums of the gates. -/
def cum (g : Fin 8 → Fin 128 → EReal) (r : Fin 8) (d : Fin 128) : EReal := ∑ t : Fin 8, if t ≤ r then g t d else 0

/-- The score of position `j` for position `i`: nothing when `j` comes later. -/
def score (b q k : Fin 8 → Fin 128 → EReal) (i j : Fin 8) : EReal :=
  if j ≤ i then ∑ d : Fin 128, q i d * k j d * Ideal.exp (b i d - b j d) else 0

/-- The output: what the state before the positions gives, and what their own values give. -/
def out (b q k : Fin 8 → Fin 128 → EReal) (v : Fin 8 → Fin 256 → EReal) (s : Fin 128 → Fin 256 → EReal)
    (i : Fin 8) (e : Fin 256) : EReal :=
  (∑ d : Fin 128, q i d * Ideal.exp (b i d) * s d e) + ∑ j : Fin 8, score b q k i j * v j e

/-- The state after the positions. -/
def next (b k : Fin 8 → Fin 128 → EReal) (v : Fin 8 → Fin 256 → EReal) (s : Fin 128 → Fin 256 → EReal)
    (d : Fin 128) (e : Fin 256) : EReal :=
  Ideal.exp (b 7 d) * s d e + ∑ j : Fin 8, k j d * Ideal.exp (b 7 d - b j d) * v j e

/-- Column `d` of head `h` among the 512 columns of queries, keys and gates. -/
def colK (h : Fin 4) (d : Fin 128) : Fin 512 := ⟨128 * h.val + d.val, by omega⟩

/-- Column `e` of head `h` among the 1024 columns of values and outputs. -/
def colV (h : Fin 4) (e : Fin 256) : Fin 1024 := ⟨256 * h.val + e.val, by omega⟩

section Cum
variable {g : Fin 8 → Fin 128 → EReal} (hg : ∀ r d, g r d < ⊤)
include hg

theorem cum_lt_top (r : Fin 8) (d : Fin 128) : cum g r d < ⊤ := by
  refine GlaMath.sum_lt_top _ (fun t => ?_) _
  by_cases h : t ≤ r
  · rw [if_pos h]; exact hg t d
  · rw [if_neg h]; exact EReal.zero_lt_top

omit hg in
theorem cum_eq_bot {i : Fin 8} {d : Fin 128} (h : cum g 0 d = ⊥) : cum g i d = ⊥ := by
  obtain ⟨t, ht, e⟩ := (GlaMath.sum_eq_bot _ _).1 h
  by_cases ht0 : t ≤ 0
  · rw [if_pos ht0] at e
    exact (GlaMath.sum_eq_bot _ _).2 ⟨t, ht, by rw [if_pos (ht0.trans (Fin.zero_le _))]; exact e⟩
  · rw [if_neg ht0] at e; exact absurd e (by simp)

/-- The score of a position through the first row. -/
theorem score_split (q k : Fin 8 → Fin 128 → EReal) {i j : Fin 8} (hji : j ≤ i) :
    (∑ d : Fin 128, q i d * Ideal.exp (cum g i d - cum g 0 d) * (k j d * Ideal.exp (cum g 0 d - cum g j d)))
      = score (cum g) q k i j := by
  rw [score, if_pos hji]
  refine Finset.sum_congr rfl fun d _ => ?_
  rw [mul_mul_mul_comm, GlaMath.exp_split (cum_lt_top hg i d) (cum_lt_top hg 0 d) (cum_lt_top hg j d) cum_eq_bot]

end Cum

/-- A sum over `8 + n` positions of which the last `n` contribute nothing. -/
theorem sum_low {N : ℕ} (n : ℕ) (hN : 8 + n = N) (f : Fin N → EReal) (h : ∀ t : Fin N, 8 ≤ t.val → f t = 0) :
    ∑ t : Fin N, f t = ∑ t : Fin 8, f ⟨t.val, by omega⟩ := by
  subst hN
  rw [Fin.sum_univ_add, Finset.sum_eq_zero (s := Finset.univ) (f := fun i : Fin n => f (Fin.natAdd 8 i)) (fun t _ => h _ (by simp)), add_zero]
  rfl

end Cert.GlaStep

end
-- ==== Proof.GlaStepKernel.lean ====
/- What the sample's gated linear attention kernel computes in one head, entry by entry. -/
module

public import proofs.«01_k».proof.Proof.Gen.Kernel7Ideal.Value
public import proofs.«01_k».proof.Proof.GlaStepMath
public import Idealize.ShloMosaic.Lib.Pipeline.ValueKit
public import Idealize.ShloMosaic.Lib.Pointwise

@[expose] public section

set_option maxRecDepth 16384

noncomputable section

namespace Cert.GlaStep

open Idealize.ShloMosaic Idealize.ShloMosaic.TcCoe Idealize.SL.Sem
open Cert.Kernel7Ideal Cert.Kernel7Ideal.Gen

/-! ## The running sums -/

/-- A row of the running sums takes the rows up to it. -/
def maskS : IVec S16x16 1 :=
  andi k0_pay4 (cmpi .eq k0_pay5 (select (andi (cmpi .ne k0_pay7 (broadcast S16x16 (Scalar.subi (Scalar.extui (Scalar.cmpi .sgt 16#32 0#32)) (Scalar.extui (Scalar.cmpi .slt 16#32 0#32)))))
    (cmpi .ne (remsi (iota .tc S16x16 32 [1] iota_S16x16_d1_w32) (broadcast S16x16 16#32)) (broadcast S16x16 0#32))) (subi k0_pay6 (broadcast S16x16 1#32)) k0_pay6))

theorem maskS_at : ∀ i t : Fin 16, maskS (ix2 i t) = if t ≤ i then 1#1 else 0#1 := by decide +kernel

/-- The gates, with eight more rows of zeros. -/
def gates16 (x : FVec Ideal S1x8x512 .f32) : FVec Ideal S16x512 .f32 :=
  concatenate S16x512 0 [⟨S8x512, shapeCast S8x512 x shapeCasts_S1x8x512_S8x512⟩, ⟨S8x512, broadcast S8x512 (Scalar.ofBits .f32 0x00000000#32)⟩]
    concatenates_S8x512_S8x512_S16x512_d0

/-- The two products that make the running sums. -/
def sumsOf (z : IVec S16x16 1) (y : FVec Ideal S16x512 .f32) : FVec Ideal S16x512 .f32 :=
  addf (matmul dot_S16x16_S16x512_S16x512_1_0_0_1_n_n none (truncf .bf16 (select z (broadcast S16x16 (Scalar.ofBits .f32 0x3F800000#32)) (broadcast S16x16 (Scalar.ofBits .f32 0x00000000#32))) bitsLt_bf16_f32)
      (truncf .bf16 y bitsLt_bf16_f32) (constant S16x512 .f32 0x00000000#32))
    (matmul dot_S16x16_S16x512_S16x512_1_0_0_1_n_n none (truncf .bf16 (select z (broadcast S16x16 (Scalar.ofBits .f32 0x3F800000#32)) (broadcast S16x16 (Scalar.ofBits .f32 0x00000000#32))) bitsLt_bf16_f32)
      (truncf .bf16 (subf y (extf .f32 (truncf .bf16 y bitsLt_bf16_f32) bitsLt_bf16_f32)) bitsLt_bf16_f32) (constant S16x512 .f32 0x00000000#32))

theorem sums_eq (x : FVec Ideal S1x8x512 .f32) :
    k0_pay9 (iota .tc S16x16 32 [1] iota_S16x16_d1_w32) k0_pay4 k0_pay5 16#32 k0_pay6 k0_pay7
        (Scalar.extui (Scalar.cmpi .sgt 16#32 0#32)) (Scalar.extui (Scalar.cmpi .slt 16#32 0#32)) x
      = sumsOf maskS (gates16 x) := rfl

/-- The last of the eight positions that row `r` of sixteen takes in. -/
def upTo (r : Fin 16) : Fin 8 := ⟨min r.val 7, by omega⟩

theorem gates16_at (x : FVec Ideal S1x8x512 .f32) (t : Fin 16) (c : Fin 512) :
    gates16 x (ix2 t c) = if h : t.val < 8 then x (ix3 0 ⟨t.val, h⟩ c) else 0 := by
  pointwise [gates16]
  try rfl

theorem sumsOf_at (x : FVec Ideal S1x8x512 .f32) (hx : ∀ r c, x (ix3 0 r c) < ⊤) (r : Fin 16) (c : Fin 512) :
    sumsOf maskS (gates16 x) (ix2 r c) = ∑ t : Fin 8, if t ≤ upTo r then x (ix3 0 t c) else 0 := by
  have hz (t : Fin 16) : gates16 x (ix2 t c) < ⊤ := by
    rw [gates16_at]
    by_cases h : t.val < 8
    · rw [dif_pos h]; exact hx _ _
    · rw [dif_neg h]; exact EReal.zero_lt_top
  have e := gates16_at x
  generalize gates16 x = z at hz e ⊢
  pointwise [sumsOf, maskS_at]
  rw [← Finset.sum_add_distrib]
  refine (Finset.sum_congr rfl fun t _ => ?_).trans (b := ∑ t : Fin 16, if t ≤ r then z (ix2 t c) else 0) ?_
  · by_cases h : t ≤ r
    · rw [if_pos h, if_pos h]
      exact GlaMath.add_sub_self (hz t)
    · rw [if_neg h, if_neg h]
      exact add_zero _
  · rw [sum_low 8 rfl _ (fun t ht => by rw [e, dif_neg (by omega)]; exact ite_self _)]
    refine Finset.sum_congr rfl fun t _ => ?_
    have h7 : t.val < 8 := t.isLt
    have hi : ((⟨t.val, by omega⟩ : Fin 16) ≤ r) ↔ t ≤ upTo r := by
      rw [Fin.le_def, Fin.le_def]; simp only [upTo]; omega
    rw [e, dif_pos t.isLt]
    exact if_congr hi rfl rfl

theorem upTo_low (i : Fin 8) (h : i.val < 16) : upTo ⟨i.val, h⟩ = i := Fin.ext (by simp only [upTo]; omega)

theorem sum_halves (f : Fin 256 → EReal) :
    ∑ t : Fin 256, f t = (∑ t : Fin 128, f ⟨t.val, by omega⟩) + ∑ t : Fin 128, f ⟨128 + t.val, by omega⟩ :=
  Fin.sum_univ_add (a := 128) (b := 128) f

/-! ## One head -/

section Head
variable (b q k : FVec Ideal S16x128 .f32) (v : FVec Ideal S128x256 .f32) (s : FVec Ideal S1x128x256 .f32)

/-- The block of outputs of a head. -/
def outS : FVec Ideal S1x8x256 .f32 := k0_pay58 v (k0_pay47 k0_pay8 b q (k0_pay31 b q k)) s

/-- The state a head leaves. -/
def nextS : FVec Ideal S1x128x256 .f32 := k0_pay64 (k0_pay38 b k v (k0_pay27 b)) (k0_pay39 (k0_pay27 b)) (k0_pay54 s)

theorem out1_eq : k0_pay60 (k0_pay59 v (k0_pay48 b q) (k0_pay49 k0_pay8 (k0_pay35 (k0_pay33 b q) (k0_pay34 b k))) s) = outS b q k v s := rfl
theorem out2_eq : k0_pay61 (k0_pay50 k0_pay8 b q (k0_pay36 b q k)) (k0_pay52 v) (k0_pay56 s) = outS b q k v s := rfl
theorem out3_eq : k0_pay62 (k0_pay51 k0_pay8 b q (k0_pay37 b q k)) (k0_pay53 v) (k0_pay57 s) = outS b q k v s := rfl

theorem next1_eq : k0_pay65 (k0_pay41 v (k0_pay40 b k (k0_pay28 b)) (Scalar.ofBits .f32 0x00000000#32)) (k0_pay42 (k0_pay28 b)) (k0_pay55 s) = nextS b k v s := rfl
theorem next2_eq : k0_pay66 (k0_pay43 b k v (k0_pay29 b)) (k0_pay44 (k0_pay29 b)) (k0_pay56 s) = nextS b k v s := rfl
theorem next3_eq : k0_pay1 (k0_pay63 (k0_pay45 b k v (k0_pay30 b)) (k0_pay46 (k0_pay30 b)) (k0_pay57 s)) = nextS b k v s := rfl

variable (g : Fin 8 → Fin 128 → EReal) (hg : ∀ r d, g r d < ⊤) (hb : ∀ r d, b (ix2 r d) = cum g (upTo r) d)
  (hv : ∀ (j : Fin 128) (e : Fin 256), 8 ≤ j.val → v (ix2 j e) = 0)
include hb

/-- The entries of a head's queries, keys and values that count. -/
abbrev rowsK (x : FVec Ideal S16x128 .f32) (r : Fin 8) (d : Fin 128) : EReal := x (ix2 ⟨r.val, by omega⟩ d)
abbrev rowsV (x : FVec Ideal S128x256 .f32) (r : Fin 8) (e : Fin 256) : EReal := x (ix2 ⟨r.val, by omega⟩ e)
abbrev stateS (x : FVec Ideal S1x128x256 .f32) (d : Fin 128) (e : Fin 256) : EReal := x (ix3 0 d e)

include hg hv in
theorem outS_at (i : Fin 8) (e : Fin 256) :
    outS b q k v s (ix3 0 i e) = out (cum g) (rowsK q) (rowsK k) (rowsV v) (stateS s) i e := by
  pointwise [outS, k0_pay58, k0_pay47, k0_pay31, k0_pay8, k0_pay54]
  rw [sum_halves]
  refine congrArg₂ (· + ·) (Finset.sum_congr rfl fun d _ => ?_) ?_
  · rw [dif_pos d.isLt, dif_pos d.isLt, hb, upTo_low]
  · refine (Finset.sum_congr rfl fun t _ => ?_).trans (b := ∑ t : Fin 128, Scalar.select (IntOp.cmpi CmpIPredicate.sge (BitVec.ofNat 32 i.val) (BitVec.ofNat 32 t.val))
        (∑ d : Fin 128, q (ix2 ⟨i.val, by omega⟩ d) * Ideal.exp (b (ix2 ⟨i.val, by omega⟩ d) - b (ix2 0 d)) *
          if h : t.val < 16 then k (ix2 ⟨t.val, h⟩ d) * Ideal.exp (b (ix2 0 d) - b (ix2 ⟨t.val, h⟩ d)) else 0) 0 * v (ix2 t e)) ?_
    · have ht : ¬ 128 + t.val < 128 := by omega
      rw [dif_neg ht, dif_neg ht]
      simp only [Nat.add_sub_cancel_left]
    rw [sum_low 120 rfl _ (fun t ht => by rw [hv t e ht, mul_zero])]
    refine Finset.sum_congr rfl fun j _ => congrArg₂ (· * ·) ?_ rfl
    have hj : j.val < 16 := by omega
    rw [WordCmp.cmpi_sge_ofNat (by omega) (by simp only; omega)]
    by_cases h : j.val ≤ i.val
    · have es : ∀ x y : EReal, Scalar.select (BitVec.ofBool true) x y = x := fun _ _ => rfl
      rw [decide_eq_true h, es, ← score_split hg (rowsK q) (rowsK k) (show j ≤ i from h)]
      refine Finset.sum_congr rfl fun d _ => ?_
      have e0 : upTo 0 = 0 := rfl
      rw [dif_pos hj, hb, hb, hb, upTo_low, upTo_low, e0]
    · rw [decide_eq_false h, score, if_neg (show ¬ j ≤ i from h)]; rfl

include hv in
theorem nextS_at (d : Fin 128) (e : Fin 256) :
    nextS b k v s (ix3 0 d e) = next (cum g) (rowsK k) (rowsV v) (stateS s) d e := by
  pointwise [nextS, k0_pay64, k0_pay38, k0_pay39, k0_pay27, k0_pay54]
  have e0 : (if h : e.val < 128 then Ideal.exp (b (ix2 15 d)) else Ideal.exp (b (ix2 15 d))) = Ideal.exp (cum g 7 d) := by
    rw [hb]; exact ite_self _
  have z : ∑ x : Fin 112, (0 : EReal) * v (ix2 ⟨16 + x.val, by omega⟩ e) = 0 := Finset.sum_eq_zero fun x _ => zero_mul _
  have e7 : upTo 15 = 7 := rfl
  refine congrArg₂ (· + ·) ((congrArg (s (ix3 0 d e) * ·) e0).trans (mul_comm _ _)) ((congrArg₂ (· + ·) ?_ z).trans (add_zero _))
  rw [sum_low 8 rfl _ (fun t ht => by rw [hv _ e ht, mul_zero])]
  refine Finset.sum_congr rfl fun j _ => ?_
  rw [hb, hb, upTo_low, e7]

end Head

end Cert.GlaStep

end
-- ==== Proof.GlaStepHeads.lean ====
/- What the sample's gated linear attention kernel reads of its blocks for each head. -/
module

public import proofs.«01_k».proof.Proof.GlaStepKernel
public import Idealize.ShloMosaic.Lib.Pipeline.ReadBack

@[expose] public section

set_option maxRecDepth 16384

noncomputable section

namespace Cert.GlaStep

open Idealize.ShloMosaic Idealize.ShloMosaic.TcCoe Idealize.SL.Sem
open Cert.Kernel7Ideal Cert.Kernel7Ideal.Gen

/-! ## What a head reads -/

/-- The running sums of a head's gates, sixteen rows. -/
def headSums (g : FVec Ideal S1x8x512 .f32) (h : Fin 4) : FVec Ideal S16x128 .f32 :=
  let x := View.ld (Val := Elt Ideal) (e' := .f32) g (Rect.unit (s := S1x8x512) k0_off1 S1x8x512.size k0_off1_inb)
  let w := iota .tc S16x16 32 [1] iota_S16x16_d1_w32
  match h with
  | 0 => k0_pay10 w k0_pay4 k0_pay5 16#32 k0_pay6 k0_pay7 1#32 0#32 x
  | 1 => k0_pay11 w k0_pay4 k0_pay5 16#32 k0_pay6 k0_pay7 1#32 0#32 x
  | 2 => k0_pay12 w k0_pay4 k0_pay5 16#32 k0_pay6 k0_pay7 1#32 0#32 x
  | 3 => k0_pay13 w k0_pay4 k0_pay5 16#32 k0_pay6 k0_pay7 1#32 0#32 x

/-- A head's eight rows of the queries or of the keys. -/
def loadK (x : FVec Ideal S1x8x512 .f32) (h : Fin 4) : FVec Ideal S1x8x128 .f32 :=
  match h with
  | 0 => View.ld (Val := Elt Ideal) (e' := .f32) x (Rect.unit (s := S1x8x512) k0_off2 S1x8x128.size k0_off2_inb)
  | 1 => View.ld (Val := Elt Ideal) (e' := .f32) x (Rect.unit (s := S1x8x512) k0_off3 S1x8x128.size k0_off3_inb)
  | 2 => View.ld (Val := Elt Ideal) (e' := .f32) x (Rect.unit (s := S1x8x512) k0_off4 S1x8x128.size k0_off4_inb)
  | 3 => View.ld (Val := Elt Ideal) (e' := .f32) x (Rect.unit (s := S1x8x512) k0_off5 S1x8x128.size k0_off5_inb)

/-- A head's eight rows of the values. -/
def loadV (x : FVec Ideal S1x8x1024 .f32) (h : Fin 4) : FVec Ideal S1x8x256 .f32 :=
  match h with
  | 0 => View.ld (Val := Elt Ideal) (e' := .f32) x (Rect.unit (s := S1x8x1024) k0_off6 S1x8x256.size k0_off6_inb)
  | 1 => View.ld (Val := Elt Ideal) (e' := .f32) x (Rect.unit (s := S1x8x1024) k0_off7 S1x8x256.size k0_off7_inb)
  | 2 => View.ld (Val := Elt Ideal) (e' := .f32) x (Rect.unit (s := S1x8x1024) k0_off8 S1x8x256.size k0_off8_inb)
  | 3 => View.ld (Val := Elt Ideal) (e' := .f32) x (Rect.unit (s := S1x8x1024) k0_off9 S1x8x256.size k0_off9_inb)

/-- The scratch after it is filled with the states. -/
def filled (s : FVec Ideal S1x4x128x256 .f32) : List (View.Piece (Elt Ideal) S4x128x256 .f32) :=
  [⟨Rect.unit (s := S4x128x256) ![0, 0, 0] ![4, 128, 256] inb_S4x128x256_S4x128x256_0_0_0,
    k0_pay3 (View.ld (Val := Elt Ideal) (e' := .f32) s (Rect.unit (s := S1x4x128x256) ![0, 0, 0, 0] ![1, 4, 128, 256] inb_S1x4x128x256_S1x4x128x256_0_0_0_0))⟩]

/-- The state of a head, read back from the scratch. -/
def loadS (s : FVec Ideal S1x4x128x256 .f32) (h : Fin 4) : FVec Ideal S1x128x256 .f32 :=
  match h with
  | 0 => (View.whole cc0_scratch0).readCov (filled s) (Rect.unit (s := S4x128x256) ![0, 0, 0] ![1, 128, 256] inb_S4x128x256_S1x128x256_0_0_0).toLoadRect
  | 1 => (View.whole cc0_scratch0).readCov (filled s) (Rect.unit (s := S4x128x256) ![1, 0, 0] ![1, 128, 256] inb_S4x128x256_S1x128x256_1_0_0).toLoadRect
  | 2 => (View.whole cc0_scratch0).readCov (filled s) (Rect.unit (s := S4x128x256) ![2, 0, 0] ![1, 128, 256] inb_S4x128x256_S1x128x256_2_0_0).toLoadRect
  | 3 => (View.whole cc0_scratch0).readCov (filled s) (Rect.unit (s := S4x128x256) ![3, 0, 0] ![1, 128, 256] inb_S4x128x256_S1x128x256_3_0_0).toLoadRect

/-! ## Their entries -/

/-- The entries of a head in a block. -/
abbrev ofK (x : FVec Ideal S1x8x512 .f32) (h : Fin 4) (r : Fin 8) (d : Fin 128) : EReal := x (ix3 0 r (colK h d))
abbrev ofV (x : FVec Ideal S1x8x1024 .f32) (h : Fin 4) (r : Fin 8) (e : Fin 256) : EReal := x (ix3 0 r (colV h e))
abbrev ofS (x : FVec Ideal S1x4x128x256 .f32) (h : Fin 4) (d : Fin 128) (e : Fin 256) : EReal := x (ix4 0 h d e)

/-- A load of the rows of one head, at an entry. -/
theorem ld_at {C W : ℕ} (x : (⟨3, ![1, 8, C]⟩ : Shape).Idx → EReal) (off : Fin 3 → ℕ) (inb : ∀ a, off a + (![1, 8, W] : Fin 3 → ℕ) a ≤ (![1, 8, C] : Fin 3 → ℕ) a)
    (r : Fin 8) (d : Fin W) (c : Fin C) (h0 : off 0 = 0) (h1 : off 1 = 0) (h2 : off 2 + d.val = c.val) :
    View.ld (Val := Elt Ideal) (e' := .f32) x (Rect.unit (s := ⟨3, ![1, 8, C]⟩) off ![1, 8, W] inb) (ix3 0 r d) = x (ix3 0 r c) := by
  refine congrArg x (funext fun a => Fin.ext ?_)
  match a with
  | 0 => exact (by rw [h0] : off 0 + 1 * 0 = 0)
  | 1 => exact (by rw [h1]; omega : off 1 + 1 * r.val = r.val)
  | 2 => exact (by simpa using h2 : off 2 + 1 * d.val = c.val)

theorem loadK_at (x : FVec Ideal S1x8x512 .f32) (r : Fin 8) (d : Fin 128) : ∀ h : Fin 4, loadK x h (ix3 0 r d) = ofK x h r d
  | 0 => ld_at x _ _ r d _ rfl rfl rfl
  | 1 => ld_at x _ _ r d _ rfl rfl rfl
  | 2 => ld_at x _ _ r d _ rfl rfl rfl
  | 3 => ld_at x _ _ r d _ rfl rfl rfl

theorem loadV_at (x : FVec Ideal S1x8x1024 .f32) (r : Fin 8) (e : Fin 256) : ∀ h : Fin 4, loadV x h (ix3 0 r e) = ofV x h r e
  | 0 => ld_at x _ _ r e _ rfl rfl rfl
  | 1 => ld_at x _ _ r e _ rfl rfl rfl
  | 2 => ld_at x _ _ r e _ rfl rfl rfl
  | 3 => ld_at x _ _ r e _ rfl rfl rfl

/-- A head read back from the filled scratch, at an entry. -/
theorem filled_at (s : FVec Ideal S1x4x128x256 .f32) (off : Fin 3 → ℕ) (inb : ∀ a, off a + (![1, 128, 256] : Fin 3 → ℕ) a ≤ S4x128x256.size a)
    (h : Fin 4) (d : Fin 128) (e : Fin 256) (h0 : off 0 = h.val) (h1 : off 1 = 0) (h2 : off 2 = 0) :
    (View.whole cc0_scratch0).readCov (filled s) (Rect.unit (s := S4x128x256) off ![1, 128, 256] inb).toLoadRect (ix3 0 d e) = ofS s h d e := by
  have z : ∀ a, (![0, 0, 0] : Fin S4x128x256.rank → ℕ) a = 0 := by decide
  refine Eq.trans (b := k0_pay3 (View.ld (Val := Elt Ideal) (e' := .f32) s (Rect.unit (s := S1x4x128x256) ![0, 0, 0, 0] ![1, 4, 128, 256] inb_S1x4x128x256_S1x4x128x256_0_0_0_0)) (ix3 h d e)) ?_ ?_
  · refine (congrFun (View.readCov_fill (s := S4x128x256) (View.whole cc0_scratch0) inb_S4x128x256_S4x128x256_0_0_0 _ [] _ z) _).trans ?_
    refine congrArg (k0_pay3 (View.ld (Val := Elt Ideal) (e' := .f32) s (Rect.unit (s := S1x4x128x256) ![0, 0, 0, 0] ![1, 4, 128, 256] inb_S1x4x128x256_S1x4x128x256_0_0_0_0))) (funext fun a => Fin.ext ?_)
    match a with
    | 0 => exact (by simpa using h0 : off 0 + 1 * 0 = h.val)
    | 1 => exact (by simpa using h1 : off 1 + 1 * d.val = d.val)
    | 2 => exact (by simpa using h2 : off 2 + 1 * e.val = e.val)
  · pointwise [k0_pay3]
    try rfl

theorem loadS_at (s : FVec Ideal S1x4x128x256 .f32) (d : Fin 128) (e : Fin 256) : ∀ h : Fin 4, loadS s h (ix3 0 d e) = ofS s h d e
  | 0 => filled_at s _ _ 0 d e rfl rfl rfl
  | 1 => filled_at s _ _ 1 d e rfl rfl rfl
  | 2 => filled_at s _ _ 2 d e rfl rfl rfl
  | 3 => filled_at s _ _ 3 d e rfl rfl rfl

theorem padK_at (x : FVec Ideal S1x8x128 .f32) (r : Fin 8) (d : Fin 128) : rowsK (k0_pay16 x) r d = x (ix3 0 r d) := by
  unfold rowsK
  pointwise [k0_pay16]
  try rfl

theorem padV_at (x : FVec Ideal S1x8x256 .f32) (r : Fin 8) (e : Fin 256) : rowsV (k0_pay23 x) r e = x (ix3 0 r e) := by
  unfold rowsV
  pointwise [k0_pay23]
  try rfl

theorem padV_zero (x : FVec Ideal S1x8x256 .f32) (j : Fin 128) (e : Fin 256) (hj : 8 ≤ j.val) : k0_pay23 (F := Ideal) x (ix2 j e) = 0 := by
  pointwise [k0_pay23]
  rw [dif_neg (by omega)]

/-- A head's columns of the sums, at an entry. -/
theorem slice_at (z : FVec Ideal S16x512 .f32) (off : Fin 2 → ℕ) (hs : S16x512.Slices off S16x128) (r : Fin 16) (d : Fin 128) (c : Fin 512)
    (h0 : off 0 = 0) (h1 : off 1 + d.val = c.val) : extractStridedSlice S16x128 off z hs (ix2 r d) = z (ix2 r c) := by
  refine congrArg z (funext fun a => Fin.ext ?_)
  match a with
  | 0 => exact (by simpa using h0 : off 0 + r.val = r.val)
  | 1 => exact h1

theorem headSums_at (g : FVec Ideal S1x8x512 .f32) (hg : ∀ r c, g (ix3 0 r c) < ⊤) (h : Fin 4) (r : Fin 16) (d : Fin 128) :
    headSums g h (ix2 r d) = cum (ofK g h) (upTo r) d := by
  have hl : View.ld (Val := Elt Ideal) (e' := .f32) g (Rect.unit (s := S1x8x512) k0_off1 S1x8x512.size k0_off1_inb) = g := by
    funext y
    idx_vars y
    obtain rfl : y0 = 0 := Subsingleton.elim _ _
    exact ld_at g _ _ y1 y2 y2 rfl rfl (by simp [k0_off1])
  refine Eq.trans (b := sumsOf maskS (gates16 g) (ix2 r (colK h d))) ?_ ((sumsOf_at g hg r _).trans rfl)
  unfold headSums
  rw [hl]
  match h with
  | 0 => exact slice_at (sumsOf maskS (gates16 g)) ![0, 0] slices_S16x512_o0_0_S16x128 r d (colK 0 d) rfl rfl
  | 1 => exact slice_at (sumsOf maskS (gates16 g)) ![0, 128] slices_S16x512_o0_128_S16x128 r d (colK 1 d) rfl rfl
  | 2 => exact slice_at (sumsOf maskS (gates16 g)) ![0, 256] slices_S16x512_o0_256_S16x128 r d (colK 2 d) rfl rfl
  | 3 => exact slice_at (sumsOf maskS (gates16 g)) ![0, 384] slices_S16x512_o0_384_S16x128 r d (colK 3 d) rfl rfl

/-! ## What a head writes -/

variable (q k : FVec Ideal S1x8x512 .f32) (v : FVec Ideal S1x8x1024 .f32) (g : FVec Ideal S1x8x512 .f32) (s : FVec Ideal S1x4x128x256 .f32)

/-- A head's block of outputs. -/
def outHead (h : Fin 4) : FVec Ideal S1x8x256 .f32 :=
  outS (headSums g h) (k0_pay16 (loadK q h)) (k0_pay16 (loadK k h)) (k0_pay23 (loadV v h)) (loadS s h)

/-- The state a head leaves. -/
def nextHead (h : Fin 4) : FVec Ideal S1x128x256 .f32 :=
  nextS (headSums g h) (k0_pay16 (loadK k h)) (k0_pay23 (loadV v h)) (loadS s h)

theorem outHead_at (hg : ∀ r c, g (ix3 0 r c) < ⊤) (h : Fin 4) (i : Fin 8) (e : Fin 256) :
    outHead q k v g s h (ix3 0 i e) = out (cum (ofK g h)) (ofK q h) (ofK k h) (ofV v h) (ofS s h) i e := by
  refine (outS_at _ _ _ _ _ (ofK g h) (fun r d => hg r _) (headSums_at g hg h) (fun j e hj => padV_zero _ j e hj) i e).trans ?_
  have eq : rowsK (k0_pay16 (loadK q h)) = ofK q h := funext fun r => funext fun d => (padK_at _ r d).trans (loadK_at q r d h)
  have ek : rowsK (k0_pay16 (loadK k h)) = ofK k h := funext fun r => funext fun d => (padK_at _ r d).trans (loadK_at k r d h)
  have ev : rowsV (k0_pay23 (loadV v h)) = ofV v h := funext fun r => funext fun e => (padV_at _ r e).trans (loadV_at v r e h)
  have es : stateS (loadS s h) = ofS s h := funext fun d => funext fun e => loadS_at s d e h
  rw [eq, ek, ev, es]

theorem nextHead_at (hg : ∀ r c, g (ix3 0 r c) < ⊤) (h : Fin 4) (d : Fin 128) (e : Fin 256) :
    nextHead k v g s h (ix3 0 d e) = next (cum (ofK g h)) (ofK k h) (ofV v h) (ofS s h) d e := by
  refine (nextS_at _ _ _ _ (ofK g h) (headSums_at g hg h) (fun j e hj => padV_zero _ j e hj) d e).trans ?_
  have ek : rowsK (k0_pay16 (loadK k h)) = ofK k h := funext fun r => funext fun d => (padK_at _ r d).trans (loadK_at k r d h)
  have ev : rowsV (k0_pay23 (loadV v h)) = ofV v h := funext fun r => funext fun e => (padV_at _ r e).trans (loadV_at v r e h)
  have es : stateS (loadS s h) = ofS s h := funext fun d => funext fun e => loadS_at s d e h
  rw [ek, ev, es]

end Cert.GlaStep

end
-- ==== Proof.GlaStepReference.lean ====
/- The reference's results for the sample's gated linear attention, entry by entry. -/
module

public import proofs.«01_k».proof.Proof.Gen.Reference7Ideal.Run
public import proofs.«01_k».proof.Proof.GlaStepMath
public import Idealize.ShloMosaic.Lib.Pointwise

@[expose] public section

set_option maxRecDepth 16384

noncomputable section

namespace Cert.GlaStep

open Idealize.ShloMosaic Idealize.ShloMosaic.TcCoe Idealize.ShloMosaic.StableHlo Cert.Reference7Ideal Cert.Reference7Ideal.Gen

/-! ## The running sum -/

/-- A position of the window is its third coordinate: the other three have one value. -/
def third : (⟨4, ![1, 1, 8, 1]⟩ : Shape).Idx ≃ Fin 8 where
  toFun w := w 2
  invFun t := ix4 0 0 t 0
  left_inv w := by
    refine funext fun a => Fin.ext ?_
    have w0 : (w 0).val < 1 := (w 0).isLt
    have w1 : (w 1).val < 1 := (w 1).isLt
    have w3 : (w 3).val < 1 := (w 3).isLt
    fin_cases a
    · show 0 = (w 0).val; omega
    · show 0 = (w 1).val; omega
    · rfl
    · show 0 = (w 3).val; omega
  right_inv _ := rfl

/-- The running sum along the third axis, written as a window sum. -/
theorem cumsum_at (x : FVec Ideal S32x4x8x128 .f32) (z : FVec Ideal S_ .f32) (hz : ∀ y, z y = 0)
    (hw : S32x4x8x128.ReduceWindows ![1, 1, 8, 1] ![1, 1, 1, 1] ![0, 0, 7, 0] ![0, 0, 0, 0] S32x4x8x128) (hu : 0 < S_.numel)
    (b : Fin 32) (h : Fin 4) (r : Fin 8) (d : Fin 128) :
    Host.reduceWindowAdd (φ := .f32) ![1, 1, 8, 1] ![1, 1, 1, 1] ![0, 0, 7, 0] ![0, 0, 0, 0] x z hw hu (ix4 b h r d)
      = ∑ t : Fin 8, if t ≤ r then x (ix4 b h t d) else 0 := by
  have fold : ∀ (n : ℕ) (f : Fin n → EReal) (v : EReal), (List.finRange n).foldl (fun s i => s + f i) v = v + ∑ i, f i := by
    intro n f v
    rw [← List.sum_ofFn, List.ofFn_eq_map]
    generalize List.finRange n = l
    induction l generalizing v with
    | nil => simp
    | cons a l ih => simp [ih, add_assoc]
  show Host.reduceWindow (· + ·) ![1, 1, 8, 1] ![1, 1, 1, 1] ![0, 0, 7, 0] ![0, 0, 0, 0] x (fun _ : (⟨0, ![]⟩ : Shape).Idx => z (Shape.Idx.first hu)) hw (by decide) (ix4 b h r d) = _
  unfold Host.reduceWindow
  rw [fold, hz, zero_add]
  refine Fintype.sum_equiv (((⟨4, ![1, 1, 8, 1]⟩ : Shape).rowMajor.symm.trans third).trans (Equiv.addRight (r + 1))) _ _ fun i => ?_
  let w : (⟨4, ![1, 1, 8, 1]⟩ : Shape).Idx := (⟨4, ![1, 1, 8, 1]⟩ : Shape).rowMajor.symm i
  show _ = if third w + (r + 1) ≤ r then x (ix4 b h (third w + (r + 1)) d) else 0
  have w0 : (w 0).val < 1 := (w 0).isLt
  have w1 : (w 1).val < 1 := (w 1).isLt
  have w2 : (w 2).val < 8 := (w 2).isLt
  have w3 : (w 3).val < 1 := (w 3).isLt
  have hr := r.isLt
  have hval : (third w + (r + 1)).val = ((w 2).val + (r.val + 1) % 8) % 8 := by
    rw [Fin.val_add, Fin.val_add]; rfl
  by_cases hc : 7 ≤ r.val + (w 2).val
  · rw [dif_pos, if_pos]
    · refine congrArg x (funext fun a => Fin.ext ?_)
      fin_cases a
      · show b.val * 1 + (w 0).val - 0 = b.val; omega
      · show h.val * 1 + (w 1).val - 0 = h.val; omega
      · show r.val * 1 + (w 2).val - 7 = (third w + (r + 1)).val; omega
      · show d.val * 1 + (w 3).val - 0 = d.val; omega
    · rw [Fin.le_def]; omega
    · intro a
      have hb := b.isLt
      have hh := h.isLt
      have hd := d.isLt
      fin_cases a
      · show 0 ≤ b.val * 1 + (w 0).val ∧ b.val * 1 + (w 0).val - 0 < 32; omega
      · show 0 ≤ h.val * 1 + (w 1).val ∧ h.val * 1 + (w 1).val - 0 < 4; omega
      · show 7 ≤ r.val * 1 + (w 2).val ∧ r.val * 1 + (w 2).val - 7 < 8; omega
      · show 0 ≤ d.val * 1 + (w 3).val ∧ d.val * 1 + (w 3).val - 0 < 128; omega
  · rw [dif_neg, if_neg]
    · rw [Fin.le_def]; omega
    · intro ha
      have h2 : 7 ≤ r.val * 1 + (w 2).val := (ha 2).1
      omega

/-- The states of the reference, of the last running sums, the keys, the running sums, the values and the states before it. -/
def stateR (l : FVec Ideal S32x4x128 .f32) (k c : FVec Ideal S32x4x8x128 .f32) (v : FVec Ideal S32x4x8x256 .f32)
    (s : FVec Ideal S32x4x128x256 .f32) : FVec Ideal S32x4x128x256 .f32 :=
  addf (mulf (broadcastInDim S32x4x128x256 ![0, 1, 2, 3] bcast_S32x4x128x1_S32x4x128x256_0_1_2_3
      (broadcastInDim S32x4x128x1 ![0, 1, 2] bcast_S32x4x128_S32x4x128x1_0_1_2 (Host.exp l))) s)
    (Host.dotGeneral dot_S32x4x8x128_S32x4x8x256_S32x4x128x256_2_2_3_3_01_01 none
      (mulf k (Host.exp (subf (broadcastInDim S32x4x8x128 ![0, 1, 2, 3] bcast_S32x4x1x128_S32x4x8x128_0_1_2_3
        (broadcastInDim S32x4x1x128 ![0, 1, 3] bcast_S32x4x128_S32x4x1x128_0_1_3 l)) c))) v)

theorem stateR_at (l : FVec Ideal S32x4x128 .f32) (k c : FVec Ideal S32x4x8x128 .f32) (v : FVec Ideal S32x4x8x256 .f32)
    (s : FVec Ideal S32x4x128x256 .f32) (b : Fin 32) (h : Fin 4) (d : Fin 128) (e : Fin 256) : stateR l k c v s (ix4 b h d e)
      = Ideal.exp (l (ix3 b h d)) * s (ix4 b h d e)
        + ∑ j : Fin 8, k (ix4 b h j d) * Ideal.exp (l (ix3 b h d) - c (ix4 b h j d)) * v (ix4 b h j e) := by
  pointwise [stateR]

/-- The scores of the reference, of the queries, the keys, the running sums and the mask. -/
def scoreR (q k c : FVec Ideal S32x4x8x128 .f32) (w : IVec S8x8 1) (z : FVec Ideal S_ .f32) : FVec Ideal S32x4x8x8 .f32 :=
  Host.reduceAdd (mulf (mulf
      (broadcastInDim S32x4x8x8x128 ![0, 1, 2, 3, 4] bcast_S32x4x8x1x128_S32x4x8x8x128_0_1_2_3_4
        (broadcastInDim S32x4x8x1x128 ![0, 1, 2, 4] bcast_S32x4x8x128_S32x4x8x1x128_0_1_2_4 q))
      (broadcastInDim S32x4x8x8x128 ![0, 1, 2, 3, 4] bcast_S32x4x1x8x128_S32x4x8x8x128_0_1_2_3_4
        (broadcastInDim S32x4x1x8x128 ![0, 1, 3, 4] bcast_S32x4x8x128_S32x4x1x8x128_0_1_3_4 k)))
      (Host.exp (select
        (broadcastInDim S32x4x8x8x128 ![2, 3, 4] bcast_S8x8x1_S32x4x8x8x128_2_3_4
          (broadcastInDim S8x8x1 ![0, 1] bcast_S8x8_S8x8x1_0_1 w))
        (subf (broadcastInDim S32x4x8x8x128 ![0, 1, 2, 3, 4] bcast_S32x4x8x1x128_S32x4x8x8x128_0_1_2_3_4
            (broadcastInDim S32x4x8x1x128 ![0, 1, 2, 4] bcast_S32x4x8x128_S32x4x8x1x128_0_1_2_4 c))
          (broadcastInDim S32x4x8x8x128 ![0, 1, 2, 3, 4] bcast_S32x4x1x8x128_S32x4x8x8x128_0_1_2_3_4
            (broadcastInDim S32x4x1x8x128 ![0, 1, 3, 4] bcast_S32x4x8x128_S32x4x1x8x128_0_1_3_4 c)))
        (broadcastInDim S32x4x8x8x128 ![] bcast_S_S32x4x8x8x128 z))))
    (constant S_ .f32 0x00000000#32) reducesTo_S32x4x8x8x128_S32x4x8x8_d4 h_S_

theorem scoreR_at (q k c : FVec Ideal S32x4x8x128 .f32) (w : IVec S8x8 1) (z : FVec Ideal S_ .f32) (hz : ∀ y, z y = ⊥)
    (hw : ∀ i j : Fin 8, w (ix2 i j) = if j ≤ i then 1#1 else 0#1) (b : Fin 32) (h : Fin 4) (i j : Fin 8) :
    scoreR q k c w z (ix4 b h i j)
      = score (fun r d => c (ix4 b h r d)) (fun r d => q (ix4 b h r d)) (fun r d => k (ix4 b h r d)) i j := by
  pointwise [scoreR]
  rw [hw, hz]
  by_cases hij : j ≤ i
  · rw [score, if_pos hij, if_pos hij]; rfl
  · rw [score, if_neg hij, if_neg hij]
    refine Finset.sum_eq_zero fun d _ => ?_
    show _ * Ideal.exp ⊥ = 0
    rw [Ideal.exp_bot, mul_zero]

/-! ## The results -/

/-- The heads of queries, keys or gates, one after another. -/
def headsK (x : FVec Ideal S32x8x512 .f32) : FVec Ideal S32x4x8x128 .f32 :=
  transpose S32x4x8x128 [0, 2, 1, 3] (shapeCast S32x8x4x128 x shapeCasts_S32x8x512_S32x8x4x128) transposes_S32x8x4x128_S32x4x8x128_0_2_1_3

/-- The heads of the values. -/
def headsV (x : FVec Ideal S32x8x1024 .f32) : FVec Ideal S32x4x8x256 .f32 :=
  transpose S32x4x8x256 [0, 2, 1, 3] (shapeCast S32x8x4x256 x shapeCasts_S32x8x1024_S32x8x4x256) transposes_S32x8x4x256_S32x4x8x256_0_2_1_3

/-- The entries of one head of one batch. -/
def headK (x : FVec Ideal S32x8x512 .f32) (b : Fin 32) (h : Fin 4) (r : Fin 8) (d : Fin 128) : EReal := x (ix3 b r (colK h d))
def headV (x : FVec Ideal S32x8x1024 .f32) (b : Fin 32) (h : Fin 4) (r : Fin 8) (e : Fin 256) : EReal := x (ix3 b r (colV h e))
def headS (x : FVec Ideal S32x4x128x256 .f32) (b : Fin 32) (h : Fin 4) (d : Fin 128) (e : Fin 256) : EReal := x (ix4 b h d e)

theorem headsK_at (x : FVec Ideal S32x8x512 .f32) (b : Fin 32) (h : Fin 4) (r : Fin 8) (d : Fin 128) :
    headsK x (ix4 b h r d) = headK x b h r d := by
  unfold headK colK
  pointwise [headsK]
  refine congrArg x (congrArg (ix3 b r) (Fin.ext ?_))
  show h.val * 128 + d.val = 128 * h.val + d.val; omega

theorem headsV_at (x : FVec Ideal S32x8x1024 .f32) (b : Fin 32) (h : Fin 4) (r : Fin 8) (e : Fin 256) :
    headsV x (ix4 b h r e) = headV x b h r e := by
  unfold headV colV
  pointwise [headsV]
  refine congrArg x (congrArg (ix3 b r) (Fin.ext ?_))
  show h.val * 256 + e.val = 256 * h.val + e.val; omega

/-- The running sums of the gates. -/
def sumsR (g : FVec Ideal S32x8x512 .f32) : FVec Ideal S32x4x8x128 .f32 :=
  Host.reduceWindowAdd ![1, 1, 8, 1] ![1, 1, 1, 1] ![0, 0, 7, 0] ![0, 0, 0, 0] (headsK g) (broadcastInDim S_ ![] bcast_S_S_ (constant S_ .f32 0x00000000#32))
    reduceWindows_S32x4x8x128_S32x4x8x128_w1s1p0_0_w1s1p0_0_w8s1p7_0_w1s1p0_0 h_S_

/-- Their last row. -/
def lastR (g : FVec Ideal S32x8x512 .f32) : FVec Ideal S32x4x128 .f32 :=
  shapeCast S32x4x128 (extractStridedSlice S32x4x1x128 ![0, 0, 7, 0] (sumsR g) slices_S32x4x8x128_S32x4x1x128_0_0_7_0) shapeCasts_S32x4x1x128_S32x4x128

theorem sumsR_at (g : FVec Ideal S32x8x512 .f32) (b : Fin 32) (h : Fin 4) (r : Fin 8) (d : Fin 128) :
    sumsR g (ix4 b h r d) = cum (headK g b h) r d := by
  refine (cumsum_at _ _ (fun y => by pointwise) _ _ b h r d).trans ?_
  unfold cum
  simp only [headsK_at]

theorem lastR_at (g : FVec Ideal S32x8x512 .f32) (b : Fin 32) (h : Fin 4) (d : Fin 128) :
    lastR g (ix3 b h d) = cum (headK g b h) 7 d := by
  rw [← sumsR_at]
  unfold lastR
  generalize sumsR g = z
  pointwise

/-- The mask: a position sees itself and the positions before it. -/
def maskR : IVec S8x8 1 :=
  select (cmpi .sge (addi (iotaInDim S8x8 32 0) (broadcastInDim S8x8 ![] bcast_S_S8x8 (constantI S_ 32 0#32))) (iotaInDim S8x8 32 1))
    (broadcastInDim S8x8 ![] bcast_S_S8x8 (constantI S_ 1 1#1)) (broadcastInDim S8x8 ![] bcast_S_S8x8 (constantI S_ 1 0#1))

theorem maskR_at : ∀ i j : Fin 8, maskR (ix2 i j) = if j ≤ i then 1#1 else 0#1 := by decide +kernel

/-- The states the reference returns. -/
def REF_STATES (k : FVec Ideal S32x8x512 .f32) (v : FVec Ideal S32x8x1024 .f32) (g : FVec Ideal S32x8x512 .f32)
    (s : FVec Ideal S32x4x128x256 .f32) : FVec Ideal S32x4x128x256 .f32 :=
  stateR (lastR g) (headsK k) (sumsR g) (headsV v) s

theorem REF_STATES_at (k : FVec Ideal S32x8x512 .f32) (v : FVec Ideal S32x8x1024 .f32) (g : FVec Ideal S32x8x512 .f32)
    (s : FVec Ideal S32x4x128x256 .f32) (b : Fin 32) (h : Fin 4) (d : Fin 128) (e : Fin 256) :
    REF_STATES k v g s (ix4 b h d e) = next (cum (headK g b h)) (headK k b h) (headV v b h) (headS s b h) d e := by
  refine (stateR_at _ _ _ _ _ b h d e).trans ?_
  simp only [lastR_at, sumsR_at, headsK_at, headsV_at]
  rfl

/-- The outputs the reference returns. -/
def REF_OUT (q k : FVec Ideal S32x8x512 .f32) (v : FVec Ideal S32x8x1024 .f32) (g : FVec Ideal S32x8x512 .f32)
    (s : FVec Ideal S32x4x128x256 .f32) : FVec Ideal S32x8x1024 .f32 :=
  shapeCast S32x8x1024 (transpose S32x8x4x256 [0, 2, 1, 3]
    (addf (Host.dotGeneral dot_S32x4x8x128_S32x4x128x256_S32x4x8x256_3_2_2_3_01_01 none (mulf (headsK q) (Host.exp (sumsR g))) s)
      (Host.dotGeneral dot_S32x4x8x8_S32x4x8x256_S32x4x8x256_3_2_2_3_01_01 none
        (scoreR (headsK q) (headsK k) (sumsR g) maskR (id (constant S_ .f32 0xFF800000#32))) (headsV v)))
    transposes_S32x4x8x256_S32x8x4x256_0_2_1_3) shapeCasts_S32x8x4x256_S32x8x1024

theorem scores_at (q k g : FVec Ideal S32x8x512 .f32) (b : Fin 32) (h : Fin 4) (i j : Fin 8) :
    scoreR (headsK q) (headsK k) (sumsR g) maskR (id (constant S_ .f32 0xFF800000#32)) (ix4 b h i j)
      = score (cum (headK g b h)) (headK q b h) (headK k b h) i j := by
  have z : ∀ y, (id (constant S_ .f32 0xFF800000#32) : FVec Ideal S_ .f32) y = ⊥ := by
    intro y
    show (constant S_ .f32 0xFF800000#32 : FVec Ideal S_ .f32) y = ⊥
    pointwise
    simp [Ideal.ofBits, Ideal.ieee]
  refine (scoreR_at _ _ _ _ _ z maskR_at b h i j).trans ?_
  simp only [sumsR_at, headsK_at]

theorem REF_OUT_at (q k : FVec Ideal S32x8x512 .f32) (v : FVec Ideal S32x8x1024 .f32) (g : FVec Ideal S32x8x512 .f32)
    (s : FVec Ideal S32x4x128x256 .f32) (b : Fin 32) (h : Fin 4) (i : Fin 8) (e : Fin 256) :
    REF_OUT q k v g s (ix3 b i (colV h e))
      = out (cum (headK g b h)) (headK q b h) (headK k b h) (headV v b h) (headS s b h) i e := by
  have a1 := scores_at q k g b h i
  have a2 (d : Fin 128) := sumsR_at g b h i d
  have a3 (d : Fin 128) := headsK_at q b h i d
  have a4 (j : Fin 8) := headsV_at v b h j e
  unfold REF_OUT
  generalize scoreR (headsK q) (headsK k) (sumsR g) maskR (id (constant S_ .f32 0xFF800000#32)) = w at a1 ⊢
  generalize sumsR g = c at a2 ⊢
  generalize headsK q = q' at a3 ⊢
  generalize headsV v = v' at a4 ⊢
  have eh : (⟨(256 * h.val + e.val) / 256, by omega⟩ : Fin 4) = h := Fin.ext (by simp only; omega)
  have ee : (⟨(256 * h.val + e.val) % 256, by omega⟩ : Fin 256) = e := Fin.ext (by simp only; omega)
  unfold colV
  pointwise
  simp only [eh, ee, a1, a2, a3, a4]
  rfl

end Cert.GlaStep

end
-- ==== Proof.GlaStepFinal.lean ====
/- The sample's gated linear attention kernel writes the reference's results. -/
module

public import proofs.«01_k».proof.Proof.GlaStepHeads
public import proofs.«01_k».proof.Proof.GlaStepReference

@[expose] public section

set_option maxRecDepth 16384

noncomputable section

namespace Cert.GlaStep

open Idealize.ShloMosaic Idealize.ShloMosaic.TcCoe Idealize.SL.Sem
open Cert.Kernel7Ideal Cert.Kernel7Ideal.Gen

variable (m : (ℓ : Loc nD τ sig) → Buf (Elt Ideal) ℓ)

/-- The blocks of a grid point: one batch's queries, keys, values, gates and states. -/
abbrev bq (c : Dev nD) (t : Fin cfg0.N) : FVec Ideal S1x8x512 .f32 := iblk m c 0 t
abbrev bk (c : Dev nD) (t : Fin cfg0.N) : FVec Ideal S1x8x512 .f32 := iblk m c 1 t
abbrev bv (c : Dev nD) (t : Fin cfg0.N) : FVec Ideal S1x8x1024 .f32 := iblk m c 2 t
abbrev bg (c : Dev nD) (t : Fin cfg0.N) : FVec Ideal S1x8x512 .f32 := iblk m c 3 t
abbrev bs (c : Dev nD) (t : Fin cfg0.N) : FVec Ideal S1x4x128x256 .f32 := iblk m c 4 t

theorem colV_eq {h k : Fin 4} {e f : Fin 256} (w : (colV h e).val = 256 * k.val + f.val) : h = k ∧ e = f := by
  have w' : 256 * h.val + e.val = 256 * k.val + f.val := w
  exact ⟨Fin.ext (by omega), Fin.ext (by omega)⟩

/-- The scratch copied out, at an entry. -/
theorem copied_at (L : List (View.Piece (Elt Ideal) S4x128x256 .f32)) (h : Fin 4) (d : Fin 128) (e : Fin 256) :
    k0_pay2 (F := Ideal) ((View.whole cc0_scratch0).readCov L
        (Rect.unit (s := S4x128x256) ![0, 0, 0] ![4, 128, 256] inb_S4x128x256_S4x128x256_0_0_0).toLoadRect) (ix4 0 h d e)
      = View.canon L (ix3 h d e) := by
  rw [View.readCov_eq_canon']
  pointwise [k0_pay2]

/-- The place of an entry of a head in the scratch. -/
theorem head_emb (k h : Fin 4) (inb : ∀ a, (![k.val, 0, 0] : Fin 3 → ℕ) a + (![1, 128, 256] : Fin 3 → ℕ) a ≤ S4x128x256.size a) (d : Fin 128) (e : Fin 256) (hk : k = h) :
    (Rect.unit (s := S4x128x256) ![k.val, 0, 0] ![1, 128, 256] inb).emb (ix3 0 d e) = ix3 h d e := by
  subst hk
  refine funext fun a => Fin.ext ?_
  match a with
  | 0 => exact (by omega : k.val + 1 * 0 = k.val)
  | 1 => exact (by omega : 0 + 1 * d.val = d.val)
  | 2 => exact (by omega : 0 + 1 * e.val = e.val)

/-- The scratch reads the last write to a head, and passes over a write to another. -/
theorem canon_head (k h : Fin 4) (inb : ∀ a, (![k.val, 0, 0] : Fin 3 → ℕ) a + (![1, 128, 256] : Fin 3 → ℕ) a ≤ S4x128x256.size a)
    (w : FVec Ideal S1x128x256 .f32) (L : List (View.Piece (Elt Ideal) S4x128x256 .f32)) (d : Fin 128) (e : Fin 256) :
    View.canon ((⟨Rect.unit (s := S4x128x256) ![k.val, 0, 0] ![1, 128, 256] inb, w⟩ : View.Piece (Elt Ideal) S4x128x256 .f32) :: L) (ix3 h d e)
      = if k = h then w (ix3 0 d e) else View.canon L (ix3 h d e) := by
  by_cases hk : k = h
  · rw [if_pos hk, ← head_emb k h inb d e hk]
    exact View.canon_cons_emb (Rect.unit (s := S4x128x256) ![k.val, 0, 0] ![1, 128, 256] inb) w L (ix3 0 d e)
  · rw [if_neg hk]
    refine View.canon_cons_of_not_mem _ L fun hm => hk ?_
    obtain ⟨x, hx⟩ := (Rect.unit (s := S4x128x256) ![k.val, 0, 0] ![1, 128, 256] inb).exists_idx_of_mem hm
    have e0 : k.val + 1 * (x 0).val = h.val := congrArg (fun y : S4x128x256.Idx => (y 0).val) hx
    have : (x 0).val < 1 := (x 0).isLt
    exact Fin.ext (by omega)

set_option maxHeartbeats 2000000 in
/-- What a grid point leaves in the block of outputs. -/
theorem out5_at (c : Dev nD) (t : Fin cfg0.N) (hx : ∀ r k, bg m c t (ix3 0 r k) < ⊤) (h : Fin 4) (i : Fin 8) (e : Fin 256) :
    (outsAt0 m c t).1 (ix3 0 i (colV h e))
      = out (cum (ofK (bg m c t) h)) (ofK (bq m c t) h) (ofK (bk m c t) h) (ofV (bv m c t) h) (ofS (bs m c t) h) i e := by
  rw [← outHead_at (bq m c t) (bk m c t) (bv m c t) (bg m c t) (bs m c t) hx h i e]
  unfold outsAt0
  dsimp only
  unfold out0_A_5
  rw [View.read_writes_junk_eq_canon]
  unfold kernelRun0_A
  dsimp only
  canon_tiles x h
  · sl_unfold_words
    simp only [View.readAt_eq_ld, Memref.IsWhole.read_unread]
    idx_vars x
    obtain rfl : x0 = 0 := Subsingleton.elim _ _
    obtain ⟨rfl, rfl⟩ := colV_eq (k := 3) (f := x2) h2
    obtain rfl : i = x1 := Fin.ext h1
    exact congrFun (out3_eq _ _ _ _ _) _
  · sl_unfold_words
    simp only [View.readAt_eq_ld, Memref.IsWhole.read_unread]
    idx_vars x
    obtain rfl : x0 = 0 := Subsingleton.elim _ _
    obtain ⟨rfl, rfl⟩ := colV_eq (k := 2) (f := x2) h2
    obtain rfl : i = x1 := Fin.ext h1
    exact congrFun (out2_eq _ _ _ _ _) _
  · sl_unfold_words
    simp only [View.readAt_eq_ld, Memref.IsWhole.read_unread]
    idx_vars x
    obtain rfl : x0 = 0 := Subsingleton.elim _ _
    obtain ⟨rfl, rfl⟩ := colV_eq (k := 1) (f := x2) h2
    obtain rfl : i = x1 := Fin.ext h1
    exact congrFun (out1_eq _ _ _ _ _) _
  · sl_unfold_words
    simp only [View.readAt_eq_ld, Memref.IsWhole.read_unread]
    idx_vars x
    obtain rfl : x0 = 0 := Subsingleton.elim _ _
    obtain ⟨rfl, rfl⟩ := colV_eq (k := 0) (f := x2) (h2.trans (by simp))
    obtain rfl : i = x1 := Fin.ext h1
    exact rfl

set_option maxHeartbeats 2000000 in
/-- What a grid point leaves in the block of states. -/
theorem out6_at (c : Dev nD) (t : Fin cfg0.N) (hx : ∀ r k, bg m c t (ix3 0 r k) < ⊤) (h : Fin 4) (d : Fin 128) (e : Fin 256) :
    (outsAt0 m c t).2 (ix4 0 h d e)
      = next (cum (ofK (bg m c t) h)) (ofK (bk m c t) h) (ofV (bv m c t) h) (ofS (bs m c t) h) d e := by
  rw [← nextHead_at (bk m c t) (bv m c t) (bg m c t) (bs m c t) hx h d e]
  unfold outsAt0
  dsimp only
  unfold out0_A_6
  rw [View.read_writes_junk_eq_canon]
  unfold kernelRun0_A
  dsimp only
  canon_tiles x w
  sl_unfold_words
  simp only [View.readAt_eq_ld, Memref.IsWhole.read_unread]
  idx_vars x
  obtain rfl : x0 = 0 := Subsingleton.elim _ _
  obtain rfl : h = x1 := Fin.ext w1
  obtain rfl : d = x2 := Fin.ext w2
  obtain rfl : e = x3 := Fin.ext w3
  refine (copied_at _ h d e).trans ?_
  refine (canon_head 3 h _ _ _ d e).trans ?_
  split_ifs with h3
  · subst h3
    exact congrFun (next3_eq _ _ _ _) _
  refine (canon_head 2 h _ _ _ d e).trans ?_
  split_ifs with h2
  · subst h2
    exact congrFun (next2_eq _ _ _ _) _
  refine (canon_head 1 h _ _ _ d e).trans ?_
  split_ifs with h1
  · subst h1
    exact congrFun (next1_eq _ _ _ _) _
  refine (canon_head 0 h _ _ _ d e).trans ?_
  split_ifs with h0
  · subst h0
    rfl
  omega

/-! ## The blocks a grid point reads -/

theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0, 0] ∧ win0_5.index t = ![t.val, 0, 0] ∧ win0_6.index t = ![t.val, 0, 0, 0] :=
  (by decide +kernel : ∀ t : Fin grid0.N, _)

variable (c : Dev nD)

theorem bq_at (t : Fin cfg0.N) (ht : t.val < 32) (h : Fin 4) :
    ofK (bq m c t) h = headK (m ((c : Thread nD τ).loc main_arg0)) ⟨t.val, ht⟩ h := by
  funext r d
  show bq m c t (ix3 0 r (colK h d)) = _
  blk_simp [iblk]; entry_read; unfold headK; blk_ext [idx t]

theorem bk_at (t : Fin cfg0.N) (ht : t.val < 32) (h : Fin 4) :
    ofK (bk m c t) h = headK (m ((c : Thread nD τ).loc main_arg1)) ⟨t.val, ht⟩ h := by
  funext r d
  show bk m c t (ix3 0 r (colK h d)) = _
  blk_simp [iblk]; entry_read; unfold headK; blk_ext [idx t]

theorem bv_at (t : Fin cfg0.N) (ht : t.val < 32) (h : Fin 4) :
    ofV (bv m c t) h = headV (m ((c : Thread nD τ).loc main_arg2)) ⟨t.val, ht⟩ h := by
  funext r d
  show bv m c t (ix3 0 r (colV h d)) = _
  blk_simp [iblk]; entry_read; unfold headV; blk_ext [idx t]

theorem bg_at (t : Fin cfg0.N) (ht : t.val < 32) (h : Fin 4) :
    ofK (bg m c t) h = headK (m ((c : Thread nD τ).loc main_arg3)) ⟨t.val, ht⟩ h := by
  funext r d
  show bg m c t (ix3 0 r (colK h d)) = _
  blk_simp [iblk]; entry_read; unfold headK; blk_ext [idx t]

theorem bs_at (t : Fin cfg0.N) (ht : t.val < 32) (h : Fin 4) :
    ofS (bs m c t) h = headS (m ((c : Thread nD τ).loc main_arg4)) ⟨t.val, ht⟩ h := by
  funext r d
  show bs m c t (ix4 0 h r d) = _
  blk_simp [iblk]; entry_read; unfold headS; blk_ext [idx t]

/-- The gates of a block are entries of the gates. -/
theorem bg_entry (t : Fin cfg0.N) (ht : t.val < 32) (r : Fin 8) (k : Fin 512) :
    bg m c t (ix3 0 r k) = (show FVec Ideal S32x8x512 .f32 from m ((c : Thread nD τ).loc main_arg3)) (ix3 ⟨t.val, ht⟩ r k) := by
  blk_simp [iblk]; entry_read; blk_ext [idx t]

/-! ## The arrays after the run -/

variable (hg : ∀ y, (show FVec Ideal S32x8x512 .f32 from m ((c : Thread nD τ).loc main_arg3)) y < ⊤)
include hg

set_option maxHeartbeats 2000000 in
/-- The outputs after the run. -/
theorem final5 : (dats m 0 c).arrAt 5 (cfgs 0).N = REF_OUT (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 5 _ (by decide +kernel) fun t _ y => ?_
  have ht : t.val < 32 := t.isLt
  blk_simp
  rw [after0_5]
  idx_vars y
  obtain rfl : y0 = 0 := Subsingleton.elim _ _
  obtain ⟨h, f, rfl⟩ : ∃ (h : Fin 4) (f : Fin 256), y2 = colV h f :=
    ⟨⟨y2.val / 256, by omega⟩, ⟨y2.val % 256, by omega⟩, Fin.ext (by show y2.val = 256 * (y2.val / 256) + y2.val % 256; omega)⟩
  have e : ((View.whole main_v0_0).slice (win0_5.rect t)).emb (ix3 0 y1 (colV h f)) = ix3 (⟨t.val, ht⟩ : Fin 32) y1 (colV h f) := by
    blk_ext [idx t]
  rw [e]
  refine (out5_at m c t (fun r k => by rw [bg_entry m c t ht]; exact hg _) h y1 f).trans ?_
  rw [bq_at m c t ht, bk_at m c t ht, bv_at m c t ht, bg_at m c t ht, bs_at m c t ht]
  exact (REF_OUT_at _ _ _ _ _ _ h y1 f).symm

set_option maxHeartbeats 2000000 in
/-- The states after the run. -/
theorem final6 : (dats m 0 c).arrAt 6 (cfgs 0).N = REF_STATES (m ((c : Thread nD τ).loc main_arg1))
    (m ((c : Thread nD τ).loc main_arg2)) (m ((c : Thread nD τ).loc main_arg3)) (m ((c : Thread nD τ).loc main_arg4)) := by
  refine (dats m 0 c).arrAt_eq_of_covers 6 _ (by decide +kernel) fun t _ y => ?_
  have ht : t.val < 32 := t.isLt
  blk_simp
  rw [after0_6]
  idx_vars y
  obtain rfl : y0 = 0 := Subsingleton.elim _ _
  have e : ((View.whole main_v0_1).slice (win0_6.rect t)).emb (ix4 0 y1 y2 y3) = ix4 (⟨t.val, ht⟩ : Fin 32) y1 y2 y3 := by
    blk_ext [idx t]
  rw [e]
  refine (out6_at m c t (fun r k => by rw [bg_entry m c t ht]; exact hg _) y1 y2 y3).trans ?_
  rw [bk_at m c t ht, bv_at m c t ht, bg_at m c t ht, bs_at m c t ht]
  exact (REF_STATES_at _ _ _ _ _ y1 y2 y3).symm

end Cert.GlaStep

end
-- ==== Proof.GlaStepClaims.lean ====
/- The claims of the sample's gated linear attention kernel. -/
module

public import proofs.«01_k».proof.Defs
public import proofs.«01_k».proof.Proof.Gen.Kernel7.Frame
public import proofs.«01_k».proof.Proof.Gen.Kernel7Ideal.Value
public import proofs.«01_k».proof.Proof.Gen.Pre_sample_gates_below_inf
public import proofs.«01_k».proof.Proof.GlaStepFinal
public import Idealize.ShloMosaic.Lib.Claim
public import Idealize.ShloMosaic.Lib.Quiescent
public import Idealize.ShloMosaic.Lib.ReduceAll

@[expose] public section

set_option maxRecDepth 16384

noncomputable section

namespace Cert.GlaStep

open Idealize.ShloMosaic Idealize.ShloMosaic.TcCoe Idealize.SL.Sem

instance : Cert.Kernel7.Facts := Cert.Kernel7.Gen.facts
instance : Cert.Kernel7Ideal.Facts := Cert.Kernel7Ideal.Gen.facts
instance : Cert.Reference7Ideal.Facts := Cert.Reference7Ideal.Gen.facts
instance : Cert.Pre_sample_gates_below_inf.Facts := Cert.Pre_sample_gates_below_inf.Gen.facts

/-- The kernel at its machine floats runs, ends with its arguments unchanged and every counter at zero. -/
theorem frame_kernel : Cert.quiescent_Kernel7 := fun m ρ _ => Cert.Kernel7.Gen.frame (F := Bits) m ρ

/-- The kernel over the extended reals runs, ends with its arguments unchanged and every counter at zero. -/
theorem frame_ideal : Cert.quiescent_Kernel7Ideal := fun m ρ _ => Cert.Kernel7Ideal.Gen.frame (F := Ideal) m ρ

/-- The same where the gates are below infinity. -/
theorem frame_ideal_pre : Cert.quiescent_Kernel7Ideal_pre_sample_gates_below_inf := fun m ρ _ => frame_ideal m ρ (by trivial)

/-- The reference runs and ends with its arguments unchanged; it declares no counter. -/
theorem frame_reference : Cert.quiescent_Reference7Ideal := fun m ρ _ =>
  (θ_run Cert.Reference7Ideal.defs _ _).mono
    (fun r h => ⟨fun c => (h c).2.2, sem_eq_zero_of_no_sems (by decide) r.2⟩)
    (Cert.Reference7Ideal.Value.run (F := Ideal) m ρ)

/-- The same where the gates are below infinity. -/
theorem frame_reference_pre : Cert.quiescent_Reference7Ideal_pre_sample_gates_below_inf := fun m ρ _ =>
  frame_reference m ρ (by trivial)

/-- The precondition, at one entry of the gates. -/
theorem gates_below (q k : FVec Ideal Cert.Kernel7Ideal.S32x8x512 .f32) (v : FVec Ideal Cert.Kernel7Ideal.S32x8x1024 .f32)
    (g : FVec Ideal Cert.Kernel7Ideal.S32x8x512 .f32) (s : FVec Ideal Cert.Kernel7Ideal.S32x4x128x256 .f32)
    (h : Cert.Pre_sample_gates_below_inf.fn (F := Ideal) q k v g s = fun _ => 1#1)
    (y : Cert.Kernel7Ideal.S32x8x512.Idx) : g y < ⊤ := by
  have : Subsingleton Cert.Pre_sample_gates_below_inf.S_.Idx := ⟨fun a b => funext fun i => Fin.elim0 i⟩
  have e := Host.reduce_andi_all _ _ _ _ ix0 (congrFun h ix0) y
  have f : cmpf .olt g (broadcastInDim Cert.Pre_sample_gates_below_inf.S32x8x512 ![] Cert.Pre_sample_gates_below_inf.Gen.bcast_S_S32x8x512
      (constant (F := Ideal) Cert.Pre_sample_gates_below_inf.S_ .f32 0x7F800000#32)) y = BitVec.ofBool (decide (g y < ⊤)) := by
    pointwise
    simp [Ideal.ofBits, Ideal.ieee]
  have := f.symm.trans e
  by_contra hn
  rw [decide_eq_false hn] at this
  exact absurd this (by decide)

/-- Over the extended reals the kernel's outputs and states are the reference's, element by element, where the gates are below
    infinity. -/
theorem algebraic : Cert.algebraic_Kernel7Ideal_Reference7Ideal_pre_sample_gates_below_inf := by
  intro m g m' g' hpre hagree
  refine ⟨fun c => (Cert.Kernel7Ideal.Gen.dats m 0 c).arrAt 5 (Cert.Kernel7Ideal.cfgs 0).N,
    fun c => (Cert.Kernel7Ideal.Gen.dats m 0 c).arrAt 6 (Cert.Kernel7Ideal.cfgs 0).N, ?_, ?_⟩
  · exact Cert.Kernel7Ideal.Value.run_blocks (F := Ideal) m g
  · refine (θ_run Cert.Reference7Ideal.defs _ _).mono (fun r h c => ?_) (Cert.Reference7Ideal.Value.run (F := Ideal) m' g')
    obtain ⟨e0, e1, e2, e3, e4⟩ := hagree c
    obtain ⟨ho, hs, ha⟩ := h c
    have below := gates_below _ _ _ _ _ (hpre c)
    refine ⟨?_, ?_, ha⟩
    · refine Eq.trans (b := REF_OUT (m' ((c.tc : Thread _ _).loc Cert.Reference7Ideal.main_arg0)) (m' ((c.tc : Thread _ _).loc Cert.Reference7Ideal.main_arg1)) (m' ((c.tc : Thread _ _).loc Cert.Reference7Ideal.main_arg2)) (m' ((c.tc : Thread _ _).loc Cert.Reference7Ideal.main_arg3)) (m' ((c.tc : Thread _ _).loc Cert.Reference7Ideal.main_arg4))) ho ?_
      rw [e0, e1, e2, e3, e4]
      exact (final5 m c below).symm
    · refine Eq.trans (b := REF_STATES (m' ((c.tc : Thread _ _).loc Cert.Reference7Ideal.main_arg1)) (m' ((c.tc : Thread _ _).loc Cert.Reference7Ideal.main_arg2)) (m' ((c.tc : Thread _ _).loc Cert.Reference7Ideal.main_arg3)) (m' ((c.tc : Thread _ _).loc Cert.Reference7Ideal.main_arg4))) hs ?_
      rw [e1, e2, e3, e4]
      exact (final6 m c below).symm

end Cert.GlaStep

end
-- ==== Proof.WinKernel.lean ====
/- What the sample's attention kernel puts into the three windows of keys and values, entry by entry. -/
module

public import proofs.«01_k».proof.Proof.Gen.Kernel8Ideal.Skeleton
public import Idealize.ShloMosaic.Lib.Pointwise
public import Idealize.ShloMosaic.Lib.KernelVsHost

@[expose] public section

set_option maxRecDepth 16384

noncomputable section

namespace Cert.Win

open Idealize.ShloMosaic Idealize.ShloMosaic.TcCoe Cert.Kernel8Ideal Cert.Kernel8Ideal.Gen

/-- The lanes of the last tile that take new positions. -/
def lanes : IVec S1x128 1 := cmpi .sge (iota .tc S1x128 32 [1] iota_S1x128_d1_w32) (broadcast S1x128 120#32)

theorem lanes_at : ∀ p : Fin 128, lanes (ix2 0 p) = if p.val < 120 then 0#1 else 1#1 := by decide +kernel

/-- The new positions on the lanes, with zeros past the eighth. -/
theorem turned_at (x : FVec Ideal S1x8x512 .f32) (r : Fin 512) (p : Fin 128) (h : p.val < 8) :
    k0_pay2 x (ix2 r p) = x (ix3 0 ⟨p.val, h⟩ r) := by
  unfold k0_pay2
  pointwise
  simp [h]

/-- A row turned along the lanes reads the lane the turn came from. -/
theorem rot_at {α : Type} {R W : Nat} (n : BitVec 32) (y : (⟨2, ![R, W]⟩ : Shape).Idx → α) (h : (⟨2, ![R, W]⟩ : Shape).Rotates 1 none)
    (r : Fin R) (p q : Fin W) (hq : q.val = (p.val + W - n.toNat % W) % W) : dynamicRotate 1 n none y h (ix2 r p) = y (ix2 r q) := by
  refine dynamicRotate_apply (1 : Fin 2) n y h (ix2 r p) (ix2 r q) fun b => ?_
  match b with
  | 0 => rfl
  | 1 => exact hq

/-- The new positions on the last eight lanes. -/
theorem rolled_at (x : FVec Ideal S1x8x512 .f32) (r : Fin 512) (p : Fin 128) (h : 120 ≤ p.val) :
    dynamicRotate 1 120#32 none (k0_pay2 (F := Ideal) x) rotates_S512x128_d1 (ix2 r p) = x (ix3 0 ⟨p.val - 120, by omega⟩ r) := by
  refine (rot_at 120#32 (k0_pay2 (F := Ideal) x) rotates_S512x128_d1 r p ⟨p.val - 120, by omega⟩ ?_).trans (turned_at x r ⟨p.val - 120, by omega⟩ (by show p.val - 120 < 8; omega))
  show p.val - 120 = (p.val + 128 - 120 % 128) % 128
  omega

/-- The first window: the last 120 positions of the old one, then the eight new. -/
theorem win1_at (x : FVec Ideal S1x8x512 .f32) (y : FVec Ideal S1x512x128 .f32) (z : Fin 1) (r : Fin 512) (p : Fin 128) :
    k0_pay4 x y (ix3 z r p) = if h : p.val < 120 then y (ix3 0 r ⟨p.val + 8, by omega⟩) else x (ix3 0 ⟨p.val - 120, by omega⟩ r) := by
  have e : k0_pay4 x y (ix3 z r p) = Scalar.select (lanes (ix2 0 p)) (dynamicRotate 1 120#32 none (k0_pay2 (F := Ideal) x) rotates_S512x128_d1 (ix2 r p))
      (dynamicRotate 1 120#32 none (k0_pay3 (F := Ideal) y) rotates_S512x128_d1 (ix2 r p)) := by
    unfold k0_pay4
    generalize dynamicRotate 1 120#32 none (k0_pay2 (F := Ideal) x) rotates_S512x128_d1 = a
    generalize dynamicRotate 1 120#32 none (k0_pay3 (F := Ideal) y) rotates_S512x128_d1 = b
    change shapeCast S1x512x128 (select (broadcastTo S512x128 (shapeCast S1x128 lanes shapeCasts_S1x128_S1x128) broadcasts_S1x128_S512x128) a b) shapeCasts_S512x128_S1x512x128 (ix3 z r p) = _
    generalize lanes = l
    pointwise []
  rw [e, lanes_at]
  by_cases h : p.val < 120
  · rw [if_pos h, dif_pos h]
    refine (rot_at 120#32 (k0_pay3 (F := Ideal) y) rotates_S512x128_d1 r p ⟨p.val + 8, by omega⟩ ?_).trans ?_
    · show p.val + 8 = (p.val + 128 - 120 % 128) % 128
      omega
    · unfold k0_pay3
      pointwise []
  · rw [if_neg h, dif_neg h]
    exact rolled_at x r p (by omega)

/-- The second window: the last 504 positions of the old one, then the eight new. -/
theorem win2_at (x : FVec Ideal S1x8x512 .f32) (y : FVec Ideal S1x512x512 .f32) (z : Fin 1) (r : Fin 512) (p : Fin 512) :
    k0_pay64 (k0_pay60 (F := Ideal) y) (k0_pay61 (iota .tc S1x128 32 [1] iota_S1x128_d1_w32)) (k0_pay62 (F := Ideal) x) (k0_pay63 (F := Ideal) y) (ix3 z r p)
      = if h : p.val < 504 then y (ix3 0 r ⟨p.val + 8, by omega⟩) else x (ix3 0 ⟨p.val - 504, by omega⟩ r) := by
  have old : ∀ q : Fin 512, ∀ h : q.val < 504, k0_pay60 (F := Ideal) y (ix2 r q) = y (ix3 0 r ⟨q.val + 8, by omega⟩) := by
    intro q h
    refine (rot_at 504#32 (k0_pay59 (F := Ideal) y) rotates_S512x512_d1 r q ⟨q.val + 8, by omega⟩ ?_).trans ?_
    · show q.val + 8 = (q.val + 512 - 504 % 512) % 512
      omega
    · unfold k0_pay59
      pointwise []
  have e : k0_pay64 (k0_pay60 (F := Ideal) y) (k0_pay61 (iota .tc S1x128 32 [1] iota_S1x128_d1_w32)) (k0_pay62 (F := Ideal) x) (k0_pay63 (F := Ideal) y) (ix3 z r p)
      = if h : p.val < 384 then k0_pay60 (F := Ideal) y (ix2 r p)
        else Scalar.select (lanes (ix2 0 ⟨p.val - 384, by omega⟩)) (dynamicRotate 1 120#32 none (k0_pay2 (F := Ideal) x) rotates_S512x128_d1 (ix2 r ⟨p.val - 384, by omega⟩))
          (k0_pay60 (F := Ideal) y (ix2 r p)) := by
    change k0_pay64 (k0_pay60 (F := Ideal) y) lanes (dynamicRotate 1 120#32 none (k0_pay2 (F := Ideal) x) rotates_S512x128_d1)
      (extractStridedSlice S512x128 ![0, 384] (k0_pay60 (F := Ideal) y) slices_S512x512_o0_384_S512x128) (ix3 z r p) = _
    generalize dynamicRotate 1 120#32 none (k0_pay2 (F := Ideal) x) rotates_S512x128_d1 = a
    generalize k0_pay60 (F := Ideal) y = b
    generalize lanes = l
    pointwise [k0_pay64]
    by_cases h : p.val < 384
    · rw [dif_pos h, dif_pos h]
    · rw [dif_neg h, dif_neg h]
      exact congrArg (Scalar.select _ _) (congrArg b (congrArg (ix2 r) (Fin.ext (by show 384 + (p.val - 384) = p.val; omega))))
  rw [e]
  by_cases h : p.val < 384
  · rw [dif_pos h, dif_pos (by omega), old p (by omega)]
  · rw [dif_neg h, lanes_at]
    by_cases h' : p.val < 504
    · rw [if_pos (by show p.val - 384 < 120; omega), dif_pos h']
      exact old p h'
    · rw [if_neg (by show ¬ p.val - 384 < 120; omega), dif_neg h']
      refine (rolled_at x r _ (by show 120 ≤ p.val - 384; omega)).trans (congrArg x (congrArg (ix3 0 · r) (Fin.ext ?_)))
      show p.val - 384 - 120 = p.val - 504
      omega

/-- The third old window turned by its eight new positions. -/
def turned3 (y : FVec Ideal S1x512x2048 .f32) : FVec Ideal S512x2048 .f32 :=
  dynamicRotate 1 2040#32 none (k0_pay120 (F := Ideal) y) rotates_S512x2048_d1

/-- The third window: the last 2040 positions of the old one, then the eight new. -/
theorem win3_at (x : FVec Ideal S1x8x512 .f32) (y : FVec Ideal S1x512x2048 .f32) (z : Fin 1) (r : Fin 512) (p : Fin 2048) :
    k0_pay121 (iota .tc S1x128 32 [1] iota_S1x128_d1_w32) x y (ix3 z r p)
      = if h : p.val < 2040 then y (ix3 0 r ⟨p.val + 8, by omega⟩) else x (ix3 0 ⟨p.val - 2040, by omega⟩ r) := by
  have old : ∀ q : Fin 2048, ∀ h : q.val < 2040, turned3 y (ix2 r q) = y (ix3 0 r ⟨q.val + 8, by omega⟩) := by
    intro q h
    refine (rot_at 2040#32 (k0_pay120 (F := Ideal) y) rotates_S512x2048_d1 r q ⟨q.val + 8, by omega⟩ ?_).trans ?_
    · show q.val + 8 = (q.val + 2048 - 2040 % 2048) % 2048
      omega
    · unfold k0_pay120
      pointwise []
  have e : k0_pay121 (iota .tc S1x128 32 [1] iota_S1x128_d1_w32) x y (ix3 z r p)
      = if h : p.val < 1920 then turned3 y (ix2 r p)
        else Scalar.select (lanes (ix2 0 ⟨p.val - 1920, by omega⟩)) (dynamicRotate 1 120#32 none (k0_pay2 (F := Ideal) x) rotates_S512x128_d1 (ix2 r ⟨p.val - 1920, by omega⟩))
          (turned3 y (ix2 r p)) := by
    change shapeCast S1x512x2048 (concatenate S512x2048 1 [⟨S512x1920, extractStridedSlice S512x1920 ![0, 0] (turned3 y) slices_S512x2048_o0_0_S512x1920⟩,
        ⟨S512x128, select (broadcastTo S512x128 (shapeCast S1x128 lanes shapeCasts_S1x128_S1x128) broadcasts_S1x128_S512x128)
          (dynamicRotate 1 120#32 none (k0_pay2 (F := Ideal) x) rotates_S512x128_d1)
          (extractStridedSlice S512x128 ![0, 1920] (turned3 y) slices_S512x2048_o0_1920_S512x128)⟩] concatenates_S512x1920_S512x128_S512x2048_d1)
      shapeCasts_S512x2048_S1x512x2048 (ix3 z r p) = _
    generalize dynamicRotate 1 120#32 none (k0_pay2 (F := Ideal) x) rotates_S512x128_d1 = a
    generalize turned3 y = b
    generalize lanes = l
    pointwise []
    by_cases h : p.val < 1920
    · rw [dif_pos h, dif_pos h]
    · rw [dif_neg h, dif_neg h]
      exact congrArg (Scalar.select _ _) (congrArg b (congrArg (ix2 r) (Fin.ext (by show 1920 + (p.val - 1920) = p.val; omega))))
  rw [e]
  by_cases h : p.val < 1920
  · rw [dif_pos h, dif_pos (by omega), old p (by omega)]
  · rw [dif_neg h, lanes_at]
    by_cases h' : p.val < 2040
    · rw [if_pos (by show p.val - 1920 < 120; omega), dif_pos h']
      exact old p h'
    · rw [if_neg (by show ¬ p.val - 1920 < 120; omega), dif_neg h']
      refine (rolled_at x r _ (by show 120 ≤ p.val - 1920; omega)).trans (congrArg x (congrArg (ix3 0 · r) (Fin.ext ?_)))
      show p.val - 1920 - 120 = p.val - 2040
      omega

end Cert.Win

end
-- ==== Proof.WinReference.lean ====
/- The reference's three windows of keys and values of the sample, entry by entry. -/
module

public import proofs.«01_k».proof.Proof.Gen.Reference8Ideal.Run
public import Idealize.ShloMosaic.Lib.Pointwise

@[expose] public section

set_option maxRecDepth 16384

noncomputable section

namespace Cert.Win

open Idealize.ShloMosaic Idealize.ShloMosaic.TcCoe Idealize.ShloMosaic.StableHlo Cert.Reference8Ideal Cert.Reference8Ideal.Gen

/-- A feature's place among keys and values, heads and head features. -/
abbrev featA (r : Fin 512) : Fin 2 := ⟨r.val / 256, by omega⟩
abbrev featB (r : Fin 512) : Fin 4 := ⟨r.val / 64 % 4, by omega⟩
abbrev featC (r : Fin 512) : Fin 64 := ⟨r.val % 64, by omega⟩

/-- Two choices agree where their conditions and their branches do. -/
theorem choice_eq {α : Type} {P Q : Prop} [Decidable P] [Decidable Q] (e : P ↔ Q) {f : P → α} {f' : ¬P → α} {g : Q → α} {g' : ¬Q → α}
    (yes : ∀ p q, f p = g q) (no : ∀ p q, f' p = g' q) : dite P f f' = dite Q g g' := by
  by_cases h : P
  · exact (dif_pos h).trans ((yes h (e.mp h)).trans (dif_pos (e.mp h)).symm)
  · exact (dif_neg h).trans ((no h (fun q => h (e.mpr q))).trans (dif_neg (fun q => h (e.mpr q))).symm)

abbrev REF_WIN1 (y : FVec Ideal S32x128x2x4x64 .f32) (x : FVec Ideal S256x512 .f32) : FVec Ideal S32x512x128 .f32 :=
  shapeCast _ (transpose S32x2x4x64x128 [0, 2, 3, 4, 1] (extractStridedSlice S32x128x2x4x64 ![0, 8, 0, 0, 0] (concatenate S32x136x2x4x64 1 [⟨S32x128x2x4x64, y⟩, ⟨S32x8x2x4x64, (shapeCast _ x shapeCasts_S256x512_S32x8x2x4x64)⟩] concatenates_S32x128x2x4x64_S32x8x2x4x64_S32x136x2x4x64_d1) slices_S32x136x2x4x64_S32x128x2x4x64_0_8_0_0_0) transposes_S32x128x2x4x64_S32x2x4x64x128_0_2_3_4_1) shapeCasts_S32x2x4x64x128_S32x512x128

abbrev REF_WIN2 (y : FVec Ideal S32x512x2x4x64 .f32) (x : FVec Ideal S256x512 .f32) : FVec Ideal S32x512x512 .f32 :=
  shapeCast _ (transpose S32x2x4x64x512 [0, 2, 3, 4, 1] (extractStridedSlice S32x512x2x4x64 ![0, 8, 0, 0, 0] (concatenate S32x520x2x4x64 1 [⟨S32x512x2x4x64, y⟩, ⟨S32x8x2x4x64, (shapeCast _ x shapeCasts_S256x512_S32x8x2x4x64)⟩] concatenates_S32x512x2x4x64_S32x8x2x4x64_S32x520x2x4x64_d1) slices_S32x520x2x4x64_S32x512x2x4x64_0_8_0_0_0) transposes_S32x512x2x4x64_S32x2x4x64x512_0_2_3_4_1) shapeCasts_S32x2x4x64x512_S32x512x512

abbrev REF_WIN3 (y : FVec Ideal S32x2048x2x4x64 .f32) (x : FVec Ideal S256x512 .f32) : FVec Ideal S32x512x2048 .f32 :=
  shapeCast _ (transpose S32x2x4x64x2048 [0, 2, 3, 4, 1] (extractStridedSlice S32x2048x2x4x64 ![0, 8, 0, 0, 0] (concatenate S32x2056x2x4x64 1 [⟨S32x2048x2x4x64, y⟩, ⟨S32x8x2x4x64, (shapeCast _ x shapeCasts_S256x512_S32x8x2x4x64)⟩] concatenates_S32x2048x2x4x64_S32x8x2x4x64_S32x2056x2x4x64_d1) slices_S32x2056x2x4x64_S32x2048x2x4x64_0_8_0_0_0) transposes_S32x2048x2x4x64_S32x2x4x64x2048_0_2_3_4_1) shapeCasts_S32x2x4x64x2048_S32x512x2048

/-- The reference's first window: the old one past its first eight positions, then the new positions. -/
theorem REF_WIN1_at (y : FVec Ideal S32x128x2x4x64 .f32) (x : FVec Ideal S256x512 .f32) (b : Fin 32) (r : Fin 512) (p : Fin 128) :
    REF_WIN1 y x (ix3 b r p) = if h : p.val < 120 then y (ix5 b ⟨p.val + 8, by omega⟩ (featA r) (featB r) (featC r))
      else x (ix2 ⟨8 * b.val + (p.val - 120), by omega⟩ r) := by
  pointwise [REF_WIN1]
  refine choice_eq (by omega) (fun _ _ => congrArg y ?_) (fun _ _ => congrArg x ?_)
  · exact congrArg (fun q : Fin 128 => ix5 b q (featA r) (featB r) (featC r)) (Fin.ext (Nat.add_comm 8 p.val))
  · exact congrArg (fun q : Fin 256 => ix2 q r) (Fin.ext (by show b.val * 8 + (8 + p.val - 128) = 8 * b.val + (p.val - 120); omega))

/-- The reference's second window: the old one past its first eight positions, then the new positions. -/
theorem REF_WIN2_at (y : FVec Ideal S32x512x2x4x64 .f32) (x : FVec Ideal S256x512 .f32) (b : Fin 32) (r : Fin 512) (p : Fin 512) :
    REF_WIN2 y x (ix3 b r p) = if h : p.val < 504 then y (ix5 b ⟨p.val + 8, by omega⟩ (featA r) (featB r) (featC r))
      else x (ix2 ⟨8 * b.val + (p.val - 504), by omega⟩ r) := by
  pointwise [REF_WIN2]
  refine choice_eq (by omega) (fun _ _ => congrArg y ?_) (fun _ _ => congrArg x ?_)
  · exact congrArg (fun q : Fin 512 => ix5 b q (featA r) (featB r) (featC r)) (Fin.ext (Nat.add_comm 8 p.val))
  · exact congrArg (fun q : Fin 256 => ix2 q r) (Fin.ext (by show b.val * 8 + (8 + p.val - 512) = 8 * b.val + (p.val - 504); omega))

/-- The reference's third window: the old one past its first eight positions, then the new positions. -/
theorem REF_WIN3_at (y : FVec Ideal S32x2048x2x4x64 .f32) (x : FVec Ideal S256x512 .f32) (b : Fin 32) (r : Fin 512) (p : Fin 2048) :
    REF_WIN3 y x (ix3 b r p) = if h : p.val < 2040 then y (ix5 b ⟨p.val + 8, by omega⟩ (featA r) (featB r) (featC r))
      else x (ix2 ⟨8 * b.val + (p.val - 2040), by omega⟩ r) := by
  pointwise [REF_WIN3]
  refine choice_eq (by omega) (fun _ _ => congrArg y ?_) (fun _ _ => congrArg x ?_)
  · exact congrArg (fun q : Fin 2048 => ix5 b q (featA r) (featB r) (featC r)) (Fin.ext (Nat.add_comm 8 p.val))
  · exact congrArg (fun q : Fin 256 => ix2 q r) (Fin.ext (by show b.val * 8 + (8 + p.val - 2048) = 8 * b.val + (p.val - 2040); omega))

end Cert.Win

end
-- ==== Proof.WinFinal.lean ====
/- The sample's attention kernel writes the reference's windows of keys and values. -/
module

public import proofs.«01_k».proof.Proof.Gen.Kernel8Ideal.Value
public import Idealize.ShloMosaic.Lib.Pipeline.ValueKit
public import proofs.«01_k».proof.Proof.WinKernel
public import proofs.«01_k».proof.Proof.WinReference

@[expose] public section

set_option maxRecDepth 16384

noncomputable section

namespace Cert.Win

open Idealize.ShloMosaic Idealize.ShloMosaic.TcCoe Idealize.SL.Sem
open Cert.Kernel8Ideal Cert.Kernel8Ideal.Gen

variable (m : (ℓ : Loc nD τ sig) → Buf (Elt Ideal) ℓ)

/-! ## What a grid point writes -/

theorem origin : (![0, 0, 0] : Fin 3 → ℕ) = fun _ => 0 := by
  funext a
  match a with
  | 0 => rfl
  | 1 => rfl
  | 2 => rfl

/-- What a grid point leaves in the block of the first window. -/
theorem out12_at (x0 : Vec Ideal S1x3x4x32x256 .bf16) (x1 x2 x3 : Vec Ideal S1x8x512 .f32) (x4 : Vec Ideal S1x512x128 .f32)
    (x5 : Vec Ideal S1x512x512 .f32) (x6 : Vec Ideal S1x512x2048 .f32) (x7 : Vec Ideal S4x32x128 .f32) (x8 : Vec Ideal S4x32x512 .f32)
    (x9 : Vec Ideal S4x32x2048 .f32) (x10 : Vec Ideal S3x4x32x128 .f32) (z : Fin 1) (r : Fin 512) (p : Fin 128) :
    out0_12 x0 x1 x2 x3 x4 x5 x6 x7 x8 x9 x10 (ix3 z r p)
      = if h : p.val < 120 then x4 (ix3 0 r ⟨p.val + 8, by omega⟩) else x1 (ix3 0 ⟨p.val - 120, by omega⟩ r) := by
  unfold_out out0_12
  rw [View.canon_unit_zero origin, View.ld_unit_zero origin, View.ld_unit_zero origin]
  exact win1_at x1 x4 z r p

/-- What a grid point leaves in the block of the second window. -/
theorem out13_at (x0 : Vec Ideal S1x3x4x32x256 .bf16) (x1 x2 x3 : Vec Ideal S1x8x512 .f32) (x4 : Vec Ideal S1x512x128 .f32)
    (x5 : Vec Ideal S1x512x512 .f32) (x6 : Vec Ideal S1x512x2048 .f32) (x7 : Vec Ideal S4x32x128 .f32) (x8 : Vec Ideal S4x32x512 .f32)
    (x9 : Vec Ideal S4x32x2048 .f32) (x10 : Vec Ideal S3x4x32x128 .f32) (z : Fin 1) (r : Fin 512) (p : Fin 512) :
    out0_13 x0 x1 x2 x3 x4 x5 x6 x7 x8 x9 x10 (ix3 z r p)
      = if h : p.val < 504 then x5 (ix3 0 r ⟨p.val + 8, by omega⟩) else x2 (ix3 0 ⟨p.val - 504, by omega⟩ r) := by
  unfold_out out0_13
  rw [View.canon_unit_zero origin, View.ld_unit_zero origin, View.ld_unit_zero origin]
  exact win2_at x2 x5 z r p

/-- What a grid point leaves in the block of the third window. -/
theorem out14_at (x0 : Vec Ideal S1x3x4x32x256 .bf16) (x1 x2 x3 : Vec Ideal S1x8x512 .f32) (x4 : Vec Ideal S1x512x128 .f32)
    (x5 : Vec Ideal S1x512x512 .f32) (x6 : Vec Ideal S1x512x2048 .f32) (x7 : Vec Ideal S4x32x128 .f32) (x8 : Vec Ideal S4x32x512 .f32)
    (x9 : Vec Ideal S4x32x2048 .f32) (x10 : Vec Ideal S3x4x32x128 .f32) (z : Fin 1) (r : Fin 512) (p : Fin 2048) :
    out0_14 x0 x1 x2 x3 x4 x5 x6 x7 x8 x9 x10 (ix3 z r p)
      = if h : p.val < 2040 then x6 (ix3 0 r ⟨p.val + 8, by omega⟩) else x3 (ix3 0 ⟨p.val - 2040, by omega⟩ r) := by
  unfold_out out0_14
  rw [View.canon_unit_zero origin, View.ld_unit_zero origin, View.ld_unit_zero origin]
  exact win3_at x3 x6 z r p

/-! ## The blocks a grid point reads -/

theorem idx : ∀ t : Fin cfg0.N, win0_1.index t = ![t.val, 0, 0] ∧ win0_2.index t = ![t.val, 0, 0] ∧ win0_3.index t = ![t.val, 0, 0]
    ∧ win0_4.index t = ![t.val, 0, 0] ∧ win0_5.index t = ![t.val, 0, 0] ∧ win0_6.index t = ![t.val, 0, 0]
    ∧ win0_12.index t = ![t.val, 0, 0] ∧ win0_13.index t = ![t.val, 0, 0] ∧ win0_14.index t = ![t.val, 0, 0] :=
  (by decide +kernel : ∀ t : Fin grid0.N, _)

variable (c : Dev nD)

set_option maxHeartbeats 4000000 in
/-- What the arrays that the windows are read from hold: reshaped new positions and transposed old windows. -/
theorem entry :
    V m c main_v161 = shapeCast S32x8x512 (show FVec Ideal S256x512 .f32 from m ((c : Thread nD τ).loc main_arg1)) shapeCasts_S256x512_S32x8x512
    ∧ V m c main_v162 = shapeCast S32x8x512 (show FVec Ideal S256x512 .f32 from m ((c : Thread nD τ).loc main_arg2)) shapeCasts_S256x512_S32x8x512
    ∧ V m c main_v163 = shapeCast S32x8x512 (show FVec Ideal S256x512 .f32 from m ((c : Thread nD τ).loc main_arg3)) shapeCasts_S256x512_S32x8x512
    ∧ V m c main_v22 = shapeCast S32x512x128 (transpose S32x2x4x64x128 [0, 2, 3, 4, 1] (show FVec Ideal S32x128x2x4x64 .f32 from m ((c : Thread nD τ).loc main_arg4)) transposes_S32x128x2x4x64_S32x2x4x64x128_0_2_3_4_1) shapeCasts_S32x2x4x64x128_S32x512x128
    ∧ V m c main_v24 = shapeCast S32x512x512 (transpose S32x2x4x64x512 [0, 2, 3, 4, 1] (show FVec Ideal S32x512x2x4x64 .f32 from m ((c : Thread nD τ).loc main_arg5)) transposes_S32x512x2x4x64_S32x2x4x64x512_0_2_3_4_1) shapeCasts_S32x2x4x64x512_S32x512x512
    ∧ V m c main_v26 = shapeCast S32x512x2048 (transpose S32x2x4x64x2048 [0, 2, 3, 4, 1] (show FVec Ideal S32x2048x2x4x64 .f32 from m ((c : Thread nD τ).loc main_arg6)) transposes_S32x2048x2x4x64_S32x2x4x64x2048_0_2_3_4_1) shapeCasts_S32x2x4x64x2048_S32x512x2048 := by
  simp only [V, hostOps0, hostOps0_1, hostOps0_2, hostOps0_3, hostOps0_4, hostOps0_5, hostOps0_6, hostOps0_7, hostOps0_8, List.flatten_cons, List.flatten_nil, List.append_nil, List.cons_append, List.nil_append,
    StableHlo.TRef.binary, StableHlo.TRef.unary, StableHlo.TRef.toBuf, StableHlo.TRef.ofBuf, cast_eq, StableHlo.after_cons, StableHlo.after_nil]
  after_results_simp
  exact ⟨rfl, rfl, rfl, rfl, rfl, rfl⟩

/-! The blocks of a grid point: one batch's new positions … -/

theorem new1_at (t : Fin cfg0.N) (ht : t.val < 32) (a : Fin 8) (r : Fin 512) : (show FVec Ideal S1x8x512 .f32 from iblk m c 1 t) (ix3 0 a r)
    = (show FVec Ideal S256x512 .f32 from m ((c : Thread nD τ).loc main_arg1)) (ix2 ⟨8 * t.val + a.val, by omega⟩ r) := by
  blk_simp [iblk]; rw [(entry m c).1]; pointwise; blk_ext [idx t]

theorem new2_at (t : Fin cfg0.N) (ht : t.val < 32) (a : Fin 8) (r : Fin 512) : (show FVec Ideal S1x8x512 .f32 from iblk m c 2 t) (ix3 0 a r)
    = (show FVec Ideal S256x512 .f32 from m ((c : Thread nD τ).loc main_arg2)) (ix2 ⟨8 * t.val + a.val, by omega⟩ r) := by
  blk_simp [iblk]; rw [(entry m c).2.1]; pointwise; blk_ext [idx t]

theorem new3_at (t : Fin cfg0.N) (ht : t.val < 32) (a : Fin 8) (r : Fin 512) : (show FVec Ideal S1x8x512 .f32 from iblk m c 3 t) (ix3 0 a r)
    = (show FVec Ideal S256x512 .f32 from m ((c : Thread nD τ).loc main_arg3)) (ix2 ⟨8 * t.val + a.val, by omega⟩ r) := by
  blk_simp [iblk]; rw [(entry m c).2.2.1]; pointwise; blk_ext [idx t]

/-! … and its old windows. -/

theorem turnOld1_at (y : FVec Ideal S32x128x2x4x64 .f32) (b : Fin 32) (r : Fin 512) (p : Fin 128) :
    shapeCast S32x512x128 (transpose S32x2x4x64x128 [0, 2, 3, 4, 1] y transposes_S32x128x2x4x64_S32x2x4x64x128_0_2_3_4_1) shapeCasts_S32x2x4x64x128_S32x512x128 (ix3 b r p)
      = y (ix5 b p (featA r) (featB r) (featC r)) := by
  pointwise []

theorem turnOld2_at (y : FVec Ideal S32x512x2x4x64 .f32) (b : Fin 32) (r : Fin 512) (p : Fin 512) :
    shapeCast S32x512x512 (transpose S32x2x4x64x512 [0, 2, 3, 4, 1] y transposes_S32x512x2x4x64_S32x2x4x64x512_0_2_3_4_1) shapeCasts_S32x2x4x64x512_S32x512x512 (ix3 b r p)
      = y (ix5 b p (featA r) (featB r) (featC r)) := by
  pointwise []

theorem turnOld3_at (y : FVec Ideal S32x2048x2x4x64 .f32) (b : Fin 32) (r : Fin 512) (p : Fin 2048) :
    shapeCast S32x512x2048 (transpose S32x2x4x64x2048 [0, 2, 3, 4, 1] y transposes_S32x2048x2x4x64_S32x2x4x64x2048_0_2_3_4_1) shapeCasts_S32x2x4x64x2048_S32x512x2048 (ix3 b r p)
      = y (ix5 b p (featA r) (featB r) (featC r)) := by
  pointwise []

theorem old1_at (t : Fin cfg0.N) (ht : t.val < 32) (r : Fin 512) (p : Fin 128) : (show FVec Ideal S1x512x128 .f32 from iblk m c 4 t) (ix3 0 r p)
    = (show FVec Ideal S32x128x2x4x64 .f32 from m ((c : Thread nD τ).loc main_arg4)) (ix5 ⟨t.val, ht⟩ p (featA r) (featB r) (featC r)) := by
  blk_simp [iblk]
  rw [(entry m c).2.2.2.1]
  have e : ((View.whole main_v22).slice (win0_4.rect t)).emb (ix3 0 r p) = ix3 (⟨t.val, ht⟩ : Fin 32) r p := by
    blk_ext [idx t]
  rw [e]
  exact turnOld1_at _ _ r p

theorem old2_at (t : Fin cfg0.N) (ht : t.val < 32) (r : Fin 512) (p : Fin 512) : (show FVec Ideal S1x512x512 .f32 from iblk m c 5 t) (ix3 0 r p)
    = (show FVec Ideal S32x512x2x4x64 .f32 from m ((c : Thread nD τ).loc main_arg5)) (ix5 ⟨t.val, ht⟩ p (featA r) (featB r) (featC r)) := by
  blk_simp [iblk]
  rw [(entry m c).2.2.2.2.1]
  have e : ((View.whole main_v24).slice (win0_5.rect t)).emb (ix3 0 r p) = ix3 (⟨t.val, ht⟩ : Fin 32) r p := by
    blk_ext [idx t]
  rw [e]
  exact turnOld2_at _ _ r p

theorem old3_at (t : Fin cfg0.N) (ht : t.val < 32) (r : Fin 512) (p : Fin 2048) : (show FVec Ideal S1x512x2048 .f32 from iblk m c 6 t) (ix3 0 r p)
    = (show FVec Ideal S32x2048x2x4x64 .f32 from m ((c : Thread nD τ).loc main_arg6)) (ix5 ⟨t.val, ht⟩ p (featA r) (featB r) (featC r)) := by
  blk_simp [iblk]
  rw [(entry m c).2.2.2.2.2]
  have e : ((View.whole main_v26).slice (win0_6.rect t)).emb (ix3 0 r p) = ix3 (⟨t.val, ht⟩ : Fin 32) r p := by
    blk_ext [idx t]
  rw [e]
  exact turnOld3_at _ _ r p

/-! ## The arrays after the run -/

set_option maxHeartbeats 2000000 in
/-- The first window after the run. -/
theorem final12 : (dats m 0 c).arrAt 12 (cfgs 0).N = REF_WIN1 (m ((c : Thread nD τ).loc main_arg4)) (m ((c : Thread nD τ).loc main_arg1)) := by
  refine (dats m 0 c).arrAt_eq_of_covers 12 _ (by decide +kernel) fun t _ y => ?_
  have ht : t.val < 32 := t.isLt
  blk_simp
  rw [after0_12]
  idx_vars y
  obtain rfl : y0 = 0 := Subsingleton.elim _ _
  have e : ((View.whole main_v164_1).slice (win0_12.rect t)).emb (ix3 0 y1 y2) = ix3 (⟨t.val, ht⟩ : Fin 32) y1 y2 := by
    blk_ext [idx t]
  rw [e]
  refine (out12_at _ _ _ _ _ _ _ _ _ _ _ 0 y1 y2).trans ((choice_eq Iff.rfl (fun h _ => ?_) (fun h _ => ?_)).trans (REF_WIN1_at _ _ ⟨t.val, ht⟩ y1 y2).symm)
  · exact old1_at m c t ht y1 _
  · exact new1_at m c t ht _ y1

set_option maxHeartbeats 2000000 in
/-- The second window after the run. -/
theorem final13 : (dats m 0 c).arrAt 13 (cfgs 0).N = REF_WIN2 (m ((c : Thread nD τ).loc main_arg5)) (m ((c : Thread nD τ).loc main_arg2)) := by
  refine (dats m 0 c).arrAt_eq_of_covers 13 _ (by decide +kernel) fun t _ y => ?_
  have ht : t.val < 32 := t.isLt
  blk_simp
  rw [after0_13]
  idx_vars y
  obtain rfl : y0 = 0 := Subsingleton.elim _ _
  have e : ((View.whole main_v164_2).slice (win0_13.rect t)).emb (ix3 0 y1 y2) = ix3 (⟨t.val, ht⟩ : Fin 32) y1 y2 := by
    blk_ext [idx t]
  rw [e]
  refine (out13_at _ _ _ _ _ _ _ _ _ _ _ 0 y1 y2).trans ((choice_eq Iff.rfl (fun h _ => ?_) (fun h _ => ?_)).trans (REF_WIN2_at _ _ ⟨t.val, ht⟩ y1 y2).symm)
  · exact old2_at m c t ht y1 _
  · exact new2_at m c t ht _ y1

set_option maxHeartbeats 2000000 in
/-- The third window after the run. -/
theorem final14 : (dats m 0 c).arrAt 14 (cfgs 0).N = REF_WIN3 (m ((c : Thread nD τ).loc main_arg6)) (m ((c : Thread nD τ).loc main_arg3)) := by
  refine (dats m 0 c).arrAt_eq_of_covers 14 _ (by decide +kernel) fun t _ y => ?_
  have ht : t.val < 32 := t.isLt
  blk_simp
  rw [after0_14]
  idx_vars y
  obtain rfl : y0 = 0 := Subsingleton.elim _ _
  have e : ((View.whole main_v164_3).slice (win0_14.rect t)).emb (ix3 0 y1 y2) = ix3 (⟨t.val, ht⟩ : Fin 32) y1 y2 := by
    blk_ext [idx t]
  rw [e]
  refine (out14_at _ _ _ _ _ _ _ _ _ _ _ 0 y1 y2).trans ((choice_eq Iff.rfl (fun h _ => ?_) (fun h _ => ?_)).trans (REF_WIN3_at _ _ ⟨t.val, ht⟩ y1 y2).symm)
  · exact old3_at m c t ht y1 _
  · exact new3_at m c t ht _ y1

end Cert.Win

end
-- ==== Proof.WinClaims.lean ====
/- The claims of the sample's attention kernel: its windows of keys and values. -/
module

public import proofs.«01_k».proof.Defs
public import proofs.«01_k».proof.Proof.Gen.Kernel8.Frame
public import proofs.«01_k».proof.Proof.Gen.Kernel8Ideal.Value
public import proofs.«01_k».proof.Proof.WinFinal
public import Idealize.ShloMosaic.Lib.Claim
public import Idealize.ShloMosaic.Lib.Quiescent

@[expose] public section

set_option maxRecDepth 16384

noncomputable section

namespace Cert.Win

open Idealize.ShloMosaic Idealize.ShloMosaic.TcCoe Idealize.SL.Sem

instance : Cert.Kernel8.Facts := Cert.Kernel8.Gen.facts
instance : Cert.Kernel8Ideal.Facts := Cert.Kernel8Ideal.Gen.facts
instance : Cert.Reference8Ideal.Facts := Cert.Reference8Ideal.Gen.facts

/-- The kernel at its machine floats runs, ends with its arguments unchanged and every counter at zero. -/
theorem frame_kernel : Cert.quiescent_Kernel8 := fun m ρ _ => Cert.Kernel8.Gen.frame (F := Bits) m ρ

/-- The kernel over the extended reals runs, ends with its arguments unchanged and every counter at zero. -/
theorem frame_ideal : Cert.quiescent_Kernel8Ideal := fun m ρ _ => Cert.Kernel8Ideal.Gen.frame (F := Ideal) m ρ

/-- The reference runs and ends with its arguments unchanged; it declares no counter. -/
theorem frame_reference : Cert.quiescent_Reference8Ideal := fun m ρ _ =>
  (θ_run Cert.Reference8Ideal.defs _ _).mono
    (fun r h => ⟨fun c => (h c).2.2.2, sem_eq_zero_of_no_sems (by decide) r.2⟩)
    (Cert.Reference8Ideal.Value.run (F := Ideal) m ρ)

/-- The real constant stands for its machine form. -/
theorem preserves : Cert.preserves_Kernel8_Kernel8Ideal :=
  IdealRules.named_const.statement Cert.Kernel8Ideal.κ "inv_log_two" .f32 0x3FB8AA3B#32 (((Real.log 2)⁻¹ : ℝ) : EReal) rfl

/-- Over the extended reals the kernel's windows are the reference's, element by element. -/
theorem algebraic : Cert.algebraic_Kernel8Ideal_Reference8Ideal := by
  intro m g m' g' _ hagree
  refine ⟨fun c => (Cert.Kernel8Ideal.Gen.dats m 0 c).arrAt 12 (Cert.Kernel8Ideal.cfgs 0).N,
    fun c => (Cert.Kernel8Ideal.Gen.dats m 0 c).arrAt 13 (Cert.Kernel8Ideal.cfgs 0).N,
    fun c => (Cert.Kernel8Ideal.Gen.dats m 0 c).arrAt 14 (Cert.Kernel8Ideal.cfgs 0).N, ?_, ?_⟩
  · exact (θ_run Cert.Kernel8Ideal.defs _ _).mono (fun r h c => (h c).2) (Cert.Kernel8Ideal.Value.run_blocks (F := Ideal) m g)
  · refine (θ_run Cert.Reference8Ideal.defs _ _).mono (fun r h c => ?_) (Cert.Reference8Ideal.Value.run (F := Ideal) m' g')
    obtain ⟨_, e1, e2, e3, e4, e5, e6, _⟩ := hagree c
    obtain ⟨h1, h2, h3, ha⟩ := h c
    refine ⟨?_, ?_, ?_, ha⟩
    · refine Eq.trans (b := REF_WIN1 (m' ((c.tc : Thread _ _).loc Cert.Reference8Ideal.main_arg4)) (m' ((c.tc : Thread _ _).loc Cert.Reference8Ideal.main_arg1))) h1 ?_
      rw [e1, e4]
      exact (final12 m c).symm
    · refine Eq.trans (b := REF_WIN2 (m' ((c.tc : Thread _ _).loc Cert.Reference8Ideal.main_arg5)) (m' ((c.tc : Thread _ _).loc Cert.Reference8Ideal.main_arg2))) h2 ?_
      rw [e2, e5]
      exact (final13 m c).symm
    · refine Eq.trans (b := REF_WIN3 (m' ((c.tc : Thread _ _).loc Cert.Reference8Ideal.main_arg6)) (m' ((c.tc : Thread _ _).loc Cert.Reference8Ideal.main_arg3))) h3 ?_
      rw [e3, e6]
      exact (final14 m c).symm

end Cert.Win

end
-- ==== Proof.lean ====
module

public import proofs.«01_k».proof.Defs
public import proofs.«01_k».proof.Proof.Gen.Kernel2Ideal.Value
public import proofs.«01_k».proof.Proof.Gen.Kernel3Ideal.Value
public import proofs.«01_k».proof.Proof.Gen.Kernel
public import proofs.«01_k».proof.Proof.Gen.KernelIdeal
public import proofs.«01_k».proof.Proof.Gen.KernelIdeal.Frame.Runs
public import proofs.«01_k».proof.Proof.Gen.Pre_gates_below_inf
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Pre_sample_gates_below_inf
public import proofs.«01_k».proof.Proof.Gen.Kernel8.Frame
public import proofs.«01_k».proof.Proof.Gen.Kernel8Ideal.Value
public import proofs.«01_k».proof.Proof.Gen.Reference8Ideal.Run
public import proofs.«01_k».proof.Proof.GlaClaims
public import proofs.«01_k».proof.Proof.Ffn2Claims
public import proofs.«01_k».proof.Proof.Ffn3Claims
public import proofs.«01_k».proof.Proof.QkvClaims
public import proofs.«01_k».proof.Proof.GlaInClaims
public import proofs.«01_k».proof.Proof.Ffn6Claims
public import proofs.«01_k».proof.Proof.GlaStepClaims
public import proofs.«01_k».proof.Proof.WinClaims

@[expose] public section

noncomputable section

namespace Cert.Proof

open Idealize.ShloMosaic Idealize.SL.Sem

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Pre_gates_below_inf.Gen.facts, Cert.Pre_sample_gates_below_inf.Gen.facts,
  Cert.Gla.frame_kernel, Cert.Gla.frame_ideal, Cert.Gla.frame_ideal_pre, Cert.Gla.frame_reference, Cert.Gla.frame_reference_pre,
  Cert.Ffn2.frame_kernel, Cert.Ffn2.frame_ideal, Cert.Ffn2.frame_reference,
  Cert.Ffn3.frame_kernel, Cert.Ffn3.frame_ideal, Cert.Ffn3.frame_reference,
  Cert.Qkv.frame_kernel, Cert.Qkv.frame_ideal, Cert.Qkv.frame_reference,
  Cert.GlaIn.frame_kernel, Cert.GlaIn.frame_ideal, Cert.GlaIn.frame_reference,
  Cert.Ffn6.frame_kernel, Cert.Ffn6.frame_ideal, Cert.Ffn6.frame_reference,
  Cert.GlaStep.frame_kernel, Cert.GlaStep.frame_ideal, Cert.GlaStep.frame_ideal_pre, Cert.GlaStep.frame_reference, Cert.GlaStep.frame_reference_pre,
  Cert.Win.frame_kernel, Cert.Win.frame_ideal, Cert.Win.frame_reference,
  trivial, Cert.Gla.algebraic, trivial, Cert.Ffn2.algebraic, trivial, Cert.Ffn3.algebraic, trivial, Cert.Qkv.algebraic,
  IdealRules.named_const.statement Cert.Kernel5Ideal.κ "head_scale" .f32 0x3DB504F3#32 (((Real.sqrt 128)⁻¹ : ℝ) : EReal) rfl, Cert.GlaIn.algebraic,
  trivial, Cert.Ffn6.algebraic, trivial, Cert.GlaStep.algebraic, Cert.Win.preserves, Cert.Win.algebraic⟩

end Cert.Proof

end
